-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![32, 256, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = Layout.block ⟨3, ![2, 256, 512]⟩ ⟨3, ![32, 256, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x512 : Shape := ⟨3, ![2, 256, 512]⟩
abbrev S512x256 : Shape := ⟨2, ![512, 256]⟩
abbrev S32x256x64x64 : Shape := ⟨4, ![32, 256, 64, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S32x256x64x64 : S_.BroadcastsInDim S32x256x64x64 (![] : Fin 0 → Fin S32x256x64x64.rank)
  reducesTo_S32x256x64x64_S_d0_1_2_3 : S32x256x64x64.ReducesTo [0, 1, 2, 3] S_

variable [Facts]

def fn {F : FTy → Type} [FloatOps F] (main_arg0 : FVec F S2x256x512 .f32) (main_arg1 : FVec F S512x256 .f32) (main_arg2 : FVec F S32x256x64x64 .f32) (main_arg3 : FVec F S32x256x64x64 .f32) (main_arg4 : FVec F S256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S32x256x64x64 .f32 := Host.absf main_arg2
  let main_cst_2 : FVec F S_ .f32 := constant S_ .f32 0x7F800000#32
  let main_v10 : FVec F S32x256x64x64 .f32 := broadcastInDim S32x256x64x64 ![] bcast_S_S32x256x64x64 main_cst_2
  let main_v11 : IVec S32x256x64x64 1 := cmpf .olt main_v9 main_v10
  let main_c_3 : IVec S_ 1 := constantI S_ 1 1#1
  let main_v12 : IVec S_ 1 := (fun x v => Host.reduce IntOp.andi x v reducesTo_S32x256x64x64_S_d0_1_2_3 h_S_) main_v11 main_c_3
  let main_v13 : IVec S_ 1 := andi main_v8 main_v12
  main_v13
-- ==== Pre_finite_scores_ReferenceIdeal.lean ====
abbrev S32x256x512 : Shape := ⟨3, ![32, 256, 512]⟩
abbrev S512x4096 : Shape := ⟨2, ![512, 4096]⟩
abbrev S32x256x64x64 : Shape := ⟨4, ![32, 256, 64, 64]⟩
abbrev S4096x512 : Shape := ⟨2, ![4096, 512]⟩
abbrev S_ : Shape := ⟨0, ![]⟩

class Facts : Prop where
  bcast_S_S32x256x512 : S_.BroadcastsInDim S32x256x512 (![] : Fin 0 → Fin S32x256x512.rank)
  reducesTo_S32x256x512_S_d0_1_2 : S32x256x512.ReducesTo [0, 1, 2] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S32x256x64x64 : S_.BroadcastsInDim S32x256x64x64 (![] : Fin 0 → Fin S32x256x64x64.rank)
  reducesTo_S32x256x64x64_S_d0_1_2_3 : S32x256x64x64.ReducesTo [0, 1, 2, 3] S_

variable [Facts]

def fn {F : FTy → Type} [FloatOps F] (main_arg0 : FVec F S32x256x512 .f32) (main_arg1 : FVec F S512x4096 .f32) (main_arg2 : FVec F S32x256x64x64 .f32) (main_arg3 : FVec F S32x256x64x64 .f32) (main_arg4 : FVec F S4096x512 .f32) : IVec S_ 1 :=
  let main_v0 : FVec F S32x256x512 .f32 := Host.absf main_arg0
  let main_cst : FVec F S_ .f32 := constant S_ .f32 0x7F800000#32
  let main_v1 : FVec F S32x256x512 .f32 := broadcastInDim S32x256x512 ![] bcast_S_S32x256x512 main_cst
  let main_v2 : IVec S32x256x512 1 := cmpf .olt main_v0 main_v1
  let main_c : IVec S_ 1 := constantI S_ 1 1#1
  let main_v3 : IVec S_ 1 := (fun x v => Host.reduce IntOp.andi x v reducesTo_S32x256x512_S_d0_1_2 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_v9 : FVec F S32x256x64x64 .f32 := Host.absf main_arg2
  let main_cst_2 : FVec F S_ .f32 := constant S_ .f32 0x7F800000#32
  let main_v10 : FVec F S32x256x64x64 .f32 := broadcastInDim S32x256x64x64 ![] bcast_S_S32x256x64x64 main_cst_2
  let main_v11 : IVec S32x256x64x64 1 := cmpf .olt main_v9 main_v10
  let main_c_3 : IVec S_ 1 := constantI S_ 1 1#1
  let main_v12 : IVec S_ 1 := (fun x v => Host.reduce IntOp.andi x v reducesTo_S32x256x64x64_S_d0_1_2_3 h_S_) main_v11 main_c_3
  let main_v13 : IVec S_ 1 := andi main_v8 main_v12
  main_v13
-- ==== Kernel.lean ====
abbrev S2x256x512 : Shape := ⟨3, ![2, 256, 512]⟩
abbrev S512x256 : Shape := ⟨2, ![512, 256]⟩
abbrev S32x256x64x64 : Shape := ⟨4, ![32, 256, 64, 64]⟩
abbrev S256x512 : Shape := ⟨2, ![256, 512]⟩
abbrev S16 : Shape := ⟨1, ![16]⟩
abbrev S_ : Shape := ⟨0, ![]⟩
abbrev S2x256x64x64 : Shape := ⟨4, ![2, 256, 64, 64]⟩
abbrev S2x64x256x64 : Shape := ⟨4, ![2, 64, 256, 64]⟩
abbrev S2x64x256x1 : Shape := ⟨4, ![2, 64, 256, 1]⟩
abbrev S2x64x256x65 : Shape := ⟨4, ![2, 64, 256, 65]⟩
abbrev S1 : Shape := ⟨1, ![1]⟩
abbrev S3 : Shape := ⟨1, ![3]⟩
abbrev S16x512x256 : Shape := ⟨3, ![16, 512, 256]⟩
abbrev S16x256x512 : Shape := ⟨3, ![16, 256, 512]⟩
abbrev S8x2 : Shape := ⟨2, ![8, 2]⟩
abbrev S7x2 : Shape := ⟨2, ![7, 2]⟩
abbrev S512x512 : Shape := ⟨2, ![512, 512]⟩
abbrev S256x256 : Shape := ⟨2, ![256, 256]⟩
abbrev S1x512x256 : Shape := ⟨3, ![1, 512, 256]⟩
abbrev S1x256x512 : Shape := ⟨3, ![1, 256, 512]⟩
abbrev S1x1 : Shape := ⟨2, ![1, 1]⟩
abbrev S1x256x256 : Shape := ⟨3, ![1, 256, 256]⟩
abbrev S1x128x512 : Shape := ⟨3, ![1, 128, 512]⟩
abbrev S128x512 : Shape := ⟨2, ![128, 512]⟩
abbrev S1x1x256x64 : Shape := ⟨4, ![1, 1, 256, 64]⟩
abbrev S256x64 : Shape := ⟨2, ![256, 64]⟩
abbrev S1x1x256x65 : Shape := ⟨4, ![1, 1, 256, 65]⟩
abbrev S256x65 : Shape := ⟨2, ![256, 65]⟩
abbrev S256x1 : Shape := ⟨2, ![256, 1]⟩

abbrev nBuf : Space → Nat
  | .hbm => 74
  | .vmem => 8
  | .smem => 2
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S32x256x64x64, .f32⟩
  | .hbm, ⟨3, _⟩ => ⟨S32x256x64x64, .f32⟩
  | .hbm, ⟨4, _⟩ => ⟨S256x512, .f32⟩
  | .hbm, ⟨5, _⟩ => ⟨S16, .i32⟩
  | .hbm, ⟨6, _⟩ => ⟨S16, .i32⟩
  | .hbm, ⟨7, _⟩ => ⟨S16, .i32⟩
  | .hbm, ⟨8, _⟩ => ⟨S16, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S2x256x64x64, .f32⟩
  | .hbm, ⟨26, _⟩ => ⟨S2x64x256x64, .f32⟩
  | .hbm, ⟨27, _⟩ => ⟨S2x64x256x64, .bf16⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S2x256x64x64, .f32⟩
  | .hbm, ⟨37, _⟩ => ⟨S2x64x256x64, .f32⟩
  | .hbm, ⟨38, _⟩ => ⟨S2x64x256x64, .bf16⟩
  | .hbm, ⟨39, _⟩ => ⟨S_, .bf16⟩
  | .hbm, ⟨40, _⟩ => ⟨S2x64x256x1, .bf16⟩
  | .hbm, ⟨41, _⟩ => ⟨S2x64x256x65, .bf16⟩
  | .hbm, ⟨42, _⟩ => ⟨S2x256x512, .bf16⟩
  | .hbm, ⟨43, _⟩ => ⟨S_, .f32⟩
  | .hbm, ⟨44, _⟩ => ⟨S512x256, .f32⟩
  | .hbm, ⟨45, _⟩ => ⟨S512x256, .f32⟩
  | .hbm, ⟨46, _⟩ => ⟨S512x256, .bf16⟩
  | .hbm, ⟨47, _⟩ => ⟨S256x512, .bf16⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1, .i32⟩
  | .hbm, ⟨54, _⟩ => ⟨S_, .i32⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S1, .i32⟩
  | .hbm, ⟨61, _⟩ => ⟨S_, .i32⟩
  | .hbm, ⟨62, _⟩ => ⟨S_, .i32⟩
  | .hbm, ⟨63, _⟩ => ⟨S_, .i1⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S1, .i32⟩
  | .hbm, ⟨68, _⟩ => ⟨S_, .i32⟩
  | .hbm, ⟨69, _⟩ => ⟨S1, .i32⟩
  | .hbm, ⟨70, _⟩ => ⟨S1, .i32⟩
  | .hbm, ⟨71, _⟩ => ⟨S1, .i32⟩
  | .hbm, ⟨72, _⟩ => ⟨S3, .i32⟩
  | .hbm, ⟨73, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S2x64x256x64, .bf16⟩
  | .local _ .vmem, ⟨3, _⟩ => ⟨S2x64x256x65, .bf16⟩
  | .local _ .vmem, ⟨4, _⟩ => ⟨S256x512, .bf16⟩
  | .local _ .vmem, ⟨5, _⟩ => ⟨S2x256x512, .f32⟩
  | .local _ .vmem, ⟨6, _⟩ => ⟨S16x512x256, .bf16⟩
  | .local _ .vmem, ⟨7, _⟩ => ⟨S16x256x512, .bf16⟩
  | .local _ .smem, ⟨0, _⟩ => ⟨S3, .i32⟩
  | .local _ .smem, ⟨1, _⟩ => ⟨S16, .i32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 1 → Bool
  | ⟨0, _⟩ => false
  | _ => false

abbrev dmaSemScoped : Fin 128 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | ⟨127, _⟩ => true
  | _ => false

abbrev sig : RefSig :=
  (ofTc nBuf bufTy 1 128 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_c_4 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_5 : Ref sig .tc := ⟨.hbm, 15, rfl⟩
abbrev main_v5 : Ref sig .tc := ⟨.hbm, 16, rfl⟩
abbrev main_c_6 : Ref sig .tc := ⟨.hbm, 17, rfl⟩
abbrev main_v6 : Ref sig .tc := ⟨.hbm, 18, rfl⟩
abbrev main_c_7 : Ref sig .tc := ⟨.hbm, 19, rfl⟩
abbrev main_v7 : Ref sig .tc := ⟨.hbm, 20, rfl⟩
abbrev main_v8 : Ref sig .tc := ⟨.hbm, 21, rfl⟩
abbrev main_c_8 : Ref sig .tc := ⟨.hbm, 22, rfl⟩
abbrev main_c_9 : Ref sig .tc := ⟨.hbm, 23, rfl⟩
abbrev main_c_10 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_11 : Ref sig .tc := ⟨.hbm, 28, rfl⟩
abbrev main_v12 : Ref sig .tc := ⟨.hbm, 29, rfl⟩
abbrev main_c_12 : Ref sig .tc := ⟨.hbm, 30, rfl⟩
abbrev main_v13 : Ref sig .tc := ⟨.hbm, 31, rfl⟩
abbrev main_v14 : Ref sig .tc := ⟨.hbm, 32, rfl⟩
abbrev main_c_13 : Ref sig .tc := ⟨.hbm, 33, rfl⟩
abbrev main_c_14 : Ref sig .tc := ⟨.hbm, 34, rfl⟩
abbrev main_c_15 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_16 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_17 : Ref sig .tc := ⟨.hbm, 48, rfl⟩
abbrev main_v25 : Ref sig .tc := ⟨.hbm, 49, rfl⟩
abbrev main_c_18 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_19 : Ref sig .tc := ⟨.hbm, 55, rfl⟩
abbrev main_v30 : Ref sig .tc := ⟨.hbm, 56, rfl⟩
abbrev main_c_20 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c_21 : Ref sig .tc := ⟨.hbm, 62, rfl⟩
abbrev main_v35 : Ref sig .tc := ⟨.hbm, 63, rfl⟩
abbrev main_c_22 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_scratch0 : Ref sig .tc := ⟨.vmem, 6, rfl⟩
abbrev cc0_scratch1 : Ref sig .tc := ⟨.vmem, 7, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 16
abbrev τ : Topo := Topo.v7x

variable {F : FTy → Type} [FloatOps F]

abbrev grid0 : Pipeline.Grid := .none

def k0_dev1 (v4 : BitVec 32) : Nat :=
  let c0_i32 : BitVec 32 := 0#32
  let c1_i32_8 : BitVec 32 := 1#32
  let v24 : BitVec 32 := Scalar.muli v4 c1_i32_8
  let v25 : BitVec 32 := Scalar.addi c0_i32 v24
  v25.toNat

def k0_dev2 (v3 : BitVec 32) : Nat :=
  let c0_i32_11 : BitVec 32 := 0#32
  let c1_i32_10 : BitVec 32 := 1#32
  let v26 : BitVec 32 := Scalar.muli v3 c1_i32_10
  let v27 : BitVec 32 := Scalar.addi c0_i32_11 v26
  v27.toNat

def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v30 : Index := Scalar.indexCast v2
  let c0_14 : Index := 0#32
  let c0_15 : Index := 0#32
  ![v30.toNat, 0, 0]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v36 : Index := Scalar.indexCast v2
  let c0_18 : Index := 0#32
  let c0_19 : Index := 0#32
  ![v36.toNat, 0, 0]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_26 : BitVec 32 := 0#32
  let c0_i32_27 : BitVec 32 := 0#32
  ![v2.toNat, 0, 0]
def k0_dev3 (v3 : BitVec 32) : Nat :=
  let c0_i32_25 : BitVec 32 := 0#32
  let c1_i32_24 : BitVec 32 := 1#32
  let v40 : BitVec 32 := Scalar.muli v3 c1_i32_24
  let v41 : BitVec 32 := Scalar.addi c0_i32_25 v40
  v41.toNat
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let c0_i32_36 : BitVec 32 := 0#32
  ![v2.toNat, 256, 0]
def k0_dev4 (v3 : BitVec 32) : Nat :=
  let c0_i32_35 : BitVec 32 := 0#32
  let c1_i32_34 : BitVec 32 := 1#32
  let v50 : BitVec 32 := Scalar.muli v3 c1_i32_34
  let v51 : BitVec 32 := Scalar.addi c0_i32_35 v50
  v51.toNat
def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let c0_i32_46 : BitVec 32 := 0#32
  ![v2.toNat, 0, 0]
def k0_dev5 (v3 : BitVec 32) : Nat :=
  let c0_i32_44 : BitVec 32 := 0#32
  let c1_i32_43 : BitVec 32 := 1#32
  let v60 : BitVec 32 := Scalar.muli v3 c1_i32_43
  let v61 : BitVec 32 := Scalar.addi c0_i32_44 v60
  v61.toNat
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_55 : BitVec 32 := 128#32
  let c0_i32_56 : BitVec 32 := 0#32
  ![v2.toNat, 128, 0]
def k0_dev6 (v3 : BitVec 32) : Nat :=
  let c0_i32_54 : BitVec 32 := 0#32
  let c1_i32_53 : BitVec 32 := 1#32
  let v70 : BitVec 32 := Scalar.muli v3 c1_i32_53
  let v71 : BitVec 32 := Scalar.addi c0_i32_54 v70
  v71.toNat
def k0_dev7 (v4 : BitVec 32) : Nat :=
  let c0_i32_64 : BitVec 32 := 0#32
  let c1_i32_63 : BitVec 32 := 1#32
  let v80 : BitVec 32 := Scalar.muli v4 c1_i32_63
  let v81 : BitVec 32 := Scalar.addi c0_i32_64 v80
  v81.toNat
def k0_dev8 (v4 : BitVec 32) : Nat :=
  let c0_i32_74 : BitVec 32 := 0#32
  let c1_i32_73 : BitVec 32 := 1#32
  let v90 : BitVec 32 := Scalar.muli v4 c1_i32_73
  let v91 : BitVec 32 := Scalar.addi c0_i32_74 v90
  v91.toNat
def k0_dev9 (v4 : BitVec 32) : Nat :=
  let c0_i32_84 : BitVec 32 := 0#32
  let c1_i32_83 : BitVec 32 := 1#32
  let v100 : BitVec 32 := Scalar.muli v4 c1_i32_83
  let v101 : BitVec 32 := Scalar.addi c0_i32_84 v100
  v101.toNat
def k0_dev10 (v4 : BitVec 32) : Nat :=
  let c0_i32_94 : BitVec 32 := 0#32
  let c1_i32_93 : BitVec 32 := 1#32
  let v110 : BitVec 32 := Scalar.muli v4 c1_i32_93
  let v111 : BitVec 32 := Scalar.addi c0_i32_94 v110
  v111.toNat
def k0_off7 (d0 : Dev nD) (c0_i32_104 : BitVec 32) : Fin 4 → Nat :=
  let c0_105 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v129 : BitVec 32 := Scalar.muli v2 c4_i32
  let v130 : BitVec 32 := Scalar.addi v129 c0_i32_104
  let v131 : Index := Scalar.indexCast v130
  let c0_106 : Index := 0#32
  let c0_107 : Index := 0#32
  ![0, v131.toNat, 0, 0]
def k0_off8 (d0 : Dev nD) (c0_i32_104 : BitVec 32) : Fin 4 → Nat :=
  let c0_108 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v129 : BitVec 32 := Scalar.muli v2 c4_i32
  let v130 : BitVec 32 := Scalar.addi v129 c0_i32_104
  let v134 : Index := Scalar.indexCast v130
  let c0_109 : Index := 0#32
  let c0_110 : Index := 0#32
  ![0, v134.toNat, 0, 0]
def k0_off9 (d0 : Dev nD) (c0_i32_151 : BitVec 32) : Fin 4 → Nat :=
  let c1_152 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_150 : BitVec 32 := 4#32
  let v215 : BitVec 32 := Scalar.muli v2 c4_i32_150
  let v216 : BitVec 32 := Scalar.addi v215 c0_i32_151
  let v217 : Index := Scalar.indexCast v216
  let c0_153 : Index := 0#32
  let c0_154 : Index := 0#32
  ![1, v217.toNat, 0, 0]
def k0_off10 (d0 : Dev nD) (c0_i32_151 : BitVec 32) : Fin 4 → Nat :=
  let c1_155 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_150 : BitVec 32 := 4#32
  let v215 : BitVec 32 := Scalar.muli v2 c4_i32_150
  let v216 : BitVec 32 := Scalar.addi v215 c0_i32_151
  let v220 : Index := Scalar.indexCast v216
  let c0_156 : Index := 0#32
  let c0_157 : Index := 0#32
  ![1, v220.toNat, 0, 0]
def k0_off11 (v5 : BitVec 32) : Fin 1 → Nat :=
  let c1_i32_205 : BitVec 32 := 1#32
  let v308 : BitVec 32 := Scalar.subi v5 c1_i32_205
  let c16_i32_206 : BitVec 32 := 16#32
  let v309 : BitVec 32 := Scalar.addi v308 c16_i32_206
  let c16_i32_207 : BitVec 32 := 16#32
  let v310 : BitVec 32 := Scalar.remsi v309 c16_i32_207
  let v311 : Index := Scalar.indexCast v310
  ![v311.toNat]

def k0_off12 (v312 : BitVec 32) : Fin 3 → Nat :=
  let c0_i32_214 : BitVec 32 := 0#32
  let c0_i32_215 : BitVec 32 := 0#32
  ![v312.toNat, 0, 0]

def k0_dev11 (v3 : BitVec 32) : Nat :=
  let c0_i32_223 : BitVec 32 := 0#32
  let c1_i32_222 : BitVec 32 := 1#32
  let v321 : BitVec 32 := Scalar.muli v3 c1_i32_222
  let v322 : BitVec 32 := Scalar.addi c0_i32_223 v321
  v322.toNat
def k0_off13 (v312 : BitVec 32) : Fin 3 → Nat :=
  let c256_i32_234 : BitVec 32 := 256#32
  let c0_i32_235 : BitVec 32 := 0#32
  ![v312.toNat, 256, 0]
def k0_dev12 (v3 : BitVec 32) : Nat :=
  let c0_i32_243 : BitVec 32 := 0#32
  let c1_i32_242 : BitVec 32 := 1#32
  let v339 : BitVec 32 := Scalar.muli v3 c1_i32_242
  let v340 : BitVec 32 := Scalar.addi c0_i32_243 v339
  v340.toNat
def k0_off14 (v312 : BitVec 32) : Fin 3 → Nat :=
  let c0_i32_254 : BitVec 32 := 0#32
  let c0_i32_255 : BitVec 32 := 0#32
  ![v312.toNat, 0, 0]
def k0_dev13 (v3 : BitVec 32) : Nat :=
  let c0_i32_263 : BitVec 32 := 0#32
  let c1_i32_262 : BitVec 32 := 1#32
  let v357 : BitVec 32 := Scalar.muli v3 c1_i32_262
  let v358 : BitVec 32 := Scalar.addi c0_i32_263 v357
  v358.toNat
def k0_off15 (v312 : BitVec 32) : Fin 3 → Nat :=
  let c128_i32_274 : BitVec 32 := 128#32
  let c0_i32_275 : BitVec 32 := 0#32
  ![v312.toNat, 128, 0]
def k0_dev14 (v3 : BitVec 32) : Nat :=
  let c0_i32_283 : BitVec 32 := 0#32
  let c1_i32_282 : BitVec 32 := 1#32
  let v375 : BitVec 32 := Scalar.muli v3 c1_i32_282
  let v376 : BitVec 32 := Scalar.addi c0_i32_283 v375
  v376.toNat
def k0_off16 (v5 : BitVec 32) : Fin 1 → Nat :=
  let c1_i32_288 : BitVec 32 := 1#32
  let v385 : BitVec 32 := Scalar.addi v5 c1_i32_288
  let c16_i32_289 : BitVec 32 := 16#32
  let v386 : BitVec 32 := Scalar.remsi v385 c16_i32_289
  let v387 : Index := Scalar.indexCast v386
  ![v387.toNat]
def k0_off17 (v388 : BitVec 32) : Fin 3 → Nat :=
  let c0_i32_296 : BitVec 32 := 0#32
  let c0_i32_297 : BitVec 32 := 0#32
  ![v388.toNat, 0, 0]

def k0_dev15 (v4 : BitVec 32) : Nat :=
  let c0_i32_305 : BitVec 32 := 0#32
  let c1_i32_304 : BitVec 32 := 1#32
  let v397 : BitVec 32 := Scalar.muli v4 c1_i32_304
  let v398 : BitVec 32 := Scalar.addi c0_i32_305 v397
  v398.toNat
def k0_off18 (v388 : BitVec 32) : Fin 3 → Nat :=
  let c256_i32_316 : BitVec 32 := 256#32
  let c0_i32_317 : BitVec 32 := 0#32
  ![v388.toNat, 256, 0]
def k0_dev16 (v4 : BitVec 32) : Nat :=
  let c0_i32_325 : BitVec 32 := 0#32
  let c1_i32_324 : BitVec 32 := 1#32
  let v415 : BitVec 32 := Scalar.muli v4 c1_i32_324
  let v416 : BitVec 32 := Scalar.addi c0_i32_325 v415
  v416.toNat
def k0_off19 (v388 : BitVec 32) : Fin 3 → Nat :=
  let c0_i32_336 : BitVec 32 := 0#32
  let c0_i32_337 : BitVec 32 := 0#32
  ![v388.toNat, 0, 0]
def k0_dev17 (v4 : BitVec 32) : Nat :=
  let c0_i32_345 : BitVec 32 := 0#32
  let c1_i32_344 : BitVec 32 := 1#32
  let v433 : BitVec 32 := Scalar.muli v4 c1_i32_344
  let v434 : BitVec 32 := Scalar.addi c0_i32_345 v433
  v434.toNat
def k0_off20 (v388 : BitVec 32) : Fin 3 → Nat :=
  let c128_i32_356 : BitVec 32 := 128#32
  let c0_i32_357 : BitVec 32 := 0#32
  ![v388.toNat, 128, 0]
def k0_dev18 (v4 : BitVec 32) : Nat :=
  let c0_i32_365 : BitVec 32 := 0#32
  let c1_i32_364 : BitVec 32 := 1#32
  let v451 : BitVec 32 := Scalar.muli v4 c1_i32_364
  let v452 : BitVec 32 := Scalar.addi c0_i32_365 v451
  v452.toNat
def k0_off21 (v312 : BitVec 32) : Fin 3 → Nat :=
  let v461 : Index := Scalar.indexCast v312
  let c0_370 : Index := 0#32
  let c0_371 : Index := 0#32
  ![v461.toNat, 0, 0]
def k0_off22 (v312 : BitVec 32) : Fin 3 → Nat :=
  let v464 : Index := Scalar.indexCast v312
  let c0_372 : Index := 0#32
  let c0_373 : Index := 0#32
  ![v464.toNat, 0, 0]
def k0_off23 (v312 : BitVec 32) (c0_i32_376 : BitVec 32) : Fin 4 → Nat :=
  let c0_377 : Index := 0#32
  let c4_i32_375 : BitVec 32 := 4#32
  let v470 : BitVec 32 := Scalar.muli v312 c4_i32_375
  let v471 : BitVec 32 := Scalar.addi v470 c0_i32_376
  let v472 : Index := Scalar.indexCast v471
  let c0_378 : Index := 0#32
  let c0_379 : Index := 0#32
  ![0, v472.toNat, 0, 0]
def k0_off24 (v312 : BitVec 32) (c0_i32_376 : BitVec 32) : Fin 4 → Nat :=
  let c0_380 : Index := 0#32
  let c4_i32_375 : BitVec 32 := 4#32
  let v470 : BitVec 32 := Scalar.muli v312 c4_i32_375
  let v471 : BitVec 32 := Scalar.addi v470 c0_i32_376
  let v475 : Index := Scalar.indexCast v471
  let c0_381 : Index := 0#32
  let c0_382 : Index := 0#32
  ![0, v475.toNat, 0, 0]
def k0_off25 (v312 : BitVec 32) (c0_i32_424 : BitVec 32) : Fin 4 → Nat :=
  let c1_425 : Index := 1#32
  let c4_i32_423 : BitVec 32 := 4#32
  let v556 : BitVec 32 := Scalar.muli v312 c4_i32_423
  let v557 : BitVec 32 := Scalar.addi v556 c0_i32_424
  let v558 : Index := Scalar.indexCast v557
  let c0_426 : Index := 0#32
  let c0_427 : Index := 0#32
  ![1, v558.toNat, 0, 0]
def k0_off26 (v312 : BitVec 32) (c0_i32_424 : BitVec 32) : Fin 4 → Nat :=
  let c1_428 : Index := 1#32
  let c4_i32_423 : BitVec 32 := 4#32
  let v556 : BitVec 32 := Scalar.muli v312 c4_i32_423
  let v557 : BitVec 32 := Scalar.addi v556 c0_i32_424
  let v561 : Index := Scalar.indexCast v557
  let c0_429 : Index := 0#32
  let c0_430 : Index := 0#32
  ![1, v561.toNat, 0, 0]

def k0_chk4 (v312 : BitVec 32) : Prop :=
  (∀ a, (k0_off12 v312) a + S1x256x256.size a ≤ S16x512x256.size a) ∧
  (∀ (hinb : ∀ a, (k0_off12 v312) a + S1x256x256.size a ≤ S16x512x256.size a), (Rect.unit (s := S16x512x256) (k0_off12 v312) S1x256x256.size hinb).WholeWords (EltTy.packing .bf16)) ∧
  (∀ a, (k0_off13 v312) a + S1x256x256.size a ≤ S16x512x256.size a) ∧
  (∀ (hinb : ∀ a, (k0_off13 v312) a + S1x256x256.size a ≤ S16x512x256.size a), (Rect.unit (s := S16x512x256) (k0_off13 v312) S1x256x256.size hinb).WholeWords (EltTy.packing .bf16)) ∧
  (∀ a, (k0_off14 v312) a + S1x128x512.size a ≤ S16x256x512.size a) ∧
  (∀ (hinb : ∀ a, (k0_off14 v312) a + S1x128x512.size a ≤ S16x256x512.size a), (Rect.unit (s := S16x256x512) (k0_off14 v312) S1x128x512.size hinb).WholeWords (EltTy.packing .bf16)) ∧
  (∀ a, (k0_off15 v312) a + S1x128x512.size a ≤ S16x256x512.size a) ∧
  (∀ (hinb : ∀ a, (k0_off15 v312) a + S1x128x512.size a ≤ S16x256x512.size a), (Rect.unit (s := S16x256x512) (k0_off15 v312) S1x128x512.size hinb).WholeWords (EltTy.packing .bf16)) ∧
  (∀ a, (k0_off21 v312) a + S1x512x256.size a ≤ S16x512x256.size a) ∧
  (∀ a, (k0_off22 v312) a + S1x256x512.size a ≤ S16x256x512.size a) ∧
  (∀ (r : Fin 4), ∀ a, (k0_off23 v312 (BitVec.ofNat 32 r.val)) a + S1x1x256x64.size a ≤ S2x64x256x64.size a) ∧
  (∀ (r : Fin 4), ∀ a, (k0_off24 v312 (BitVec.ofNat 32 r.val)) a + S1x1x256x65.size a ≤ S2x64x256x65.size a) ∧
  (∀ (r : Fin 4), ∀ a, (k0_off25 v312 (BitVec.ofNat 32 r.val)) a + S1x1x256x64.size a ≤ S2x64x256x64.size a) ∧
  (∀ (r : Fin 4), ∀ a, (k0_off26 v312 (BitVec.ofNat 32 r.val)) a + S1x1x256x65.size a ≤ S2x64x256x65.size a)
theorem k0_off12_inb : ∀ (v312 : BitVec 32) (k0_hw4 : k0_chk4 v312), ∀ a, (k0_off12 v312) a + S1x256x256.size a ≤ S16x512x256.size a := fun v312 k0_hw4 => k0_hw4.1
theorem k0_off12_wordsbf16 : ∀ (v312 : BitVec 32) (k0_hw4 : k0_chk4 v312), (Rect.unit (s := S16x512x256) (k0_off12 v312) S1x256x256.size (k0_off12_inb v312 k0_hw4)).WholeWords (EltTy.packing .bf16) := fun v312 k0_hw4 => k0_hw4.2.1 (k0_off12_inb v312 k0_hw4)
theorem k0_off13_inb : ∀ (v312 : BitVec 32) (k0_hw4 : k0_chk4 v312), ∀ a, (k0_off13 v312) a + S1x256x256.size a ≤ S16x512x256.size a := fun v312 k0_hw4 => k0_hw4.2.2.1
theorem k0_off13_wordsbf16 : ∀ (v312 : BitVec 32) (k0_hw4 : k0_chk4 v312), (Rect.unit (s := S16x512x256) (k0_off13 v312) S1x256x256.size (k0_off13_inb v312 k0_hw4)).WholeWords (EltTy.packing .bf16) := fun v312 k0_hw4 => k0_hw4.2.2.2.1 (k0_off13_inb v312 k0_hw4)
theorem k0_off14_inb : ∀ (v312 : BitVec 32) (k0_hw4 : k0_chk4 v312), ∀ a, (k0_off14 v312) a + S1x128x512.size a ≤ S16x256x512.size a := fun v312 k0_hw4 => k0_hw4.2.2.2.2.1
theorem k0_off14_wordsbf16 : ∀ (v312 : BitVec 32) (k0_hw4 : k0_chk4 v312), (Rect.unit (s := S16x256x512) (k0_off14 v312) S1x128x512.size (k0_off14_inb v312 k0_hw4)).WholeWords (EltTy.packing .bf16) := fun v312 k0_hw4 => k0_hw4.2.2.2.2.2.1 (k0_off14_inb v312 k0_hw4)
theorem k0_off15_inb : ∀ (v312 : BitVec 32) (k0_hw4 : k0_chk4 v312), ∀ a, (k0_off15 v312) a + S1x128x512.size a ≤ S16x256x512.size a := fun v312 k0_hw4 => k0_hw4.2.2.2.2.2.2.1
theorem k0_off15_wordsbf16 : ∀ (v312 : BitVec 32) (k0_hw4 : k0_chk4 v312), (Rect.unit (s := S16x256x512) (k0_off15 v312) S1x128x512.size (k0_off15_inb v312 k0_hw4)).WholeWords (EltTy.packing .bf16) := fun v312 k0_hw4 => k0_hw4.2.2.2.2.2.2.2.1 (k0_off15_inb v312 k0_hw4)
theorem k0_off21_inb : ∀ (v312 : BitVec 32) (k0_hw4 : k0_chk4 v312), ∀ a, (k0_off21 v312) a + S1x512x256.size a ≤ S16x512x256.size a := fun v312 k0_hw4 => k0_hw4.2.2.2.2.2.2.2.2.1
theorem k0_off22_inb : ∀ (v312 : BitVec 32) (k0_hw4 : k0_chk4 v312), ∀ a, (k0_off22 v312) a + S1x256x512.size a ≤ S16x256x512.size a := fun v312 k0_hw4 => k0_hw4.2.2.2.2.2.2.2.2.2.1
theorem k0_off23_inb : ∀ (v312 : BitVec 32) (k0_hw4 : k0_chk4 v312), ∀ (r : Fin 4), ∀ a, (k0_off23 v312 (BitVec.ofNat 32 r.val)) a + S1x1x256x64.size a ≤ S2x64x256x64.size a := fun v312 k0_hw4 r => k0_hw4.2.2.2.2.2.2.2.2.2.2.1 r
theorem k0_off24_inb : ∀ (v312 : BitVec 32) (k0_hw4 : k0_chk4 v312), ∀ (r : Fin 4), ∀ a, (k0_off24 v312 (BitVec.ofNat 32 r.val)) a + S1x1x256x65.size a ≤ S2x64x256x65.size a := fun v312 k0_hw4 r => k0_hw4.2.2.2.2.2.2.2.2.2.2.2.1 r
theorem k0_off25_inb : ∀ (v312 : BitVec 32) (k0_hw4 : k0_chk4 v312), ∀ (r : Fin 4), ∀ a, (k0_off25 v312 (BitVec.ofNat 32 r.val)) a + S1x1x256x64.size a ≤ S2x64x256x64.size a := fun v312 k0_hw4 r => k0_hw4.2.2.2.2.2.2.2.2.2.2.2.2.1 r
theorem k0_off26_inb : ∀ (v312 : BitVec 32) (k0_hw4 : k0_chk4 v312), ∀ (r : Fin 4), ∀ a, (k0_off26 v312 (BitVec.ofNat 32 r.val)) a + S1x1x256x65.size a ≤ S2x64x256x65.size a := fun v312 k0_hw4 r => k0_hw4.2.2.2.2.2.2.2.2.2.2.2.2.2 r

def k0_off27 (v388 : BitVec 32) : Fin 3 → Nat :=
  let v649 : Index := Scalar.indexCast v388
  let c0_478 : Index := 0#32
  let c0_479 : Index := 0#32
  ![v649.toNat, 0, 0]
def k0_off28 (v388 : BitVec 32) : Fin 3 → Nat :=
  let v652 : Index := Scalar.indexCast v388
  let c0_480 : Index := 0#32
  let c0_481 : Index := 0#32
  ![v652.toNat, 0, 0]
def k0_off29 (v388 : BitVec 32) (c0_i32_484 : BitVec 32) : Fin 4 → Nat :=
  let c0_485 : Index := 0#32
  let c4_i32_483 : BitVec 32 := 4#32
  let v658 : BitVec 32 := Scalar.muli v388 c4_i32_483
  let v659 : BitVec 32 := Scalar.addi v658 c0_i32_484
  let v660 : Index := Scalar.indexCast v659
  let c0_486 : Index := 0#32
  let c0_487 : Index := 0#32
  ![0, v660.toNat, 0, 0]
def k0_off30 (v388 : BitVec 32) (c0_i32_484 : BitVec 32) : Fin 4 → Nat :=
  let c0_488 : Index := 0#32
  let c4_i32_483 : BitVec 32 := 4#32
  let v658 : BitVec 32 := Scalar.muli v388 c4_i32_483
  let v659 : BitVec 32 := Scalar.addi v658 c0_i32_484
  let v663 : Index := Scalar.indexCast v659
  let c0_489 : Index := 0#32
  let c0_490 : Index := 0#32
  ![0, v663.toNat, 0, 0]
def k0_off31 (v388 : BitVec 32) (c0_i32_532 : BitVec 32) : Fin 4 → Nat :=
  let c1_533 : Index := 1#32
  let c4_i32_531 : BitVec 32 := 4#32
  let v744 : BitVec 32 := Scalar.muli v388 c4_i32_531
  let v745 : BitVec 32 := Scalar.addi v744 c0_i32_532
  let v746 : Index := Scalar.indexCast v745
  let c0_534 : Index := 0#32
  let c0_535 : Index := 0#32
  ![1, v746.toNat, 0, 0]
def k0_off32 (v388 : BitVec 32) (c0_i32_532 : BitVec 32) : Fin 4 → Nat :=
  let c1_536 : Index := 1#32
  let c4_i32_531 : BitVec 32 := 4#32
  let v744 : BitVec 32 := Scalar.muli v388 c4_i32_531
  let v745 : BitVec 32 := Scalar.addi v744 c0_i32_532
  let v749 : Index := Scalar.indexCast v745
  let c0_537 : Index := 0#32
  let c0_538 : Index := 0#32
  ![1, v749.toNat, 0, 0]

def k0_chk5 (v388 : BitVec 32) : Prop :=
  (∀ a, (k0_off17 v388) a + S1x256x256.size a ≤ S16x512x256.size a) ∧
  (∀ (hinb : ∀ a, (k0_off17 v388) a + S1x256x256.size a ≤ S16x512x256.size a), (Rect.unit (s := S16x512x256) (k0_off17 v388) S1x256x256.size hinb).WholeWords (EltTy.packing .bf16)) ∧
  (∀ a, (k0_off18 v388) a + S1x256x256.size a ≤ S16x512x256.size a) ∧
  (∀ (hinb : ∀ a, (k0_off18 v388) a + S1x256x256.size a ≤ S16x512x256.size a), (Rect.unit (s := S16x512x256) (k0_off18 v388) S1x256x256.size hinb).WholeWords (EltTy.packing .bf16)) ∧
  (∀ a, (k0_off19 v388) a + S1x128x512.size a ≤ S16x256x512.size a) ∧
  (∀ (hinb : ∀ a, (k0_off19 v388) a + S1x128x512.size a ≤ S16x256x512.size a), (Rect.unit (s := S16x256x512) (k0_off19 v388) S1x128x512.size hinb).WholeWords (EltTy.packing .bf16)) ∧
  (∀ a, (k0_off20 v388) a + S1x128x512.size a ≤ S16x256x512.size a) ∧
  (∀ (hinb : ∀ a, (k0_off20 v388) a + S1x128x512.size a ≤ S16x256x512.size a), (Rect.unit (s := S16x256x512) (k0_off20 v388) S1x128x512.size hinb).WholeWords (EltTy.packing .bf16)) ∧
  (∀ a, (k0_off27 v388) a + S1x512x256.size a ≤ S16x512x256.size a) ∧
  (∀ a, (k0_off28 v388) a + S1x256x512.size a ≤ S16x256x512.size a) ∧
  (∀ (r : Fin 4), ∀ a, (k0_off29 v388 (BitVec.ofNat 32 r.val)) a + S1x1x256x64.size a ≤ S2x64x256x64.size a) ∧
  (∀ (r : Fin 4), ∀ a, (k0_off30 v388 (BitVec.ofNat 32 r.val)) a + S1x1x256x65.size a ≤ S2x64x256x65.size a) ∧
  (∀ (r : Fin 4), ∀ a, (k0_off31 v388 (BitVec.ofNat 32 r.val)) a + S1x1x256x64.size a ≤ S2x64x256x64.size a) ∧
  (∀ (r : Fin 4), ∀ a, (k0_off32 v388 (BitVec.ofNat 32 r.val)) a + S1x1x256x65.size a ≤ S2x64x256x65.size a)
theorem k0_off17_inb : ∀ (v388 : BitVec 32) (k0_hw5 : k0_chk5 v388), ∀ a, (k0_off17 v388) a + S1x256x256.size a ≤ S16x512x256.size a := fun v388 k0_hw5 => k0_hw5.1
theorem k0_off17_wordsbf16 : ∀ (v388 : BitVec 32) (k0_hw5 : k0_chk5 v388), (Rect.unit (s := S16x512x256) (k0_off17 v388) S1x256x256.size (k0_off17_inb v388 k0_hw5)).WholeWords (EltTy.packing .bf16) := fun v388 k0_hw5 => k0_hw5.2.1 (k0_off17_inb v388 k0_hw5)
theorem k0_off18_inb : ∀ (v388 : BitVec 32) (k0_hw5 : k0_chk5 v388), ∀ a, (k0_off18 v388) a + S1x256x256.size a ≤ S16x512x256.size a := fun v388 k0_hw5 => k0_hw5.2.2.1
theorem k0_off18_wordsbf16 : ∀ (v388 : BitVec 32) (k0_hw5 : k0_chk5 v388), (Rect.unit (s := S16x512x256) (k0_off18 v388) S1x256x256.size (k0_off18_inb v388 k0_hw5)).WholeWords (EltTy.packing .bf16) := fun v388 k0_hw5 => k0_hw5.2.2.2.1 (k0_off18_inb v388 k0_hw5)
theorem k0_off19_inb : ∀ (v388 : BitVec 32) (k0_hw5 : k0_chk5 v388), ∀ a, (k0_off19 v388) a + S1x128x512.size a ≤ S16x256x512.size a := fun v388 k0_hw5 => k0_hw5.2.2.2.2.1
theorem k0_off19_wordsbf16 : ∀ (v388 : BitVec 32) (k0_hw5 : k0_chk5 v388), (Rect.unit (s := S16x256x512) (k0_off19 v388) S1x128x512.size (k0_off19_inb v388 k0_hw5)).WholeWords (EltTy.packing .bf16) := fun v388 k0_hw5 => k0_hw5.2.2.2.2.2.1 (k0_off19_inb v388 k0_hw5)
theorem k0_off20_inb : ∀ (v388 : BitVec 32) (k0_hw5 : k0_chk5 v388), ∀ a, (k0_off20 v388) a + S1x128x512.size a ≤ S16x256x512.size a := fun v388 k0_hw5 => k0_hw5.2.2.2.2.2.2.1
theorem k0_off20_wordsbf16 : ∀ (v388 : BitVec 32) (k0_hw5 : k0_chk5 v388), (Rect.unit (s := S16x256x512) (k0_off20 v388) S1x128x512.size (k0_off20_inb v388 k0_hw5)).WholeWords (EltTy.packing .bf16) := fun v388 k0_hw5 => k0_hw5.2.2.2.2.2.2.2.1 (k0_off20_inb v388 k0_hw5)
theorem k0_off27_inb : ∀ (v388 : BitVec 32) (k0_hw5 : k0_chk5 v388), ∀ a, (k0_off27 v388) a + S1x512x256.size a ≤ S16x512x256.size a := fun v388 k0_hw5 => k0_hw5.2.2.2.2.2.2.2.2.1
theorem k0_off28_inb : ∀ (v388 : BitVec 32) (k0_hw5 : k0_chk5 v388), ∀ a, (k0_off28 v388) a + S1x256x512.size a ≤ S16x256x512.size a := fun v388 k0_hw5 => k0_hw5.2.2.2.2.2.2.2.2.2.1
theorem k0_off29_inb : ∀ (v388 : BitVec 32) (k0_hw5 : k0_chk5 v388), ∀ (r : Fin 4), ∀ a, (k0_off29 v388 (BitVec.ofNat 32 r.val)) a + S1x1x256x64.size a ≤ S2x64x256x64.size a := fun v388 k0_hw5 r => k0_hw5.2.2.2.2.2.2.2.2.2.2.1 r
theorem k0_off30_inb : ∀ (v388 : BitVec 32) (k0_hw5 : k0_chk5 v388), ∀ (r : Fin 4), ∀ a, (k0_off30 v388 (BitVec.ofNat 32 r.val)) a + S1x1x256x65.size a ≤ S2x64x256x65.size a := fun v388 k0_hw5 r => k0_hw5.2.2.2.2.2.2.2.2.2.2.2.1 r
theorem k0_off31_inb : ∀ (v388 : BitVec 32) (k0_hw5 : k0_chk5 v388), ∀ (r : Fin 4), ∀ a, (k0_off31 v388 (BitVec.ofNat 32 r.val)) a + S1x1x256x64.size a ≤ S2x64x256x64.size a := fun v388 k0_hw5 r => k0_hw5.2.2.2.2.2.2.2.2.2.2.2.2.1 r
theorem k0_off32_inb : ∀ (v388 : BitVec 32) (k0_hw5 : k0_chk5 v388), ∀ (r : Fin 4), ∀ a, (k0_off32 v388 (BitVec.ofNat 32 r.val)) a + S1x1x256x65.size a ≤ S2x64x256x65.size a := fun v388 k0_hw5 r => k0_hw5.2.2.2.2.2.2.2.2.2.2.2.2.2 r

def k0_off33 (v5 : BitVec 32) : Fin 1 → Nat :=
  let c2_i32_586 : BitVec 32 := 2#32
  let v837 : BitVec 32 := Scalar.subi v5 c2_i32_586
  let c16_i32_587 : BitVec 32 := 16#32
  let v838 : BitVec 32 := Scalar.addi v837 c16_i32_587
  let c16_i32_588 : BitVec 32 := 16#32
  let v839 : BitVec 32 := Scalar.remsi v838 c16_i32_588
  let v840 : Index := Scalar.indexCast v839
  ![v840.toNat]
def k0_off34 (v841 : BitVec 32) : Fin 3 → Nat :=
  let c0_i32_595 : BitVec 32 := 0#32
  let c0_i32_596 : BitVec 32 := 0#32
  ![v841.toNat, 0, 0]

def k0_dev19 (v3 : BitVec 32) : Nat :=
  let c0_i32_604 : BitVec 32 := 0#32
  let c1_i32_603 : BitVec 32 := 1#32
  let v850 : BitVec 32 := Scalar.muli v3 c1_i32_603
  let v851 : BitVec 32 := Scalar.addi c0_i32_604 v850
  v851.toNat
def k0_off35 (v841 : BitVec 32) : Fin 3 → Nat :=
  let c256_i32_615 : BitVec 32 := 256#32
  let c0_i32_616 : BitVec 32 := 0#32
  ![v841.toNat, 256, 0]
def k0_dev20 (v3 : BitVec 32) : Nat :=
  let c0_i32_624 : BitVec 32 := 0#32
  let c1_i32_623 : BitVec 32 := 1#32
  let v868 : BitVec 32 := Scalar.muli v3 c1_i32_623
  let v869 : BitVec 32 := Scalar.addi c0_i32_624 v868
  v869.toNat
def k0_off36 (v841 : BitVec 32) : Fin 3 → Nat :=
  let c0_i32_635 : BitVec 32 := 0#32
  let c0_i32_636 : BitVec 32 := 0#32
  ![v841.toNat, 0, 0]
def k0_dev21 (v3 : BitVec 32) : Nat :=
  let c0_i32_644 : BitVec 32 := 0#32
  let c1_i32_643 : BitVec 32 := 1#32
  let v886 : BitVec 32 := Scalar.muli v3 c1_i32_643
  let v887 : BitVec 32 := Scalar.addi c0_i32_644 v886
  v887.toNat
def k0_off37 (v841 : BitVec 32) : Fin 3 → Nat :=
  let c128_i32_655 : BitVec 32 := 128#32
  let c0_i32_656 : BitVec 32 := 0#32
  ![v841.toNat, 128, 0]
def k0_dev22 (v3 : BitVec 32) : Nat :=
  let c0_i32_664 : BitVec 32 := 0#32
  let c1_i32_663 : BitVec 32 := 1#32
  let v904 : BitVec 32 := Scalar.muli v3 c1_i32_663
  let v905 : BitVec 32 := Scalar.addi c0_i32_664 v904
  v905.toNat
def k0_off38 (v5 : BitVec 32) : Fin 1 → Nat :=
  let c2_i32_669 : BitVec 32 := 2#32
  let v914 : BitVec 32 := Scalar.addi v5 c2_i32_669
  let c16_i32_670 : BitVec 32 := 16#32
  let v915 : BitVec 32 := Scalar.remsi v914 c16_i32_670
  let v916 : Index := Scalar.indexCast v915
  ![v916.toNat]
def k0_off39 (v917 : BitVec 32) : Fin 3 → Nat :=
  let c0_i32_677 : BitVec 32 := 0#32
  let c0_i32_678 : BitVec 32 := 0#32
  ![v917.toNat, 0, 0]

def k0_dev23 (v4 : BitVec 32) : Nat :=
  let c0_i32_686 : BitVec 32 := 0#32
  let c1_i32_685 : BitVec 32 := 1#32
  let v926 : BitVec 32 := Scalar.muli v4 c1_i32_685
  let v927 : BitVec 32 := Scalar.addi c0_i32_686 v926
  v927.toNat
def k0_off40 (v917 : BitVec 32) : Fin 3 → Nat :=
  let c256_i32_697 : BitVec 32 := 256#32
  let c0_i32_698 : BitVec 32 := 0#32
  ![v917.toNat, 256, 0]
def k0_dev24 (v4 : BitVec 32) : Nat :=
  let c0_i32_706 : BitVec 32 := 0#32
  let c1_i32_705 : BitVec 32 := 1#32
  let v944 : BitVec 32 := Scalar.muli v4 c1_i32_705
  let v945 : BitVec 32 := Scalar.addi c0_i32_706 v944
  v945.toNat
def k0_off41 (v917 : BitVec 32) : Fin 3 → Nat :=
  let c0_i32_717 : BitVec 32 := 0#32
  let c0_i32_718 : BitVec 32 := 0#32
  ![v917.toNat, 0, 0]
def k0_dev25 (v4 : BitVec 32) : Nat :=
  let c0_i32_726 : BitVec 32 := 0#32
  let c1_i32_725 : BitVec 32 := 1#32
  let v962 : BitVec 32 := Scalar.muli v4 c1_i32_725
  let v963 : BitVec 32 := Scalar.addi c0_i32_726 v962
  v963.toNat
def k0_off42 (v917 : BitVec 32) : Fin 3 → Nat :=
  let c128_i32_737 : BitVec 32 := 128#32
  let c0_i32_738 : BitVec 32 := 0#32
  ![v917.toNat, 128, 0]
def k0_dev26 (v4 : BitVec 32) : Nat :=
  let c0_i32_746 : BitVec 32 := 0#32
  let c1_i32_745 : BitVec 32 := 1#32
  let v980 : BitVec 32 := Scalar.muli v4 c1_i32_745
  let v981 : BitVec 32 := Scalar.addi c0_i32_746 v980
  v981.toNat
def k0_off43 (v841 : BitVec 32) : Fin 3 → Nat :=
  let v990 : Index := Scalar.indexCast v841
  let c0_751 : Index := 0#32
  let c0_752 : Index := 0#32
  ![v990.toNat, 0, 0]
def k0_off44 (v841 : BitVec 32) : Fin 3 → Nat :=
  let v993 : Index := Scalar.indexCast v841
  let c0_753 : Index := 0#32
  let c0_754 : Index := 0#32
  ![v993.toNat, 0, 0]
def k0_off45 (v841 : BitVec 32) (c0_i32_757 : BitVec 32) : Fin 4 → Nat :=
  let c0_758 : Index := 0#32
  let c4_i32_756 : BitVec 32 := 4#32
  let v999 : BitVec 32 := Scalar.muli v841 c4_i32_756
  let v1000 : BitVec 32 := Scalar.addi v999 c0_i32_757
  let v1001 : Index := Scalar.indexCast v1000
  let c0_759 : Index := 0#32
  let c0_760 : Index := 0#32
  ![0, v1001.toNat, 0, 0]
def k0_off46 (v841 : BitVec 32) (c0_i32_757 : BitVec 32) : Fin 4 → Nat :=
  let c0_761 : Index := 0#32
  let c4_i32_756 : BitVec 32 := 4#32
  let v999 : BitVec 32 := Scalar.muli v841 c4_i32_756
  let v1000 : BitVec 32 := Scalar.addi v999 c0_i32_757
  let v1004 : Index := Scalar.indexCast v1000
  let c0_762 : Index := 0#32
  let c0_763 : Index := 0#32
  ![0, v1004.toNat, 0, 0]
def k0_off47 (v841 : BitVec 32) (c0_i32_805 : BitVec 32) : Fin 4 → Nat :=
  let c1_806 : Index := 1#32
  let c4_i32_804 : BitVec 32 := 4#32
  let v1085 : BitVec 32 := Scalar.muli v841 c4_i32_804
  let v1086 : BitVec 32 := Scalar.addi v1085 c0_i32_805
  let v1087 : Index := Scalar.indexCast v1086
  let c0_807 : Index := 0#32
  let c0_808 : Index := 0#32
  ![1, v1087.toNat, 0, 0]
def k0_off48 (v841 : BitVec 32) (c0_i32_805 : BitVec 32) : Fin 4 → Nat :=
  let c1_809 : Index := 1#32
  let c4_i32_804 : BitVec 32 := 4#32
  let v1085 : BitVec 32 := Scalar.muli v841 c4_i32_804
  let v1086 : BitVec 32 := Scalar.addi v1085 c0_i32_805
  let v1090 : Index := Scalar.indexCast v1086
  let c0_810 : Index := 0#32
  let c0_811 : Index := 0#32
  ![1, v1090.toNat, 0, 0]

def k0_chk6 (v841 : BitVec 32) : Prop :=
  (∀ a, (k0_off34 v841) a + S1x256x256.size a ≤ S16x512x256.size a) ∧
  (∀ (hinb : ∀ a, (k0_off34 v841) a + S1x256x256.size a ≤ S16x512x256.size a), (Rect.unit (s := S16x512x256) (k0_off34 v841) S1x256x256.size hinb).WholeWords (EltTy.packing .bf16)) ∧
  (∀ a, (k0_off35 v841) a + S1x256x256.size a ≤ S16x512x256.size a) ∧
  (∀ (hinb : ∀ a, (k0_off35 v841) a + S1x256x256.size a ≤ S16x512x256.size a), (Rect.unit (s := S16x512x256) (k0_off35 v841) S1x256x256.size hinb).WholeWords (EltTy.packing .bf16)) ∧
  (∀ a, (k0_off36 v841) a + S1x128x512.size a ≤ S16x256x512.size a) ∧
  (∀ (hinb : ∀ a, (k0_off36 v841) a + S1x128x512.size a ≤ S16x256x512.size a), (Rect.unit (s := S16x256x512) (k0_off36 v841) S1x128x512.size hinb).WholeWords (EltTy.packing .bf16)) ∧
  (∀ a, (k0_off37 v841) a + S1x128x512.size a ≤ S16x256x512.size a) ∧
  (∀ (hinb : ∀ a, (k0_off37 v841) a + S1x128x512.size a ≤ S16x256x512.size a), (Rect.unit (s := S16x256x512) (k0_off37 v841) S1x128x512.size hinb).WholeWords (EltTy.packing .bf16)) ∧
  (∀ a, (k0_off43 v841) a + S1x512x256.size a ≤ S16x512x256.size a) ∧
  (∀ a, (k0_off44 v841) a + S1x256x512.size a ≤ S16x256x512.size a) ∧
  (∀ (r : Fin 4), ∀ a, (k0_off45 v841 (BitVec.ofNat 32 r.val)) a + S1x1x256x64.size a ≤ S2x64x256x64.size a) ∧
  (∀ (r : Fin 4), ∀ a, (k0_off46 v841 (BitVec.ofNat 32 r.val)) a + S1x1x256x65.size a ≤ S2x64x256x65.size a) ∧
  (∀ (r : Fin 4), ∀ a, (k0_off47 v841 (BitVec.ofNat 32 r.val)) a + S1x1x256x64.size a ≤ S2x64x256x64.size a) ∧
  (∀ (r : Fin 4), ∀ a, (k0_off48 v841 (BitVec.ofNat 32 r.val)) a + S1x1x256x65.size a ≤ S2x64x256x65.size a)
theorem k0_off34_inb : ∀ (v841 : BitVec 32) (k0_hw6 : k0_chk6 v841), ∀ a, (k0_off34 v841) a + S1x256x256.size a ≤ S16x512x256.size a := fun v841 k0_hw6 => k0_hw6.1
theorem k0_off34_wordsbf16 : ∀ (v841 : BitVec 32) (k0_hw6 : k0_chk6 v841), (Rect.unit (s := S16x512x256) (k0_off34 v841) S1x256x256.size (k0_off34_inb v841 k0_hw6)).WholeWords (EltTy.packing .bf16) := fun v841 k0_hw6 => k0_hw6.2.1 (k0_off34_inb v841 k0_hw6)
theorem k0_off35_inb : ∀ (v841 : BitVec 32) (k0_hw6 : k0_chk6 v841), ∀ a, (k0_off35 v841) a + S1x256x256.size a ≤ S16x512x256.size a := fun v841 k0_hw6 => k0_hw6.2.2.1
theorem k0_off35_wordsbf16 : ∀ (v841 : BitVec 32) (k0_hw6 : k0_chk6 v841), (Rect.unit (s := S16x512x256) (k0_off35 v841) S1x256x256.size (k0_off35_inb v841 k0_hw6)).WholeWords (EltTy.packing .bf16) := fun v841 k0_hw6 => k0_hw6.2.2.2.1 (k0_off35_inb v841 k0_hw6)
theorem k0_off36_inb : ∀ (v841 : BitVec 32) (k0_hw6 : k0_chk6 v841), ∀ a, (k0_off36 v841) a + S1x128x512.size a ≤ S16x256x512.size a := fun v841 k0_hw6 => k0_hw6.2.2.2.2.1
theorem k0_off36_wordsbf16 : ∀ (v841 : BitVec 32) (k0_hw6 : k0_chk6 v841), (Rect.unit (s := S16x256x512) (k0_off36 v841) S1x128x512.size (k0_off36_inb v841 k0_hw6)).WholeWords (EltTy.packing .bf16) := fun v841 k0_hw6 => k0_hw6.2.2.2.2.2.1 (k0_off36_inb v841 k0_hw6)
theorem k0_off37_inb : ∀ (v841 : BitVec 32) (k0_hw6 : k0_chk6 v841), ∀ a, (k0_off37 v841) a + S1x128x512.size a ≤ S16x256x512.size a := fun v841 k0_hw6 => k0_hw6.2.2.2.2.2.2.1
theorem k0_off37_wordsbf16 : ∀ (v841 : BitVec 32) (k0_hw6 : k0_chk6 v841), (Rect.unit (s := S16x256x512) (k0_off37 v841) S1x128x512.size (k0_off37_inb v841 k0_hw6)).WholeWords (EltTy.packing .bf16) := fun v841 k0_hw6 => k0_hw6.2.2.2.2.2.2.2.1 (k0_off37_inb v841 k0_hw6)
theorem k0_off43_inb : ∀ (v841 : BitVec 32) (k0_hw6 : k0_chk6 v841), ∀ a, (k0_off43 v841) a + S1x512x256.size a ≤ S16x512x256.size a := fun v841 k0_hw6 => k0_hw6.2.2.2.2.2.2.2.2.1
theorem k0_off44_inb : ∀ (v841 : BitVec 32) (k0_hw6 : k0_chk6 v841), ∀ a, (k0_off44 v841) a + S1x256x512.size a ≤ S16x256x512.size a := fun v841 k0_hw6 => k0_hw6.2.2.2.2.2.2.2.2.2.1
theorem k0_off45_inb : ∀ (v841 : BitVec 32) (k0_hw6 : k0_chk6 v841), ∀ (r : Fin 4), ∀ a, (k0_off45 v841 (BitVec.ofNat 32 r.val)) a + S1x1x256x64.size a ≤ S2x64x256x64.size a := fun v841 k0_hw6 r => k0_hw6.2.2.2.2.2.2.2.2.2.2.1 r
theorem k0_off46_inb : ∀ (v841 : BitVec 32) (k0_hw6 : k0_chk6 v841), ∀ (r : Fin 4), ∀ a, (k0_off46 v841 (BitVec.ofNat 32 r.val)) a + S1x1x256x65.size a ≤ S2x64x256x65.size a := fun v841 k0_hw6 r => k0_hw6.2.2.2.2.2.2.2.2.2.2.2.1 r
theorem k0_off47_inb : ∀ (v841 : BitVec 32) (k0_hw6 : k0_chk6 v841), ∀ (r : Fin 4), ∀ a, (k0_off47 v841 (BitVec.ofNat 32 r.val)) a + S1x1x256x64.size a ≤ S2x64x256x64.size a := fun v841 k0_hw6 r => k0_hw6.2.2.2.2.2.2.2.2.2.2.2.2.1 r
theorem k0_off48_inb : ∀ (v841 : BitVec 32) (k0_hw6 : k0_chk6 v841), ∀ (r : Fin 4), ∀ a, (k0_off48 v841 (BitVec.ofNat 32 r.val)) a + S1x1x256x65.size a ≤ S2x64x256x65.size a := fun v841 k0_hw6 r => k0_hw6.2.2.2.2.2.2.2.2.2.2.2.2.2 r

def k0_off49 (v917 : BitVec 32) : Fin 3 → Nat :=
  let v1178 : Index := Scalar.indexCast v917
  let c0_859 : Index := 0#32
  let c0_860 : Index := 0#32
  ![v1178.toNat, 0, 0]
def k0_off50 (v917 : BitVec 32) : Fin 3 → Nat :=
  let v1181 : Index := Scalar.indexCast v917
  let c0_861 : Index := 0#32
  let c0_862 : Index := 0#32
  ![v1181.toNat, 0, 0]
def k0_off51 (v917 : BitVec 32) (c0_i32_865 : BitVec 32) : Fin 4 → Nat :=
  let c0_866 : Index := 0#32
  let c4_i32_864 : BitVec 32 := 4#32
  let v1187 : BitVec 32 := Scalar.muli v917 c4_i32_864
  let v1188 : BitVec 32 := Scalar.addi v1187 c0_i32_865
  let v1189 : Index := Scalar.indexCast v1188
  let c0_867 : Index := 0#32
  let c0_868 : Index := 0#32
  ![0, v1189.toNat, 0, 0]
def k0_off52 (v917 : BitVec 32) (c0_i32_865 : BitVec 32) : Fin 4 → Nat :=
  let c0_869 : Index := 0#32
  let c4_i32_864 : BitVec 32 := 4#32
  let v1187 : BitVec 32 := Scalar.muli v917 c4_i32_864
  let v1188 : BitVec 32 := Scalar.addi v1187 c0_i32_865
  let v1192 : Index := Scalar.indexCast v1188
  let c0_870 : Index := 0#32
  let c0_871 : Index := 0#32
  ![0, v1192.toNat, 0, 0]
def k0_off53 (v917 : BitVec 32) (c0_i32_913 : BitVec 32) : Fin 4 → Nat :=
  let c1_914 : Index := 1#32
  let c4_i32_912 : BitVec 32 := 4#32
  let v1273 : BitVec 32 := Scalar.muli v917 c4_i32_912
  let v1274 : BitVec 32 := Scalar.addi v1273 c0_i32_913
  let v1275 : Index := Scalar.indexCast v1274
  let c0_915 : Index := 0#32
  let c0_916 : Index := 0#32
  ![1, v1275.toNat, 0, 0]
def k0_off54 (v917 : BitVec 32) (c0_i32_913 : BitVec 32) : Fin 4 → Nat :=
  let c1_917 : Index := 1#32
  let c4_i32_912 : BitVec 32 := 4#32
  let v1273 : BitVec 32 := Scalar.muli v917 c4_i32_912
  let v1274 : BitVec 32 := Scalar.addi v1273 c0_i32_913
  let v1278 : Index := Scalar.indexCast v1274
  let c0_918 : Index := 0#32
  let c0_919 : Index := 0#32
  ![1, v1278.toNat, 0, 0]

def k0_chk7 (v917 : BitVec 32) : Prop :=
  (∀ a, (k0_off39 v917) a + S1x256x256.size a ≤ S16x512x256.size a) ∧
  (∀ (hinb : ∀ a, (k0_off39 v917) a + S1x256x256.size a ≤ S16x512x256.size a), (Rect.unit (s := S16x512x256) (k0_off39 v917) S1x256x256.size hinb).WholeWords (EltTy.packing .bf16)) ∧
  (∀ a, (k0_off40 v917) a + S1x256x256.size a ≤ S16x512x256.size a) ∧
  (∀ (hinb : ∀ a, (k0_off40 v917) a + S1x256x256.size a ≤ S16x512x256.size a), (Rect.unit (s := S16x512x256) (k0_off40 v917) S1x256x256.size hinb).WholeWords (EltTy.packing .bf16)) ∧
  (∀ a, (k0_off41 v917) a + S1x128x512.size a ≤ S16x256x512.size a) ∧
  (∀ (hinb : ∀ a, (k0_off41 v917) a + S1x128x512.size a ≤ S16x256x512.size a), (Rect.unit (s := S16x256x512) (k0_off41 v917) S1x128x512.size hinb).WholeWords (EltTy.packing .bf16)) ∧
  (∀ a, (k0_off42 v917) a + S1x128x512.size a ≤ S16x256x512.size a) ∧
  (∀ (hinb : ∀ a, (k0_off42 v917) a + S1x128x512.size a ≤ S16x256x512.size a), (Rect.unit (s := S16x256x512) (k0_off42 v917) S1x128x512.size hinb).WholeWords (EltTy.packing .bf16)) ∧
  (∀ a, (k0_off49 v917) a + S1x512x256.size a ≤ S16x512x256.size a) ∧
  (∀ a, (k0_off50 v917) a + S1x256x512.size a ≤ S16x256x512.size a) ∧
  (∀ (r : Fin 4), ∀ a, (k0_off51 v917 (BitVec.ofNat 32 r.val)) a + S1x1x256x64.size a ≤ S2x64x256x64.size a) ∧
  (∀ (r : Fin 4), ∀ a, (k0_off52 v917 (BitVec.ofNat 32 r.val)) a + S1x1x256x65.size a ≤ S2x64x256x65.size a) ∧
  (∀ (r : Fin 4), ∀ a, (k0_off53 v917 (BitVec.ofNat 32 r.val)) a + S1x1x256x64.size a ≤ S2x64x256x64.size a) ∧
  (∀ (r : Fin 4), ∀ a, (k0_off54 v917 (BitVec.ofNat 32 r.val)) a + S1x1x256x65.size a ≤ S2x64x256x65.size a)
theorem k0_off39_inb : ∀ (v917 : BitVec 32) (k0_hw7 : k0_chk7 v917), ∀ a, (k0_off39 v917) a + S1x256x256.size a ≤ S16x512x256.size a := fun v917 k0_hw7 => k0_hw7.1
theorem k0_off39_wordsbf16 : ∀ (v917 : BitVec 32) (k0_hw7 : k0_chk7 v917), (Rect.unit (s := S16x512x256) (k0_off39 v917) S1x256x256.size (k0_off39_inb v917 k0_hw7)).WholeWords (EltTy.packing .bf16) := fun v917 k0_hw7 => k0_hw7.2.1 (k0_off39_inb v917 k0_hw7)
theorem k0_off40_inb : ∀ (v917 : BitVec 32) (k0_hw7 : k0_chk7 v917), ∀ a, (k0_off40 v917) a + S1x256x256.size a ≤ S16x512x256.size a := fun v917 k0_hw7 => k0_hw7.2.2.1
theorem k0_off40_wordsbf16 : ∀ (v917 : BitVec 32) (k0_hw7 : k0_chk7 v917), (Rect.unit (s := S16x512x256) (k0_off40 v917) S1x256x256.size (k0_off40_inb v917 k0_hw7)).WholeWords (EltTy.packing .bf16) := fun v917 k0_hw7 => k0_hw7.2.2.2.1 (k0_off40_inb v917 k0_hw7)
theorem k0_off41_inb : ∀ (v917 : BitVec 32) (k0_hw7 : k0_chk7 v917), ∀ a, (k0_off41 v917) a + S1x128x512.size a ≤ S16x256x512.size a := fun v917 k0_hw7 => k0_hw7.2.2.2.2.1
theorem k0_off41_wordsbf16 : ∀ (v917 : BitVec 32) (k0_hw7 : k0_chk7 v917), (Rect.unit (s := S16x256x512) (k0_off41 v917) S1x128x512.size (k0_off41_inb v917 k0_hw7)).WholeWords (EltTy.packing .bf16) := fun v917 k0_hw7 => k0_hw7.2.2.2.2.2.1 (k0_off41_inb v917 k0_hw7)
theorem k0_off42_inb : ∀ (v917 : BitVec 32) (k0_hw7 : k0_chk7 v917), ∀ a, (k0_off42 v917) a + S1x128x512.size a ≤ S16x256x512.size a := fun v917 k0_hw7 => k0_hw7.2.2.2.2.2.2.1
theorem k0_off42_wordsbf16 : ∀ (v917 : BitVec 32) (k0_hw7 : k0_chk7 v917), (Rect.unit (s := S16x256x512) (k0_off42 v917) S1x128x512.size (k0_off42_inb v917 k0_hw7)).WholeWords (EltTy.packing .bf16) := fun v917 k0_hw7 => k0_hw7.2.2.2.2.2.2.2.1 (k0_off42_inb v917 k0_hw7)
theorem k0_off49_inb : ∀ (v917 : BitVec 32) (k0_hw7 : k0_chk7 v917), ∀ a, (k0_off49 v917) a + S1x512x256.size a ≤ S16x512x256.size a := fun v917 k0_hw7 => k0_hw7.2.2.2.2.2.2.2.2.1
theorem k0_off50_inb : ∀ (v917 : BitVec 32) (k0_hw7 : k0_chk7 v917), ∀ a, (k0_off50 v917) a + S1x256x512.size a ≤ S16x256x512.size a := fun v917 k0_hw7 => k0_hw7.2.2.2.2.2.2.2.2.2.1
theorem k0_off51_inb : ∀ (v917 : BitVec 32) (k0_hw7 : k0_chk7 v917), ∀ (r : Fin 4), ∀ a, (k0_off51 v917 (BitVec.ofNat 32 r.val)) a + S1x1x256x64.size a ≤ S2x64x256x64.size a := fun v917 k0_hw7 r => k0_hw7.2.2.2.2.2.2.2.2.2.2.1 r
theorem k0_off52_inb : ∀ (v917 : BitVec 32) (k0_hw7 : k0_chk7 v917), ∀ (r : Fin 4), ∀ a, (k0_off52 v917 (BitVec.ofNat 32 r.val)) a + S1x1x256x65.size a ≤ S2x64x256x65.size a := fun v917 k0_hw7 r => k0_hw7.2.2.2.2.2.2.2.2.2.2.2.1 r
theorem k0_off53_inb : ∀ (v917 : BitVec 32) (k0_hw7 : k0_chk7 v917), ∀ (r : Fin 4), ∀ a, (k0_off53 v917 (BitVec.ofNat 32 r.val)) a + S1x1x256x64.size a ≤ S2x64x256x64.size a := fun v917 k0_hw7 r => k0_hw7.2.2.2.2.2.2.2.2.2.2.2.2.1 r
theorem k0_off54_inb : ∀ (v917 : BitVec 32) (k0_hw7 : k0_chk7 v917), ∀ (r : Fin 4), ∀ a, (k0_off54 v917 (BitVec.ofNat 32 r.val)) a + S1x1x256x65.size a ≤ S2x64x256x65.size a := fun v917 k0_hw7 r => k0_hw7.2.2.2.2.2.2.2.2.2.2.2.2.2 r

def k0_off55 (v5 : BitVec 32) : Fin 1 → Nat :=
  let c3_i32_967 : BitVec 32 := 3#32
  let v1366 : BitVec 32 := Scalar.subi v5 c3_i32_967
  let c16_i32_968 : BitVec 32 := 16#32
  let v1367 : BitVec 32 := Scalar.addi v1366 c16_i32_968
  let c16_i32_969 : BitVec 32 := 16#32
  let v1368 : BitVec 32 := Scalar.remsi v1367 c16_i32_969
  let v1369 : Index := Scalar.indexCast v1368
  ![v1369.toNat]
def k0_off56 (v1370 : BitVec 32) : Fin 3 → Nat :=
  let c0_i32_976 : BitVec 32 := 0#32
  let c0_i32_977 : BitVec 32 := 0#32
  ![v1370.toNat, 0, 0]

def k0_dev27 (v3 : BitVec 32) : Nat :=
  let c0_i32_985 : BitVec 32 := 0#32
  let c1_i32_984 : BitVec 32 := 1#32
  let v1379 : BitVec 32 := Scalar.muli v3 c1_i32_984
  let v1380 : BitVec 32 := Scalar.addi c0_i32_985 v1379
  v1380.toNat
def k0_off57 (v1370 : BitVec 32) : Fin 3 → Nat :=
  let c256_i32_996 : BitVec 32 := 256#32
  let c0_i32_997 : BitVec 32 := 0#32
  ![v1370.toNat, 256, 0]
def k0_dev28 (v3 : BitVec 32) : Nat :=
  let c0_i32_1005 : BitVec 32 := 0#32
  let c1_i32_1004 : BitVec 32 := 1#32
  let v1397 : BitVec 32 := Scalar.muli v3 c1_i32_1004
  let v1398 : BitVec 32 := Scalar.addi c0_i32_1005 v1397
  v1398.toNat
def k0_off58 (v1370 : BitVec 32) : Fin 3 → Nat :=
  let c0_i32_1016 : BitVec 32 := 0#32
  let c0_i32_1017 : BitVec 32 := 0#32
  ![v1370.toNat, 0, 0]
def k0_dev29 (v3 : BitVec 32) : Nat :=
  let c0_i32_1025 : BitVec 32 := 0#32
  let c1_i32_1024 : BitVec 32 := 1#32
  let v1415 : BitVec 32 := Scalar.muli v3 c1_i32_1024
  let v1416 : BitVec 32 := Scalar.addi c0_i32_1025 v1415
  v1416.toNat
def k0_off59 (v1370 : BitVec 32) : Fin 3 → Nat :=
  let c128_i32_1036 : BitVec 32 := 128#32
  let c0_i32_1037 : BitVec 32 := 0#32
  ![v1370.toNat, 128, 0]
def k0_dev30 (v3 : BitVec 32) : Nat :=
  let c0_i32_1045 : BitVec 32 := 0#32
  let c1_i32_1044 : BitVec 32 := 1#32
  let v1433 : BitVec 32 := Scalar.muli v3 c1_i32_1044
  let v1434 : BitVec 32 := Scalar.addi c0_i32_1045 v1433
  v1434.toNat
def k0_off60 (v5 : BitVec 32) : Fin 1 → Nat :=
  let c3_i32_1050 : BitVec 32 := 3#32
  let v1443 : BitVec 32 := Scalar.addi v5 c3_i32_1050
  let c16_i32_1051 : BitVec 32 := 16#32
  let v1444 : BitVec 32 := Scalar.remsi v1443 c16_i32_1051
  let v1445 : Index := Scalar.indexCast v1444
  ![v1445.toNat]
def k0_off61 (v1446 : BitVec 32) : Fin 3 → Nat :=
  let c0_i32_1058 : BitVec 32 := 0#32
  let c0_i32_1059 : BitVec 32 := 0#32
  ![v1446.toNat, 0, 0]

def k0_dev31 (v4 : BitVec 32) : Nat :=
  let c0_i32_1067 : BitVec 32 := 0#32
  let c1_i32_1066 : BitVec 32 := 1#32
  let v1455 : BitVec 32 := Scalar.muli v4 c1_i32_1066
  let v1456 : BitVec 32 := Scalar.addi c0_i32_1067 v1455
  v1456.toNat
def k0_off62 (v1446 : BitVec 32) : Fin 3 → Nat :=
  let c256_i32_1078 : BitVec 32 := 256#32
  let c0_i32_1079 : BitVec 32 := 0#32
  ![v1446.toNat, 256, 0]
def k0_dev32 (v4 : BitVec 32) : Nat :=
  let c0_i32_1087 : BitVec 32 := 0#32
  let c1_i32_1086 : BitVec 32 := 1#32
  let v1473 : BitVec 32 := Scalar.muli v4 c1_i32_1086
  let v1474 : BitVec 32 := Scalar.addi c0_i32_1087 v1473
  v1474.toNat
def k0_off63 (v1446 : BitVec 32) : Fin 3 → Nat :=
  let c0_i32_1098 : BitVec 32 := 0#32
  let c0_i32_1099 : BitVec 32 := 0#32
  ![v1446.toNat, 0, 0]
def k0_dev33 (v4 : BitVec 32) : Nat :=
  let c0_i32_1107 : BitVec 32 := 0#32
  let c1_i32_1106 : BitVec 32 := 1#32
  let v1491 : BitVec 32 := Scalar.muli v4 c1_i32_1106
  let v1492 : BitVec 32 := Scalar.addi c0_i32_1107 v1491
  v1492.toNat
def k0_off64 (v1446 : BitVec 32) : Fin 3 → Nat :=
  let c128_i32_1118 : BitVec 32 := 128#32
  let c0_i32_1119 : BitVec 32 := 0#32
  ![v1446.toNat, 128, 0]
def k0_dev34 (v4 : BitVec 32) : Nat :=
  let c0_i32_1127 : BitVec 32 := 0#32
  let c1_i32_1126 : BitVec 32 := 1#32
  let v1509 : BitVec 32 := Scalar.muli v4 c1_i32_1126
  let v1510 : BitVec 32 := Scalar.addi c0_i32_1127 v1509
  v1510.toNat
def k0_off65 (v1370 : BitVec 32) : Fin 3 → Nat :=
  let v1519 : Index := Scalar.indexCast v1370
  let c0_1132 : Index := 0#32
  let c0_1133 : Index := 0#32
  ![v1519.toNat, 0, 0]
def k0_off66 (v1370 : BitVec 32) : Fin 3 → Nat :=
  let v1522 : Index := Scalar.indexCast v1370
  let c0_1134 : Index := 0#32
  let c0_1135 : Index := 0#32
  ![v1522.toNat, 0, 0]
def k0_off67 (v1370 : BitVec 32) (c0_i32_1138 : BitVec 32) : Fin 4 → Nat :=
  let c0_1139 : Index := 0#32
  let c4_i32_1137 : BitVec 32 := 4#32
  let v1528 : BitVec 32 := Scalar.muli v1370 c4_i32_1137
  let v1529 : BitVec 32 := Scalar.addi v1528 c0_i32_1138
  let v1530 : Index := Scalar.indexCast v1529
  let c0_1140 : Index := 0#32
  let c0_1141 : Index := 0#32
  ![0, v1530.toNat, 0, 0]
def k0_off68 (v1370 : BitVec 32) (c0_i32_1138 : BitVec 32) : Fin 4 → Nat :=
  let c0_1142 : Index := 0#32
  let c4_i32_1137 : BitVec 32 := 4#32
  let v1528 : BitVec 32 := Scalar.muli v1370 c4_i32_1137
  let v1529 : BitVec 32 := Scalar.addi v1528 c0_i32_1138
  let v1533 : Index := Scalar.indexCast v1529
  let c0_1143 : Index := 0#32
  let c0_1144 : Index := 0#32
  ![0, v1533.toNat, 0, 0]
def k0_off69 (v1370 : BitVec 32) (c0_i32_1186 : BitVec 32) : Fin 4 → Nat :=
  let c1_1187 : Index := 1#32
  let c4_i32_1185 : BitVec 32 := 4#32
  let v1614 : BitVec 32 := Scalar.muli v1370 c4_i32_1185
  let v1615 : BitVec 32 := Scalar.addi v1614 c0_i32_1186
  let v1616 : Index := Scalar.indexCast v1615
  let c0_1188 : Index := 0#32
  let c0_1189 : Index := 0#32
  ![1, v1616.toNat, 0, 0]
def k0_off70 (v1370 : BitVec 32) (c0_i32_1186 : BitVec 32) : Fin 4 → Nat :=
  let c1_1190 : Index := 1#32
  let c4_i32_1185 : BitVec 32 := 4#32
  let v1614 : BitVec 32 := Scalar.muli v1370 c4_i32_1185
  let v1615 : BitVec 32 := Scalar.addi v1614 c0_i32_1186
  let v1619 : Index := Scalar.indexCast v1615
  let c0_1191 : Index := 0#32
  let c0_1192 : Index := 0#32
  ![1, v1619.toNat, 0, 0]

def k0_chk8 (v1370 : BitVec 32) : Prop :=
  (∀ a, (k0_off56 v1370) a + S1x256x256.size a ≤ S16x512x256.size a) ∧
  (∀ (hinb : ∀ a, (k0_off56 v1370) a + S1x256x256.size a ≤ S16x512x256.size a), (Rect.unit (s := S16x512x256) (k0_off56 v1370) S1x256x256.size hinb).WholeWords (EltTy.packing .bf16)) ∧
  (∀ a, (k0_off57 v1370) a + S1x256x256.size a ≤ S16x512x256.size a) ∧
  (∀ (hinb : ∀ a, (k0_off57 v1370) a + S1x256x256.size a ≤ S16x512x256.size a), (Rect.unit (s := S16x512x256) (k0_off57 v1370) S1x256x256.size hinb).WholeWords (EltTy.packing .bf16)) ∧
  (∀ a, (k0_off58 v1370) a + S1x128x512.size a ≤ S16x256x512.size a) ∧
  (∀ (hinb : ∀ a, (k0_off58 v1370) a + S1x128x512.size a ≤ S16x256x512.size a), (Rect.unit (s := S16x256x512) (k0_off58 v1370) S1x128x512.size hinb).WholeWords (EltTy.packing .bf16)) ∧
  (∀ a, (k0_off59 v1370) a + S1x128x512.size a ≤ S16x256x512.size a) ∧
  (∀ (hinb : ∀ a, (k0_off59 v1370) a + S1x128x512.size a ≤ S16x256x512.size a), (Rect.unit (s := S16x256x512) (k0_off59 v1370) S1x128x512.size hinb).WholeWords (EltTy.packing .bf16)) ∧
  (∀ a, (k0_off65 v1370) a + S1x512x256.size a ≤ S16x512x256.size a) ∧
  (∀ a, (k0_off66 v1370) a + S1x256x512.size a ≤ S16x256x512.size a) ∧
  (∀ (r : Fin 4), ∀ a, (k0_off67 v1370 (BitVec.ofNat 32 r.val)) a + S1x1x256x64.size a ≤ S2x64x256x64.size a) ∧
  (∀ (r : Fin 4), ∀ a, (k0_off68 v1370 (BitVec.ofNat 32 r.val)) a + S1x1x256x65.size a ≤ S2x64x256x65.size a) ∧
  (∀ (r : Fin 4), ∀ a, (k0_off69 v1370 (BitVec.ofNat 32 r.val)) a + S1x1x256x64.size a ≤ S2x64x256x64.size a) ∧
  (∀ (r : Fin 4), ∀ a, (k0_off70 v1370 (BitVec.ofNat 32 r.val)) a + S1x1x256x65.size a ≤ S2x64x256x65.size a)
theorem k0_off56_inb : ∀ (v1370 : BitVec 32) (k0_hw8 : k0_chk8 v1370), ∀ a, (k0_off56 v1370) a + S1x256x256.size a ≤ S16x512x256.size a := fun v1370 k0_hw8 => k0_hw8.1
theorem k0_off56_wordsbf16 : ∀ (v1370 : BitVec 32) (k0_hw8 : k0_chk8 v1370), (Rect.unit (s := S16x512x256) (k0_off56 v1370) S1x256x256.size (k0_off56_inb v1370 k0_hw8)).WholeWords (EltTy.packing .bf16) := fun v1370 k0_hw8 => k0_hw8.2.1 (k0_off56_inb v1370 k0_hw8)
theorem k0_off57_inb : ∀ (v1370 : BitVec 32) (k0_hw8 : k0_chk8 v1370), ∀ a, (k0_off57 v1370) a + S1x256x256.size a ≤ S16x512x256.size a := fun v1370 k0_hw8 => k0_hw8.2.2.1
theorem k0_off57_wordsbf16 : ∀ (v1370 : BitVec 32) (k0_hw8 : k0_chk8 v1370), (Rect.unit (s := S16x512x256) (k0_off57 v1370) S1x256x256.size (k0_off57_inb v1370 k0_hw8)).WholeWords (EltTy.packing .bf16) := fun v1370 k0_hw8 => k0_hw8.2.2.2.1 (k0_off57_inb v1370 k0_hw8)
theorem k0_off58_inb : ∀ (v1370 : BitVec 32) (k0_hw8 : k0_chk8 v1370), ∀ a, (k0_off58 v1370) a + S1x128x512.size a ≤ S16x256x512.size a := fun v1370 k0_hw8 => k0_hw8.2.2.2.2.1
theorem k0_off58_wordsbf16 : ∀ (v1370 : BitVec 32) (k0_hw8 : k0_chk8 v1370), (Rect.unit (s := S16x256x512) (k0_off58 v1370) S1x128x512.size (k0_off58_inb v1370 k0_hw8)).WholeWords (EltTy.packing .bf16) := fun v1370 k0_hw8 => k0_hw8.2.2.2.2.2.1 (k0_off58_inb v1370 k0_hw8)
theorem k0_off59_inb : ∀ (v1370 : BitVec 32) (k0_hw8 : k0_chk8 v1370), ∀ a, (k0_off59 v1370) a + S1x128x512.size a ≤ S16x256x512.size a := fun v1370 k0_hw8 => k0_hw8.2.2.2.2.2.2.1
theorem k0_off59_wordsbf16 : ∀ (v1370 : BitVec 32) (k0_hw8 : k0_chk8 v1370), (Rect.unit (s := S16x256x512) (k0_off59 v1370) S1x128x512.size (k0_off59_inb v1370 k0_hw8)).WholeWords (EltTy.packing .bf16) := fun v1370 k0_hw8 => k0_hw8.2.2.2.2.2.2.2.1 (k0_off59_inb v1370 k0_hw8)
theorem k0_off65_inb : ∀ (v1370 : BitVec 32) (k0_hw8 : k0_chk8 v1370), ∀ a, (k0_off65 v1370) a + S1x512x256.size a ≤ S16x512x256.size a := fun v1370 k0_hw8 => k0_hw8.2.2.2.2.2.2.2.2.1
theorem k0_off66_inb : ∀ (v1370 : BitVec 32) (k0_hw8 : k0_chk8 v1370), ∀ a, (k0_off66 v1370) a + S1x256x512.size a ≤ S16x256x512.size a := fun v1370 k0_hw8 => k0_hw8.2.2.2.2.2.2.2.2.2.1
theorem k0_off67_inb : ∀ (v1370 : BitVec 32) (k0_hw8 : k0_chk8 v1370), ∀ (r : Fin 4), ∀ a, (k0_off67 v1370 (BitVec.ofNat 32 r.val)) a + S1x1x256x64.size a ≤ S2x64x256x64.size a := fun v1370 k0_hw8 r => k0_hw8.2.2.2.2.2.2.2.2.2.2.1 r
theorem k0_off68_inb : ∀ (v1370 : BitVec 32) (k0_hw8 : k0_chk8 v1370), ∀ (r : Fin 4), ∀ a, (k0_off68 v1370 (BitVec.ofNat 32 r.val)) a + S1x1x256x65.size a ≤ S2x64x256x65.size a := fun v1370 k0_hw8 r => k0_hw8.2.2.2.2.2.2.2.2.2.2.2.1 r
theorem k0_off69_inb : ∀ (v1370 : BitVec 32) (k0_hw8 : k0_chk8 v1370), ∀ (r : Fin 4), ∀ a, (k0_off69 v1370 (BitVec.ofNat 32 r.val)) a + S1x1x256x64.size a ≤ S2x64x256x64.size a := fun v1370 k0_hw8 r => k0_hw8.2.2.2.2.2.2.2.2.2.2.2.2.1 r
theorem k0_off70_inb : ∀ (v1370 : BitVec 32) (k0_hw8 : k0_chk8 v1370), ∀ (r : Fin 4), ∀ a, (k0_off70 v1370 (BitVec.ofNat 32 r.val)) a + S1x1x256x65.size a ≤ S2x64x256x65.size a := fun v1370 k0_hw8 r => k0_hw8.2.2.2.2.2.2.2.2.2.2.2.2.2 r

def k0_off71 (v1446 : BitVec 32) : Fin 3 → Nat :=
  let v1707 : Index := Scalar.indexCast v1446
  let c0_1240 : Index := 0#32
  let c0_1241 : Index := 0#32
  ![v1707.toNat, 0, 0]
def k0_off72 (v1446 : BitVec 32) : Fin 3 → Nat :=
  let v1710 : Index := Scalar.indexCast v1446
  let c0_1242 : Index := 0#32
  let c0_1243 : Index := 0#32
  ![v1710.toNat, 0, 0]
def k0_off73 (v1446 : BitVec 32) (c0_i32_1246 : BitVec 32) : Fin 4 → Nat :=
  let c0_1247 : Index := 0#32
  let c4_i32_1245 : BitVec 32 := 4#32
  let v1716 : BitVec 32 := Scalar.muli v1446 c4_i32_1245
  let v1717 : BitVec 32 := Scalar.addi v1716 c0_i32_1246
  let v1718 : Index := Scalar.indexCast v1717
  let c0_1248 : Index := 0#32
  let c0_1249 : Index := 0#32
  ![0, v1718.toNat, 0, 0]
def k0_off74 (v1446 : BitVec 32) (c0_i32_1246 : BitVec 32) : Fin 4 → Nat :=
  let c0_1250 : Index := 0#32
  let c4_i32_1245 : BitVec 32 := 4#32
  let v1716 : BitVec 32 := Scalar.muli v1446 c4_i32_1245
  let v1717 : BitVec 32 := Scalar.addi v1716 c0_i32_1246
  let v1721 : Index := Scalar.indexCast v1717
  let c0_1251 : Index := 0#32
  let c0_1252 : Index := 0#32
  ![0, v1721.toNat, 0, 0]
def k0_off75 (v1446 : BitVec 32) (c0_i32_1294 : BitVec 32) : Fin 4 → Nat :=
  let c1_1295 : Index := 1#32
  let c4_i32_1293 : BitVec 32 := 4#32
  let v1802 : BitVec 32 := Scalar.muli v1446 c4_i32_1293
  let v1803 : BitVec 32 := Scalar.addi v1802 c0_i32_1294
  let v1804 : Index := Scalar.indexCast v1803
  let c0_1296 : Index := 0#32
  let c0_1297 : Index := 0#32
  ![1, v1804.toNat, 0, 0]
def k0_off76 (v1446 : BitVec 32) (c0_i32_1294 : BitVec 32) : Fin 4 → Nat :=
  let c1_1298 : Index := 1#32
  let c4_i32_1293 : BitVec 32 := 4#32
  let v1802 : BitVec 32 := Scalar.muli v1446 c4_i32_1293
  let v1803 : BitVec 32 := Scalar.addi v1802 c0_i32_1294
  let v1807 : Index := Scalar.indexCast v1803
  let c0_1299 : Index := 0#32
  let c0_1300 : Index := 0#32
  ![1, v1807.toNat, 0, 0]

def k0_chk9 (v1446 : BitVec 32) : Prop :=
  (∀ a, (k0_off61 v1446) a + S1x256x256.size a ≤ S16x512x256.size a) ∧
  (∀ (hinb : ∀ a, (k0_off61 v1446) a + S1x256x256.size a ≤ S16x512x256.size a), (Rect.unit (s := S16x512x256) (k0_off61 v1446) S1x256x256.size hinb).WholeWords (EltTy.packing .bf16)) ∧
  (∀ a, (k0_off62 v1446) a + S1x256x256.size a ≤ S16x512x256.size a) ∧
  (∀ (hinb : ∀ a, (k0_off62 v1446) a + S1x256x256.size a ≤ S16x512x256.size a), (Rect.unit (s := S16x512x256) (k0_off62 v1446) S1x256x256.size hinb).WholeWords (EltTy.packing .bf16)) ∧
  (∀ a, (k0_off63 v1446) a + S1x128x512.size a ≤ S16x256x512.size a) ∧
  (∀ (hinb : ∀ a, (k0_off63 v1446) a + S1x128x512.size a ≤ S16x256x512.size a), (Rect.unit (s := S16x256x512) (k0_off63 v1446) S1x128x512.size hinb).WholeWords (EltTy.packing .bf16)) ∧
  (∀ a, (k0_off64 v1446) a + S1x128x512.size a ≤ S16x256x512.size a) ∧
  (∀ (hinb : ∀ a, (k0_off64 v1446) a + S1x128x512.size a ≤ S16x256x512.size a), (Rect.unit (s := S16x256x512) (k0_off64 v1446) S1x128x512.size hinb).WholeWords (EltTy.packing .bf16)) ∧
  (∀ a, (k0_off71 v1446) a + S1x512x256.size a ≤ S16x512x256.size a) ∧
  (∀ a, (k0_off72 v1446) a + S1x256x512.size a ≤ S16x256x512.size a) ∧
  (∀ (r : Fin 4), ∀ a, (k0_off73 v1446 (BitVec.ofNat 32 r.val)) a + S1x1x256x64.size a ≤ S2x64x256x64.size a) ∧
  (∀ (r : Fin 4), ∀ a, (k0_off74 v1446 (BitVec.ofNat 32 r.val)) a + S1x1x256x65.size a ≤ S2x64x256x65.size a) ∧
  (∀ (r : Fin 4), ∀ a, (k0_off75 v1446 (BitVec.ofNat 32 r.val)) a + S1x1x256x64.size a ≤ S2x64x256x64.size a) ∧
  (∀ (r : Fin 4), ∀ a, (k0_off76 v1446 (BitVec.ofNat 32 r.val)) a + S1x1x256x65.size a ≤ S2x64x256x65.size a)
theorem k0_off61_inb : ∀ (v1446 : BitVec 32) (k0_hw9 : k0_chk9 v1446), ∀ a, (k0_off61 v1446) a + S1x256x256.size a ≤ S16x512x256.size a := fun v1446 k0_hw9 => k0_hw9.1
theorem k0_off61_wordsbf16 : ∀ (v1446 : BitVec 32) (k0_hw9 : k0_chk9 v1446), (Rect.unit (s := S16x512x256) (k0_off61 v1446) S1x256x256.size (k0_off61_inb v1446 k0_hw9)).WholeWords (EltTy.packing .bf16) := fun v1446 k0_hw9 => k0_hw9.2.1 (k0_off61_inb v1446 k0_hw9)
theorem k0_off62_inb : ∀ (v1446 : BitVec 32) (k0_hw9 : k0_chk9 v1446), ∀ a, (k0_off62 v1446) a + S1x256x256.size a ≤ S16x512x256.size a := fun v1446 k0_hw9 => k0_hw9.2.2.1
theorem k0_off62_wordsbf16 : ∀ (v1446 : BitVec 32) (k0_hw9 : k0_chk9 v1446), (Rect.unit (s := S16x512x256) (k0_off62 v1446) S1x256x256.size (k0_off62_inb v1446 k0_hw9)).WholeWords (EltTy.packing .bf16) := fun v1446 k0_hw9 => k0_hw9.2.2.2.1 (k0_off62_inb v1446 k0_hw9)
theorem k0_off63_inb : ∀ (v1446 : BitVec 32) (k0_hw9 : k0_chk9 v1446), ∀ a, (k0_off63 v1446) a + S1x128x512.size a ≤ S16x256x512.size a := fun v1446 k0_hw9 => k0_hw9.2.2.2.2.1
theorem k0_off63_wordsbf16 : ∀ (v1446 : BitVec 32) (k0_hw9 : k0_chk9 v1446), (Rect.unit (s := S16x256x512) (k0_off63 v1446) S1x128x512.size (k0_off63_inb v1446 k0_hw9)).WholeWords (EltTy.packing .bf16) := fun v1446 k0_hw9 => k0_hw9.2.2.2.2.2.1 (k0_off63_inb v1446 k0_hw9)
theorem k0_off64_inb : ∀ (v1446 : BitVec 32) (k0_hw9 : k0_chk9 v1446), ∀ a, (k0_off64 v1446) a + S1x128x512.size a ≤ S16x256x512.size a := fun v1446 k0_hw9 => k0_hw9.2.2.2.2.2.2.1
theorem k0_off64_wordsbf16 : ∀ (v1446 : BitVec 32) (k0_hw9 : k0_chk9 v1446), (Rect.unit (s := S16x256x512) (k0_off64 v1446) S1x128x512.size (k0_off64_inb v1446 k0_hw9)).WholeWords (EltTy.packing .bf16) := fun v1446 k0_hw9 => k0_hw9.2.2.2.2.2.2.2.1 (k0_off64_inb v1446 k0_hw9)
theorem k0_off71_inb : ∀ (v1446 : BitVec 32) (k0_hw9 : k0_chk9 v1446), ∀ a, (k0_off71 v1446) a + S1x512x256.size a ≤ S16x512x256.size a := fun v1446 k0_hw9 => k0_hw9.2.2.2.2.2.2.2.2.1
theorem k0_off72_inb : ∀ (v1446 : BitVec 32) (k0_hw9 : k0_chk9 v1446), ∀ a, (k0_off72 v1446) a + S1x256x512.size a ≤ S16x256x512.size a := fun v1446 k0_hw9 => k0_hw9.2.2.2.2.2.2.2.2.2.1
theorem k0_off73_inb : ∀ (v1446 : BitVec 32) (k0_hw9 : k0_chk9 v1446), ∀ (r : Fin 4), ∀ a, (k0_off73 v1446 (BitVec.ofNat 32 r.val)) a + S1x1x256x64.size a ≤ S2x64x256x64.size a := fun v1446 k0_hw9 r => k0_hw9.2.2.2.2.2.2.2.2.2.2.1 r
theorem k0_off74_inb : ∀ (v1446 : BitVec 32) (k0_hw9 : k0_chk9 v1446), ∀ (r : Fin 4), ∀ a, (k0_off74 v1446 (BitVec.ofNat 32 r.val)) a + S1x1x256x65.size a ≤ S2x64x256x65.size a := fun v1446 k0_hw9 r => k0_hw9.2.2.2.2.2.2.2.2.2.2.2.1 r
theorem k0_off75_inb : ∀ (v1446 : BitVec 32) (k0_hw9 : k0_chk9 v1446), ∀ (r : Fin 4), ∀ a, (k0_off75 v1446 (BitVec.ofNat 32 r.val)) a + S1x1x256x64.size a ≤ S2x64x256x64.size a := fun v1446 k0_hw9 r => k0_hw9.2.2.2.2.2.2.2.2.2.2.2.2.1 r
theorem k0_off76_inb : ∀ (v1446 : BitVec 32) (k0_hw9 : k0_chk9 v1446), ∀ (r : Fin 4), ∀ a, (k0_off76 v1446 (BitVec.ofNat 32 r.val)) a + S1x1x256x65.size a ≤ S2x64x256x65.size a := fun v1446 k0_hw9 r => k0_hw9.2.2.2.2.2.2.2.2.2.2.2.2.2 r

def k0_off77 (v5 : BitVec 32) : Fin 1 → Nat :=
  let c4_i32_1348 : BitVec 32 := 4#32
  let v1895 : BitVec 32 := Scalar.subi v5 c4_i32_1348
  let c16_i32_1349 : BitVec 32 := 16#32
  let v1896 : BitVec 32 := Scalar.addi v1895 c16_i32_1349
  let c16_i32_1350 : BitVec 32 := 16#32
  let v1897 : BitVec 32 := Scalar.remsi v1896 c16_i32_1350
  let v1898 : Index := Scalar.indexCast v1897
  ![v1898.toNat]
def k0_off78 (v1899 : BitVec 32) : Fin 3 → Nat :=
  let c0_i32_1357 : BitVec 32 := 0#32
  let c0_i32_1358 : BitVec 32 := 0#32
  ![v1899.toNat, 0, 0]

def k0_dev35 (v3 : BitVec 32) : Nat :=
  let c0_i32_1366 : BitVec 32 := 0#32
  let c1_i32_1365 : BitVec 32 := 1#32
  let v1908 : BitVec 32 := Scalar.muli v3 c1_i32_1365
  let v1909 : BitVec 32 := Scalar.addi c0_i32_1366 v1908
  v1909.toNat
def k0_off79 (v1899 : BitVec 32) : Fin 3 → Nat :=
  let c256_i32_1377 : BitVec 32 := 256#32
  let c0_i32_1378 : BitVec 32 := 0#32
  ![v1899.toNat, 256, 0]
def k0_dev36 (v3 : BitVec 32) : Nat :=
  let c0_i32_1386 : BitVec 32 := 0#32
  let c1_i32_1385 : BitVec 32 := 1#32
  let v1926 : BitVec 32 := Scalar.muli v3 c1_i32_1385
  let v1927 : BitVec 32 := Scalar.addi c0_i32_1386 v1926
  v1927.toNat
def k0_off80 (v1899 : BitVec 32) : Fin 3 → Nat :=
  let c0_i32_1397 : BitVec 32 := 0#32
  let c0_i32_1398 : BitVec 32 := 0#32
  ![v1899.toNat, 0, 0]
def k0_dev37 (v3 : BitVec 32) : Nat :=
  let c0_i32_1406 : BitVec 32 := 0#32
  let c1_i32_1405 : BitVec 32 := 1#32
  let v1944 : BitVec 32 := Scalar.muli v3 c1_i32_1405
  let v1945 : BitVec 32 := Scalar.addi c0_i32_1406 v1944
  v1945.toNat
def k0_off81 (v1899 : BitVec 32) : Fin 3 → Nat :=
  let c128_i32_1417 : BitVec 32 := 128#32
  let c0_i32_1418 : BitVec 32 := 0#32
  ![v1899.toNat, 128, 0]
def k0_dev38 (v3 : BitVec 32) : Nat :=
  let c0_i32_1426 : BitVec 32 := 0#32
  let c1_i32_1425 : BitVec 32 := 1#32
  let v1962 : BitVec 32 := Scalar.muli v3 c1_i32_1425
  let v1963 : BitVec 32 := Scalar.addi c0_i32_1426 v1962
  v1963.toNat
def k0_off82 (v5 : BitVec 32) : Fin 1 → Nat :=
  let c4_i32_1431 : BitVec 32 := 4#32
  let v1972 : BitVec 32 := Scalar.addi v5 c4_i32_1431
  let c16_i32_1432 : BitVec 32 := 16#32
  let v1973 : BitVec 32 := Scalar.remsi v1972 c16_i32_1432
  let v1974 : Index := Scalar.indexCast v1973
  ![v1974.toNat]
def k0_off83 (v1975 : BitVec 32) : Fin 3 → Nat :=
  let c0_i32_1439 : BitVec 32 := 0#32
  let c0_i32_1440 : BitVec 32 := 0#32
  ![v1975.toNat, 0, 0]

def k0_dev39 (v4 : BitVec 32) : Nat :=
  let c0_i32_1448 : BitVec 32 := 0#32
  let c1_i32_1447 : BitVec 32 := 1#32
  let v1984 : BitVec 32 := Scalar.muli v4 c1_i32_1447
  let v1985 : BitVec 32 := Scalar.addi c0_i32_1448 v1984
  v1985.toNat
def k0_off84 (v1975 : BitVec 32) : Fin 3 → Nat :=
  let c256_i32_1459 : BitVec 32 := 256#32
  let c0_i32_1460 : BitVec 32 := 0#32
  ![v1975.toNat, 256, 0]
def k0_dev40 (v4 : BitVec 32) : Nat :=
  let c0_i32_1468 : BitVec 32 := 0#32
  let c1_i32_1467 : BitVec 32 := 1#32
  let v2002 : BitVec 32 := Scalar.muli v4 c1_i32_1467
  let v2003 : BitVec 32 := Scalar.addi c0_i32_1468 v2002
  v2003.toNat
def k0_off85 (v1975 : BitVec 32) : Fin 3 → Nat :=
  let c0_i32_1479 : BitVec 32 := 0#32
  let c0_i32_1480 : BitVec 32 := 0#32
  ![v1975.toNat, 0, 0]
def k0_dev41 (v4 : BitVec 32) : Nat :=
  let c0_i32_1488 : BitVec 32 := 0#32
  let c1_i32_1487 : BitVec 32 := 1#32
  let v2020 : BitVec 32 := Scalar.muli v4 c1_i32_1487
  let v2021 : BitVec 32 := Scalar.addi c0_i32_1488 v2020
  v2021.toNat
def k0_off86 (v1975 : BitVec 32) : Fin 3 → Nat :=
  let c128_i32_1499 : BitVec 32 := 128#32
  let c0_i32_1500 : BitVec 32 := 0#32
  ![v1975.toNat, 128, 0]
def k0_dev42 (v4 : BitVec 32) : Nat :=
  let c0_i32_1508 : BitVec 32 := 0#32
  let c1_i32_1507 : BitVec 32 := 1#32
  let v2038 : BitVec 32 := Scalar.muli v4 c1_i32_1507
  let v2039 : BitVec 32 := Scalar.addi c0_i32_1508 v2038
  v2039.toNat
def k0_off87 (v1899 : BitVec 32) : Fin 3 → Nat :=
  let v2048 : Index := Scalar.indexCast v1899
  let c0_1513 : Index := 0#32
  let c0_1514 : Index := 0#32
  ![v2048.toNat, 0, 0]
def k0_off88 (v1899 : BitVec 32) : Fin 3 → Nat :=
  let v2051 : Index := Scalar.indexCast v1899
  let c0_1515 : Index := 0#32
  let c0_1516 : Index := 0#32
  ![v2051.toNat, 0, 0]
def k0_off89 (v1899 : BitVec 32) (c0_i32_1519 : BitVec 32) : Fin 4 → Nat :=
  let c0_1520 : Index := 0#32
  let c4_i32_1518 : BitVec 32 := 4#32
  let v2057 : BitVec 32 := Scalar.muli v1899 c4_i32_1518
  let v2058 : BitVec 32 := Scalar.addi v2057 c0_i32_1519
  let v2059 : Index := Scalar.indexCast v2058
  let c0_1521 : Index := 0#32
  let c0_1522 : Index := 0#32
  ![0, v2059.toNat, 0, 0]
def k0_off90 (v1899 : BitVec 32) (c0_i32_1519 : BitVec 32) : Fin 4 → Nat :=
  let c0_1523 : Index := 0#32
  let c4_i32_1518 : BitVec 32 := 4#32
  let v2057 : BitVec 32 := Scalar.muli v1899 c4_i32_1518
  let v2058 : BitVec 32 := Scalar.addi v2057 c0_i32_1519
  let v2062 : Index := Scalar.indexCast v2058
  let c0_1524 : Index := 0#32
  let c0_1525 : Index := 0#32
  ![0, v2062.toNat, 0, 0]
def k0_off91 (v1899 : BitVec 32) (c0_i32_1567 : BitVec 32) : Fin 4 → Nat :=
  let c1_1568 : Index := 1#32
  let c4_i32_1566 : BitVec 32 := 4#32
  let v2143 : BitVec 32 := Scalar.muli v1899 c4_i32_1566
  let v2144 : BitVec 32 := Scalar.addi v2143 c0_i32_1567
  let v2145 : Index := Scalar.indexCast v2144
  let c0_1569 : Index := 0#32
  let c0_1570 : Index := 0#32
  ![1, v2145.toNat, 0, 0]
def k0_off92 (v1899 : BitVec 32) (c0_i32_1567 : BitVec 32) : Fin 4 → Nat :=
  let c1_1571 : Index := 1#32
  let c4_i32_1566 : BitVec 32 := 4#32
  let v2143 : BitVec 32 := Scalar.muli v1899 c4_i32_1566
  let v2144 : BitVec 32 := Scalar.addi v2143 c0_i32_1567
  let v2148 : Index := Scalar.indexCast v2144
  let c0_1572 : Index := 0#32
  let c0_1573 : Index := 0#32
  ![1, v2148.toNat, 0, 0]

def k0_chk10 (v1899 : BitVec 32) : Prop :=
  (∀ a, (k0_off78 v1899) a + S1x256x256.size a ≤ S16x512x256.size a) ∧
  (∀ (hinb : ∀ a, (k0_off78 v1899) a + S1x256x256.size a ≤ S16x512x256.size a), (Rect.unit (s := S16x512x256) (k0_off78 v1899) S1x256x256.size hinb).WholeWords (EltTy.packing .bf16)) ∧
  (∀ a, (k0_off79 v1899) a + S1x256x256.size a ≤ S16x512x256.size a) ∧
  (∀ (hinb : ∀ a, (k0_off79 v1899) a + S1x256x256.size a ≤ S16x512x256.size a), (Rect.unit (s := S16x512x256) (k0_off79 v1899) S1x256x256.size hinb).WholeWords (EltTy.packing .bf16)) ∧
  (∀ a, (k0_off80 v1899) a + S1x128x512.size a ≤ S16x256x512.size a) ∧
  (∀ (hinb : ∀ a, (k0_off80 v1899) a + S1x128x512.size a ≤ S16x256x512.size a), (Rect.unit (s := S16x256x512) (k0_off80 v1899) S1x128x512.size hinb).WholeWords (EltTy.packing .bf16)) ∧
  (∀ a, (k0_off81 v1899) a + S1x128x512.size a ≤ S16x256x512.size a) ∧
  (∀ (hinb : ∀ a, (k0_off81 v1899) a + S1x128x512.size a ≤ S16x256x512.size a), (Rect.unit (s := S16x256x512) (k0_off81 v1899) S1x128x512.size hinb).WholeWords (EltTy.packing .bf16)) ∧
  (∀ a, (k0_off87 v1899) a + S1x512x256.size a ≤ S16x512x256.size a) ∧
  (∀ a, (k0_off88 v1899) a + S1x256x512.size a ≤ S16x256x512.size a) ∧
  (∀ (r : Fin 4), ∀ a, (k0_off89 v1899 (BitVec.ofNat 32 r.val)) a + S1x1x256x64.size a ≤ S2x64x256x64.size a) ∧
  (∀ (r : Fin 4), ∀ a, (k0_off90 v1899 (BitVec.ofNat 32 r.val)) a + S1x1x256x65.size a ≤ S2x64x256x65.size a) ∧
  (∀ (r : Fin 4), ∀ a, (k0_off91 v1899 (BitVec.ofNat 32 r.val)) a + S1x1x256x64.size a ≤ S2x64x256x64.size a) ∧
  (∀ (r : Fin 4), ∀ a, (k0_off92 v1899 (BitVec.ofNat 32 r.val)) a + S1x1x256x65.size a ≤ S2x64x256x65.size a)
theorem k0_off78_inb : ∀ (v1899 : BitVec 32) (k0_hw10 : k0_chk10 v1899), ∀ a, (k0_off78 v1899) a + S1x256x256.size a ≤ S16x512x256.size a := fun v1899 k0_hw10 => k0_hw10.1
theorem k0_off78_wordsbf16 : ∀ (v1899 : BitVec 32) (k0_hw10 : k0_chk10 v1899), (Rect.unit (s := S16x512x256) (k0_off78 v1899) S1x256x256.size (k0_off78_inb v1899 k0_hw10)).WholeWords (EltTy.packing .bf16) := fun v1899 k0_hw10 => k0_hw10.2.1 (k0_off78_inb v1899 k0_hw10)
theorem k0_off79_inb : ∀ (v1899 : BitVec 32) (k0_hw10 : k0_chk10 v1899), ∀ a, (k0_off79 v1899) a + S1x256x256.size a ≤ S16x512x256.size a := fun v1899 k0_hw10 => k0_hw10.2.2.1
theorem k0_off79_wordsbf16 : ∀ (v1899 : BitVec 32) (k0_hw10 : k0_chk10 v1899), (Rect.unit (s := S16x512x256) (k0_off79 v1899) S1x256x256.size (k0_off79_inb v1899 k0_hw10)).WholeWords (EltTy.packing .bf16) := fun v1899 k0_hw10 => k0_hw10.2.2.2.1 (k0_off79_inb v1899 k0_hw10)
theorem k0_off80_inb : ∀ (v1899 : BitVec 32) (k0_hw10 : k0_chk10 v1899), ∀ a, (k0_off80 v1899) a + S1x128x512.size a ≤ S16x256x512.size a := fun v1899 k0_hw10 => k0_hw10.2.2.2.2.1
theorem k0_off80_wordsbf16 : ∀ (v1899 : BitVec 32) (k0_hw10 : k0_chk10 v1899), (Rect.unit (s := S16x256x512) (k0_off80 v1899) S1x128x512.size (k0_off80_inb v1899 k0_hw10)).WholeWords (EltTy.packing .bf16) := fun v1899 k0_hw10 => k0_hw10.2.2.2.2.2.1 (k0_off80_inb v1899 k0_hw10)
theorem k0_off81_inb : ∀ (v1899 : BitVec 32) (k0_hw10 : k0_chk10 v1899), ∀ a, (k0_off81 v1899) a + S1x128x512.size a ≤ S16x256x512.size a := fun v1899 k0_hw10 => k0_hw10.2.2.2.2.2.2.1
theorem k0_off81_wordsbf16 : ∀ (v1899 : BitVec 32) (k0_hw10 : k0_chk10 v1899), (Rect.unit (s := S16x256x512) (k0_off81 v1899) S1x128x512.size (k0_off81_inb v1899 k0_hw10)).WholeWords (EltTy.packing .bf16) := fun v1899 k0_hw10 => k0_hw10.2.2.2.2.2.2.2.1 (k0_off81_inb v1899 k0_hw10)
theorem k0_off87_inb : ∀ (v1899 : BitVec 32) (k0_hw10 : k0_chk10 v1899), ∀ a, (k0_off87 v1899) a + S1x512x256.size a ≤ S16x512x256.size a := fun v1899 k0_hw10 => k0_hw10.2.2.2.2.2.2.2.2.1
theorem k0_off88_inb : ∀ (v1899 : BitVec 32) (k0_hw10 : k0_chk10 v1899), ∀ a, (k0_off88 v1899) a + S1x256x512.size a ≤ S16x256x512.size a := fun v1899 k0_hw10 => k0_hw10.2.2.2.2.2.2.2.2.2.1
theorem k0_off89_inb : ∀ (v1899 : BitVec 32) (k0_hw10 : k0_chk10 v1899), ∀ (r : Fin 4), ∀ a, (k0_off89 v1899 (BitVec.ofNat 32 r.val)) a + S1x1x256x64.size a ≤ S2x64x256x64.size a := fun v1899 k0_hw10 r => k0_hw10.2.2.2.2.2.2.2.2.2.2.1 r
theorem k0_off90_inb : ∀ (v1899 : BitVec 32) (k0_hw10 : k0_chk10 v1899), ∀ (r : Fin 4), ∀ a, (k0_off90 v1899 (BitVec.ofNat 32 r.val)) a + S1x1x256x65.size a ≤ S2x64x256x65.size a := fun v1899 k0_hw10 r => k0_hw10.2.2.2.2.2.2.2.2.2.2.2.1 r
theorem k0_off91_inb : ∀ (v1899 : BitVec 32) (k0_hw10 : k0_chk10 v1899), ∀ (r : Fin 4), ∀ a, (k0_off91 v1899 (BitVec.ofNat 32 r.val)) a + S1x1x256x64.size a ≤ S2x64x256x64.size a := fun v1899 k0_hw10 r => k0_hw10.2.2.2.2.2.2.2.2.2.2.2.2.1 r
theorem k0_off92_inb : ∀ (v1899 : BitVec 32) (k0_hw10 : k0_chk10 v1899), ∀ (r : Fin 4), ∀ a, (k0_off92 v1899 (BitVec.ofNat 32 r.val)) a + S1x1x256x65.size a ≤ S2x64x256x65.size a := fun v1899 k0_hw10 r => k0_hw10.2.2.2.2.2.2.2.2.2.2.2.2.2 r

def k0_off93 (v1975 : BitVec 32) : Fin 3 → Nat :=
  let v2236 : Index := Scalar.indexCast v1975
  let c0_1621 : Index := 0#32
  let c0_1622 : Index := 0#32
  ![v2236.toNat, 0, 0]
def k0_off94 (v1975 : BitVec 32) : Fin 3 → Nat :=
  let v2239 : Index := Scalar.indexCast v1975
  let c0_1623 : Index := 0#32
  let c0_1624 : Index := 0#32
  ![v2239.toNat, 0, 0]
def k0_off95 (v1975 : BitVec 32) (c0_i32_1627 : BitVec 32) : Fin 4 → Nat :=
  let c0_1628 : Index := 0#32
  let c4_i32_1626 : BitVec 32 := 4#32
  let v2245 : BitVec 32 := Scalar.muli v1975 c4_i32_1626
  let v2246 : BitVec 32 := Scalar.addi v2245 c0_i32_1627
  let v2247 : Index := Scalar.indexCast v2246
  let c0_1629 : Index := 0#32
  let c0_1630 : Index := 0#32
  ![0, v2247.toNat, 0, 0]
def k0_off96 (v1975 : BitVec 32) (c0_i32_1627 : BitVec 32) : Fin 4 → Nat :=
  let c0_1631 : Index := 0#32
  let c4_i32_1626 : BitVec 32 := 4#32
  let v2245 : BitVec 32 := Scalar.muli v1975 c4_i32_1626
  let v2246 : BitVec 32 := Scalar.addi v2245 c0_i32_1627
  let v2250 : Index := Scalar.indexCast v2246
  let c0_1632 : Index := 0#32
  let c0_1633 : Index := 0#32
  ![0, v2250.toNat, 0, 0]
def k0_off97 (v1975 : BitVec 32) (c0_i32_1675 : BitVec 32) : Fin 4 → Nat :=
  let c1_1676 : Index := 1#32
  let c4_i32_1674 : BitVec 32 := 4#32
  let v2331 : BitVec 32 := Scalar.muli v1975 c4_i32_1674
  let v2332 : BitVec 32 := Scalar.addi v2331 c0_i32_1675
  let v2333 : Index := Scalar.indexCast v2332
  let c0_1677 : Index := 0#32
  let c0_1678 : Index := 0#32
  ![1, v2333.toNat, 0, 0]
def k0_off98 (v1975 : BitVec 32) (c0_i32_1675 : BitVec 32) : Fin 4 → Nat :=
  let c1_1679 : Index := 1#32
  let c4_i32_1674 : BitVec 32 := 4#32
  let v2331 : BitVec 32 := Scalar.muli v1975 c4_i32_1674
  let v2332 : BitVec 32 := Scalar.addi v2331 c0_i32_1675
  let v2336 : Index := Scalar.indexCast v2332
  let c0_1680 : Index := 0#32
  let c0_1681 : Index := 0#32
  ![1, v2336.toNat, 0, 0]

def k0_chk11 (v1975 : BitVec 32) : Prop :=
  (∀ a, (k0_off83 v1975) a + S1x256x256.size a ≤ S16x512x256.size a) ∧
  (∀ (hinb : ∀ a, (k0_off83 v1975) a + S1x256x256.size a ≤ S16x512x256.size a), (Rect.unit (s := S16x512x256) (k0_off83 v1975) S1x256x256.size hinb).WholeWords (EltTy.packing .bf16)) ∧
  (∀ a, (k0_off84 v1975) a + S1x256x256.size a ≤ S16x512x256.size a) ∧
  (∀ (hinb : ∀ a, (k0_off84 v1975) a + S1x256x256.size a ≤ S16x512x256.size a), (Rect.unit (s := S16x512x256) (k0_off84 v1975) S1x256x256.size hinb).WholeWords (EltTy.packing .bf16)) ∧
  (∀ a, (k0_off85 v1975) a + S1x128x512.size a ≤ S16x256x512.size a) ∧
  (∀ (hinb : ∀ a, (k0_off85 v1975) a + S1x128x512.size a ≤ S16x256x512.size a), (Rect.unit (s := S16x256x512) (k0_off85 v1975) S1x128x512.size hinb).WholeWords (EltTy.packing .bf16)) ∧
  (∀ a, (k0_off86 v1975) a + S1x128x512.size a ≤ S16x256x512.size a) ∧
  (∀ (hinb : ∀ a, (k0_off86 v1975) a + S1x128x512.size a ≤ S16x256x512.size a), (Rect.unit (s := S16x256x512) (k0_off86 v1975) S1x128x512.size hinb).WholeWords (EltTy.packing .bf16)) ∧
  (∀ a, (k0_off93 v1975) a + S1x512x256.size a ≤ S16x512x256.size a) ∧
  (∀ a, (k0_off94 v1975) a + S1x256x512.size a ≤ S16x256x512.size a) ∧
  (∀ (r : Fin 4), ∀ a, (k0_off95 v1975 (BitVec.ofNat 32 r.val)) a + S1x1x256x64.size a ≤ S2x64x256x64.size a) ∧
  (∀ (r : Fin 4), ∀ a, (k0_off96 v1975 (BitVec.ofNat 32 r.val)) a + S1x1x256x65.size a ≤ S2x64x256x65.size a) ∧
  (∀ (r : Fin 4), ∀ a, (k0_off97 v1975 (BitVec.ofNat 32 r.val)) a + S1x1x256x64.size a ≤ S2x64x256x64.size a) ∧
  (∀ (r : Fin 4), ∀ a, (k0_off98 v1975 (BitVec.ofNat 32 r.val)) a + S1x1x256x65.size a ≤ S2x64x256x65.size a)
theorem k0_off83_inb : ∀ (v1975 : BitVec 32) (k0_hw11 : k0_chk11 v1975), ∀ a, (k0_off83 v1975) a + S1x256x256.size a ≤ S16x512x256.size a := fun v1975 k0_hw11 => k0_hw11.1
theorem k0_off83_wordsbf16 : ∀ (v1975 : BitVec 32) (k0_hw11 : k0_chk11 v1975), (Rect.unit (s := S16x512x256) (k0_off83 v1975) S1x256x256.size (k0_off83_inb v1975 k0_hw11)).WholeWords (EltTy.packing .bf16) := fun v1975 k0_hw11 => k0_hw11.2.1 (k0_off83_inb v1975 k0_hw11)
theorem k0_off84_inb : ∀ (v1975 : BitVec 32) (k0_hw11 : k0_chk11 v1975), ∀ a, (k0_off84 v1975) a + S1x256x256.size a ≤ S16x512x256.size a := fun v1975 k0_hw11 => k0_hw11.2.2.1
theorem k0_off84_wordsbf16 : ∀ (v1975 : BitVec 32) (k0_hw11 : k0_chk11 v1975), (Rect.unit (s := S16x512x256) (k0_off84 v1975) S1x256x256.size (k0_off84_inb v1975 k0_hw11)).WholeWords (EltTy.packing .bf16) := fun v1975 k0_hw11 => k0_hw11.2.2.2.1 (k0_off84_inb v1975 k0_hw11)
theorem k0_off85_inb : ∀ (v1975 : BitVec 32) (k0_hw11 : k0_chk11 v1975), ∀ a, (k0_off85 v1975) a + S1x128x512.size a ≤ S16x256x512.size a := fun v1975 k0_hw11 => k0_hw11.2.2.2.2.1
theorem k0_off85_wordsbf16 : ∀ (v1975 : BitVec 32) (k0_hw11 : k0_chk11 v1975), (Rect.unit (s := S16x256x512) (k0_off85 v1975) S1x128x512.size (k0_off85_inb v1975 k0_hw11)).WholeWords (EltTy.packing .bf16) := fun v1975 k0_hw11 => k0_hw11.2.2.2.2.2.1 (k0_off85_inb v1975 k0_hw11)
theorem k0_off86_inb : ∀ (v1975 : BitVec 32) (k0_hw11 : k0_chk11 v1975), ∀ a, (k0_off86 v1975) a + S1x128x512.size a ≤ S16x256x512.size a := fun v1975 k0_hw11 => k0_hw11.2.2.2.2.2.2.1
theorem k0_off86_wordsbf16 : ∀ (v1975 : BitVec 32) (k0_hw11 : k0_chk11 v1975), (Rect.unit (s := S16x256x512) (k0_off86 v1975) S1x128x512.size (k0_off86_inb v1975 k0_hw11)).WholeWords (EltTy.packing .bf16) := fun v1975 k0_hw11 => k0_hw11.2.2.2.2.2.2.2.1 (k0_off86_inb v1975 k0_hw11)
theorem k0_off93_inb : ∀ (v1975 : BitVec 32) (k0_hw11 : k0_chk11 v1975), ∀ a, (k0_off93 v1975) a + S1x512x256.size a ≤ S16x512x256.size a := fun v1975 k0_hw11 => k0_hw11.2.2.2.2.2.2.2.2.1
theorem k0_off94_inb : ∀ (v1975 : BitVec 32) (k0_hw11 : k0_chk11 v1975), ∀ a, (k0_off94 v1975) a + S1x256x512.size a ≤ S16x256x512.size a := fun v1975 k0_hw11 => k0_hw11.2.2.2.2.2.2.2.2.2.1
theorem k0_off95_inb : ∀ (v1975 : BitVec 32) (k0_hw11 : k0_chk11 v1975), ∀ (r : Fin 4), ∀ a, (k0_off95 v1975 (BitVec.ofNat 32 r.val)) a + S1x1x256x64.size a ≤ S2x64x256x64.size a := fun v1975 k0_hw11 r => k0_hw11.2.2.2.2.2.2.2.2.2.2.1 r
theorem k0_off96_inb : ∀ (v1975 : BitVec 32) (k0_hw11 : k0_chk11 v1975), ∀ (r : Fin 4), ∀ a, (k0_off96 v1975 (BitVec.ofNat 32 r.val)) a + S1x1x256x65.size a ≤ S2x64x256x65.size a := fun v1975 k0_hw11 r => k0_hw11.2.2.2.2.2.2.2.2.2.2.2.1 r
theorem k0_off97_inb : ∀ (v1975 : BitVec 32) (k0_hw11 : k0_chk11 v1975), ∀ (r : Fin 4), ∀ a, (k0_off97 v1975 (BitVec.ofNat 32 r.val)) a + S1x1x256x64.size a ≤ S2x64x256x64.size a := fun v1975 k0_hw11 r => k0_hw11.2.2.2.2.2.2.2.2.2.2.2.2.1 r
theorem k0_off98_inb : ∀ (v1975 : BitVec 32) (k0_hw11 : k0_chk11 v1975), ∀ (r : Fin 4), ∀ a, (k0_off98 v1975 (BitVec.ofNat 32 r.val)) a + S1x1x256x65.size a ≤ S2x64x256x65.size a := fun v1975 k0_hw11 r => k0_hw11.2.2.2.2.2.2.2.2.2.2.2.2.2 r

def k0_off99 (v5 : BitVec 32) : Fin 1 → Nat :=
  let c5_i32 : BitVec 32 := 5#32
  let v2424 : BitVec 32 := Scalar.subi v5 c5_i32
  let c16_i32_1729 : BitVec 32 := 16#32
  let v2425 : BitVec 32 := Scalar.addi v2424 c16_i32_1729
  let c16_i32_1730 : BitVec 32 := 16#32
  let v2426 : BitVec 32 := Scalar.remsi v2425 c16_i32_1730
  let v2427 : Index := Scalar.indexCast v2426
  ![v2427.toNat]
def k0_off100 (v2428 : BitVec 32) : Fin 3 → Nat :=
  let c0_i32_1737 : BitVec 32 := 0#32
  let c0_i32_1738 : BitVec 32 := 0#32
  ![v2428.toNat, 0, 0]

def k0_dev43 (v3 : BitVec 32) : Nat :=
  let c0_i32_1746 : BitVec 32 := 0#32
  let c1_i32_1745 : BitVec 32 := 1#32
  let v2437 : BitVec 32 := Scalar.muli v3 c1_i32_1745
  let v2438 : BitVec 32 := Scalar.addi c0_i32_1746 v2437
  v2438.toNat
def k0_off101 (v2428 : BitVec 32) : Fin 3 → Nat :=
  let c256_i32_1757 : BitVec 32 := 256#32
  let c0_i32_1758 : BitVec 32 := 0#32
  ![v2428.toNat, 256, 0]
def k0_dev44 (v3 : BitVec 32) : Nat :=
  let c0_i32_1766 : BitVec 32 := 0#32
  let c1_i32_1765 : BitVec 32 := 1#32
  let v2455 : BitVec 32 := Scalar.muli v3 c1_i32_1765
  let v2456 : BitVec 32 := Scalar.addi c0_i32_1766 v2455
  v2456.toNat
def k0_off102 (v2428 : BitVec 32) : Fin 3 → Nat :=
  let c0_i32_1777 : BitVec 32 := 0#32
  let c0_i32_1778 : BitVec 32 := 0#32
  ![v2428.toNat, 0, 0]
def k0_dev45 (v3 : BitVec 32) : Nat :=
  let c0_i32_1786 : BitVec 32 := 0#32
  let c1_i32_1785 : BitVec 32 := 1#32
  let v2473 : BitVec 32 := Scalar.muli v3 c1_i32_1785
  let v2474 : BitVec 32 := Scalar.addi c0_i32_1786 v2473
  v2474.toNat
def k0_off103 (v2428 : BitVec 32) : Fin 3 → Nat :=
  let c128_i32_1797 : BitVec 32 := 128#32
  let c0_i32_1798 : BitVec 32 := 0#32
  ![v2428.toNat, 128, 0]
def k0_dev46 (v3 : BitVec 32) : Nat :=
  let c0_i32_1806 : BitVec 32 := 0#32
  let c1_i32_1805 : BitVec 32 := 1#32
  let v2491 : BitVec 32 := Scalar.muli v3 c1_i32_1805
  let v2492 : BitVec 32 := Scalar.addi c0_i32_1806 v2491
  v2492.toNat
def k0_off104 (v5 : BitVec 32) : Fin 1 → Nat :=
  let c5_i32_1811 : BitVec 32 := 5#32
  let v2501 : BitVec 32 := Scalar.addi v5 c5_i32_1811
  let c16_i32_1812 : BitVec 32 := 16#32
  let v2502 : BitVec 32 := Scalar.remsi v2501 c16_i32_1812
  let v2503 : Index := Scalar.indexCast v2502
  ![v2503.toNat]
def k0_off105 (v2504 : BitVec 32) : Fin 3 → Nat :=
  let c0_i32_1819 : BitVec 32 := 0#32
  let c0_i32_1820 : BitVec 32 := 0#32
  ![v2504.toNat, 0, 0]

def k0_dev47 (v4 : BitVec 32) : Nat :=
  let c0_i32_1828 : BitVec 32 := 0#32
  let c1_i32_1827 : BitVec 32 := 1#32
  let v2513 : BitVec 32 := Scalar.muli v4 c1_i32_1827
  let v2514 : BitVec 32 := Scalar.addi c0_i32_1828 v2513
  v2514.toNat
def k0_off106 (v2504 : BitVec 32) : Fin 3 → Nat :=
  let c256_i32_1839 : BitVec 32 := 256#32
  let c0_i32_1840 : BitVec 32 := 0#32
  ![v2504.toNat, 256, 0]
def k0_dev48 (v4 : BitVec 32) : Nat :=
  let c0_i32_1848 : BitVec 32 := 0#32
  let c1_i32_1847 : BitVec 32 := 1#32
  let v2531 : BitVec 32 := Scalar.muli v4 c1_i32_1847
  let v2532 : BitVec 32 := Scalar.addi c0_i32_1848 v2531
  v2532.toNat
def k0_off107 (v2504 : BitVec 32) : Fin 3 → Nat :=
  let c0_i32_1859 : BitVec 32 := 0#32
  let c0_i32_1860 : BitVec 32 := 0#32
  ![v2504.toNat, 0, 0]
def k0_dev49 (v4 : BitVec 32) : Nat :=
  let c0_i32_1868 : BitVec 32 := 0#32
  let c1_i32_1867 : BitVec 32 := 1#32
  let v2549 : BitVec 32 := Scalar.muli v4 c1_i32_1867
  let v2550 : BitVec 32 := Scalar.addi c0_i32_1868 v2549
  v2550.toNat
def k0_off108 (v2504 : BitVec 32) : Fin 3 → Nat :=
  let c128_i32_1879 : BitVec 32 := 128#32
  let c0_i32_1880 : BitVec 32 := 0#32
  ![v2504.toNat, 128, 0]
def k0_dev50 (v4 : BitVec 32) : Nat :=
  let c0_i32_1888 : BitVec 32 := 0#32
  let c1_i32_1887 : BitVec 32 := 1#32
  let v2567 : BitVec 32 := Scalar.muli v4 c1_i32_1887
  let v2568 : BitVec 32 := Scalar.addi c0_i32_1888 v2567
  v2568.toNat
def k0_off109 (v2428 : BitVec 32) : Fin 3 → Nat :=
  let v2577 : Index := Scalar.indexCast v2428
  let c0_1893 : Index := 0#32
  let c0_1894 : Index := 0#32
  ![v2577.toNat, 0, 0]
def k0_off110 (v2428 : BitVec 32) : Fin 3 → Nat :=
  let v2580 : Index := Scalar.indexCast v2428
  let c0_1895 : Index := 0#32
  let c0_1896 : Index := 0#32
  ![v2580.toNat, 0, 0]
def k0_off111 (v2428 : BitVec 32) (c0_i32_1899 : BitVec 32) : Fin 4 → Nat :=
  let c0_1900 : Index := 0#32
  let c4_i32_1898 : BitVec 32 := 4#32
  let v2586 : BitVec 32 := Scalar.muli v2428 c4_i32_1898
  let v2587 : BitVec 32 := Scalar.addi v2586 c0_i32_1899
  let v2588 : Index := Scalar.indexCast v2587
  let c0_1901 : Index := 0#32
  let c0_1902 : Index := 0#32
  ![0, v2588.toNat, 0, 0]
def k0_off112 (v2428 : BitVec 32) (c0_i32_1899 : BitVec 32) : Fin 4 → Nat :=
  let c0_1903 : Index := 0#32
  let c4_i32_1898 : BitVec 32 := 4#32
  let v2586 : BitVec 32 := Scalar.muli v2428 c4_i32_1898
  let v2587 : BitVec 32 := Scalar.addi v2586 c0_i32_1899
  let v2591 : Index := Scalar.indexCast v2587
  let c0_1904 : Index := 0#32
  let c0_1905 : Index := 0#32
  ![0, v2591.toNat, 0, 0]
def k0_off113 (v2428 : BitVec 32) (c0_i32_1947 : BitVec 32) : Fin 4 → Nat :=
  let c1_1948 : Index := 1#32
  let c4_i32_1946 : BitVec 32 := 4#32
  let v2672 : BitVec 32 := Scalar.muli v2428 c4_i32_1946
  let v2673 : BitVec 32 := Scalar.addi v2672 c0_i32_1947
  let v2674 : Index := Scalar.indexCast v2673
  let c0_1949 : Index := 0#32
  let c0_1950 : Index := 0#32
  ![1, v2674.toNat, 0, 0]
def k0_off114 (v2428 : BitVec 32) (c0_i32_1947 : BitVec 32) : Fin 4 → Nat :=
  let c1_1951 : Index := 1#32
  let c4_i32_1946 : BitVec 32 := 4#32
  let v2672 : BitVec 32 := Scalar.muli v2428 c4_i32_1946
  let v2673 : BitVec 32 := Scalar.addi v2672 c0_i32_1947
  let v2677 : Index := Scalar.indexCast v2673
  let c0_1952 : Index := 0#32
  let c0_1953 : Index := 0#32
  ![1, v2677.toNat, 0, 0]

def k0_chk12 (v2428 : BitVec 32) : Prop :=
  (∀ a, (k0_off100 v2428) a + S1x256x256.size a ≤ S16x512x256.size a) ∧
  (∀ (hinb : ∀ a, (k0_off100 v2428) a + S1x256x256.size a ≤ S16x512x256.size a), (Rect.unit (s := S16x512x256) (k0_off100 v2428) S1x256x256.size hinb).WholeWords (EltTy.packing .bf16)) ∧
  (∀ a, (k0_off101 v2428) a + S1x256x256.size a ≤ S16x512x256.size a) ∧
  (∀ (hinb : ∀ a, (k0_off101 v2428) a + S1x256x256.size a ≤ S16x512x256.size a), (Rect.unit (s := S16x512x256) (k0_off101 v2428) S1x256x256.size hinb).WholeWords (EltTy.packing .bf16)) ∧
  (∀ a, (k0_off102 v2428) a + S1x128x512.size a ≤ S16x256x512.size a) ∧
  (∀ (hinb : ∀ a, (k0_off102 v2428) a + S1x128x512.size a ≤ S16x256x512.size a), (Rect.unit (s := S16x256x512) (k0_off102 v2428) S1x128x512.size hinb).WholeWords (EltTy.packing .bf16)) ∧
  (∀ a, (k0_off103 v2428) a + S1x128x512.size a ≤ S16x256x512.size a) ∧
  (∀ (hinb : ∀ a, (k0_off103 v2428) a + S1x128x512.size a ≤ S16x256x512.size a), (Rect.unit (s := S16x256x512) (k0_off103 v2428) S1x128x512.size hinb).WholeWords (EltTy.packing .bf16)) ∧
  (∀ a, (k0_off109 v2428) a + S1x512x256.size a ≤ S16x512x256.size a) ∧
  (∀ a, (k0_off110 v2428) a + S1x256x512.size a ≤ S16x256x512.size a) ∧
  (∀ (r : Fin 4), ∀ a, (k0_off111 v2428 (BitVec.ofNat 32 r.val)) a + S1x1x256x64.size a ≤ S2x64x256x64.size a) ∧
  (∀ (r : Fin 4), ∀ a, (k0_off112 v2428 (BitVec.ofNat 32 r.val)) a + S1x1x256x65.size a ≤ S2x64x256x65.size a) ∧
  (∀ (r : Fin 4), ∀ a, (k0_off113 v2428 (BitVec.ofNat 32 r.val)) a + S1x1x256x64.size a ≤ S2x64x256x64.size a) ∧
  (∀ (r : Fin 4), ∀ a, (k0_off114 v2428 (BitVec.ofNat 32 r.val)) a + S1x1x256x65.size a ≤ S2x64x256x65.size a)
theorem k0_off100_inb : ∀ (v2428 : BitVec 32) (k0_hw12 : k0_chk12 v2428), ∀ a, (k0_off100 v2428) a + S1x256x256.size a ≤ S16x512x256.size a := fun v2428 k0_hw12 => k0_hw12.1
theorem k0_off100_wordsbf16 : ∀ (v2428 : BitVec 32) (k0_hw12 : k0_chk12 v2428), (Rect.unit (s := S16x512x256) (k0_off100 v2428) S1x256x256.size (k0_off100_inb v2428 k0_hw12)).WholeWords (EltTy.packing .bf16) := fun v2428 k0_hw12 => k0_hw12.2.1 (k0_off100_inb v2428 k0_hw12)
theorem k0_off101_inb : ∀ (v2428 : BitVec 32) (k0_hw12 : k0_chk12 v2428), ∀ a, (k0_off101 v2428) a + S1x256x256.size a ≤ S16x512x256.size a := fun v2428 k0_hw12 => k0_hw12.2.2.1
theorem k0_off101_wordsbf16 : ∀ (v2428 : BitVec 32) (k0_hw12 : k0_chk12 v2428), (Rect.unit (s := S16x512x256) (k0_off101 v2428) S1x256x256.size (k0_off101_inb v2428 k0_hw12)).WholeWords (EltTy.packing .bf16) := fun v2428 k0_hw12 => k0_hw12.2.2.2.1 (k0_off101_inb v2428 k0_hw12)
theorem k0_off102_inb : ∀ (v2428 : BitVec 32) (k0_hw12 : k0_chk12 v2428), ∀ a, (k0_off102 v2428) a + S1x128x512.size a ≤ S16x256x512.size a := fun v2428 k0_hw12 => k0_hw12.2.2.2.2.1
theorem k0_off102_wordsbf16 : ∀ (v2428 : BitVec 32) (k0_hw12 : k0_chk12 v2428), (Rect.unit (s := S16x256x512) (k0_off102 v2428) S1x128x512.size (k0_off102_inb v2428 k0_hw12)).WholeWords (EltTy.packing .bf16) := fun v2428 k0_hw12 => k0_hw12.2.2.2.2.2.1 (k0_off102_inb v2428 k0_hw12)
theorem k0_off103_inb : ∀ (v2428 : BitVec 32) (k0_hw12 : k0_chk12 v2428), ∀ a, (k0_off103 v2428) a + S1x128x512.size a ≤ S16x256x512.size a := fun v2428 k0_hw12 => k0_hw12.2.2.2.2.2.2.1
theorem k0_off103_wordsbf16 : ∀ (v2428 : BitVec 32) (k0_hw12 : k0_chk12 v2428), (Rect.unit (s := S16x256x512) (k0_off103 v2428) S1x128x512.size (k0_off103_inb v2428 k0_hw12)).WholeWords (EltTy.packing .bf16) := fun v2428 k0_hw12 => k0_hw12.2.2.2.2.2.2.2.1 (k0_off103_inb v2428 k0_hw12)
theorem k0_off109_inb : ∀ (v2428 : BitVec 32) (k0_hw12 : k0_chk12 v2428), ∀ a, (k0_off109 v2428) a + S1x512x256.size a ≤ S16x512x256.size a := fun v2428 k0_hw12 => k0_hw12.2.2.2.2.2.2.2.2.1
theorem k0_off110_inb : ∀ (v2428 : BitVec 32) (k0_hw12 : k0_chk12 v2428), ∀ a, (k0_off110 v2428) a + S1x256x512.size a ≤ S16x256x512.size a := fun v2428 k0_hw12 => k0_hw12.2.2.2.2.2.2.2.2.2.1
theorem k0_off111_inb : ∀ (v2428 : BitVec 32) (k0_hw12 : k0_chk12 v2428), ∀ (r : Fin 4), ∀ a, (k0_off111 v2428 (BitVec.ofNat 32 r.val)) a + S1x1x256x64.size a ≤ S2x64x256x64.size a := fun v2428 k0_hw12 r => k0_hw12.2.2.2.2.2.2.2.2.2.2.1 r
theorem k0_off112_inb : ∀ (v2428 : BitVec 32) (k0_hw12 : k0_chk12 v2428), ∀ (r : Fin 4), ∀ a, (k0_off112 v2428 (BitVec.ofNat 32 r.val)) a + S1x1x256x65.size a ≤ S2x64x256x65.size a := fun v2428 k0_hw12 r => k0_hw12.2.2.2.2.2.2.2.2.2.2.2.1 r
theorem k0_off113_inb : ∀ (v2428 : BitVec 32) (k0_hw12 : k0_chk12 v2428), ∀ (r : Fin 4), ∀ a, (k0_off113 v2428 (BitVec.ofNat 32 r.val)) a + S1x1x256x64.size a ≤ S2x64x256x64.size a := fun v2428 k0_hw12 r => k0_hw12.2.2.2.2.2.2.2.2.2.2.2.2.1 r
theorem k0_off114_inb : ∀ (v2428 : BitVec 32) (k0_hw12 : k0_chk12 v2428), ∀ (r : Fin 4), ∀ a, (k0_off114 v2428 (BitVec.ofNat 32 r.val)) a + S1x1x256x65.size a ≤ S2x64x256x65.size a := fun v2428 k0_hw12 r => k0_hw12.2.2.2.2.2.2.2.2.2.2.2.2.2 r

def k0_off115 (v2504 : BitVec 32) : Fin 3 → Nat :=
  let v2765 : Index := Scalar.indexCast v2504
  let c0_2001 : Index := 0#32
  let c0_2002 : Index := 0#32
  ![v2765.toNat, 0, 0]
def k0_off116 (v2504 : BitVec 32) : Fin 3 → Nat :=
  let v2768 : Index := Scalar.indexCast v2504
  let c0_2003 : Index := 0#32
  let c0_2004 : Index := 0#32
  ![v2768.toNat, 0, 0]
def k0_off117 (v2504 : BitVec 32) (c0_i32_2007 : BitVec 32) : Fin 4 → Nat :=
  let c0_2008 : Index := 0#32
  let c4_i32_2006 : BitVec 32 := 4#32
  let v2774 : BitVec 32 := Scalar.muli v2504 c4_i32_2006
  let v2775 : BitVec 32 := Scalar.addi v2774 c0_i32_2007
  let v2776 : Index := Scalar.indexCast v2775
  let c0_2009 : Index := 0#32
  let c0_2010 : Index := 0#32
  ![0, v2776.toNat, 0, 0]
def k0_off118 (v2504 : BitVec 32) (c0_i32_2007 : BitVec 32) : Fin 4 → Nat :=
  let c0_2011 : Index := 0#32
  let c4_i32_2006 : BitVec 32 := 4#32
  let v2774 : BitVec 32 := Scalar.muli v2504 c4_i32_2006
  let v2775 : BitVec 32 := Scalar.addi v2774 c0_i32_2007
  let v2779 : Index := Scalar.indexCast v2775
  let c0_2012 : Index := 0#32
  let c0_2013 : Index := 0#32
  ![0, v2779.toNat, 0, 0]
def k0_off119 (v2504 : BitVec 32) (c0_i32_2055 : BitVec 32) : Fin 4 → Nat :=
  let c1_2056 : Index := 1#32
  let c4_i32_2054 : BitVec 32 := 4#32
  let v2860 : BitVec 32 := Scalar.muli v2504 c4_i32_2054
  let v2861 : BitVec 32 := Scalar.addi v2860 c0_i32_2055
  let v2862 : Index := Scalar.indexCast v2861
  let c0_2057 : Index := 0#32
  let c0_2058 : Index := 0#32
  ![1, v2862.toNat, 0, 0]
def k0_off120 (v2504 : BitVec 32) (c0_i32_2055 : BitVec 32) : Fin 4 → Nat :=
  let c1_2059 : Index := 1#32
  let c4_i32_2054 : BitVec 32 := 4#32
  let v2860 : BitVec 32 := Scalar.muli v2504 c4_i32_2054
  let v2861 : BitVec 32 := Scalar.addi v2860 c0_i32_2055
  let v2865 : Index := Scalar.indexCast v2861
  let c0_2060 : Index := 0#32
  let c0_2061 : Index := 0#32
  ![1, v2865.toNat, 0, 0]

def k0_chk13 (v2504 : BitVec 32) : Prop :=
  (∀ a, (k0_off105 v2504) a + S1x256x256.size a ≤ S16x512x256.size a) ∧
  (∀ (hinb : ∀ a, (k0_off105 v2504) a + S1x256x256.size a ≤ S16x512x256.size a), (Rect.unit (s := S16x512x256) (k0_off105 v2504) S1x256x256.size hinb).WholeWords (EltTy.packing .bf16)) ∧
  (∀ a, (k0_off106 v2504) a + S1x256x256.size a ≤ S16x512x256.size a) ∧
  (∀ (hinb : ∀ a, (k0_off106 v2504) a + S1x256x256.size a ≤ S16x512x256.size a), (Rect.unit (s := S16x512x256) (k0_off106 v2504) S1x256x256.size hinb).WholeWords (EltTy.packing .bf16)) ∧
  (∀ a, (k0_off107 v2504) a + S1x128x512.size a ≤ S16x256x512.size a) ∧
  (∀ (hinb : ∀ a, (k0_off107 v2504) a + S1x128x512.size a ≤ S16x256x512.size a), (Rect.unit (s := S16x256x512) (k0_off107 v2504) S1x128x512.size hinb).WholeWords (EltTy.packing .bf16)) ∧
  (∀ a, (k0_off108 v2504) a + S1x128x512.size a ≤ S16x256x512.size a) ∧
  (∀ (hinb : ∀ a, (k0_off108 v2504) a + S1x128x512.size a ≤ S16x256x512.size a), (Rect.unit (s := S16x256x512) (k0_off108 v2504) S1x128x512.size hinb).WholeWords (EltTy.packing .bf16)) ∧
  (∀ a, (k0_off115 v2504) a + S1x512x256.size a ≤ S16x512x256.size a) ∧
  (∀ a, (k0_off116 v2504) a + S1x256x512.size a ≤ S16x256x512.size a) ∧
  (∀ (r : Fin 4), ∀ a, (k0_off117 v2504 (BitVec.ofNat 32 r.val)) a + S1x1x256x64.size a ≤ S2x64x256x64.size a) ∧
  (∀ (r : Fin 4), ∀ a, (k0_off118 v2504 (BitVec.ofNat 32 r.val)) a + S1x1x256x65.size a ≤ S2x64x256x65.size a) ∧
  (∀ (r : Fin 4), ∀ a, (k0_off119 v2504 (BitVec.ofNat 32 r.val)) a + S1x1x256x64.size a ≤ S2x64x256x64.size a) ∧
  (∀ (r : Fin 4), ∀ a, (k0_off120 v2504 (BitVec.ofNat 32 r.val)) a + S1x1x256x65.size a ≤ S2x64x256x65.size a)
theorem k0_off105_inb : ∀ (v2504 : BitVec 32) (k0_hw13 : k0_chk13 v2504), ∀ a, (k0_off105 v2504) a + S1x256x256.size a ≤ S16x512x256.size a := fun v2504 k0_hw13 => k0_hw13.1
theorem k0_off105_wordsbf16 : ∀ (v2504 : BitVec 32) (k0_hw13 : k0_chk13 v2504), (Rect.unit (s := S16x512x256) (k0_off105 v2504) S1x256x256.size (k0_off105_inb v2504 k0_hw13)).WholeWords (EltTy.packing .bf16) := fun v2504 k0_hw13 => k0_hw13.2.1 (k0_off105_inb v2504 k0_hw13)
theorem k0_off106_inb : ∀ (v2504 : BitVec 32) (k0_hw13 : k0_chk13 v2504), ∀ a, (k0_off106 v2504) a + S1x256x256.size a ≤ S16x512x256.size a := fun v2504 k0_hw13 => k0_hw13.2.2.1
theorem k0_off106_wordsbf16 : ∀ (v2504 : BitVec 32) (k0_hw13 : k0_chk13 v2504), (Rect.unit (s := S16x512x256) (k0_off106 v2504) S1x256x256.size (k0_off106_inb v2504 k0_hw13)).WholeWords (EltTy.packing .bf16) := fun v2504 k0_hw13 => k0_hw13.2.2.2.1 (k0_off106_inb v2504 k0_hw13)
theorem k0_off107_inb : ∀ (v2504 : BitVec 32) (k0_hw13 : k0_chk13 v2504), ∀ a, (k0_off107 v2504) a + S1x128x512.size a ≤ S16x256x512.size a := fun v2504 k0_hw13 => k0_hw13.2.2.2.2.1
theorem k0_off107_wordsbf16 : ∀ (v2504 : BitVec 32) (k0_hw13 : k0_chk13 v2504), (Rect.unit (s := S16x256x512) (k0_off107 v2504) S1x128x512.size (k0_off107_inb v2504 k0_hw13)).WholeWords (EltTy.packing .bf16) := fun v2504 k0_hw13 => k0_hw13.2.2.2.2.2.1 (k0_off107_inb v2504 k0_hw13)
theorem k0_off108_inb : ∀ (v2504 : BitVec 32) (k0_hw13 : k0_chk13 v2504), ∀ a, (k0_off108 v2504) a + S1x128x512.size a ≤ S16x256x512.size a := fun v2504 k0_hw13 => k0_hw13.2.2.2.2.2.2.1
theorem k0_off108_wordsbf16 : ∀ (v2504 : BitVec 32) (k0_hw13 : k0_chk13 v2504), (Rect.unit (s := S16x256x512) (k0_off108 v2504) S1x128x512.size (k0_off108_inb v2504 k0_hw13)).WholeWords (EltTy.packing .bf16) := fun v2504 k0_hw13 => k0_hw13.2.2.2.2.2.2.2.1 (k0_off108_inb v2504 k0_hw13)
theorem k0_off115_inb : ∀ (v2504 : BitVec 32) (k0_hw13 : k0_chk13 v2504), ∀ a, (k0_off115 v2504) a + S1x512x256.size a ≤ S16x512x256.size a := fun v2504 k0_hw13 => k0_hw13.2.2.2.2.2.2.2.2.1
theorem k0_off116_inb : ∀ (v2504 : BitVec 32) (k0_hw13 : k0_chk13 v2504), ∀ a, (k0_off116 v2504) a + S1x256x512.size a ≤ S16x256x512.size a := fun v2504 k0_hw13 => k0_hw13.2.2.2.2.2.2.2.2.2.1
theorem k0_off117_inb : ∀ (v2504 : BitVec 32) (k0_hw13 : k0_chk13 v2504), ∀ (r : Fin 4), ∀ a, (k0_off117 v2504 (BitVec.ofNat 32 r.val)) a + S1x1x256x64.size a ≤ S2x64x256x64.size a := fun v2504 k0_hw13 r => k0_hw13.2.2.2.2.2.2.2.2.2.2.1 r
theorem k0_off118_inb : ∀ (v2504 : BitVec 32) (k0_hw13 : k0_chk13 v2504), ∀ (r : Fin 4), ∀ a, (k0_off118 v2504 (BitVec.ofNat 32 r.val)) a + S1x1x256x65.size a ≤ S2x64x256x65.size a := fun v2504 k0_hw13 r => k0_hw13.2.2.2.2.2.2.2.2.2.2.2.1 r
theorem k0_off119_inb : ∀ (v2504 : BitVec 32) (k0_hw13 : k0_chk13 v2504), ∀ (r : Fin 4), ∀ a, (k0_off119 v2504 (BitVec.ofNat 32 r.val)) a + S1x1x256x64.size a ≤ S2x64x256x64.size a := fun v2504 k0_hw13 r => k0_hw13.2.2.2.2.2.2.2.2.2.2.2.2.1 r
theorem k0_off120_inb : ∀ (v2504 : BitVec 32) (k0_hw13 : k0_chk13 v2504), ∀ (r : Fin 4), ∀ a, (k0_off120 v2504 (BitVec.ofNat 32 r.val)) a + S1x1x256x65.size a ≤ S2x64x256x65.size a := fun v2504 k0_hw13 r => k0_hw13.2.2.2.2.2.2.2.2.2.2.2.2.2 r

def k0_off121 (v5 : BitVec 32) : Fin 1 → Nat :=
  let c6_i32 : BitVec 32 := 6#32
  let v2953 : BitVec 32 := Scalar.subi v5 c6_i32
  let c16_i32_2109 : BitVec 32 := 16#32
  let v2954 : BitVec 32 := Scalar.addi v2953 c16_i32_2109
  let c16_i32_2110 : BitVec 32 := 16#32
  let v2955 : BitVec 32 := Scalar.remsi v2954 c16_i32_2110
  let v2956 : Index := Scalar.indexCast v2955
  ![v2956.toNat]
def k0_off122 (v2957 : BitVec 32) : Fin 3 → Nat :=
  let c0_i32_2117 : BitVec 32 := 0#32
  let c0_i32_2118 : BitVec 32 := 0#32
  ![v2957.toNat, 0, 0]

def k0_dev51 (v3 : BitVec 32) : Nat :=
  let c0_i32_2126 : BitVec 32 := 0#32
  let c1_i32_2125 : BitVec 32 := 1#32
  let v2966 : BitVec 32 := Scalar.muli v3 c1_i32_2125
  let v2967 : BitVec 32 := Scalar.addi c0_i32_2126 v2966
  v2967.toNat
def k0_off123 (v2957 : BitVec 32) : Fin 3 → Nat :=
  let c256_i32_2137 : BitVec 32 := 256#32
  let c0_i32_2138 : BitVec 32 := 0#32
  ![v2957.toNat, 256, 0]
def k0_dev52 (v3 : BitVec 32) : Nat :=
  let c0_i32_2146 : BitVec 32 := 0#32
  let c1_i32_2145 : BitVec 32 := 1#32
  let v2984 : BitVec 32 := Scalar.muli v3 c1_i32_2145
  let v2985 : BitVec 32 := Scalar.addi c0_i32_2146 v2984
  v2985.toNat
def k0_off124 (v2957 : BitVec 32) : Fin 3 → Nat :=
  let c0_i32_2157 : BitVec 32 := 0#32
  let c0_i32_2158 : BitVec 32 := 0#32
  ![v2957.toNat, 0, 0]
def k0_dev53 (v3 : BitVec 32) : Nat :=
  let c0_i32_2166 : BitVec 32 := 0#32
  let c1_i32_2165 : BitVec 32 := 1#32
  let v3002 : BitVec 32 := Scalar.muli v3 c1_i32_2165
  let v3003 : BitVec 32 := Scalar.addi c0_i32_2166 v3002
  v3003.toNat
def k0_off125 (v2957 : BitVec 32) : Fin 3 → Nat :=
  let c128_i32_2177 : BitVec 32 := 128#32
  let c0_i32_2178 : BitVec 32 := 0#32
  ![v2957.toNat, 128, 0]
def k0_dev54 (v3 : BitVec 32) : Nat :=
  let c0_i32_2186 : BitVec 32 := 0#32
  let c1_i32_2185 : BitVec 32 := 1#32
  let v3020 : BitVec 32 := Scalar.muli v3 c1_i32_2185
  let v3021 : BitVec 32 := Scalar.addi c0_i32_2186 v3020
  v3021.toNat
def k0_off126 (v5 : BitVec 32) : Fin 1 → Nat :=
  let c6_i32_2191 : BitVec 32 := 6#32
  let v3030 : BitVec 32 := Scalar.addi v5 c6_i32_2191
  let c16_i32_2192 : BitVec 32 := 16#32
  let v3031 : BitVec 32 := Scalar.remsi v3030 c16_i32_2192
  let v3032 : Index := Scalar.indexCast v3031
  ![v3032.toNat]
def k0_off127 (v3033 : BitVec 32) : Fin 3 → Nat :=
  let c0_i32_2199 : BitVec 32 := 0#32
  let c0_i32_2200 : BitVec 32 := 0#32
  ![v3033.toNat, 0, 0]

def k0_dev55 (v4 : BitVec 32) : Nat :=
  let c0_i32_2208 : BitVec 32 := 0#32
  let c1_i32_2207 : BitVec 32 := 1#32
  let v3042 : BitVec 32 := Scalar.muli v4 c1_i32_2207
  let v3043 : BitVec 32 := Scalar.addi c0_i32_2208 v3042
  v3043.toNat
def k0_off128 (v3033 : BitVec 32) : Fin 3 → Nat :=
  let c256_i32_2219 : BitVec 32 := 256#32
  let c0_i32_2220 : BitVec 32 := 0#32
  ![v3033.toNat, 256, 0]
def k0_dev56 (v4 : BitVec 32) : Nat :=
  let c0_i32_2228 : BitVec 32 := 0#32
  let c1_i32_2227 : BitVec 32 := 1#32
  let v3060 : BitVec 32 := Scalar.muli v4 c1_i32_2227
  let v3061 : BitVec 32 := Scalar.addi c0_i32_2228 v3060
  v3061.toNat
def k0_off129 (v3033 : BitVec 32) : Fin 3 → Nat :=
  let c0_i32_2239 : BitVec 32 := 0#32
  let c0_i32_2240 : BitVec 32 := 0#32
  ![v3033.toNat, 0, 0]
def k0_dev57 (v4 : BitVec 32) : Nat :=
  let c0_i32_2248 : BitVec 32 := 0#32
  let c1_i32_2247 : BitVec 32 := 1#32
  let v3078 : BitVec 32 := Scalar.muli v4 c1_i32_2247
  let v3079 : BitVec 32 := Scalar.addi c0_i32_2248 v3078
  v3079.toNat
def k0_off130 (v3033 : BitVec 32) : Fin 3 → Nat :=
  let c128_i32_2259 : BitVec 32 := 128#32
  let c0_i32_2260 : BitVec 32 := 0#32
  ![v3033.toNat, 128, 0]
def k0_dev58 (v4 : BitVec 32) : Nat :=
  let c0_i32_2268 : BitVec 32 := 0#32
  let c1_i32_2267 : BitVec 32 := 1#32
  let v3096 : BitVec 32 := Scalar.muli v4 c1_i32_2267
  let v3097 : BitVec 32 := Scalar.addi c0_i32_2268 v3096
  v3097.toNat

def k0_chk1 (v4 : BitVec 32) : Prop :=
  ((k0_dev1 v4) < nD) ∧
  ((k0_dev7 v4) < nD) ∧
  ((k0_dev8 v4) < nD) ∧
  ((k0_dev9 v4) < nD) ∧
  ((k0_dev10 v4) < nD) ∧
  ((k0_dev15 v4) < nD) ∧
  ((k0_dev16 v4) < nD) ∧
  ((k0_dev17 v4) < nD) ∧
  ((k0_dev18 v4) < nD) ∧
  ((k0_dev23 v4) < nD) ∧
  ((k0_dev24 v4) < nD) ∧
  ((k0_dev25 v4) < nD) ∧
  ((k0_dev26 v4) < nD) ∧
  ((k0_dev31 v4) < nD) ∧
  ((k0_dev32 v4) < nD) ∧
  ((k0_dev33 v4) < nD) ∧
  ((k0_dev34 v4) < nD) ∧
  ((k0_dev39 v4) < nD) ∧
  ((k0_dev40 v4) < nD) ∧
  ((k0_dev41 v4) < nD) ∧
  ((k0_dev42 v4) < nD) ∧
  ((k0_dev47 v4) < nD) ∧
  ((k0_dev48 v4) < nD) ∧
  ((k0_dev49 v4) < nD) ∧
  ((k0_dev50 v4) < nD) ∧
  ((k0_dev55 v4) < nD) ∧
  ((k0_dev56 v4) < nD) ∧
  ((k0_dev57 v4) < nD) ∧
  ((k0_dev58 v4) < nD)
theorem k0_dev1_lt : ∀ (v4 : BitVec 32) (k0_hw1 : k0_chk1 v4), (k0_dev1 v4) < nD := fun v4 k0_hw1 => k0_hw1.1
theorem k0_dev7_lt : ∀ (v4 : BitVec 32) (k0_hw1 : k0_chk1 v4), (k0_dev7 v4) < nD := fun v4 k0_hw1 => k0_hw1.2.1
theorem k0_dev8_lt : ∀ (v4 : BitVec 32) (k0_hw1 : k0_chk1 v4), (k0_dev8 v4) < nD := fun v4 k0_hw1 => k0_hw1.2.2.1
theorem k0_dev9_lt : ∀ (v4 : BitVec 32) (k0_hw1 : k0_chk1 v4), (k0_dev9 v4) < nD := fun v4 k0_hw1 => k0_hw1.2.2.2.1
theorem k0_dev10_lt : ∀ (v4 : BitVec 32) (k0_hw1 : k0_chk1 v4), (k0_dev10 v4) < nD := fun v4 k0_hw1 => k0_hw1.2.2.2.2.1
theorem k0_dev15_lt : ∀ (v4 : BitVec 32) (k0_hw1 : k0_chk1 v4), (k0_dev15 v4) < nD := fun v4 k0_hw1 => k0_hw1.2.2.2.2.2.1
theorem k0_dev16_lt : ∀ (v4 : BitVec 32) (k0_hw1 : k0_chk1 v4), (k0_dev16 v4) < nD := fun v4 k0_hw1 => k0_hw1.2.2.2.2.2.2.1
theorem k0_dev17_lt : ∀ (v4 : BitVec 32) (k0_hw1 : k0_chk1 v4), (k0_dev17 v4) < nD := fun v4 k0_hw1 => k0_hw1.2.2.2.2.2.2.2.1
theorem k0_dev18_lt : ∀ (v4 : BitVec 32) (k0_hw1 : k0_chk1 v4), (k0_dev18 v4) < nD := fun v4 k0_hw1 => k0_hw1.2.2.2.2.2.2.2.2.1
theorem k0_dev23_lt : ∀ (v4 : BitVec 32) (k0_hw1 : k0_chk1 v4), (k0_dev23 v4) < nD := fun v4 k0_hw1 => k0_hw1.2.2.2.2.2.2.2.2.2.1
theorem k0_dev24_lt : ∀ (v4 : BitVec 32) (k0_hw1 : k0_chk1 v4), (k0_dev24 v4) < nD := fun v4 k0_hw1 => k0_hw1.2.2.2.2.2.2.2.2.2.2.1
theorem k0_dev25_lt : ∀ (v4 : BitVec 32) (k0_hw1 : k0_chk1 v4), (k0_dev25 v4) < nD := fun v4 k0_hw1 => k0_hw1.2.2.2.2.2.2.2.2.2.2.2.1
theorem k0_dev26_lt : ∀ (v4 : BitVec 32) (k0_hw1 : k0_chk1 v4), (k0_dev26 v4) < nD := fun v4 k0_hw1 => k0_hw1.2.2.2.2.2.2.2.2.2.2.2.2.1
theorem k0_dev31_lt : ∀ (v4 : BitVec 32) (k0_hw1 : k0_chk1 v4), (k0_dev31 v4) < nD := fun v4 k0_hw1 => k0_hw1.2.2.2.2.2.2.2.2.2.2.2.2.2.1
theorem k0_dev32_lt : ∀ (v4 : BitVec 32) (k0_hw1 : k0_chk1 v4), (k0_dev32 v4) < nD := fun v4 k0_hw1 => k0_hw1.2.2.2.2.2.2.2.2.2.2.2.2.2.2.1
theorem k0_dev33_lt : ∀ (v4 : BitVec 32) (k0_hw1 : k0_chk1 v4), (k0_dev33 v4) < nD := fun v4 k0_hw1 => k0_hw1.2.2.2.2.2.2.2.2.2.2.2.2.2.2.2.1
theorem k0_dev34_lt : ∀ (v4 : BitVec 32) (k0_hw1 : k0_chk1 v4), (k0_dev34 v4) < nD := fun v4 k0_hw1 => k0_hw1.2.2.2.2.2.2.2.2.2.2.2.2.2.2.2.2.1
theorem k0_dev39_lt : ∀ (v4 : BitVec 32) (k0_hw1 : k0_chk1 v4), (k0_dev39 v4) < nD := fun v4 k0_hw1 => k0_hw1.2.2.2.2.2.2.2.2.2.2.2.2.2.2.2.2.2.1
theorem k0_dev40_lt : ∀ (v4 : BitVec 32) (k0_hw1 : k0_chk1 v4), (k0_dev40 v4) < nD := fun v4 k0_hw1 => k0_hw1.2.2.2.2.2.2.2.2.2.2.2.2.2.2.2.2.2.2.1
theorem k0_dev41_lt : ∀ (v4 : BitVec 32) (k0_hw1 : k0_chk1 v4), (k0_dev41 v4) < nD := fun v4 k0_hw1 => k0_hw1.2.2.2.2.2.2.2.2.2.2.2.2.2.2.2.2.2.2.2.1
theorem k0_dev42_lt : ∀ (v4 : BitVec 32) (k0_hw1 : k0_chk1 v4), (k0_dev42 v4) < nD := fun v4 k0_hw1 => k0_hw1.2.2.2.2.2.2.2.2.2.2.2.2.2.2.2.2.2.2.2.2.1
theorem k0_dev47_lt : ∀ (v4 : BitVec 32) (k0_hw1 : k0_chk1 v4), (k0_dev47 v4) < nD := fun v4 k0_hw1 => k0_hw1.2.2.2.2.2.2.2.2.2.2.2.2.2.2.2.2.2.2.2.2.2.1
theorem k0_dev48_lt : ∀ (v4 : BitVec 32) (k0_hw1 : k0_chk1 v4), (k0_dev48 v4) < nD := fun v4 k0_hw1 => k0_hw1.2.2.2.2.2.2.2.2.2.2.2.2.2.2.2.2.2.2.2.2.2.2.1
theorem k0_dev49_lt : ∀ (v4 : BitVec 32) (k0_hw1 : k0_chk1 v4), (k0_dev49 v4) < nD := fun v4 k0_hw1 => k0_hw1.2.2.2.2.2.2.2.2.2.2.2.2.2.2.2.2.2.2.2.2.2.2.2.1
theorem k0_dev50_lt : ∀ (v4 : BitVec 32) (k0_hw1 : k0_chk1 v4), (k0_dev50 v4) < nD := fun v4 k0_hw1 => k0_hw1.2.2.2.2.2.2.2.2.2.2.2.2.2.2.2.2.2.2.2.2.2.2.2.2.1
theorem k0_dev55_lt : ∀ (v4 : BitVec 32) (k0_hw1 : k0_chk1 v4), (k0_dev55 v4) < nD := fun v4 k0_hw1 => k0_hw1.2.2.2.2.2.2.2.2.2.2.2.2.2.2.2.2.2.2.2.2.2.2.2.2.2.1
theorem k0_dev56_lt : ∀ (v4 : BitVec 32) (k0_hw1 : k0_chk1 v4), (k0_dev56 v4) < nD := fun v4 k0_hw1 => k0_hw1.2.2.2.2.2.2.2.2.2.2.2.2.2.2.2.2.2.2.2.2.2.2.2.2.2.2.1
theorem k0_dev57_lt : ∀ (v4 : BitVec 32) (k0_hw1 : k0_chk1 v4), (k0_dev57 v4) < nD := fun v4 k0_hw1 => k0_hw1.2.2.2.2.2.2.2.2.2.2.2.2.2.2.2.2.2.2.2.2.2.2.2.2.2.2.2.1
theorem k0_dev58_lt : ∀ (v4 : BitVec 32) (k0_hw1 : k0_chk1 v4), (k0_dev58 v4) < nD := fun v4 k0_hw1 => k0_hw1.2.2.2.2.2.2.2.2.2.2.2.2.2.2.2.2.2.2.2.2.2.2.2.2.2.2.2.2

def k0_off131 (v2957 : BitVec 32) : Fin 3 → Nat :=
  let v3106 : Index := Scalar.indexCast v2957
  let c0_2273 : Index := 0#32
  let c0_2274 : Index := 0#32
  ![v3106.toNat, 0, 0]
def k0_off132 (v2957 : BitVec 32) : Fin 3 → Nat :=
  let v3109 : Index := Scalar.indexCast v2957
  let c0_2275 : Index := 0#32
  let c0_2276 : Index := 0#32
  ![v3109.toNat, 0, 0]
def k0_off133 (v2957 : BitVec 32) (c0_i32_2279 : BitVec 32) : Fin 4 → Nat :=
  let c0_2280 : Index := 0#32
  let c4_i32_2278 : BitVec 32 := 4#32
  let v3115 : BitVec 32 := Scalar.muli v2957 c4_i32_2278
  let v3116 : BitVec 32 := Scalar.addi v3115 c0_i32_2279
  let v3117 : Index := Scalar.indexCast v3116
  let c0_2281 : Index := 0#32
  let c0_2282 : Index := 0#32
  ![0, v3117.toNat, 0, 0]
def k0_off134 (v2957 : BitVec 32) (c0_i32_2279 : BitVec 32) : Fin 4 → Nat :=
  let c0_2283 : Index := 0#32
  let c4_i32_2278 : BitVec 32 := 4#32
  let v3115 : BitVec 32 := Scalar.muli v2957 c4_i32_2278
  let v3116 : BitVec 32 := Scalar.addi v3115 c0_i32_2279
  let v3120 : Index := Scalar.indexCast v3116
  let c0_2284 : Index := 0#32
  let c0_2285 : Index := 0#32
  ![0, v3120.toNat, 0, 0]
def k0_off135 (v2957 : BitVec 32) (c0_i32_2327 : BitVec 32) : Fin 4 → Nat :=
  let c1_2328 : Index := 1#32
  let c4_i32_2326 : BitVec 32 := 4#32
  let v3201 : BitVec 32 := Scalar.muli v2957 c4_i32_2326
  let v3202 : BitVec 32 := Scalar.addi v3201 c0_i32_2327
  let v3203 : Index := Scalar.indexCast v3202
  let c0_2329 : Index := 0#32
  let c0_2330 : Index := 0#32
  ![1, v3203.toNat, 0, 0]
def k0_off136 (v2957 : BitVec 32) (c0_i32_2327 : BitVec 32) : Fin 4 → Nat :=
  let c1_2331 : Index := 1#32
  let c4_i32_2326 : BitVec 32 := 4#32
  let v3201 : BitVec 32 := Scalar.muli v2957 c4_i32_2326
  let v3202 : BitVec 32 := Scalar.addi v3201 c0_i32_2327
  let v3206 : Index := Scalar.indexCast v3202
  let c0_2332 : Index := 0#32
  let c0_2333 : Index := 0#32
  ![1, v3206.toNat, 0, 0]

def k0_chk14 (v2957 : BitVec 32) : Prop :=
  (∀ a, (k0_off122 v2957) a + S1x256x256.size a ≤ S16x512x256.size a) ∧
  (∀ (hinb : ∀ a, (k0_off122 v2957) a + S1x256x256.size a ≤ S16x512x256.size a), (Rect.unit (s := S16x512x256) (k0_off122 v2957) S1x256x256.size hinb).WholeWords (EltTy.packing .bf16)) ∧
  (∀ a, (k0_off123 v2957) a + S1x256x256.size a ≤ S16x512x256.size a) ∧
  (∀ (hinb : ∀ a, (k0_off123 v2957) a + S1x256x256.size a ≤ S16x512x256.size a), (Rect.unit (s := S16x512x256) (k0_off123 v2957) S1x256x256.size hinb).WholeWords (EltTy.packing .bf16)) ∧
  (∀ a, (k0_off124 v2957) a + S1x128x512.size a ≤ S16x256x512.size a) ∧
  (∀ (hinb : ∀ a, (k0_off124 v2957) a + S1x128x512.size a ≤ S16x256x512.size a), (Rect.unit (s := S16x256x512) (k0_off124 v2957) S1x128x512.size hinb).WholeWords (EltTy.packing .bf16)) ∧
  (∀ a, (k0_off125 v2957) a + S1x128x512.size a ≤ S16x256x512.size a) ∧
  (∀ (hinb : ∀ a, (k0_off125 v2957) a + S1x128x512.size a ≤ S16x256x512.size a), (Rect.unit (s := S16x256x512) (k0_off125 v2957) S1x128x512.size hinb).WholeWords (EltTy.packing .bf16)) ∧
  (∀ a, (k0_off131 v2957) a + S1x512x256.size a ≤ S16x512x256.size a) ∧
  (∀ a, (k0_off132 v2957) a + S1x256x512.size a ≤ S16x256x512.size a) ∧
  (∀ (r : Fin 4), ∀ a, (k0_off133 v2957 (BitVec.ofNat 32 r.val)) a + S1x1x256x64.size a ≤ S2x64x256x64.size a) ∧
  (∀ (r : Fin 4), ∀ a, (k0_off134 v2957 (BitVec.ofNat 32 r.val)) a + S1x1x256x65.size a ≤ S2x64x256x65.size a) ∧
  (∀ (r : Fin 4), ∀ a, (k0_off135 v2957 (BitVec.ofNat 32 r.val)) a + S1x1x256x64.size a ≤ S2x64x256x64.size a) ∧
  (∀ (r : Fin 4), ∀ a, (k0_off136 v2957 (BitVec.ofNat 32 r.val)) a + S1x1x256x65.size a ≤ S2x64x256x65.size a)
theorem k0_off122_inb : ∀ (v2957 : BitVec 32) (k0_hw14 : k0_chk14 v2957), ∀ a, (k0_off122 v2957) a + S1x256x256.size a ≤ S16x512x256.size a := fun v2957 k0_hw14 => k0_hw14.1
theorem k0_off122_wordsbf16 : ∀ (v2957 : BitVec 32) (k0_hw14 : k0_chk14 v2957), (Rect.unit (s := S16x512x256) (k0_off122 v2957) S1x256x256.size (k0_off122_inb v2957 k0_hw14)).WholeWords (EltTy.packing .bf16) := fun v2957 k0_hw14 => k0_hw14.2.1 (k0_off122_inb v2957 k0_hw14)
theorem k0_off123_inb : ∀ (v2957 : BitVec 32) (k0_hw14 : k0_chk14 v2957), ∀ a, (k0_off123 v2957) a + S1x256x256.size a ≤ S16x512x256.size a := fun v2957 k0_hw14 => k0_hw14.2.2.1
theorem k0_off123_wordsbf16 : ∀ (v2957 : BitVec 32) (k0_hw14 : k0_chk14 v2957), (Rect.unit (s := S16x512x256) (k0_off123 v2957) S1x256x256.size (k0_off123_inb v2957 k0_hw14)).WholeWords (EltTy.packing .bf16) := fun v2957 k0_hw14 => k0_hw14.2.2.2.1 (k0_off123_inb v2957 k0_hw14)
theorem k0_off124_inb : ∀ (v2957 : BitVec 32) (k0_hw14 : k0_chk14 v2957), ∀ a, (k0_off124 v2957) a + S1x128x512.size a ≤ S16x256x512.size a := fun v2957 k0_hw14 => k0_hw14.2.2.2.2.1
theorem k0_off124_wordsbf16 : ∀ (v2957 : BitVec 32) (k0_hw14 : k0_chk14 v2957), (Rect.unit (s := S16x256x512) (k0_off124 v2957) S1x128x512.size (k0_off124_inb v2957 k0_hw14)).WholeWords (EltTy.packing .bf16) := fun v2957 k0_hw14 => k0_hw14.2.2.2.2.2.1 (k0_off124_inb v2957 k0_hw14)
theorem k0_off125_inb : ∀ (v2957 : BitVec 32) (k0_hw14 : k0_chk14 v2957), ∀ a, (k0_off125 v2957) a + S1x128x512.size a ≤ S16x256x512.size a := fun v2957 k0_hw14 => k0_hw14.2.2.2.2.2.2.1
theorem k0_off125_wordsbf16 : ∀ (v2957 : BitVec 32) (k0_hw14 : k0_chk14 v2957), (Rect.unit (s := S16x256x512) (k0_off125 v2957) S1x128x512.size (k0_off125_inb v2957 k0_hw14)).WholeWords (EltTy.packing .bf16) := fun v2957 k0_hw14 => k0_hw14.2.2.2.2.2.2.2.1 (k0_off125_inb v2957 k0_hw14)
theorem k0_off131_inb : ∀ (v2957 : BitVec 32) (k0_hw14 : k0_chk14 v2957), ∀ a, (k0_off131 v2957) a + S1x512x256.size a ≤ S16x512x256.size a := fun v2957 k0_hw14 => k0_hw14.2.2.2.2.2.2.2.2.1
theorem k0_off132_inb : ∀ (v2957 : BitVec 32) (k0_hw14 : k0_chk14 v2957), ∀ a, (k0_off132 v2957) a + S1x256x512.size a ≤ S16x256x512.size a := fun v2957 k0_hw14 => k0_hw14.2.2.2.2.2.2.2.2.2.1
theorem k0_off133_inb : ∀ (v2957 : BitVec 32) (k0_hw14 : k0_chk14 v2957), ∀ (r : Fin 4), ∀ a, (k0_off133 v2957 (BitVec.ofNat 32 r.val)) a + S1x1x256x64.size a ≤ S2x64x256x64.size a := fun v2957 k0_hw14 r => k0_hw14.2.2.2.2.2.2.2.2.2.2.1 r
theorem k0_off134_inb : ∀ (v2957 : BitVec 32) (k0_hw14 : k0_chk14 v2957), ∀ (r : Fin 4), ∀ a, (k0_off134 v2957 (BitVec.ofNat 32 r.val)) a + S1x1x256x65.size a ≤ S2x64x256x65.size a := fun v2957 k0_hw14 r => k0_hw14.2.2.2.2.2.2.2.2.2.2.2.1 r
theorem k0_off135_inb : ∀ (v2957 : BitVec 32) (k0_hw14 : k0_chk14 v2957), ∀ (r : Fin 4), ∀ a, (k0_off135 v2957 (BitVec.ofNat 32 r.val)) a + S1x1x256x64.size a ≤ S2x64x256x64.size a := fun v2957 k0_hw14 r => k0_hw14.2.2.2.2.2.2.2.2.2.2.2.2.1 r
theorem k0_off136_inb : ∀ (v2957 : BitVec 32) (k0_hw14 : k0_chk14 v2957), ∀ (r : Fin 4), ∀ a, (k0_off136 v2957 (BitVec.ofNat 32 r.val)) a + S1x1x256x65.size a ≤ S2x64x256x65.size a := fun v2957 k0_hw14 r => k0_hw14.2.2.2.2.2.2.2.2.2.2.2.2.2 r

def k0_off137 (v3033 : BitVec 32) : Fin 3 → Nat :=
  let v3294 : Index := Scalar.indexCast v3033
  let c0_2381 : Index := 0#32
  let c0_2382 : Index := 0#32
  ![v3294.toNat, 0, 0]
def k0_off138 (v3033 : BitVec 32) : Fin 3 → Nat :=
  let v3297 : Index := Scalar.indexCast v3033
  let c0_2383 : Index := 0#32
  let c0_2384 : Index := 0#32
  ![v3297.toNat, 0, 0]
def k0_off139 (v3033 : BitVec 32) (c0_i32_2387 : BitVec 32) : Fin 4 → Nat :=
  let c0_2388 : Index := 0#32
  let c4_i32_2386 : BitVec 32 := 4#32
  let v3303 : BitVec 32 := Scalar.muli v3033 c4_i32_2386
  let v3304 : BitVec 32 := Scalar.addi v3303 c0_i32_2387
  let v3305 : Index := Scalar.indexCast v3304
  let c0_2389 : Index := 0#32
  let c0_2390 : Index := 0#32
  ![0, v3305.toNat, 0, 0]
def k0_off140 (v3033 : BitVec 32) (c0_i32_2387 : BitVec 32) : Fin 4 → Nat :=
  let c0_2391 : Index := 0#32
  let c4_i32_2386 : BitVec 32 := 4#32
  let v3303 : BitVec 32 := Scalar.muli v3033 c4_i32_2386
  let v3304 : BitVec 32 := Scalar.addi v3303 c0_i32_2387
  let v3308 : Index := Scalar.indexCast v3304
  let c0_2392 : Index := 0#32
  let c0_2393 : Index := 0#32
  ![0, v3308.toNat, 0, 0]
def k0_off141 (v3033 : BitVec 32) (c0_i32_2435 : BitVec 32) : Fin 4 → Nat :=
  let c1_2436 : Index := 1#32
  let c4_i32_2434 : BitVec 32 := 4#32
  let v3389 : BitVec 32 := Scalar.muli v3033 c4_i32_2434
  let v3390 : BitVec 32 := Scalar.addi v3389 c0_i32_2435
  let v3391 : Index := Scalar.indexCast v3390
  let c0_2437 : Index := 0#32
  let c0_2438 : Index := 0#32
  ![1, v3391.toNat, 0, 0]
def k0_off142 (v3033 : BitVec 32) (c0_i32_2435 : BitVec 32) : Fin 4 → Nat :=
  let c1_2439 : Index := 1#32
  let c4_i32_2434 : BitVec 32 := 4#32
  let v3389 : BitVec 32 := Scalar.muli v3033 c4_i32_2434
  let v3390 : BitVec 32 := Scalar.addi v3389 c0_i32_2435
  let v3394 : Index := Scalar.indexCast v3390
  let c0_2440 : Index := 0#32
  let c0_2441 : Index := 0#32
  ![1, v3394.toNat, 0, 0]

def k0_chk15 (v3033 : BitVec 32) : Prop :=
  (∀ a, (k0_off127 v3033) a + S1x256x256.size a ≤ S16x512x256.size a) ∧
  (∀ (hinb : ∀ a, (k0_off127 v3033) a + S1x256x256.size a ≤ S16x512x256.size a), (Rect.unit (s := S16x512x256) (k0_off127 v3033) S1x256x256.size hinb).WholeWords (EltTy.packing .bf16)) ∧
  (∀ a, (k0_off128 v3033) a + S1x256x256.size a ≤ S16x512x256.size a) ∧
  (∀ (hinb : ∀ a, (k0_off128 v3033) a + S1x256x256.size a ≤ S16x512x256.size a), (Rect.unit (s := S16x512x256) (k0_off128 v3033) S1x256x256.size hinb).WholeWords (EltTy.packing .bf16)) ∧
  (∀ a, (k0_off129 v3033) a + S1x128x512.size a ≤ S16x256x512.size a) ∧
  (∀ (hinb : ∀ a, (k0_off129 v3033) a + S1x128x512.size a ≤ S16x256x512.size a), (Rect.unit (s := S16x256x512) (k0_off129 v3033) S1x128x512.size hinb).WholeWords (EltTy.packing .bf16)) ∧
  (∀ a, (k0_off130 v3033) a + S1x128x512.size a ≤ S16x256x512.size a) ∧
  (∀ (hinb : ∀ a, (k0_off130 v3033) a + S1x128x512.size a ≤ S16x256x512.size a), (Rect.unit (s := S16x256x512) (k0_off130 v3033) S1x128x512.size hinb).WholeWords (EltTy.packing .bf16)) ∧
  (∀ a, (k0_off137 v3033) a + S1x512x256.size a ≤ S16x512x256.size a) ∧
  (∀ a, (k0_off138 v3033) a + S1x256x512.size a ≤ S16x256x512.size a) ∧
  (∀ (r : Fin 4), ∀ a, (k0_off139 v3033 (BitVec.ofNat 32 r.val)) a + S1x1x256x64.size a ≤ S2x64x256x64.size a) ∧
  (∀ (r : Fin 4), ∀ a, (k0_off140 v3033 (BitVec.ofNat 32 r.val)) a + S1x1x256x65.size a ≤ S2x64x256x65.size a) ∧
  (∀ (r : Fin 4), ∀ a, (k0_off141 v3033 (BitVec.ofNat 32 r.val)) a + S1x1x256x64.size a ≤ S2x64x256x64.size a) ∧
  (∀ (r : Fin 4), ∀ a, (k0_off142 v3033 (BitVec.ofNat 32 r.val)) a + S1x1x256x65.size a ≤ S2x64x256x65.size a)
theorem k0_off127_inb : ∀ (v3033 : BitVec 32) (k0_hw15 : k0_chk15 v3033), ∀ a, (k0_off127 v3033) a + S1x256x256.size a ≤ S16x512x256.size a := fun v3033 k0_hw15 => k0_hw15.1
theorem k0_off127_wordsbf16 : ∀ (v3033 : BitVec 32) (k0_hw15 : k0_chk15 v3033), (Rect.unit (s := S16x512x256) (k0_off127 v3033) S1x256x256.size (k0_off127_inb v3033 k0_hw15)).WholeWords (EltTy.packing .bf16) := fun v3033 k0_hw15 => k0_hw15.2.1 (k0_off127_inb v3033 k0_hw15)
theorem k0_off128_inb : ∀ (v3033 : BitVec 32) (k0_hw15 : k0_chk15 v3033), ∀ a, (k0_off128 v3033) a + S1x256x256.size a ≤ S16x512x256.size a := fun v3033 k0_hw15 => k0_hw15.2.2.1
theorem k0_off128_wordsbf16 : ∀ (v3033 : BitVec 32) (k0_hw15 : k0_chk15 v3033), (Rect.unit (s := S16x512x256) (k0_off128 v3033) S1x256x256.size (k0_off128_inb v3033 k0_hw15)).WholeWords (EltTy.packing .bf16) := fun v3033 k0_hw15 => k0_hw15.2.2.2.1 (k0_off128_inb v3033 k0_hw15)
theorem k0_off129_inb : ∀ (v3033 : BitVec 32) (k0_hw15 : k0_chk15 v3033), ∀ a, (k0_off129 v3033) a + S1x128x512.size a ≤ S16x256x512.size a := fun v3033 k0_hw15 => k0_hw15.2.2.2.2.1
theorem k0_off129_wordsbf16 : ∀ (v3033 : BitVec 32) (k0_hw15 : k0_chk15 v3033), (Rect.unit (s := S16x256x512) (k0_off129 v3033) S1x128x512.size (k0_off129_inb v3033 k0_hw15)).WholeWords (EltTy.packing .bf16) := fun v3033 k0_hw15 => k0_hw15.2.2.2.2.2.1 (k0_off129_inb v3033 k0_hw15)
theorem k0_off130_inb : ∀ (v3033 : BitVec 32) (k0_hw15 : k0_chk15 v3033), ∀ a, (k0_off130 v3033) a + S1x128x512.size a ≤ S16x256x512.size a := fun v3033 k0_hw15 => k0_hw15.2.2.2.2.2.2.1
theorem k0_off130_wordsbf16 : ∀ (v3033 : BitVec 32) (k0_hw15 : k0_chk15 v3033), (Rect.unit (s := S16x256x512) (k0_off130 v3033) S1x128x512.size (k0_off130_inb v3033 k0_hw15)).WholeWords (EltTy.packing .bf16) := fun v3033 k0_hw15 => k0_hw15.2.2.2.2.2.2.2.1 (k0_off130_inb v3033 k0_hw15)
theorem k0_off137_inb : ∀ (v3033 : BitVec 32) (k0_hw15 : k0_chk15 v3033), ∀ a, (k0_off137 v3033) a + S1x512x256.size a ≤ S16x512x256.size a := fun v3033 k0_hw15 => k0_hw15.2.2.2.2.2.2.2.2.1
theorem k0_off138_inb : ∀ (v3033 : BitVec 32) (k0_hw15 : k0_chk15 v3033), ∀ a, (k0_off138 v3033) a + S1x256x512.size a ≤ S16x256x512.size a := fun v3033 k0_hw15 => k0_hw15.2.2.2.2.2.2.2.2.2.1
theorem k0_off139_inb : ∀ (v3033 : BitVec 32) (k0_hw15 : k0_chk15 v3033), ∀ (r : Fin 4), ∀ a, (k0_off139 v3033 (BitVec.ofNat 32 r.val)) a + S1x1x256x64.size a ≤ S2x64x256x64.size a := fun v3033 k0_hw15 r => k0_hw15.2.2.2.2.2.2.2.2.2.2.1 r
theorem k0_off140_inb : ∀ (v3033 : BitVec 32) (k0_hw15 : k0_chk15 v3033), ∀ (r : Fin 4), ∀ a, (k0_off140 v3033 (BitVec.ofNat 32 r.val)) a + S1x1x256x65.size a ≤ S2x64x256x65.size a := fun v3033 k0_hw15 r => k0_hw15.2.2.2.2.2.2.2.2.2.2.2.1 r
theorem k0_off141_inb : ∀ (v3033 : BitVec 32) (k0_hw15 : k0_chk15 v3033), ∀ (r : Fin 4), ∀ a, (k0_off141 v3033 (BitVec.ofNat 32 r.val)) a + S1x1x256x64.size a ≤ S2x64x256x64.size a := fun v3033 k0_hw15 r => k0_hw15.2.2.2.2.2.2.2.2.2.2.2.2.1 r
theorem k0_off142_inb : ∀ (v3033 : BitVec 32) (k0_hw15 : k0_chk15 v3033), ∀ (r : Fin 4), ∀ a, (k0_off142 v3033 (BitVec.ofNat 32 r.val)) a + S1x1x256x65.size a ≤ S2x64x256x65.size a := fun v3033 k0_hw15 r => k0_hw15.2.2.2.2.2.2.2.2.2.2.2.2.2 r

def k0_off143 (v5 : BitVec 32) : Fin 1 → Nat :=
  let c7_i32 : BitVec 32 := 7#32
  let v3482 : BitVec 32 := Scalar.subi v5 c7_i32
  let c16_i32_2489 : BitVec 32 := 16#32
  let v3483 : BitVec 32 := Scalar.addi v3482 c16_i32_2489
  let c16_i32_2490 : BitVec 32 := 16#32
  let v3484 : BitVec 32 := Scalar.remsi v3483 c16_i32_2490
  let v3485 : Index := Scalar.indexCast v3484
  ![v3485.toNat]
def k0_off144 (v3486 : BitVec 32) : Fin 3 → Nat :=
  let c0_i32_2497 : BitVec 32 := 0#32
  let c0_i32_2498 : BitVec 32 := 0#32
  ![v3486.toNat, 0, 0]

def k0_dev59 (v3 : BitVec 32) : Nat :=
  let c0_i32_2506 : BitVec 32 := 0#32
  let c1_i32_2505 : BitVec 32 := 1#32
  let v3495 : BitVec 32 := Scalar.muli v3 c1_i32_2505
  let v3496 : BitVec 32 := Scalar.addi c0_i32_2506 v3495
  v3496.toNat
def k0_off145 (v3486 : BitVec 32) : Fin 3 → Nat :=
  let c256_i32_2517 : BitVec 32 := 256#32
  let c0_i32_2518 : BitVec 32 := 0#32
  ![v3486.toNat, 256, 0]
def k0_dev60 (v3 : BitVec 32) : Nat :=
  let c0_i32_2526 : BitVec 32 := 0#32
  let c1_i32_2525 : BitVec 32 := 1#32
  let v3513 : BitVec 32 := Scalar.muli v3 c1_i32_2525
  let v3514 : BitVec 32 := Scalar.addi c0_i32_2526 v3513
  v3514.toNat
def k0_off146 (v3486 : BitVec 32) : Fin 3 → Nat :=
  let c0_i32_2537 : BitVec 32 := 0#32
  let c0_i32_2538 : BitVec 32 := 0#32
  ![v3486.toNat, 0, 0]
def k0_dev61 (v3 : BitVec 32) : Nat :=
  let c0_i32_2546 : BitVec 32 := 0#32
  let c1_i32_2545 : BitVec 32 := 1#32
  let v3531 : BitVec 32 := Scalar.muli v3 c1_i32_2545
  let v3532 : BitVec 32 := Scalar.addi c0_i32_2546 v3531
  v3532.toNat
def k0_off147 (v3486 : BitVec 32) : Fin 3 → Nat :=
  let c128_i32_2557 : BitVec 32 := 128#32
  let c0_i32_2558 : BitVec 32 := 0#32
  ![v3486.toNat, 128, 0]
def k0_dev62 (v3 : BitVec 32) : Nat :=
  let c0_i32_2566 : BitVec 32 := 0#32
  let c1_i32_2565 : BitVec 32 := 1#32
  let v3549 : BitVec 32 := Scalar.muli v3 c1_i32_2565
  let v3550 : BitVec 32 := Scalar.addi c0_i32_2566 v3549
  v3550.toNat

def k0_chk2_0 (v3 : BitVec 32) : Prop :=
  ((k0_dev2 v3) < nD) ∧
  ((k0_dev3 v3) < nD) ∧
  ((k0_dev4 v3) < nD) ∧
  ((k0_dev5 v3) < nD) ∧
  ((k0_dev6 v3) < nD) ∧
  ((k0_dev11 v3) < nD) ∧
  ((k0_dev12 v3) < nD) ∧
  ((k0_dev13 v3) < nD) ∧
  ((k0_dev14 v3) < nD) ∧
  ((k0_dev19 v3) < nD) ∧
  ((k0_dev20 v3) < nD) ∧
  ((k0_dev21 v3) < nD) ∧
  ((k0_dev22 v3) < nD) ∧
  ((k0_dev27 v3) < nD) ∧
  ((k0_dev28 v3) < nD) ∧
  ((k0_dev29 v3) < nD) ∧
  ((k0_dev30 v3) < nD) ∧
  ((k0_dev35 v3) < nD) ∧
  ((k0_dev36 v3) < nD) ∧
  ((k0_dev37 v3) < nD) ∧
  ((k0_dev38 v3) < nD) ∧
  ((k0_dev43 v3) < nD) ∧
  ((k0_dev44 v3) < nD) ∧
  ((k0_dev45 v3) < nD) ∧
  ((k0_dev46 v3) < nD) ∧
  ((k0_dev51 v3) < nD) ∧
  ((k0_dev52 v3) < nD) ∧
  ((k0_dev53 v3) < nD) ∧
  ((k0_dev54 v3) < nD) ∧
  ((k0_dev59 v3) < nD) ∧
  ((k0_dev60 v3) < nD) ∧
  ((k0_dev61 v3) < nD)
def k0_chk2_1 (v3 : BitVec 32) : Prop :=
  ((k0_dev62 v3) < nD)
def k0_chk2 (v3 : BitVec 32) : Prop :=
  k0_chk2_0 v3 ∧
  k0_chk2_1 v3
theorem k0_dev2_lt : ∀ (v3 : BitVec 32) (k0_hw2 : k0_chk2 v3), (k0_dev2 v3) < nD := fun v3 k0_hw2 => k0_hw2.1.1
theorem k0_dev3_lt : ∀ (v3 : BitVec 32) (k0_hw2 : k0_chk2 v3), (k0_dev3 v3) < nD := fun v3 k0_hw2 => k0_hw2.1.2.1
theorem k0_dev4_lt : ∀ (v3 : BitVec 32) (k0_hw2 : k0_chk2 v3), (k0_dev4 v3) < nD := fun v3 k0_hw2 => k0_hw2.1.2.2.1
theorem k0_dev5_lt : ∀ (v3 : BitVec 32) (k0_hw2 : k0_chk2 v3), (k0_dev5 v3) < nD := fun v3 k0_hw2 => k0_hw2.1.2.2.2.1
theorem k0_dev6_lt : ∀ (v3 : BitVec 32) (k0_hw2 : k0_chk2 v3), (k0_dev6 v3) < nD := fun v3 k0_hw2 => k0_hw2.1.2.2.2.2.1
theorem k0_dev11_lt : ∀ (v3 : BitVec 32) (k0_hw2 : k0_chk2 v3), (k0_dev11 v3) < nD := fun v3 k0_hw2 => k0_hw2.1.2.2.2.2.2.1
theorem k0_dev12_lt : ∀ (v3 : BitVec 32) (k0_hw2 : k0_chk2 v3), (k0_dev12 v3) < nD := fun v3 k0_hw2 => k0_hw2.1.2.2.2.2.2.2.1
theorem k0_dev13_lt : ∀ (v3 : BitVec 32) (k0_hw2 : k0_chk2 v3), (k0_dev13 v3) < nD := fun v3 k0_hw2 => k0_hw2.1.2.2.2.2.2.2.2.1
theorem k0_dev14_lt : ∀ (v3 : BitVec 32) (k0_hw2 : k0_chk2 v3), (k0_dev14 v3) < nD := fun v3 k0_hw2 => k0_hw2.1.2.2.2.2.2.2.2.2.1
theorem k0_dev19_lt : ∀ (v3 : BitVec 32) (k0_hw2 : k0_chk2 v3), (k0_dev19 v3) < nD := fun v3 k0_hw2 => k0_hw2.1.2.2.2.2.2.2.2.2.2.1
theorem k0_dev20_lt : ∀ (v3 : BitVec 32) (k0_hw2 : k0_chk2 v3), (k0_dev20 v3) < nD := fun v3 k0_hw2 => k0_hw2.1.2.2.2.2.2.2.2.2.2.2.1
theorem k0_dev21_lt : ∀ (v3 : BitVec 32) (k0_hw2 : k0_chk2 v3), (k0_dev21 v3) < nD := fun v3 k0_hw2 => k0_hw2.1.2.2.2.2.2.2.2.2.2.2.2.1
theorem k0_dev22_lt : ∀ (v3 : BitVec 32) (k0_hw2 : k0_chk2 v3), (k0_dev22 v3) < nD := fun v3 k0_hw2 => k0_hw2.1.2.2.2.2.2.2.2.2.2.2.2.2.1
theorem k0_dev27_lt : ∀ (v3 : BitVec 32) (k0_hw2 : k0_chk2 v3), (k0_dev27 v3) < nD := fun v3 k0_hw2 => k0_hw2.1.2.2.2.2.2.2.2.2.2.2.2.2.2.1
theorem k0_dev28_lt : ∀ (v3 : BitVec 32) (k0_hw2 : k0_chk2 v3), (k0_dev28 v3) < nD := fun v3 k0_hw2 => k0_hw2.1.2.2.2.2.2.2.2.2.2.2.2.2.2.2.1
theorem k0_dev29_lt : ∀ (v3 : BitVec 32) (k0_hw2 : k0_chk2 v3), (k0_dev29 v3) < nD := fun v3 k0_hw2 => k0_hw2.1.2.2.2.2.2.2.2.2.2.2.2.2.2.2.2.1
theorem k0_dev30_lt : ∀ (v3 : BitVec 32) (k0_hw2 : k0_chk2 v3), (k0_dev30 v3) < nD := fun v3 k0_hw2 => k0_hw2.1.2.2.2.2.2.2.2.2.2.2.2.2.2.2.2.2.1
theorem k0_dev35_lt : ∀ (v3 : BitVec 32) (k0_hw2 : k0_chk2 v3), (k0_dev35 v3) < nD := fun v3 k0_hw2 => k0_hw2.1.2.2.2.2.2.2.2.2.2.2.2.2.2.2.2.2.2.1
theorem k0_dev36_lt : ∀ (v3 : BitVec 32) (k0_hw2 : k0_chk2 v3), (k0_dev36 v3) < nD := fun v3 k0_hw2 => k0_hw2.1.2.2.2.2.2.2.2.2.2.2.2.2.2.2.2.2.2.2.1
theorem k0_dev37_lt : ∀ (v3 : BitVec 32) (k0_hw2 : k0_chk2 v3), (k0_dev37 v3) < nD := fun v3 k0_hw2 => k0_hw2.1.2.2.2.2.2.2.2.2.2.2.2.2.2.2.2.2.2.2.2.1
theorem k0_dev38_lt : ∀ (v3 : BitVec 32) (k0_hw2 : k0_chk2 v3), (k0_dev38 v3) < nD := fun v3 k0_hw2 => k0_hw2.1.2.2.2.2.2.2.2.2.2.2.2.2.2.2.2.2.2.2.2.2.1
theorem k0_dev43_lt : ∀ (v3 : BitVec 32) (k0_hw2 : k0_chk2 v3), (k0_dev43 v3) < nD := fun v3 k0_hw2 => k0_hw2.1.2.2.2.2.2.2.2.2.2.2.2.2.2.2.2.2.2.2.2.2.2.1
theorem k0_dev44_lt : ∀ (v3 : BitVec 32) (k0_hw2 : k0_chk2 v3), (k0_dev44 v3) < nD := fun v3 k0_hw2 => k0_hw2.1.2.2.2.2.2.2.2.2.2.2.2.2.2.2.2.2.2.2.2.2.2.2.1
theorem k0_dev45_lt : ∀ (v3 : BitVec 32) (k0_hw2 : k0_chk2 v3), (k0_dev45 v3) < nD := fun v3 k0_hw2 => k0_hw2.1.2.2.2.2.2.2.2.2.2.2.2.2.2.2.2.2.2.2.2.2.2.2.2.1
theorem k0_dev46_lt : ∀ (v3 : BitVec 32) (k0_hw2 : k0_chk2 v3), (k0_dev46 v3) < nD := fun v3 k0_hw2 => k0_hw2.1.2.2.2.2.2.2.2.2.2.2.2.2.2.2.2.2.2.2.2.2.2.2.2.2.1
theorem k0_dev51_lt : ∀ (v3 : BitVec 32) (k0_hw2 : k0_chk2 v3), (k0_dev51 v3) < nD := fun v3 k0_hw2 => k0_hw2.1.2.2.2.2.2.2.2.2.2.2.2.2.2.2.2.2.2.2.2.2.2.2.2.2.2.1
theorem k0_dev52_lt : ∀ (v3 : BitVec 32) (k0_hw2 : k0_chk2 v3), (k0_dev52 v3) < nD := fun v3 k0_hw2 => k0_hw2.1.2.2.2.2.2.2.2.2.2.2.2.2.2.2.2.2.2.2.2.2.2.2.2.2.2.2.1
theorem k0_dev53_lt : ∀ (v3 : BitVec 32) (k0_hw2 : k0_chk2 v3), (k0_dev53 v3) < nD := fun v3 k0_hw2 => k0_hw2.1.2.2.2.2.2.2.2.2.2.2.2.2.2.2.2.2.2.2.2.2.2.2.2.2.2.2.2.1
theorem k0_dev54_lt : ∀ (v3 : BitVec 32) (k0_hw2 : k0_chk2 v3), (k0_dev54 v3) < nD := fun v3 k0_hw2 => k0_hw2.1.2.2.2.2.2.2.2.2.2.2.2.2.2.2.2.2.2.2.2.2.2.2.2.2.2.2.2.2.1
theorem k0_dev59_lt : ∀ (v3 : BitVec 32) (k0_hw2 : k0_chk2 v3), (k0_dev59 v3) < nD := fun v3 k0_hw2 => k0_hw2.1.2.2.2.2.2.2.2.2.2.2.2.2.2.2.2.2.2.2.2.2.2.2.2.2.2.2.2.2.2.1
theorem k0_dev60_lt : ∀ (v3 : BitVec 32) (k0_hw2 : k0_chk2 v3), (k0_dev60 v3) < nD := fun v3 k0_hw2 => k0_hw2.1.2.2.2.2.2.2.2.2.2.2.2.2.2.2.2.2.2.2.2.2.2.2.2.2.2.2.2.2.2.2.1
theorem k0_dev61_lt : ∀ (v3 : BitVec 32) (k0_hw2 : k0_chk2 v3), (k0_dev61 v3) < nD := fun v3 k0_hw2 => k0_hw2.1.2.2.2.2.2.2.2.2.2.2.2.2.2.2.2.2.2.2.2.2.2.2.2.2.2.2.2.2.2.2.2
theorem k0_dev62_lt : ∀ (v3 : BitVec 32) (k0_hw2 : k0_chk2 v3), (k0_dev62 v3) < nD := fun v3 k0_hw2 => k0_hw2.2

def k0_off148 (v5 : BitVec 32) : Fin 1 → Nat :=
  let c7_i32_2571 : BitVec 32 := 7#32
  let v3559 : BitVec 32 := Scalar.addi v5 c7_i32_2571
  let c16_i32_2572 : BitVec 32 := 16#32
  let v3560 : BitVec 32 := Scalar.remsi v3559 c16_i32_2572
  let v3561 : Index := Scalar.indexCast v3560
  ![v3561.toNat]
def k0_off149 (v3562 : BitVec 32) : Fin 3 → Nat :=
  let c0_i32_2579 : BitVec 32 := 0#32
  let c0_i32_2580 : BitVec 32 := 0#32
  ![v3562.toNat, 0, 0]

def k0_off150 (v3562 : BitVec 32) : Fin 3 → Nat :=
  let c256_i32_2589 : BitVec 32 := 256#32
  let c0_i32_2590 : BitVec 32 := 0#32
  ![v3562.toNat, 256, 0]
def k0_off151 (v3562 : BitVec 32) : Fin 3 → Nat :=
  let c0_i32_2599 : BitVec 32 := 0#32
  let c0_i32_2600 : BitVec 32 := 0#32
  ![v3562.toNat, 0, 0]
def k0_off152 (v3562 : BitVec 32) : Fin 3 → Nat :=
  let c128_i32_2609 : BitVec 32 := 128#32
  let c0_i32_2610 : BitVec 32 := 0#32
  ![v3562.toNat, 128, 0]
def k0_off153 (v3486 : BitVec 32) : Fin 3 → Nat :=
  let v3595 : Index := Scalar.indexCast v3486
  let c0_2613 : Index := 0#32
  let c0_2614 : Index := 0#32
  ![v3595.toNat, 0, 0]
def k0_off154 (v3486 : BitVec 32) : Fin 3 → Nat :=
  let v3598 : Index := Scalar.indexCast v3486
  let c0_2615 : Index := 0#32
  let c0_2616 : Index := 0#32
  ![v3598.toNat, 0, 0]
def k0_off155 (v3486 : BitVec 32) (c0_i32_2619 : BitVec 32) : Fin 4 → Nat :=
  let c0_2620 : Index := 0#32
  let c4_i32_2618 : BitVec 32 := 4#32
  let v3604 : BitVec 32 := Scalar.muli v3486 c4_i32_2618
  let v3605 : BitVec 32 := Scalar.addi v3604 c0_i32_2619
  let v3606 : Index := Scalar.indexCast v3605
  let c0_2621 : Index := 0#32
  let c0_2622 : Index := 0#32
  ![0, v3606.toNat, 0, 0]
def k0_off156 (v3486 : BitVec 32) (c0_i32_2619 : BitVec 32) : Fin 4 → Nat :=
  let c0_2623 : Index := 0#32
  let c4_i32_2618 : BitVec 32 := 4#32
  let v3604 : BitVec 32 := Scalar.muli v3486 c4_i32_2618
  let v3605 : BitVec 32 := Scalar.addi v3604 c0_i32_2619
  let v3609 : Index := Scalar.indexCast v3605
  let c0_2624 : Index := 0#32
  let c0_2625 : Index := 0#32
  ![0, v3609.toNat, 0, 0]
def k0_off157 (v3486 : BitVec 32) (c0_i32_2667 : BitVec 32) : Fin 4 → Nat :=
  let c1_2668 : Index := 1#32
  let c4_i32_2666 : BitVec 32 := 4#32
  let v3690 : BitVec 32 := Scalar.muli v3486 c4_i32_2666
  let v3691 : BitVec 32 := Scalar.addi v3690 c0_i32_2667
  let v3692 : Index := Scalar.indexCast v3691
  let c0_2669 : Index := 0#32
  let c0_2670 : Index := 0#32
  ![1, v3692.toNat, 0, 0]
def k0_off158 (v3486 : BitVec 32) (c0_i32_2667 : BitVec 32) : Fin 4 → Nat :=
  let c1_2671 : Index := 1#32
  let c4_i32_2666 : BitVec 32 := 4#32
  let v3690 : BitVec 32 := Scalar.muli v3486 c4_i32_2666
  let v3691 : BitVec 32 := Scalar.addi v3690 c0_i32_2667
  let v3695 : Index := Scalar.indexCast v3691
  let c0_2672 : Index := 0#32
  let c0_2673 : Index := 0#32
  ![1, v3695.toNat, 0, 0]

def k0_chk16 (v3486 : BitVec 32) : Prop :=
  (∀ a, (k0_off144 v3486) a + S1x256x256.size a ≤ S16x512x256.size a) ∧
  (∀ (hinb : ∀ a, (k0_off144 v3486) a + S1x256x256.size a ≤ S16x512x256.size a), (Rect.unit (s := S16x512x256) (k0_off144 v3486) S1x256x256.size hinb).WholeWords (EltTy.packing .bf16)) ∧
  (∀ a, (k0_off145 v3486) a + S1x256x256.size a ≤ S16x512x256.size a) ∧
  (∀ (hinb : ∀ a, (k0_off145 v3486) a + S1x256x256.size a ≤ S16x512x256.size a), (Rect.unit (s := S16x512x256) (k0_off145 v3486) S1x256x256.size hinb).WholeWords (EltTy.packing .bf16)) ∧
  (∀ a, (k0_off146 v3486) a + S1x128x512.size a ≤ S16x256x512.size a) ∧
  (∀ (hinb : ∀ a, (k0_off146 v3486) a + S1x128x512.size a ≤ S16x256x512.size a), (Rect.unit (s := S16x256x512) (k0_off146 v3486) S1x128x512.size hinb).WholeWords (EltTy.packing .bf16)) ∧
  (∀ a, (k0_off147 v3486) a + S1x128x512.size a ≤ S16x256x512.size a) ∧
  (∀ (hinb : ∀ a, (k0_off147 v3486) a + S1x128x512.size a ≤ S16x256x512.size a), (Rect.unit (s := S16x256x512) (k0_off147 v3486) S1x128x512.size hinb).WholeWords (EltTy.packing .bf16)) ∧
  (∀ a, (k0_off153 v3486) a + S1x512x256.size a ≤ S16x512x256.size a) ∧
  (∀ a, (k0_off154 v3486) a + S1x256x512.size a ≤ S16x256x512.size a) ∧
  (∀ (r : Fin 4), ∀ a, (k0_off155 v3486 (BitVec.ofNat 32 r.val)) a + S1x1x256x64.size a ≤ S2x64x256x64.size a) ∧
  (∀ (r : Fin 4), ∀ a, (k0_off156 v3486 (BitVec.ofNat 32 r.val)) a + S1x1x256x65.size a ≤ S2x64x256x65.size a) ∧
  (∀ (r : Fin 4), ∀ a, (k0_off157 v3486 (BitVec.ofNat 32 r.val)) a + S1x1x256x64.size a ≤ S2x64x256x64.size a) ∧
  (∀ (r : Fin 4), ∀ a, (k0_off158 v3486 (BitVec.ofNat 32 r.val)) a + S1x1x256x65.size a ≤ S2x64x256x65.size a)
theorem k0_off144_inb : ∀ (v3486 : BitVec 32) (k0_hw16 : k0_chk16 v3486), ∀ a, (k0_off144 v3486) a + S1x256x256.size a ≤ S16x512x256.size a := fun v3486 k0_hw16 => k0_hw16.1
theorem k0_off144_wordsbf16 : ∀ (v3486 : BitVec 32) (k0_hw16 : k0_chk16 v3486), (Rect.unit (s := S16x512x256) (k0_off144 v3486) S1x256x256.size (k0_off144_inb v3486 k0_hw16)).WholeWords (EltTy.packing .bf16) := fun v3486 k0_hw16 => k0_hw16.2.1 (k0_off144_inb v3486 k0_hw16)
theorem k0_off145_inb : ∀ (v3486 : BitVec 32) (k0_hw16 : k0_chk16 v3486), ∀ a, (k0_off145 v3486) a + S1x256x256.size a ≤ S16x512x256.size a := fun v3486 k0_hw16 => k0_hw16.2.2.1
theorem k0_off145_wordsbf16 : ∀ (v3486 : BitVec 32) (k0_hw16 : k0_chk16 v3486), (Rect.unit (s := S16x512x256) (k0_off145 v3486) S1x256x256.size (k0_off145_inb v3486 k0_hw16)).WholeWords (EltTy.packing .bf16) := fun v3486 k0_hw16 => k0_hw16.2.2.2.1 (k0_off145_inb v3486 k0_hw16)
theorem k0_off146_inb : ∀ (v3486 : BitVec 32) (k0_hw16 : k0_chk16 v3486), ∀ a, (k0_off146 v3486) a + S1x128x512.size a ≤ S16x256x512.size a := fun v3486 k0_hw16 => k0_hw16.2.2.2.2.1
theorem k0_off146_wordsbf16 : ∀ (v3486 : BitVec 32) (k0_hw16 : k0_chk16 v3486), (Rect.unit (s := S16x256x512) (k0_off146 v3486) S1x128x512.size (k0_off146_inb v3486 k0_hw16)).WholeWords (EltTy.packing .bf16) := fun v3486 k0_hw16 => k0_hw16.2.2.2.2.2.1 (k0_off146_inb v3486 k0_hw16)
theorem k0_off147_inb : ∀ (v3486 : BitVec 32) (k0_hw16 : k0_chk16 v3486), ∀ a, (k0_off147 v3486) a + S1x128x512.size a ≤ S16x256x512.size a := fun v3486 k0_hw16 => k0_hw16.2.2.2.2.2.2.1
theorem k0_off147_wordsbf16 : ∀ (v3486 : BitVec 32) (k0_hw16 : k0_chk16 v3486), (Rect.unit (s := S16x256x512) (k0_off147 v3486) S1x128x512.size (k0_off147_inb v3486 k0_hw16)).WholeWords (EltTy.packing .bf16) := fun v3486 k0_hw16 => k0_hw16.2.2.2.2.2.2.2.1 (k0_off147_inb v3486 k0_hw16)
theorem k0_off153_inb : ∀ (v3486 : BitVec 32) (k0_hw16 : k0_chk16 v3486), ∀ a, (k0_off153 v3486) a + S1x512x256.size a ≤ S16x512x256.size a := fun v3486 k0_hw16 => k0_hw16.2.2.2.2.2.2.2.2.1
theorem k0_off154_inb : ∀ (v3486 : BitVec 32) (k0_hw16 : k0_chk16 v3486), ∀ a, (k0_off154 v3486) a + S1x256x512.size a ≤ S16x256x512.size a := fun v3486 k0_hw16 => k0_hw16.2.2.2.2.2.2.2.2.2.1
theorem k0_off155_inb : ∀ (v3486 : BitVec 32) (k0_hw16 : k0_chk16 v3486), ∀ (r : Fin 4), ∀ a, (k0_off155 v3486 (BitVec.ofNat 32 r.val)) a + S1x1x256x64.size a ≤ S2x64x256x64.size a := fun v3486 k0_hw16 r => k0_hw16.2.2.2.2.2.2.2.2.2.2.1 r
theorem k0_off156_inb : ∀ (v3486 : BitVec 32) (k0_hw16 : k0_chk16 v3486), ∀ (r : Fin 4), ∀ a, (k0_off156 v3486 (BitVec.ofNat 32 r.val)) a + S1x1x256x65.size a ≤ S2x64x256x65.size a := fun v3486 k0_hw16 r => k0_hw16.2.2.2.2.2.2.2.2.2.2.2.1 r
theorem k0_off157_inb : ∀ (v3486 : BitVec 32) (k0_hw16 : k0_chk16 v3486), ∀ (r : Fin 4), ∀ a, (k0_off157 v3486 (BitVec.ofNat 32 r.val)) a + S1x1x256x64.size a ≤ S2x64x256x64.size a := fun v3486 k0_hw16 r => k0_hw16.2.2.2.2.2.2.2.2.2.2.2.2.1 r
theorem k0_off158_inb : ∀ (v3486 : BitVec 32) (k0_hw16 : k0_chk16 v3486), ∀ (r : Fin 4), ∀ a, (k0_off158 v3486 (BitVec.ofNat 32 r.val)) a + S1x1x256x65.size a ≤ S2x64x256x65.size a := fun v3486 k0_hw16 r => k0_hw16.2.2.2.2.2.2.2.2.2.2.2.2.2 r

def k0_off159 (v3562 : BitVec 32) : Fin 3 → Nat :=
  let v3783 : Index := Scalar.indexCast v3562
  let c0_2721 : Index := 0#32
  let c0_2722 : Index := 0#32
  ![v3783.toNat, 0, 0]
def k0_off160 (v3562 : BitVec 32) : Fin 3 → Nat :=
  let v3786 : Index := Scalar.indexCast v3562
  let c0_2723 : Index := 0#32
  let c0_2724 : Index := 0#32
  ![v3786.toNat, 0, 0]
def k0_off161 (v3562 : BitVec 32) (c0_i32_2727 : BitVec 32) : Fin 4 → Nat :=
  let c0_2728 : Index := 0#32
  let c4_i32_2726 : BitVec 32 := 4#32
  let v3792 : BitVec 32 := Scalar.muli v3562 c4_i32_2726
  let v3793 : BitVec 32 := Scalar.addi v3792 c0_i32_2727
  let v3794 : Index := Scalar.indexCast v3793
  let c0_2729 : Index := 0#32
  let c0_2730 : Index := 0#32
  ![0, v3794.toNat, 0, 0]
def k0_off162 (v3562 : BitVec 32) (c0_i32_2727 : BitVec 32) : Fin 4 → Nat :=
  let c0_2731 : Index := 0#32
  let c4_i32_2726 : BitVec 32 := 4#32
  let v3792 : BitVec 32 := Scalar.muli v3562 c4_i32_2726
  let v3793 : BitVec 32 := Scalar.addi v3792 c0_i32_2727
  let v3797 : Index := Scalar.indexCast v3793
  let c0_2732 : Index := 0#32
  let c0_2733 : Index := 0#32
  ![0, v3797.toNat, 0, 0]
def k0_off163 (v3562 : BitVec 32) (c0_i32_2775 : BitVec 32) : Fin 4 → Nat :=
  let c1_2776 : Index := 1#32
  let c4_i32_2774 : BitVec 32 := 4#32
  let v3878 : BitVec 32 := Scalar.muli v3562 c4_i32_2774
  let v3879 : BitVec 32 := Scalar.addi v3878 c0_i32_2775
  let v3880 : Index := Scalar.indexCast v3879
  let c0_2777 : Index := 0#32
  let c0_2778 : Index := 0#32
  ![1, v3880.toNat, 0, 0]
def k0_off164 (v3562 : BitVec 32) (c0_i32_2775 : BitVec 32) : Fin 4 → Nat :=
  let c1_2779 : Index := 1#32
  let c4_i32_2774 : BitVec 32 := 4#32
  let v3878 : BitVec 32 := Scalar.muli v3562 c4_i32_2774
  let v3879 : BitVec 32 := Scalar.addi v3878 c0_i32_2775
  let v3883 : Index := Scalar.indexCast v3879
  let c0_2780 : Index := 0#32
  let c0_2781 : Index := 0#32
  ![1, v3883.toNat, 0, 0]

def k0_chk17 (v3562 : BitVec 32) : Prop :=
  (∀ a, (k0_off149 v3562) a + S1x256x256.size a ≤ S16x512x256.size a) ∧
  (∀ (hinb : ∀ a, (k0_off149 v3562) a + S1x256x256.size a ≤ S16x512x256.size a), (Rect.unit (s := S16x512x256) (k0_off149 v3562) S1x256x256.size hinb).WholeWords (EltTy.packing .bf16)) ∧
  (∀ a, (k0_off150 v3562) a + S1x256x256.size a ≤ S16x512x256.size a) ∧
  (∀ (hinb : ∀ a, (k0_off150 v3562) a + S1x256x256.size a ≤ S16x512x256.size a), (Rect.unit (s := S16x512x256) (k0_off150 v3562) S1x256x256.size hinb).WholeWords (EltTy.packing .bf16)) ∧
  (∀ a, (k0_off151 v3562) a + S1x128x512.size a ≤ S16x256x512.size a) ∧
  (∀ (hinb : ∀ a, (k0_off151 v3562) a + S1x128x512.size a ≤ S16x256x512.size a), (Rect.unit (s := S16x256x512) (k0_off151 v3562) S1x128x512.size hinb).WholeWords (EltTy.packing .bf16)) ∧
  (∀ a, (k0_off152 v3562) a + S1x128x512.size a ≤ S16x256x512.size a) ∧
  (∀ (hinb : ∀ a, (k0_off152 v3562) a + S1x128x512.size a ≤ S16x256x512.size a), (Rect.unit (s := S16x256x512) (k0_off152 v3562) S1x128x512.size hinb).WholeWords (EltTy.packing .bf16)) ∧
  (∀ a, (k0_off159 v3562) a + S1x512x256.size a ≤ S16x512x256.size a) ∧
  (∀ a, (k0_off160 v3562) a + S1x256x512.size a ≤ S16x256x512.size a) ∧
  (∀ (r : Fin 4), ∀ a, (k0_off161 v3562 (BitVec.ofNat 32 r.val)) a + S1x1x256x64.size a ≤ S2x64x256x64.size a) ∧
  (∀ (r : Fin 4), ∀ a, (k0_off162 v3562 (BitVec.ofNat 32 r.val)) a + S1x1x256x65.size a ≤ S2x64x256x65.size a) ∧
  (∀ (r : Fin 4), ∀ a, (k0_off163 v3562 (BitVec.ofNat 32 r.val)) a + S1x1x256x64.size a ≤ S2x64x256x64.size a) ∧
  (∀ (r : Fin 4), ∀ a, (k0_off164 v3562 (BitVec.ofNat 32 r.val)) a + S1x1x256x65.size a ≤ S2x64x256x65.size a)
theorem k0_off149_inb : ∀ (v3562 : BitVec 32) (k0_hw17 : k0_chk17 v3562), ∀ a, (k0_off149 v3562) a + S1x256x256.size a ≤ S16x512x256.size a := fun v3562 k0_hw17 => k0_hw17.1
theorem k0_off149_wordsbf16 : ∀ (v3562 : BitVec 32) (k0_hw17 : k0_chk17 v3562), (Rect.unit (s := S16x512x256) (k0_off149 v3562) S1x256x256.size (k0_off149_inb v3562 k0_hw17)).WholeWords (EltTy.packing .bf16) := fun v3562 k0_hw17 => k0_hw17.2.1 (k0_off149_inb v3562 k0_hw17)
theorem k0_off150_inb : ∀ (v3562 : BitVec 32) (k0_hw17 : k0_chk17 v3562), ∀ a, (k0_off150 v3562) a + S1x256x256.size a ≤ S16x512x256.size a := fun v3562 k0_hw17 => k0_hw17.2.2.1
theorem k0_off150_wordsbf16 : ∀ (v3562 : BitVec 32) (k0_hw17 : k0_chk17 v3562), (Rect.unit (s := S16x512x256) (k0_off150 v3562) S1x256x256.size (k0_off150_inb v3562 k0_hw17)).WholeWords (EltTy.packing .bf16) := fun v3562 k0_hw17 => k0_hw17.2.2.2.1 (k0_off150_inb v3562 k0_hw17)
theorem k0_off151_inb : ∀ (v3562 : BitVec 32) (k0_hw17 : k0_chk17 v3562), ∀ a, (k0_off151 v3562) a + S1x128x512.size a ≤ S16x256x512.size a := fun v3562 k0_hw17 => k0_hw17.2.2.2.2.1
theorem k0_off151_wordsbf16 : ∀ (v3562 : BitVec 32) (k0_hw17 : k0_chk17 v3562), (Rect.unit (s := S16x256x512) (k0_off151 v3562) S1x128x512.size (k0_off151_inb v3562 k0_hw17)).WholeWords (EltTy.packing .bf16) := fun v3562 k0_hw17 => k0_hw17.2.2.2.2.2.1 (k0_off151_inb v3562 k0_hw17)
theorem k0_off152_inb : ∀ (v3562 : BitVec 32) (k0_hw17 : k0_chk17 v3562), ∀ a, (k0_off152 v3562) a + S1x128x512.size a ≤ S16x256x512.size a := fun v3562 k0_hw17 => k0_hw17.2.2.2.2.2.2.1
theorem k0_off152_wordsbf16 : ∀ (v3562 : BitVec 32) (k0_hw17 : k0_chk17 v3562), (Rect.unit (s := S16x256x512) (k0_off152 v3562) S1x128x512.size (k0_off152_inb v3562 k0_hw17)).WholeWords (EltTy.packing .bf16) := fun v3562 k0_hw17 => k0_hw17.2.2.2.2.2.2.2.1 (k0_off152_inb v3562 k0_hw17)
theorem k0_off159_inb : ∀ (v3562 : BitVec 32) (k0_hw17 : k0_chk17 v3562), ∀ a, (k0_off159 v3562) a + S1x512x256.size a ≤ S16x512x256.size a := fun v3562 k0_hw17 => k0_hw17.2.2.2.2.2.2.2.2.1
theorem k0_off160_inb : ∀ (v3562 : BitVec 32) (k0_hw17 : k0_chk17 v3562), ∀ a, (k0_off160 v3562) a + S1x256x512.size a ≤ S16x256x512.size a := fun v3562 k0_hw17 => k0_hw17.2.2.2.2.2.2.2.2.2.1
theorem k0_off161_inb : ∀ (v3562 : BitVec 32) (k0_hw17 : k0_chk17 v3562), ∀ (r : Fin 4), ∀ a, (k0_off161 v3562 (BitVec.ofNat 32 r.val)) a + S1x1x256x64.size a ≤ S2x64x256x64.size a := fun v3562 k0_hw17 r => k0_hw17.2.2.2.2.2.2.2.2.2.2.1 r
theorem k0_off162_inb : ∀ (v3562 : BitVec 32) (k0_hw17 : k0_chk17 v3562), ∀ (r : Fin 4), ∀ a, (k0_off162 v3562 (BitVec.ofNat 32 r.val)) a + S1x1x256x65.size a ≤ S2x64x256x65.size a := fun v3562 k0_hw17 r => k0_hw17.2.2.2.2.2.2.2.2.2.2.2.1 r
theorem k0_off163_inb : ∀ (v3562 : BitVec 32) (k0_hw17 : k0_chk17 v3562), ∀ (r : Fin 4), ∀ a, (k0_off163 v3562 (BitVec.ofNat 32 r.val)) a + S1x1x256x64.size a ≤ S2x64x256x64.size a := fun v3562 k0_hw17 r => k0_hw17.2.2.2.2.2.2.2.2.2.2.2.2.1 r
theorem k0_off164_inb : ∀ (v3562 : BitVec 32) (k0_hw17 : k0_chk17 v3562), ∀ (r : Fin 4), ∀ a, (k0_off164 v3562 (BitVec.ofNat 32 r.val)) a + S1x1x256x65.size a ≤ S2x64x256x65.size a := fun v3562 k0_hw17 r => k0_hw17.2.2.2.2.2.2.2.2.2.2.2.2.2 r

def k0_off165 (v5 : BitVec 32) : Fin 1 → Nat :=
  let c8_i32 : BitVec 32 := 8#32
  let v3971 : BitVec 32 := Scalar.subi v5 c8_i32
  let c16_i32_2829 : BitVec 32 := 16#32
  let v3972 : BitVec 32 := Scalar.addi v3971 c16_i32_2829
  let c16_i32_2830 : BitVec 32 := 16#32
  let v3973 : BitVec 32 := Scalar.remsi v3972 c16_i32_2830
  let v3974 : Index := Scalar.indexCast v3973
  ![v3974.toNat]
def k0_off166 (v3975 : BitVec 32) : Fin 3 → Nat :=
  let c0_i32_2837 : BitVec 32 := 0#32
  let c0_i32_2838 : BitVec 32 := 0#32
  ![v3975.toNat, 0, 0]

def k0_off167 (v3975 : BitVec 32) : Fin 3 → Nat :=
  let c256_i32_2847 : BitVec 32 := 256#32
  let c0_i32_2848 : BitVec 32 := 0#32
  ![v3975.toNat, 256, 0]
def k0_off168 (v3975 : BitVec 32) : Fin 3 → Nat :=
  let c0_i32_2857 : BitVec 32 := 0#32
  let c0_i32_2858 : BitVec 32 := 0#32
  ![v3975.toNat, 0, 0]
def k0_off169 (v3975 : BitVec 32) : Fin 3 → Nat :=
  let c128_i32_2867 : BitVec 32 := 128#32
  let c0_i32_2868 : BitVec 32 := 0#32
  ![v3975.toNat, 128, 0]
def k0_off170 (v3975 : BitVec 32) : Fin 3 → Nat :=
  let v4008 : Index := Scalar.indexCast v3975
  let c0_2871 : Index := 0#32
  let c0_2872 : Index := 0#32
  ![v4008.toNat, 0, 0]
def k0_off171 (v3975 : BitVec 32) : Fin 3 → Nat :=
  let v4011 : Index := Scalar.indexCast v3975
  let c0_2873 : Index := 0#32
  let c0_2874 : Index := 0#32
  ![v4011.toNat, 0, 0]
def k0_off172 (v3975 : BitVec 32) (c0_i32_2877 : BitVec 32) : Fin 4 → Nat :=
  let c0_2878 : Index := 0#32
  let c4_i32_2876 : BitVec 32 := 4#32
  let v4017 : BitVec 32 := Scalar.muli v3975 c4_i32_2876
  let v4018 : BitVec 32 := Scalar.addi v4017 c0_i32_2877
  let v4019 : Index := Scalar.indexCast v4018
  let c0_2879 : Index := 0#32
  let c0_2880 : Index := 0#32
  ![0, v4019.toNat, 0, 0]
def k0_off173 (v3975 : BitVec 32) (c0_i32_2877 : BitVec 32) : Fin 4 → Nat :=
  let c0_2881 : Index := 0#32
  let c4_i32_2876 : BitVec 32 := 4#32
  let v4017 : BitVec 32 := Scalar.muli v3975 c4_i32_2876
  let v4018 : BitVec 32 := Scalar.addi v4017 c0_i32_2877
  let v4022 : Index := Scalar.indexCast v4018
  let c0_2882 : Index := 0#32
  let c0_2883 : Index := 0#32
  ![0, v4022.toNat, 0, 0]
def k0_off174 (v3975 : BitVec 32) (c0_i32_2925 : BitVec 32) : Fin 4 → Nat :=
  let c1_2926 : Index := 1#32
  let c4_i32_2924 : BitVec 32 := 4#32
  let v4103 : BitVec 32 := Scalar.muli v3975 c4_i32_2924
  let v4104 : BitVec 32 := Scalar.addi v4103 c0_i32_2925
  let v4105 : Index := Scalar.indexCast v4104
  let c0_2927 : Index := 0#32
  let c0_2928 : Index := 0#32
  ![1, v4105.toNat, 0, 0]
def k0_off175 (v3975 : BitVec 32) (c0_i32_2925 : BitVec 32) : Fin 4 → Nat :=
  let c1_2929 : Index := 1#32
  let c4_i32_2924 : BitVec 32 := 4#32
  let v4103 : BitVec 32 := Scalar.muli v3975 c4_i32_2924
  let v4104 : BitVec 32 := Scalar.addi v4103 c0_i32_2925
  let v4108 : Index := Scalar.indexCast v4104
  let c0_2930 : Index := 0#32
  let c0_2931 : Index := 0#32
  ![1, v4108.toNat, 0, 0]

def k0_chk18 (v3975 : BitVec 32) : Prop :=
  (∀ a, (k0_off166 v3975) a + S1x256x256.size a ≤ S16x512x256.size a) ∧
  (∀ (hinb : ∀ a, (k0_off166 v3975) a + S1x256x256.size a ≤ S16x512x256.size a), (Rect.unit (s := S16x512x256) (k0_off166 v3975) S1x256x256.size hinb).WholeWords (EltTy.packing .bf16)) ∧
  (∀ a, (k0_off167 v3975) a + S1x256x256.size a ≤ S16x512x256.size a) ∧
  (∀ (hinb : ∀ a, (k0_off167 v3975) a + S1x256x256.size a ≤ S16x512x256.size a), (Rect.unit (s := S16x512x256) (k0_off167 v3975) S1x256x256.size hinb).WholeWords (EltTy.packing .bf16)) ∧
  (∀ a, (k0_off168 v3975) a + S1x128x512.size a ≤ S16x256x512.size a) ∧
  (∀ (hinb : ∀ a, (k0_off168 v3975) a + S1x128x512.size a ≤ S16x256x512.size a), (Rect.unit (s := S16x256x512) (k0_off168 v3975) S1x128x512.size hinb).WholeWords (EltTy.packing .bf16)) ∧
  (∀ a, (k0_off169 v3975) a + S1x128x512.size a ≤ S16x256x512.size a) ∧
  (∀ (hinb : ∀ a, (k0_off169 v3975) a + S1x128x512.size a ≤ S16x256x512.size a), (Rect.unit (s := S16x256x512) (k0_off169 v3975) S1x128x512.size hinb).WholeWords (EltTy.packing .bf16)) ∧
  (∀ a, (k0_off170 v3975) a + S1x512x256.size a ≤ S16x512x256.size a) ∧
  (∀ a, (k0_off171 v3975) a + S1x256x512.size a ≤ S16x256x512.size a) ∧
  (∀ (r : Fin 4), ∀ a, (k0_off172 v3975 (BitVec.ofNat 32 r.val)) a + S1x1x256x64.size a ≤ S2x64x256x64.size a) ∧
  (∀ (r : Fin 4), ∀ a, (k0_off173 v3975 (BitVec.ofNat 32 r.val)) a + S1x1x256x65.size a ≤ S2x64x256x65.size a) ∧
  (∀ (r : Fin 4), ∀ a, (k0_off174 v3975 (BitVec.ofNat 32 r.val)) a + S1x1x256x64.size a ≤ S2x64x256x64.size a) ∧
  (∀ (r : Fin 4), ∀ a, (k0_off175 v3975 (BitVec.ofNat 32 r.val)) a + S1x1x256x65.size a ≤ S2x64x256x65.size a)
theorem k0_off166_inb : ∀ (v3975 : BitVec 32) (k0_hw18 : k0_chk18 v3975), ∀ a, (k0_off166 v3975) a + S1x256x256.size a ≤ S16x512x256.size a := fun v3975 k0_hw18 => k0_hw18.1
theorem k0_off166_wordsbf16 : ∀ (v3975 : BitVec 32) (k0_hw18 : k0_chk18 v3975), (Rect.unit (s := S16x512x256) (k0_off166 v3975) S1x256x256.size (k0_off166_inb v3975 k0_hw18)).WholeWords (EltTy.packing .bf16) := fun v3975 k0_hw18 => k0_hw18.2.1 (k0_off166_inb v3975 k0_hw18)
theorem k0_off167_inb : ∀ (v3975 : BitVec 32) (k0_hw18 : k0_chk18 v3975), ∀ a, (k0_off167 v3975) a + S1x256x256.size a ≤ S16x512x256.size a := fun v3975 k0_hw18 => k0_hw18.2.2.1
theorem k0_off167_wordsbf16 : ∀ (v3975 : BitVec 32) (k0_hw18 : k0_chk18 v3975), (Rect.unit (s := S16x512x256) (k0_off167 v3975) S1x256x256.size (k0_off167_inb v3975 k0_hw18)).WholeWords (EltTy.packing .bf16) := fun v3975 k0_hw18 => k0_hw18.2.2.2.1 (k0_off167_inb v3975 k0_hw18)
theorem k0_off168_inb : ∀ (v3975 : BitVec 32) (k0_hw18 : k0_chk18 v3975), ∀ a, (k0_off168 v3975) a + S1x128x512.size a ≤ S16x256x512.size a := fun v3975 k0_hw18 => k0_hw18.2.2.2.2.1
theorem k0_off168_wordsbf16 : ∀ (v3975 : BitVec 32) (k0_hw18 : k0_chk18 v3975), (Rect.unit (s := S16x256x512) (k0_off168 v3975) S1x128x512.size (k0_off168_inb v3975 k0_hw18)).WholeWords (EltTy.packing .bf16) := fun v3975 k0_hw18 => k0_hw18.2.2.2.2.2.1 (k0_off168_inb v3975 k0_hw18)
theorem k0_off169_inb : ∀ (v3975 : BitVec 32) (k0_hw18 : k0_chk18 v3975), ∀ a, (k0_off169 v3975) a + S1x128x512.size a ≤ S16x256x512.size a := fun v3975 k0_hw18 => k0_hw18.2.2.2.2.2.2.1
theorem k0_off169_wordsbf16 : ∀ (v3975 : BitVec 32) (k0_hw18 : k0_chk18 v3975), (Rect.unit (s := S16x256x512) (k0_off169 v3975) S1x128x512.size (k0_off169_inb v3975 k0_hw18)).WholeWords (EltTy.packing .bf16) := fun v3975 k0_hw18 => k0_hw18.2.2.2.2.2.2.2.1 (k0_off169_inb v3975 k0_hw18)
theorem k0_off170_inb : ∀ (v3975 : BitVec 32) (k0_hw18 : k0_chk18 v3975), ∀ a, (k0_off170 v3975) a + S1x512x256.size a ≤ S16x512x256.size a := fun v3975 k0_hw18 => k0_hw18.2.2.2.2.2.2.2.2.1
theorem k0_off171_inb : ∀ (v3975 : BitVec 32) (k0_hw18 : k0_chk18 v3975), ∀ a, (k0_off171 v3975) a + S1x256x512.size a ≤ S16x256x512.size a := fun v3975 k0_hw18 => k0_hw18.2.2.2.2.2.2.2.2.2.1
theorem k0_off172_inb : ∀ (v3975 : BitVec 32) (k0_hw18 : k0_chk18 v3975), ∀ (r : Fin 4), ∀ a, (k0_off172 v3975 (BitVec.ofNat 32 r.val)) a + S1x1x256x64.size a ≤ S2x64x256x64.size a := fun v3975 k0_hw18 r => k0_hw18.2.2.2.2.2.2.2.2.2.2.1 r
theorem k0_off173_inb : ∀ (v3975 : BitVec 32) (k0_hw18 : k0_chk18 v3975), ∀ (r : Fin 4), ∀ a, (k0_off173 v3975 (BitVec.ofNat 32 r.val)) a + S1x1x256x65.size a ≤ S2x64x256x65.size a := fun v3975 k0_hw18 r => k0_hw18.2.2.2.2.2.2.2.2.2.2.2.1 r
theorem k0_off174_inb : ∀ (v3975 : BitVec 32) (k0_hw18 : k0_chk18 v3975), ∀ (r : Fin 4), ∀ a, (k0_off174 v3975 (BitVec.ofNat 32 r.val)) a + S1x1x256x64.size a ≤ S2x64x256x64.size a := fun v3975 k0_hw18 r => k0_hw18.2.2.2.2.2.2.2.2.2.2.2.2.1 r
theorem k0_off175_inb : ∀ (v3975 : BitVec 32) (k0_hw18 : k0_chk18 v3975), ∀ (r : Fin 4), ∀ a, (k0_off175 v3975 (BitVec.ofNat 32 r.val)) a + S1x1x256x65.size a ≤ S2x64x256x65.size a := fun v3975 k0_hw18 r => k0_hw18.2.2.2.2.2.2.2.2.2.2.2.2.2 r

def k0_off176 (v5 : BitVec 32) : Fin 1 → Nat :=
  let c0_i32_2979 : BitVec 32 := 0#32
  let v4196 : BitVec 32 := Scalar.subi v5 c0_i32_2979
  let c16_i32_2980 : BitVec 32 := 16#32
  let v4197 : BitVec 32 := Scalar.addi v4196 c16_i32_2980
  let c16_i32_2981 : BitVec 32 := 16#32
  let v4198 : BitVec 32 := Scalar.remsi v4197 c16_i32_2981
  let v4199 : Index := Scalar.indexCast v4198
  ![v4199.toNat]
def k0_off177 (v4200 : BitVec 32) : Fin 3 → Nat :=
  let c0_i32_2987 : BitVec 32 := 0#32
  let c0_i32_2988 : BitVec 32 := 0#32
  ![v4200.toNat, 0, 0]

def k0_off178 (v4200 : BitVec 32) : Fin 3 → Nat :=
  let c256_i32_2996 : BitVec 32 := 256#32
  let c0_i32_2997 : BitVec 32 := 0#32
  ![v4200.toNat, 256, 0]
def k0_off179 (v4200 : BitVec 32) : Fin 3 → Nat :=
  let c0_i32_3005 : BitVec 32 := 0#32
  let c0_i32_3006 : BitVec 32 := 0#32
  ![v4200.toNat, 0, 0]
def k0_off180 (v4200 : BitVec 32) : Fin 3 → Nat :=
  let c128_i32_3014 : BitVec 32 := 128#32
  let c0_i32_3015 : BitVec 32 := 0#32
  ![v4200.toNat, 128, 0]

def k0_chk19 (v4200 : BitVec 32) : Prop :=
  (∀ a, (k0_off177 v4200) a + S1x256x256.size a ≤ S16x512x256.size a) ∧
  (∀ (hinb : ∀ a, (k0_off177 v4200) a + S1x256x256.size a ≤ S16x512x256.size a), (Rect.unit (s := S16x512x256) (k0_off177 v4200) S1x256x256.size hinb).WholeWords (EltTy.packing .bf16)) ∧
  (∀ a, (k0_off178 v4200) a + S1x256x256.size a ≤ S16x512x256.size a) ∧
  (∀ (hinb : ∀ a, (k0_off178 v4200) a + S1x256x256.size a ≤ S16x512x256.size a), (Rect.unit (s := S16x512x256) (k0_off178 v4200) S1x256x256.size hinb).WholeWords (EltTy.packing .bf16)) ∧
  (∀ a, (k0_off179 v4200) a + S1x128x512.size a ≤ S16x256x512.size a) ∧
  (∀ (hinb : ∀ a, (k0_off179 v4200) a + S1x128x512.size a ≤ S16x256x512.size a), (Rect.unit (s := S16x256x512) (k0_off179 v4200) S1x128x512.size hinb).WholeWords (EltTy.packing .bf16)) ∧
  (∀ a, (k0_off180 v4200) a + S1x128x512.size a ≤ S16x256x512.size a) ∧
  (∀ (hinb : ∀ a, (k0_off180 v4200) a + S1x128x512.size a ≤ S16x256x512.size a), (Rect.unit (s := S16x256x512) (k0_off180 v4200) S1x128x512.size hinb).WholeWords (EltTy.packing .bf16))
theorem k0_off177_inb : ∀ (v4200 : BitVec 32) (k0_hw19 : k0_chk19 v4200), ∀ a, (k0_off177 v4200) a + S1x256x256.size a ≤ S16x512x256.size a := fun v4200 k0_hw19 => k0_hw19.1
theorem k0_off177_wordsbf16 : ∀ (v4200 : BitVec 32) (k0_hw19 : k0_chk19 v4200), (Rect.unit (s := S16x512x256) (k0_off177 v4200) S1x256x256.size (k0_off177_inb v4200 k0_hw19)).WholeWords (EltTy.packing .bf16) := fun v4200 k0_hw19 => k0_hw19.2.1 (k0_off177_inb v4200 k0_hw19)
theorem k0_off178_inb : ∀ (v4200 : BitVec 32) (k0_hw19 : k0_chk19 v4200), ∀ a, (k0_off178 v4200) a + S1x256x256.size a ≤ S16x512x256.size a := fun v4200 k0_hw19 => k0_hw19.2.2.1
theorem k0_off178_wordsbf16 : ∀ (v4200 : BitVec 32) (k0_hw19 : k0_chk19 v4200), (Rect.unit (s := S16x512x256) (k0_off178 v4200) S1x256x256.size (k0_off178_inb v4200 k0_hw19)).WholeWords (EltTy.packing .bf16) := fun v4200 k0_hw19 => k0_hw19.2.2.2.1 (k0_off178_inb v4200 k0_hw19)
theorem k0_off179_inb : ∀ (v4200 : BitVec 32) (k0_hw19 : k0_chk19 v4200), ∀ a, (k0_off179 v4200) a + S1x128x512.size a ≤ S16x256x512.size a := fun v4200 k0_hw19 => k0_hw19.2.2.2.2.1
theorem k0_off179_wordsbf16 : ∀ (v4200 : BitVec 32) (k0_hw19 : k0_chk19 v4200), (Rect.unit (s := S16x256x512) (k0_off179 v4200) S1x128x512.size (k0_off179_inb v4200 k0_hw19)).WholeWords (EltTy.packing .bf16) := fun v4200 k0_hw19 => k0_hw19.2.2.2.2.2.1 (k0_off179_inb v4200 k0_hw19)
theorem k0_off180_inb : ∀ (v4200 : BitVec 32) (k0_hw19 : k0_chk19 v4200), ∀ a, (k0_off180 v4200) a + S1x128x512.size a ≤ S16x256x512.size a := fun v4200 k0_hw19 => k0_hw19.2.2.2.2.2.2.1
theorem k0_off180_wordsbf16 : ∀ (v4200 : BitVec 32) (k0_hw19 : k0_chk19 v4200), (Rect.unit (s := S16x256x512) (k0_off180 v4200) S1x128x512.size (k0_off180_inb v4200 k0_hw19)).WholeWords (EltTy.packing .bf16) := fun v4200 k0_hw19 => k0_hw19.2.2.2.2.2.2.2 (k0_off180_inb v4200 k0_hw19)

def k0_off181 (v5 : BitVec 32) : Fin 1 → Nat :=
  let c1_i32_3018 : BitVec 32 := 1#32
  let v4225 : BitVec 32 := Scalar.subi v5 c1_i32_3018
  let c16_i32_3019 : BitVec 32 := 16#32
  let v4226 : BitVec 32 := Scalar.addi v4225 c16_i32_3019
  let c16_i32_3020 : BitVec 32 := 16#32
  let v4227 : BitVec 32 := Scalar.remsi v4226 c16_i32_3020
  let v4228 : Index := Scalar.indexCast v4227
  ![v4228.toNat]
def k0_off182 (v4229 : BitVec 32) : Fin 3 → Nat :=
  let c0_i32_3026 : BitVec 32 := 0#32
  let c0_i32_3027 : BitVec 32 := 0#32
  ![v4229.toNat, 0, 0]

def k0_off183 (v4229 : BitVec 32) : Fin 3 → Nat :=
  let c256_i32_3035 : BitVec 32 := 256#32
  let c0_i32_3036 : BitVec 32 := 0#32
  ![v4229.toNat, 256, 0]
def k0_off184 (v4229 : BitVec 32) : Fin 3 → Nat :=
  let c0_i32_3044 : BitVec 32 := 0#32
  let c0_i32_3045 : BitVec 32 := 0#32
  ![v4229.toNat, 0, 0]
def k0_off185 (v4229 : BitVec 32) : Fin 3 → Nat :=
  let c128_i32_3053 : BitVec 32 := 128#32
  let c0_i32_3054 : BitVec 32 := 0#32
  ![v4229.toNat, 128, 0]

def k0_chk20 (v4229 : BitVec 32) : Prop :=
  (∀ a, (k0_off182 v4229) a + S1x256x256.size a ≤ S16x512x256.size a) ∧
  (∀ (hinb : ∀ a, (k0_off182 v4229) a + S1x256x256.size a ≤ S16x512x256.size a), (Rect.unit (s := S16x512x256) (k0_off182 v4229) S1x256x256.size hinb).WholeWords (EltTy.packing .bf16)) ∧
  (∀ a, (k0_off183 v4229) a + S1x256x256.size a ≤ S16x512x256.size a) ∧
  (∀ (hinb : ∀ a, (k0_off183 v4229) a + S1x256x256.size a ≤ S16x512x256.size a), (Rect.unit (s := S16x512x256) (k0_off183 v4229) S1x256x256.size hinb).WholeWords (EltTy.packing .bf16)) ∧
  (∀ a, (k0_off184 v4229) a + S1x128x512.size a ≤ S16x256x512.size a) ∧
  (∀ (hinb : ∀ a, (k0_off184 v4229) a + S1x128x512.size a ≤ S16x256x512.size a), (Rect.unit (s := S16x256x512) (k0_off184 v4229) S1x128x512.size hinb).WholeWords (EltTy.packing .bf16)) ∧
  (∀ a, (k0_off185 v4229) a + S1x128x512.size a ≤ S16x256x512.size a) ∧
  (∀ (hinb : ∀ a, (k0_off185 v4229) a + S1x128x512.size a ≤ S16x256x512.size a), (Rect.unit (s := S16x256x512) (k0_off185 v4229) S1x128x512.size hinb).WholeWords (EltTy.packing .bf16))
theorem k0_off182_inb : ∀ (v4229 : BitVec 32) (k0_hw20 : k0_chk20 v4229), ∀ a, (k0_off182 v4229) a + S1x256x256.size a ≤ S16x512x256.size a := fun v4229 k0_hw20 => k0_hw20.1
theorem k0_off182_wordsbf16 : ∀ (v4229 : BitVec 32) (k0_hw20 : k0_chk20 v4229), (Rect.unit (s := S16x512x256) (k0_off182 v4229) S1x256x256.size (k0_off182_inb v4229 k0_hw20)).WholeWords (EltTy.packing .bf16) := fun v4229 k0_hw20 => k0_hw20.2.1 (k0_off182_inb v4229 k0_hw20)
theorem k0_off183_inb : ∀ (v4229 : BitVec 32) (k0_hw20 : k0_chk20 v4229), ∀ a, (k0_off183 v4229) a + S1x256x256.size a ≤ S16x512x256.size a := fun v4229 k0_hw20 => k0_hw20.2.2.1
theorem k0_off183_wordsbf16 : ∀ (v4229 : BitVec 32) (k0_hw20 : k0_chk20 v4229), (Rect.unit (s := S16x512x256) (k0_off183 v4229) S1x256x256.size (k0_off183_inb v4229 k0_hw20)).WholeWords (EltTy.packing .bf16) := fun v4229 k0_hw20 => k0_hw20.2.2.2.1 (k0_off183_inb v4229 k0_hw20)
theorem k0_off184_inb : ∀ (v4229 : BitVec 32) (k0_hw20 : k0_chk20 v4229), ∀ a, (k0_off184 v4229) a + S1x128x512.size a ≤ S16x256x512.size a := fun v4229 k0_hw20 => k0_hw20.2.2.2.2.1
theorem k0_off184_wordsbf16 : ∀ (v4229 : BitVec 32) (k0_hw20 : k0_chk20 v4229), (Rect.unit (s := S16x256x512) (k0_off184 v4229) S1x128x512.size (k0_off184_inb v4229 k0_hw20)).WholeWords (EltTy.packing .bf16) := fun v4229 k0_hw20 => k0_hw20.2.2.2.2.2.1 (k0_off184_inb v4229 k0_hw20)
theorem k0_off185_inb : ∀ (v4229 : BitVec 32) (k0_hw20 : k0_chk20 v4229), ∀ a, (k0_off185 v4229) a + S1x128x512.size a ≤ S16x256x512.size a := fun v4229 k0_hw20 => k0_hw20.2.2.2.2.2.2.1
theorem k0_off185_wordsbf16 : ∀ (v4229 : BitVec 32) (k0_hw20 : k0_chk20 v4229), (Rect.unit (s := S16x256x512) (k0_off185 v4229) S1x128x512.size (k0_off185_inb v4229 k0_hw20)).WholeWords (EltTy.packing .bf16) := fun v4229 k0_hw20 => k0_hw20.2.2.2.2.2.2.2 (k0_off185_inb v4229 k0_hw20)

def k0_off186 (v5 : BitVec 32) : Fin 1 → Nat :=
  let c2_i32_3057 : BitVec 32 := 2#32
  let v4254 : BitVec 32 := Scalar.subi v5 c2_i32_3057
  let c16_i32_3058 : BitVec 32 := 16#32
  let v4255 : BitVec 32 := Scalar.addi v4254 c16_i32_3058
  let c16_i32_3059 : BitVec 32 := 16#32
  let v4256 : BitVec 32 := Scalar.remsi v4255 c16_i32_3059
  let v4257 : Index := Scalar.indexCast v4256
  ![v4257.toNat]
def k0_off187 (v4258 : BitVec 32) : Fin 3 → Nat :=
  let c0_i32_3065 : BitVec 32 := 0#32
  let c0_i32_3066 : BitVec 32 := 0#32
  ![v4258.toNat, 0, 0]

def k0_off188 (v4258 : BitVec 32) : Fin 3 → Nat :=
  let c256_i32_3074 : BitVec 32 := 256#32
  let c0_i32_3075 : BitVec 32 := 0#32
  ![v4258.toNat, 256, 0]
def k0_off189 (v4258 : BitVec 32) : Fin 3 → Nat :=
  let c0_i32_3083 : BitVec 32 := 0#32
  let c0_i32_3084 : BitVec 32 := 0#32
  ![v4258.toNat, 0, 0]
def k0_off190 (v4258 : BitVec 32) : Fin 3 → Nat :=
  let c128_i32_3092 : BitVec 32 := 128#32
  let c0_i32_3093 : BitVec 32 := 0#32
  ![v4258.toNat, 128, 0]

def k0_chk21 (v4258 : BitVec 32) : Prop :=
  (∀ a, (k0_off187 v4258) a + S1x256x256.size a ≤ S16x512x256.size a) ∧
  (∀ (hinb : ∀ a, (k0_off187 v4258) a + S1x256x256.size a ≤ S16x512x256.size a), (Rect.unit (s := S16x512x256) (k0_off187 v4258) S1x256x256.size hinb).WholeWords (EltTy.packing .bf16)) ∧
  (∀ a, (k0_off188 v4258) a + S1x256x256.size a ≤ S16x512x256.size a) ∧
  (∀ (hinb : ∀ a, (k0_off188 v4258) a + S1x256x256.size a ≤ S16x512x256.size a), (Rect.unit (s := S16x512x256) (k0_off188 v4258) S1x256x256.size hinb).WholeWords (EltTy.packing .bf16)) ∧
  (∀ a, (k0_off189 v4258) a + S1x128x512.size a ≤ S16x256x512.size a) ∧
  (∀ (hinb : ∀ a, (k0_off189 v4258) a + S1x128x512.size a ≤ S16x256x512.size a), (Rect.unit (s := S16x256x512) (k0_off189 v4258) S1x128x512.size hinb).WholeWords (EltTy.packing .bf16)) ∧
  (∀ a, (k0_off190 v4258) a + S1x128x512.size a ≤ S16x256x512.size a) ∧
  (∀ (hinb : ∀ a, (k0_off190 v4258) a + S1x128x512.size a ≤ S16x256x512.size a), (Rect.unit (s := S16x256x512) (k0_off190 v4258) S1x128x512.size hinb).WholeWords (EltTy.packing .bf16))
theorem k0_off187_inb : ∀ (v4258 : BitVec 32) (k0_hw21 : k0_chk21 v4258), ∀ a, (k0_off187 v4258) a + S1x256x256.size a ≤ S16x512x256.size a := fun v4258 k0_hw21 => k0_hw21.1
theorem k0_off187_wordsbf16 : ∀ (v4258 : BitVec 32) (k0_hw21 : k0_chk21 v4258), (Rect.unit (s := S16x512x256) (k0_off187 v4258) S1x256x256.size (k0_off187_inb v4258 k0_hw21)).WholeWords (EltTy.packing .bf16) := fun v4258 k0_hw21 => k0_hw21.2.1 (k0_off187_inb v4258 k0_hw21)
theorem k0_off188_inb : ∀ (v4258 : BitVec 32) (k0_hw21 : k0_chk21 v4258), ∀ a, (k0_off188 v4258) a + S1x256x256.size a ≤ S16x512x256.size a := fun v4258 k0_hw21 => k0_hw21.2.2.1
theorem k0_off188_wordsbf16 : ∀ (v4258 : BitVec 32) (k0_hw21 : k0_chk21 v4258), (Rect.unit (s := S16x512x256) (k0_off188 v4258) S1x256x256.size (k0_off188_inb v4258 k0_hw21)).WholeWords (EltTy.packing .bf16) := fun v4258 k0_hw21 => k0_hw21.2.2.2.1 (k0_off188_inb v4258 k0_hw21)
theorem k0_off189_inb : ∀ (v4258 : BitVec 32) (k0_hw21 : k0_chk21 v4258), ∀ a, (k0_off189 v4258) a + S1x128x512.size a ≤ S16x256x512.size a := fun v4258 k0_hw21 => k0_hw21.2.2.2.2.1
theorem k0_off189_wordsbf16 : ∀ (v4258 : BitVec 32) (k0_hw21 : k0_chk21 v4258), (Rect.unit (s := S16x256x512) (k0_off189 v4258) S1x128x512.size (k0_off189_inb v4258 k0_hw21)).WholeWords (EltTy.packing .bf16) := fun v4258 k0_hw21 => k0_hw21.2.2.2.2.2.1 (k0_off189_inb v4258 k0_hw21)
theorem k0_off190_inb : ∀ (v4258 : BitVec 32) (k0_hw21 : k0_chk21 v4258), ∀ a, (k0_off190 v4258) a + S1x128x512.size a ≤ S16x256x512.size a := fun v4258 k0_hw21 => k0_hw21.2.2.2.2.2.2.1
theorem k0_off190_wordsbf16 : ∀ (v4258 : BitVec 32) (k0_hw21 : k0_chk21 v4258), (Rect.unit (s := S16x256x512) (k0_off190 v4258) S1x128x512.size (k0_off190_inb v4258 k0_hw21)).WholeWords (EltTy.packing .bf16) := fun v4258 k0_hw21 => k0_hw21.2.2.2.2.2.2.2 (k0_off190_inb v4258 k0_hw21)

def k0_off191 (v5 : BitVec 32) : Fin 1 → Nat :=
  let c3_i32_3096 : BitVec 32 := 3#32
  let v4283 : BitVec 32 := Scalar.subi v5 c3_i32_3096
  let c16_i32_3097 : BitVec 32 := 16#32
  let v4284 : BitVec 32 := Scalar.addi v4283 c16_i32_3097
  let c16_i32_3098 : BitVec 32 := 16#32
  let v4285 : BitVec 32 := Scalar.remsi v4284 c16_i32_3098
  let v4286 : Index := Scalar.indexCast v4285
  ![v4286.toNat]
def k0_off192 (v4287 : BitVec 32) : Fin 3 → Nat :=
  let c0_i32_3104 : BitVec 32 := 0#32
  let c0_i32_3105 : BitVec 32 := 0#32
  ![v4287.toNat, 0, 0]

def k0_off193 (v4287 : BitVec 32) : Fin 3 → Nat :=
  let c256_i32_3113 : BitVec 32 := 256#32
  let c0_i32_3114 : BitVec 32 := 0#32
  ![v4287.toNat, 256, 0]
def k0_off194 (v4287 : BitVec 32) : Fin 3 → Nat :=
  let c0_i32_3122 : BitVec 32 := 0#32
  let c0_i32_3123 : BitVec 32 := 0#32
  ![v4287.toNat, 0, 0]
def k0_off195 (v4287 : BitVec 32) : Fin 3 → Nat :=
  let c128_i32_3131 : BitVec 32 := 128#32
  let c0_i32_3132 : BitVec 32 := 0#32
  ![v4287.toNat, 128, 0]

def k0_chk22 (v4287 : BitVec 32) : Prop :=
  (∀ a, (k0_off192 v4287) a + S1x256x256.size a ≤ S16x512x256.size a) ∧
  (∀ (hinb : ∀ a, (k0_off192 v4287) a + S1x256x256.size a ≤ S16x512x256.size a), (Rect.unit (s := S16x512x256) (k0_off192 v4287) S1x256x256.size hinb).WholeWords (EltTy.packing .bf16)) ∧
  (∀ a, (k0_off193 v4287) a + S1x256x256.size a ≤ S16x512x256.size a) ∧
  (∀ (hinb : ∀ a, (k0_off193 v4287) a + S1x256x256.size a ≤ S16x512x256.size a), (Rect.unit (s := S16x512x256) (k0_off193 v4287) S1x256x256.size hinb).WholeWords (EltTy.packing .bf16)) ∧
  (∀ a, (k0_off194 v4287) a + S1x128x512.size a ≤ S16x256x512.size a) ∧
  (∀ (hinb : ∀ a, (k0_off194 v4287) a + S1x128x512.size a ≤ S16x256x512.size a), (Rect.unit (s := S16x256x512) (k0_off194 v4287) S1x128x512.size hinb).WholeWords (EltTy.packing .bf16)) ∧
  (∀ a, (k0_off195 v4287) a + S1x128x512.size a ≤ S16x256x512.size a) ∧
  (∀ (hinb : ∀ a, (k0_off195 v4287) a + S1x128x512.size a ≤ S16x256x512.size a), (Rect.unit (s := S16x256x512) (k0_off195 v4287) S1x128x512.size hinb).WholeWords (EltTy.packing .bf16))
theorem k0_off192_inb : ∀ (v4287 : BitVec 32) (k0_hw22 : k0_chk22 v4287), ∀ a, (k0_off192 v4287) a + S1x256x256.size a ≤ S16x512x256.size a := fun v4287 k0_hw22 => k0_hw22.1
theorem k0_off192_wordsbf16 : ∀ (v4287 : BitVec 32) (k0_hw22 : k0_chk22 v4287), (Rect.unit (s := S16x512x256) (k0_off192 v4287) S1x256x256.size (k0_off192_inb v4287 k0_hw22)).WholeWords (EltTy.packing .bf16) := fun v4287 k0_hw22 => k0_hw22.2.1 (k0_off192_inb v4287 k0_hw22)
theorem k0_off193_inb : ∀ (v4287 : BitVec 32) (k0_hw22 : k0_chk22 v4287), ∀ a, (k0_off193 v4287) a + S1x256x256.size a ≤ S16x512x256.size a := fun v4287 k0_hw22 => k0_hw22.2.2.1
theorem k0_off193_wordsbf16 : ∀ (v4287 : BitVec 32) (k0_hw22 : k0_chk22 v4287), (Rect.unit (s := S16x512x256) (k0_off193 v4287) S1x256x256.size (k0_off193_inb v4287 k0_hw22)).WholeWords (EltTy.packing .bf16) := fun v4287 k0_hw22 => k0_hw22.2.2.2.1 (k0_off193_inb v4287 k0_hw22)
theorem k0_off194_inb : ∀ (v4287 : BitVec 32) (k0_hw22 : k0_chk22 v4287), ∀ a, (k0_off194 v4287) a + S1x128x512.size a ≤ S16x256x512.size a := fun v4287 k0_hw22 => k0_hw22.2.2.2.2.1
theorem k0_off194_wordsbf16 : ∀ (v4287 : BitVec 32) (k0_hw22 : k0_chk22 v4287), (Rect.unit (s := S16x256x512) (k0_off194 v4287) S1x128x512.size (k0_off194_inb v4287 k0_hw22)).WholeWords (EltTy.packing .bf16) := fun v4287 k0_hw22 => k0_hw22.2.2.2.2.2.1 (k0_off194_inb v4287 k0_hw22)
theorem k0_off195_inb : ∀ (v4287 : BitVec 32) (k0_hw22 : k0_chk22 v4287), ∀ a, (k0_off195 v4287) a + S1x128x512.size a ≤ S16x256x512.size a := fun v4287 k0_hw22 => k0_hw22.2.2.2.2.2.2.1
theorem k0_off195_wordsbf16 : ∀ (v4287 : BitVec 32) (k0_hw22 : k0_chk22 v4287), (Rect.unit (s := S16x256x512) (k0_off195 v4287) S1x128x512.size (k0_off195_inb v4287 k0_hw22)).WholeWords (EltTy.packing .bf16) := fun v4287 k0_hw22 => k0_hw22.2.2.2.2.2.2.2 (k0_off195_inb v4287 k0_hw22)

def k0_off196 (v5 : BitVec 32) : Fin 1 → Nat :=
  let c4_i32_3135 : BitVec 32 := 4#32
  let v4312 : BitVec 32 := Scalar.subi v5 c4_i32_3135
  let c16_i32_3136 : BitVec 32 := 16#32
  let v4313 : BitVec 32 := Scalar.addi v4312 c16_i32_3136
  let c16_i32_3137 : BitVec 32 := 16#32
  let v4314 : BitVec 32 := Scalar.remsi v4313 c16_i32_3137
  let v4315 : Index := Scalar.indexCast v4314
  ![v4315.toNat]
def k0_off197 (v4316 : BitVec 32) : Fin 3 → Nat :=
  let c0_i32_3143 : BitVec 32 := 0#32
  let c0_i32_3144 : BitVec 32 := 0#32
  ![v4316.toNat, 0, 0]

def k0_off198 (v4316 : BitVec 32) : Fin 3 → Nat :=
  let c256_i32_3152 : BitVec 32 := 256#32
  let c0_i32_3153 : BitVec 32 := 0#32
  ![v4316.toNat, 256, 0]
def k0_off199 (v4316 : BitVec 32) : Fin 3 → Nat :=
  let c0_i32_3161 : BitVec 32 := 0#32
  let c0_i32_3162 : BitVec 32 := 0#32
  ![v4316.toNat, 0, 0]
def k0_off200 (v4316 : BitVec 32) : Fin 3 → Nat :=
  let c128_i32_3170 : BitVec 32 := 128#32
  let c0_i32_3171 : BitVec 32 := 0#32
  ![v4316.toNat, 128, 0]

def k0_chk23 (v4316 : BitVec 32) : Prop :=
  (∀ a, (k0_off197 v4316) a + S1x256x256.size a ≤ S16x512x256.size a) ∧
  (∀ (hinb : ∀ a, (k0_off197 v4316) a + S1x256x256.size a ≤ S16x512x256.size a), (Rect.unit (s := S16x512x256) (k0_off197 v4316) S1x256x256.size hinb).WholeWords (EltTy.packing .bf16)) ∧
  (∀ a, (k0_off198 v4316) a + S1x256x256.size a ≤ S16x512x256.size a) ∧
  (∀ (hinb : ∀ a, (k0_off198 v4316) a + S1x256x256.size a ≤ S16x512x256.size a), (Rect.unit (s := S16x512x256) (k0_off198 v4316) S1x256x256.size hinb).WholeWords (EltTy.packing .bf16)) ∧
  (∀ a, (k0_off199 v4316) a + S1x128x512.size a ≤ S16x256x512.size a) ∧
  (∀ (hinb : ∀ a, (k0_off199 v4316) a + S1x128x512.size a ≤ S16x256x512.size a), (Rect.unit (s := S16x256x512) (k0_off199 v4316) S1x128x512.size hinb).WholeWords (EltTy.packing .bf16)) ∧
  (∀ a, (k0_off200 v4316) a + S1x128x512.size a ≤ S16x256x512.size a) ∧
  (∀ (hinb : ∀ a, (k0_off200 v4316) a + S1x128x512.size a ≤ S16x256x512.size a), (Rect.unit (s := S16x256x512) (k0_off200 v4316) S1x128x512.size hinb).WholeWords (EltTy.packing .bf16))
theorem k0_off197_inb : ∀ (v4316 : BitVec 32) (k0_hw23 : k0_chk23 v4316), ∀ a, (k0_off197 v4316) a + S1x256x256.size a ≤ S16x512x256.size a := fun v4316 k0_hw23 => k0_hw23.1
theorem k0_off197_wordsbf16 : ∀ (v4316 : BitVec 32) (k0_hw23 : k0_chk23 v4316), (Rect.unit (s := S16x512x256) (k0_off197 v4316) S1x256x256.size (k0_off197_inb v4316 k0_hw23)).WholeWords (EltTy.packing .bf16) := fun v4316 k0_hw23 => k0_hw23.2.1 (k0_off197_inb v4316 k0_hw23)
theorem k0_off198_inb : ∀ (v4316 : BitVec 32) (k0_hw23 : k0_chk23 v4316), ∀ a, (k0_off198 v4316) a + S1x256x256.size a ≤ S16x512x256.size a := fun v4316 k0_hw23 => k0_hw23.2.2.1
theorem k0_off198_wordsbf16 : ∀ (v4316 : BitVec 32) (k0_hw23 : k0_chk23 v4316), (Rect.unit (s := S16x512x256) (k0_off198 v4316) S1x256x256.size (k0_off198_inb v4316 k0_hw23)).WholeWords (EltTy.packing .bf16) := fun v4316 k0_hw23 => k0_hw23.2.2.2.1 (k0_off198_inb v4316 k0_hw23)
theorem k0_off199_inb : ∀ (v4316 : BitVec 32) (k0_hw23 : k0_chk23 v4316), ∀ a, (k0_off199 v4316) a + S1x128x512.size a ≤ S16x256x512.size a := fun v4316 k0_hw23 => k0_hw23.2.2.2.2.1
theorem k0_off199_wordsbf16 : ∀ (v4316 : BitVec 32) (k0_hw23 : k0_chk23 v4316), (Rect.unit (s := S16x256x512) (k0_off199 v4316) S1x128x512.size (k0_off199_inb v4316 k0_hw23)).WholeWords (EltTy.packing .bf16) := fun v4316 k0_hw23 => k0_hw23.2.2.2.2.2.1 (k0_off199_inb v4316 k0_hw23)
theorem k0_off200_inb : ∀ (v4316 : BitVec 32) (k0_hw23 : k0_chk23 v4316), ∀ a, (k0_off200 v4316) a + S1x128x512.size a ≤ S16x256x512.size a := fun v4316 k0_hw23 => k0_hw23.2.2.2.2.2.2.1
theorem k0_off200_wordsbf16 : ∀ (v4316 : BitVec 32) (k0_hw23 : k0_chk23 v4316), (Rect.unit (s := S16x256x512) (k0_off200 v4316) S1x128x512.size (k0_off200_inb v4316 k0_hw23)).WholeWords (EltTy.packing .bf16) := fun v4316 k0_hw23 => k0_hw23.2.2.2.2.2.2.2 (k0_off200_inb v4316 k0_hw23)

def k0_off201 (v5 : BitVec 32) : Fin 1 → Nat :=
  let c5_i32_3174 : BitVec 32 := 5#32
  let v4341 : BitVec 32 := Scalar.subi v5 c5_i32_3174
  let c16_i32_3175 : BitVec 32 := 16#32
  let v4342 : BitVec 32 := Scalar.addi v4341 c16_i32_3175
  let c16_i32_3176 : BitVec 32 := 16#32
  let v4343 : BitVec 32 := Scalar.remsi v4342 c16_i32_3176
  let v4344 : Index := Scalar.indexCast v4343
  ![v4344.toNat]
def k0_off202 (v4345 : BitVec 32) : Fin 3 → Nat :=
  let c0_i32_3182 : BitVec 32 := 0#32
  let c0_i32_3183 : BitVec 32 := 0#32
  ![v4345.toNat, 0, 0]

def k0_off203 (v4345 : BitVec 32) : Fin 3 → Nat :=
  let c256_i32_3191 : BitVec 32 := 256#32
  let c0_i32_3192 : BitVec 32 := 0#32
  ![v4345.toNat, 256, 0]
def k0_off204 (v4345 : BitVec 32) : Fin 3 → Nat :=
  let c0_i32_3200 : BitVec 32 := 0#32
  let c0_i32_3201 : BitVec 32 := 0#32
  ![v4345.toNat, 0, 0]
def k0_off205 (v4345 : BitVec 32) : Fin 3 → Nat :=
  let c128_i32_3209 : BitVec 32 := 128#32
  let c0_i32_3210 : BitVec 32 := 0#32
  ![v4345.toNat, 128, 0]

def k0_chk24 (v4345 : BitVec 32) : Prop :=
  (∀ a, (k0_off202 v4345) a + S1x256x256.size a ≤ S16x512x256.size a) ∧
  (∀ (hinb : ∀ a, (k0_off202 v4345) a + S1x256x256.size a ≤ S16x512x256.size a), (Rect.unit (s := S16x512x256) (k0_off202 v4345) S1x256x256.size hinb).WholeWords (EltTy.packing .bf16)) ∧
  (∀ a, (k0_off203 v4345) a + S1x256x256.size a ≤ S16x512x256.size a) ∧
  (∀ (hinb : ∀ a, (k0_off203 v4345) a + S1x256x256.size a ≤ S16x512x256.size a), (Rect.unit (s := S16x512x256) (k0_off203 v4345) S1x256x256.size hinb).WholeWords (EltTy.packing .bf16)) ∧
  (∀ a, (k0_off204 v4345) a + S1x128x512.size a ≤ S16x256x512.size a) ∧
  (∀ (hinb : ∀ a, (k0_off204 v4345) a + S1x128x512.size a ≤ S16x256x512.size a), (Rect.unit (s := S16x256x512) (k0_off204 v4345) S1x128x512.size hinb).WholeWords (EltTy.packing .bf16)) ∧
  (∀ a, (k0_off205 v4345) a + S1x128x512.size a ≤ S16x256x512.size a) ∧
  (∀ (hinb : ∀ a, (k0_off205 v4345) a + S1x128x512.size a ≤ S16x256x512.size a), (Rect.unit (s := S16x256x512) (k0_off205 v4345) S1x128x512.size hinb).WholeWords (EltTy.packing .bf16))
theorem k0_off202_inb : ∀ (v4345 : BitVec 32) (k0_hw24 : k0_chk24 v4345), ∀ a, (k0_off202 v4345) a + S1x256x256.size a ≤ S16x512x256.size a := fun v4345 k0_hw24 => k0_hw24.1
theorem k0_off202_wordsbf16 : ∀ (v4345 : BitVec 32) (k0_hw24 : k0_chk24 v4345), (Rect.unit (s := S16x512x256) (k0_off202 v4345) S1x256x256.size (k0_off202_inb v4345 k0_hw24)).WholeWords (EltTy.packing .bf16) := fun v4345 k0_hw24 => k0_hw24.2.1 (k0_off202_inb v4345 k0_hw24)
theorem k0_off203_inb : ∀ (v4345 : BitVec 32) (k0_hw24 : k0_chk24 v4345), ∀ a, (k0_off203 v4345) a + S1x256x256.size a ≤ S16x512x256.size a := fun v4345 k0_hw24 => k0_hw24.2.2.1
theorem k0_off203_wordsbf16 : ∀ (v4345 : BitVec 32) (k0_hw24 : k0_chk24 v4345), (Rect.unit (s := S16x512x256) (k0_off203 v4345) S1x256x256.size (k0_off203_inb v4345 k0_hw24)).WholeWords (EltTy.packing .bf16) := fun v4345 k0_hw24 => k0_hw24.2.2.2.1 (k0_off203_inb v4345 k0_hw24)
theorem k0_off204_inb : ∀ (v4345 : BitVec 32) (k0_hw24 : k0_chk24 v4345), ∀ a, (k0_off204 v4345) a + S1x128x512.size a ≤ S16x256x512.size a := fun v4345 k0_hw24 => k0_hw24.2.2.2.2.1
theorem k0_off204_wordsbf16 : ∀ (v4345 : BitVec 32) (k0_hw24 : k0_chk24 v4345), (Rect.unit (s := S16x256x512) (k0_off204 v4345) S1x128x512.size (k0_off204_inb v4345 k0_hw24)).WholeWords (EltTy.packing .bf16) := fun v4345 k0_hw24 => k0_hw24.2.2.2.2.2.1 (k0_off204_inb v4345 k0_hw24)
theorem k0_off205_inb : ∀ (v4345 : BitVec 32) (k0_hw24 : k0_chk24 v4345), ∀ a, (k0_off205 v4345) a + S1x128x512.size a ≤ S16x256x512.size a := fun v4345 k0_hw24 => k0_hw24.2.2.2.2.2.2.1
theorem k0_off205_wordsbf16 : ∀ (v4345 : BitVec 32) (k0_hw24 : k0_chk24 v4345), (Rect.unit (s := S16x256x512) (k0_off205 v4345) S1x128x512.size (k0_off205_inb v4345 k0_hw24)).WholeWords (EltTy.packing .bf16) := fun v4345 k0_hw24 => k0_hw24.2.2.2.2.2.2.2 (k0_off205_inb v4345 k0_hw24)

def k0_off206 (v5 : BitVec 32) : Fin 1 → Nat :=
  let c6_i32_3213 : BitVec 32 := 6#32
  let v4370 : BitVec 32 := Scalar.subi v5 c6_i32_3213
  let c16_i32_3214 : BitVec 32 := 16#32
  let v4371 : BitVec 32 := Scalar.addi v4370 c16_i32_3214
  let c16_i32_3215 : BitVec 32 := 16#32
  let v4372 : BitVec 32 := Scalar.remsi v4371 c16_i32_3215
  let v4373 : Index := Scalar.indexCast v4372
  ![v4373.toNat]
def k0_off207 (v4374 : BitVec 32) : Fin 3 → Nat :=
  let c0_i32_3221 : BitVec 32 := 0#32
  let c0_i32_3222 : BitVec 32 := 0#32
  ![v4374.toNat, 0, 0]

def k0_off208 (v4374 : BitVec 32) : Fin 3 → Nat :=
  let c256_i32_3230 : BitVec 32 := 256#32
  let c0_i32_3231 : BitVec 32 := 0#32
  ![v4374.toNat, 256, 0]
def k0_off209 (v4374 : BitVec 32) : Fin 3 → Nat :=
  let c0_i32_3239 : BitVec 32 := 0#32
  let c0_i32_3240 : BitVec 32 := 0#32
  ![v4374.toNat, 0, 0]
def k0_off210 (v4374 : BitVec 32) : Fin 3 → Nat :=
  let c128_i32_3248 : BitVec 32 := 128#32
  let c0_i32_3249 : BitVec 32 := 0#32
  ![v4374.toNat, 128, 0]

def k0_chk25 (v4374 : BitVec 32) : Prop :=
  (∀ a, (k0_off207 v4374) a + S1x256x256.size a ≤ S16x512x256.size a) ∧
  (∀ (hinb : ∀ a, (k0_off207 v4374) a + S1x256x256.size a ≤ S16x512x256.size a), (Rect.unit (s := S16x512x256) (k0_off207 v4374) S1x256x256.size hinb).WholeWords (EltTy.packing .bf16)) ∧
  (∀ a, (k0_off208 v4374) a + S1x256x256.size a ≤ S16x512x256.size a) ∧
  (∀ (hinb : ∀ a, (k0_off208 v4374) a + S1x256x256.size a ≤ S16x512x256.size a), (Rect.unit (s := S16x512x256) (k0_off208 v4374) S1x256x256.size hinb).WholeWords (EltTy.packing .bf16)) ∧
  (∀ a, (k0_off209 v4374) a + S1x128x512.size a ≤ S16x256x512.size a) ∧
  (∀ (hinb : ∀ a, (k0_off209 v4374) a + S1x128x512.size a ≤ S16x256x512.size a), (Rect.unit (s := S16x256x512) (k0_off209 v4374) S1x128x512.size hinb).WholeWords (EltTy.packing .bf16)) ∧
  (∀ a, (k0_off210 v4374) a + S1x128x512.size a ≤ S16x256x512.size a) ∧
  (∀ (hinb : ∀ a, (k0_off210 v4374) a + S1x128x512.size a ≤ S16x256x512.size a), (Rect.unit (s := S16x256x512) (k0_off210 v4374) S1x128x512.size hinb).WholeWords (EltTy.packing .bf16))
theorem k0_off207_inb : ∀ (v4374 : BitVec 32) (k0_hw25 : k0_chk25 v4374), ∀ a, (k0_off207 v4374) a + S1x256x256.size a ≤ S16x512x256.size a := fun v4374 k0_hw25 => k0_hw25.1
theorem k0_off207_wordsbf16 : ∀ (v4374 : BitVec 32) (k0_hw25 : k0_chk25 v4374), (Rect.unit (s := S16x512x256) (k0_off207 v4374) S1x256x256.size (k0_off207_inb v4374 k0_hw25)).WholeWords (EltTy.packing .bf16) := fun v4374 k0_hw25 => k0_hw25.2.1 (k0_off207_inb v4374 k0_hw25)
theorem k0_off208_inb : ∀ (v4374 : BitVec 32) (k0_hw25 : k0_chk25 v4374), ∀ a, (k0_off208 v4374) a + S1x256x256.size a ≤ S16x512x256.size a := fun v4374 k0_hw25 => k0_hw25.2.2.1
theorem k0_off208_wordsbf16 : ∀ (v4374 : BitVec 32) (k0_hw25 : k0_chk25 v4374), (Rect.unit (s := S16x512x256) (k0_off208 v4374) S1x256x256.size (k0_off208_inb v4374 k0_hw25)).WholeWords (EltTy.packing .bf16) := fun v4374 k0_hw25 => k0_hw25.2.2.2.1 (k0_off208_inb v4374 k0_hw25)
theorem k0_off209_inb : ∀ (v4374 : BitVec 32) (k0_hw25 : k0_chk25 v4374), ∀ a, (k0_off209 v4374) a + S1x128x512.size a ≤ S16x256x512.size a := fun v4374 k0_hw25 => k0_hw25.2.2.2.2.1
theorem k0_off209_wordsbf16 : ∀ (v4374 : BitVec 32) (k0_hw25 : k0_chk25 v4374), (Rect.unit (s := S16x256x512) (k0_off209 v4374) S1x128x512.size (k0_off209_inb v4374 k0_hw25)).WholeWords (EltTy.packing .bf16) := fun v4374 k0_hw25 => k0_hw25.2.2.2.2.2.1 (k0_off209_inb v4374 k0_hw25)
theorem k0_off210_inb : ∀ (v4374 : BitVec 32) (k0_hw25 : k0_chk25 v4374), ∀ a, (k0_off210 v4374) a + S1x128x512.size a ≤ S16x256x512.size a := fun v4374 k0_hw25 => k0_hw25.2.2.2.2.2.2.1
theorem k0_off210_wordsbf16 : ∀ (v4374 : BitVec 32) (k0_hw25 : k0_chk25 v4374), (Rect.unit (s := S16x256x512) (k0_off210 v4374) S1x128x512.size (k0_off210_inb v4374 k0_hw25)).WholeWords (EltTy.packing .bf16) := fun v4374 k0_hw25 => k0_hw25.2.2.2.2.2.2.2 (k0_off210_inb v4374 k0_hw25)

def k0_off211 (v5 : BitVec 32) : Fin 1 → Nat :=
  let c7_i32_3252 : BitVec 32 := 7#32
  let v4399 : BitVec 32 := Scalar.subi v5 c7_i32_3252
  let c16_i32_3253 : BitVec 32 := 16#32
  let v4400 : BitVec 32 := Scalar.addi v4399 c16_i32_3253
  let c16_i32_3254 : BitVec 32 := 16#32
  let v4401 : BitVec 32 := Scalar.remsi v4400 c16_i32_3254
  let v4402 : Index := Scalar.indexCast v4401
  ![v4402.toNat]
def k0_off212 (v4403 : BitVec 32) : Fin 3 → Nat :=
  let c0_i32_3260 : BitVec 32 := 0#32
  let c0_i32_3261 : BitVec 32 := 0#32
  ![v4403.toNat, 0, 0]

def k0_off213 (v4403 : BitVec 32) : Fin 3 → Nat :=
  let c256_i32_3269 : BitVec 32 := 256#32
  let c0_i32_3270 : BitVec 32 := 0#32
  ![v4403.toNat, 256, 0]
def k0_off214 (v4403 : BitVec 32) : Fin 3 → Nat :=
  let c0_i32_3278 : BitVec 32 := 0#32
  let c0_i32_3279 : BitVec 32 := 0#32
  ![v4403.toNat, 0, 0]
def k0_off215 (v4403 : BitVec 32) : Fin 3 → Nat :=
  let c128_i32_3287 : BitVec 32 := 128#32
  let c0_i32_3288 : BitVec 32 := 0#32
  ![v4403.toNat, 128, 0]

def k0_chk26 (v4403 : BitVec 32) : Prop :=
  (∀ a, (k0_off212 v4403) a + S1x256x256.size a ≤ S16x512x256.size a) ∧
  (∀ (hinb : ∀ a, (k0_off212 v4403) a + S1x256x256.size a ≤ S16x512x256.size a), (Rect.unit (s := S16x512x256) (k0_off212 v4403) S1x256x256.size hinb).WholeWords (EltTy.packing .bf16)) ∧
  (∀ a, (k0_off213 v4403) a + S1x256x256.size a ≤ S16x512x256.size a) ∧
  (∀ (hinb : ∀ a, (k0_off213 v4403) a + S1x256x256.size a ≤ S16x512x256.size a), (Rect.unit (s := S16x512x256) (k0_off213 v4403) S1x256x256.size hinb).WholeWords (EltTy.packing .bf16)) ∧
  (∀ a, (k0_off214 v4403) a + S1x128x512.size a ≤ S16x256x512.size a) ∧
  (∀ (hinb : ∀ a, (k0_off214 v4403) a + S1x128x512.size a ≤ S16x256x512.size a), (Rect.unit (s := S16x256x512) (k0_off214 v4403) S1x128x512.size hinb).WholeWords (EltTy.packing .bf16)) ∧
  (∀ a, (k0_off215 v4403) a + S1x128x512.size a ≤ S16x256x512.size a) ∧
  (∀ (hinb : ∀ a, (k0_off215 v4403) a + S1x128x512.size a ≤ S16x256x512.size a), (Rect.unit (s := S16x256x512) (k0_off215 v4403) S1x128x512.size hinb).WholeWords (EltTy.packing .bf16))
theorem k0_off212_inb : ∀ (v4403 : BitVec 32) (k0_hw26 : k0_chk26 v4403), ∀ a, (k0_off212 v4403) a + S1x256x256.size a ≤ S16x512x256.size a := fun v4403 k0_hw26 => k0_hw26.1
theorem k0_off212_wordsbf16 : ∀ (v4403 : BitVec 32) (k0_hw26 : k0_chk26 v4403), (Rect.unit (s := S16x512x256) (k0_off212 v4403) S1x256x256.size (k0_off212_inb v4403 k0_hw26)).WholeWords (EltTy.packing .bf16) := fun v4403 k0_hw26 => k0_hw26.2.1 (k0_off212_inb v4403 k0_hw26)
theorem k0_off213_inb : ∀ (v4403 : BitVec 32) (k0_hw26 : k0_chk26 v4403), ∀ a, (k0_off213 v4403) a + S1x256x256.size a ≤ S16x512x256.size a := fun v4403 k0_hw26 => k0_hw26.2.2.1
theorem k0_off213_wordsbf16 : ∀ (v4403 : BitVec 32) (k0_hw26 : k0_chk26 v4403), (Rect.unit (s := S16x512x256) (k0_off213 v4403) S1x256x256.size (k0_off213_inb v4403 k0_hw26)).WholeWords (EltTy.packing .bf16) := fun v4403 k0_hw26 => k0_hw26.2.2.2.1 (k0_off213_inb v4403 k0_hw26)
theorem k0_off214_inb : ∀ (v4403 : BitVec 32) (k0_hw26 : k0_chk26 v4403), ∀ a, (k0_off214 v4403) a + S1x128x512.size a ≤ S16x256x512.size a := fun v4403 k0_hw26 => k0_hw26.2.2.2.2.1
theorem k0_off214_wordsbf16 : ∀ (v4403 : BitVec 32) (k0_hw26 : k0_chk26 v4403), (Rect.unit (s := S16x256x512) (k0_off214 v4403) S1x128x512.size (k0_off214_inb v4403 k0_hw26)).WholeWords (EltTy.packing .bf16) := fun v4403 k0_hw26 => k0_hw26.2.2.2.2.2.1 (k0_off214_inb v4403 k0_hw26)
theorem k0_off215_inb : ∀ (v4403 : BitVec 32) (k0_hw26 : k0_chk26 v4403), ∀ a, (k0_off215 v4403) a + S1x128x512.size a ≤ S16x256x512.size a := fun v4403 k0_hw26 => k0_hw26.2.2.2.2.2.2.1
theorem k0_off215_wordsbf16 : ∀ (v4403 : BitVec 32) (k0_hw26 : k0_chk26 v4403), (Rect.unit (s := S16x256x512) (k0_off215 v4403) S1x128x512.size (k0_off215_inb v4403 k0_hw26)).WholeWords (EltTy.packing .bf16) := fun v4403 k0_hw26 => k0_hw26.2.2.2.2.2.2.2 (k0_off215_inb v4403 k0_hw26)

def k0_off216 (v5 : BitVec 32) : Fin 1 → Nat :=
  let c0_i32_3291 : BitVec 32 := 0#32
  let v4428 : BitVec 32 := Scalar.addi v5 c0_i32_3291
  let c16_i32_3292 : BitVec 32 := 16#32
  let v4429 : BitVec 32 := Scalar.remsi v4428 c16_i32_3292
  let v4430 : Index := Scalar.indexCast v4429
  ![v4430.toNat]
def k0_off217 (v4431 : BitVec 32) : Fin 3 → Nat :=
  let c0_i32_3298 : BitVec 32 := 0#32
  let c0_i32_3299 : BitVec 32 := 0#32
  ![v4431.toNat, 0, 0]

def k0_off218 (v4431 : BitVec 32) : Fin 3 → Nat :=
  let c256_i32_3307 : BitVec 32 := 256#32
  let c0_i32_3308 : BitVec 32 := 0#32
  ![v4431.toNat, 256, 0]
def k0_off219 (v4431 : BitVec 32) : Fin 3 → Nat :=
  let c0_i32_3316 : BitVec 32 := 0#32
  let c0_i32_3317 : BitVec 32 := 0#32
  ![v4431.toNat, 0, 0]
def k0_off220 (v4431 : BitVec 32) : Fin 3 → Nat :=
  let c128_i32_3325 : BitVec 32 := 128#32
  let c0_i32_3326 : BitVec 32 := 0#32
  ![v4431.toNat, 128, 0]

def k0_chk27 (v4431 : BitVec 32) : Prop :=
  (∀ a, (k0_off217 v4431) a + S1x256x256.size a ≤ S16x512x256.size a) ∧
  (∀ (hinb : ∀ a, (k0_off217 v4431) a + S1x256x256.size a ≤ S16x512x256.size a), (Rect.unit (s := S16x512x256) (k0_off217 v4431) S1x256x256.size hinb).WholeWords (EltTy.packing .bf16)) ∧
  (∀ a, (k0_off218 v4431) a + S1x256x256.size a ≤ S16x512x256.size a) ∧
  (∀ (hinb : ∀ a, (k0_off218 v4431) a + S1x256x256.size a ≤ S16x512x256.size a), (Rect.unit (s := S16x512x256) (k0_off218 v4431) S1x256x256.size hinb).WholeWords (EltTy.packing .bf16)) ∧
  (∀ a, (k0_off219 v4431) a + S1x128x512.size a ≤ S16x256x512.size a) ∧
  (∀ (hinb : ∀ a, (k0_off219 v4431) a + S1x128x512.size a ≤ S16x256x512.size a), (Rect.unit (s := S16x256x512) (k0_off219 v4431) S1x128x512.size hinb).WholeWords (EltTy.packing .bf16)) ∧
  (∀ a, (k0_off220 v4431) a + S1x128x512.size a ≤ S16x256x512.size a) ∧
  (∀ (hinb : ∀ a, (k0_off220 v4431) a + S1x128x512.size a ≤ S16x256x512.size a), (Rect.unit (s := S16x256x512) (k0_off220 v4431) S1x128x512.size hinb).WholeWords (EltTy.packing .bf16))
theorem k0_off217_inb : ∀ (v4431 : BitVec 32) (k0_hw27 : k0_chk27 v4431), ∀ a, (k0_off217 v4431) a + S1x256x256.size a ≤ S16x512x256.size a := fun v4431 k0_hw27 => k0_hw27.1
theorem k0_off217_wordsbf16 : ∀ (v4431 : BitVec 32) (k0_hw27 : k0_chk27 v4431), (Rect.unit (s := S16x512x256) (k0_off217 v4431) S1x256x256.size (k0_off217_inb v4431 k0_hw27)).WholeWords (EltTy.packing .bf16) := fun v4431 k0_hw27 => k0_hw27.2.1 (k0_off217_inb v4431 k0_hw27)
theorem k0_off218_inb : ∀ (v4431 : BitVec 32) (k0_hw27 : k0_chk27 v4431), ∀ a, (k0_off218 v4431) a + S1x256x256.size a ≤ S16x512x256.size a := fun v4431 k0_hw27 => k0_hw27.2.2.1
theorem k0_off218_wordsbf16 : ∀ (v4431 : BitVec 32) (k0_hw27 : k0_chk27 v4431), (Rect.unit (s := S16x512x256) (k0_off218 v4431) S1x256x256.size (k0_off218_inb v4431 k0_hw27)).WholeWords (EltTy.packing .bf16) := fun v4431 k0_hw27 => k0_hw27.2.2.2.1 (k0_off218_inb v4431 k0_hw27)
theorem k0_off219_inb : ∀ (v4431 : BitVec 32) (k0_hw27 : k0_chk27 v4431), ∀ a, (k0_off219 v4431) a + S1x128x512.size a ≤ S16x256x512.size a := fun v4431 k0_hw27 => k0_hw27.2.2.2.2.1
theorem k0_off219_wordsbf16 : ∀ (v4431 : BitVec 32) (k0_hw27 : k0_chk27 v4431), (Rect.unit (s := S16x256x512) (k0_off219 v4431) S1x128x512.size (k0_off219_inb v4431 k0_hw27)).WholeWords (EltTy.packing .bf16) := fun v4431 k0_hw27 => k0_hw27.2.2.2.2.2.1 (k0_off219_inb v4431 k0_hw27)
theorem k0_off220_inb : ∀ (v4431 : BitVec 32) (k0_hw27 : k0_chk27 v4431), ∀ a, (k0_off220 v4431) a + S1x128x512.size a ≤ S16x256x512.size a := fun v4431 k0_hw27 => k0_hw27.2.2.2.2.2.2.1
theorem k0_off220_wordsbf16 : ∀ (v4431 : BitVec 32) (k0_hw27 : k0_chk27 v4431), (Rect.unit (s := S16x256x512) (k0_off220 v4431) S1x128x512.size (k0_off220_inb v4431 k0_hw27)).WholeWords (EltTy.packing .bf16) := fun v4431 k0_hw27 => k0_hw27.2.2.2.2.2.2.2 (k0_off220_inb v4431 k0_hw27)

def k0_off221 (v5 : BitVec 32) : Fin 1 → Nat :=
  let c1_i32_3329 : BitVec 32 := 1#32
  let v4456 : BitVec 32 := Scalar.addi v5 c1_i32_3329
  let c16_i32_3330 : BitVec 32 := 16#32
  let v4457 : BitVec 32 := Scalar.remsi v4456 c16_i32_3330
  let v4458 : Index := Scalar.indexCast v4457
  ![v4458.toNat]
def k0_off222 (v4459 : BitVec 32) : Fin 3 → Nat :=
  let c0_i32_3336 : BitVec 32 := 0#32
  let c0_i32_3337 : BitVec 32 := 0#32
  ![v4459.toNat, 0, 0]

def k0_off223 (v4459 : BitVec 32) : Fin 3 → Nat :=
  let c256_i32_3345 : BitVec 32 := 256#32
  let c0_i32_3346 : BitVec 32 := 0#32
  ![v4459.toNat, 256, 0]
def k0_off224 (v4459 : BitVec 32) : Fin 3 → Nat :=
  let c0_i32_3354 : BitVec 32 := 0#32
  let c0_i32_3355 : BitVec 32 := 0#32
  ![v4459.toNat, 0, 0]
def k0_off225 (v4459 : BitVec 32) : Fin 3 → Nat :=
  let c128_i32_3363 : BitVec 32 := 128#32
  let c0_i32_3364 : BitVec 32 := 0#32
  ![v4459.toNat, 128, 0]

def k0_chk28 (v4459 : BitVec 32) : Prop :=
  (∀ a, (k0_off222 v4459) a + S1x256x256.size a ≤ S16x512x256.size a) ∧
  (∀ (hinb : ∀ a, (k0_off222 v4459) a + S1x256x256.size a ≤ S16x512x256.size a), (Rect.unit (s := S16x512x256) (k0_off222 v4459) S1x256x256.size hinb).WholeWords (EltTy.packing .bf16)) ∧
  (∀ a, (k0_off223 v4459) a + S1x256x256.size a ≤ S16x512x256.size a) ∧
  (∀ (hinb : ∀ a, (k0_off223 v4459) a + S1x256x256.size a ≤ S16x512x256.size a), (Rect.unit (s := S16x512x256) (k0_off223 v4459) S1x256x256.size hinb).WholeWords (EltTy.packing .bf16)) ∧
  (∀ a, (k0_off224 v4459) a + S1x128x512.size a ≤ S16x256x512.size a) ∧
  (∀ (hinb : ∀ a, (k0_off224 v4459) a + S1x128x512.size a ≤ S16x256x512.size a), (Rect.unit (s := S16x256x512) (k0_off224 v4459) S1x128x512.size hinb).WholeWords (EltTy.packing .bf16)) ∧
  (∀ a, (k0_off225 v4459) a + S1x128x512.size a ≤ S16x256x512.size a) ∧
  (∀ (hinb : ∀ a, (k0_off225 v4459) a + S1x128x512.size a ≤ S16x256x512.size a), (Rect.unit (s := S16x256x512) (k0_off225 v4459) S1x128x512.size hinb).WholeWords (EltTy.packing .bf16))
theorem k0_off222_inb : ∀ (v4459 : BitVec 32) (k0_hw28 : k0_chk28 v4459), ∀ a, (k0_off222 v4459) a + S1x256x256.size a ≤ S16x512x256.size a := fun v4459 k0_hw28 => k0_hw28.1
theorem k0_off222_wordsbf16 : ∀ (v4459 : BitVec 32) (k0_hw28 : k0_chk28 v4459), (Rect.unit (s := S16x512x256) (k0_off222 v4459) S1x256x256.size (k0_off222_inb v4459 k0_hw28)).WholeWords (EltTy.packing .bf16) := fun v4459 k0_hw28 => k0_hw28.2.1 (k0_off222_inb v4459 k0_hw28)
theorem k0_off223_inb : ∀ (v4459 : BitVec 32) (k0_hw28 : k0_chk28 v4459), ∀ a, (k0_off223 v4459) a + S1x256x256.size a ≤ S16x512x256.size a := fun v4459 k0_hw28 => k0_hw28.2.2.1
theorem k0_off223_wordsbf16 : ∀ (v4459 : BitVec 32) (k0_hw28 : k0_chk28 v4459), (Rect.unit (s := S16x512x256) (k0_off223 v4459) S1x256x256.size (k0_off223_inb v4459 k0_hw28)).WholeWords (EltTy.packing .bf16) := fun v4459 k0_hw28 => k0_hw28.2.2.2.1 (k0_off223_inb v4459 k0_hw28)
theorem k0_off224_inb : ∀ (v4459 : BitVec 32) (k0_hw28 : k0_chk28 v4459), ∀ a, (k0_off224 v4459) a + S1x128x512.size a ≤ S16x256x512.size a := fun v4459 k0_hw28 => k0_hw28.2.2.2.2.1
theorem k0_off224_wordsbf16 : ∀ (v4459 : BitVec 32) (k0_hw28 : k0_chk28 v4459), (Rect.unit (s := S16x256x512) (k0_off224 v4459) S1x128x512.size (k0_off224_inb v4459 k0_hw28)).WholeWords (EltTy.packing .bf16) := fun v4459 k0_hw28 => k0_hw28.2.2.2.2.2.1 (k0_off224_inb v4459 k0_hw28)
theorem k0_off225_inb : ∀ (v4459 : BitVec 32) (k0_hw28 : k0_chk28 v4459), ∀ a, (k0_off225 v4459) a + S1x128x512.size a ≤ S16x256x512.size a := fun v4459 k0_hw28 => k0_hw28.2.2.2.2.2.2.1
theorem k0_off225_wordsbf16 : ∀ (v4459 : BitVec 32) (k0_hw28 : k0_chk28 v4459), (Rect.unit (s := S16x256x512) (k0_off225 v4459) S1x128x512.size (k0_off225_inb v4459 k0_hw28)).WholeWords (EltTy.packing .bf16) := fun v4459 k0_hw28 => k0_hw28.2.2.2.2.2.2.2 (k0_off225_inb v4459 k0_hw28)

def k0_off226 (v5 : BitVec 32) : Fin 1 → Nat :=
  let c2_i32_3367 : BitVec 32 := 2#32
  let v4484 : BitVec 32 := Scalar.addi v5 c2_i32_3367
  let c16_i32_3368 : BitVec 32 := 16#32
  let v4485 : BitVec 32 := Scalar.remsi v4484 c16_i32_3368
  let v4486 : Index := Scalar.indexCast v4485
  ![v4486.toNat]
def k0_off227 (v4487 : BitVec 32) : Fin 3 → Nat :=
  let c0_i32_3374 : BitVec 32 := 0#32
  let c0_i32_3375 : BitVec 32 := 0#32
  ![v4487.toNat, 0, 0]

def k0_off228 (v4487 : BitVec 32) : Fin 3 → Nat :=
  let c256_i32_3383 : BitVec 32 := 256#32
  let c0_i32_3384 : BitVec 32 := 0#32
  ![v4487.toNat, 256, 0]
def k0_off229 (v4487 : BitVec 32) : Fin 3 → Nat :=
  let c0_i32_3392 : BitVec 32 := 0#32
  let c0_i32_3393 : BitVec 32 := 0#32
  ![v4487.toNat, 0, 0]
def k0_off230 (v4487 : BitVec 32) : Fin 3 → Nat :=
  let c128_i32_3401 : BitVec 32 := 128#32
  let c0_i32_3402 : BitVec 32 := 0#32
  ![v4487.toNat, 128, 0]

def k0_chk29 (v4487 : BitVec 32) : Prop :=
  (∀ a, (k0_off227 v4487) a + S1x256x256.size a ≤ S16x512x256.size a) ∧
  (∀ (hinb : ∀ a, (k0_off227 v4487) a + S1x256x256.size a ≤ S16x512x256.size a), (Rect.unit (s := S16x512x256) (k0_off227 v4487) S1x256x256.size hinb).WholeWords (EltTy.packing .bf16)) ∧
  (∀ a, (k0_off228 v4487) a + S1x256x256.size a ≤ S16x512x256.size a) ∧
  (∀ (hinb : ∀ a, (k0_off228 v4487) a + S1x256x256.size a ≤ S16x512x256.size a), (Rect.unit (s := S16x512x256) (k0_off228 v4487) S1x256x256.size hinb).WholeWords (EltTy.packing .bf16)) ∧
  (∀ a, (k0_off229 v4487) a + S1x128x512.size a ≤ S16x256x512.size a) ∧
  (∀ (hinb : ∀ a, (k0_off229 v4487) a + S1x128x512.size a ≤ S16x256x512.size a), (Rect.unit (s := S16x256x512) (k0_off229 v4487) S1x128x512.size hinb).WholeWords (EltTy.packing .bf16)) ∧
  (∀ a, (k0_off230 v4487) a + S1x128x512.size a ≤ S16x256x512.size a) ∧
  (∀ (hinb : ∀ a, (k0_off230 v4487) a + S1x128x512.size a ≤ S16x256x512.size a), (Rect.unit (s := S16x256x512) (k0_off230 v4487) S1x128x512.size hinb).WholeWords (EltTy.packing .bf16))
theorem k0_off227_inb : ∀ (v4487 : BitVec 32) (k0_hw29 : k0_chk29 v4487), ∀ a, (k0_off227 v4487) a + S1x256x256.size a ≤ S16x512x256.size a := fun v4487 k0_hw29 => k0_hw29.1
theorem k0_off227_wordsbf16 : ∀ (v4487 : BitVec 32) (k0_hw29 : k0_chk29 v4487), (Rect.unit (s := S16x512x256) (k0_off227 v4487) S1x256x256.size (k0_off227_inb v4487 k0_hw29)).WholeWords (EltTy.packing .bf16) := fun v4487 k0_hw29 => k0_hw29.2.1 (k0_off227_inb v4487 k0_hw29)
theorem k0_off228_inb : ∀ (v4487 : BitVec 32) (k0_hw29 : k0_chk29 v4487), ∀ a, (k0_off228 v4487) a + S1x256x256.size a ≤ S16x512x256.size a := fun v4487 k0_hw29 => k0_hw29.2.2.1
theorem k0_off228_wordsbf16 : ∀ (v4487 : BitVec 32) (k0_hw29 : k0_chk29 v4487), (Rect.unit (s := S16x512x256) (k0_off228 v4487) S1x256x256.size (k0_off228_inb v4487 k0_hw29)).WholeWords (EltTy.packing .bf16) := fun v4487 k0_hw29 => k0_hw29.2.2.2.1 (k0_off228_inb v4487 k0_hw29)
theorem k0_off229_inb : ∀ (v4487 : BitVec 32) (k0_hw29 : k0_chk29 v4487), ∀ a, (k0_off229 v4487) a + S1x128x512.size a ≤ S16x256x512.size a := fun v4487 k0_hw29 => k0_hw29.2.2.2.2.1
theorem k0_off229_wordsbf16 : ∀ (v4487 : BitVec 32) (k0_hw29 : k0_chk29 v4487), (Rect.unit (s := S16x256x512) (k0_off229 v4487) S1x128x512.size (k0_off229_inb v4487 k0_hw29)).WholeWords (EltTy.packing .bf16) := fun v4487 k0_hw29 => k0_hw29.2.2.2.2.2.1 (k0_off229_inb v4487 k0_hw29)
theorem k0_off230_inb : ∀ (v4487 : BitVec 32) (k0_hw29 : k0_chk29 v4487), ∀ a, (k0_off230 v4487) a + S1x128x512.size a ≤ S16x256x512.size a := fun v4487 k0_hw29 => k0_hw29.2.2.2.2.2.2.1
theorem k0_off230_wordsbf16 : ∀ (v4487 : BitVec 32) (k0_hw29 : k0_chk29 v4487), (Rect.unit (s := S16x256x512) (k0_off230 v4487) S1x128x512.size (k0_off230_inb v4487 k0_hw29)).WholeWords (EltTy.packing .bf16) := fun v4487 k0_hw29 => k0_hw29.2.2.2.2.2.2.2 (k0_off230_inb v4487 k0_hw29)

def k0_off231 (v5 : BitVec 32) : Fin 1 → Nat :=
  let c3_i32_3405 : BitVec 32 := 3#32
  let v4512 : BitVec 32 := Scalar.addi v5 c3_i32_3405
  let c16_i32_3406 : BitVec 32 := 16#32
  let v4513 : BitVec 32 := Scalar.remsi v4512 c16_i32_3406
  let v4514 : Index := Scalar.indexCast v4513
  ![v4514.toNat]
def k0_off232 (v4515 : BitVec 32) : Fin 3 → Nat :=
  let c0_i32_3412 : BitVec 32 := 0#32
  let c0_i32_3413 : BitVec 32 := 0#32
  ![v4515.toNat, 0, 0]

def k0_off233 (v4515 : BitVec 32) : Fin 3 → Nat :=
  let c256_i32_3421 : BitVec 32 := 256#32
  let c0_i32_3422 : BitVec 32 := 0#32
  ![v4515.toNat, 256, 0]
def k0_off234 (v4515 : BitVec 32) : Fin 3 → Nat :=
  let c0_i32_3430 : BitVec 32 := 0#32
  let c0_i32_3431 : BitVec 32 := 0#32
  ![v4515.toNat, 0, 0]
def k0_off235 (v4515 : BitVec 32) : Fin 3 → Nat :=
  let c128_i32_3439 : BitVec 32 := 128#32
  let c0_i32_3440 : BitVec 32 := 0#32
  ![v4515.toNat, 128, 0]

def k0_chk30 (v4515 : BitVec 32) : Prop :=
  (∀ a, (k0_off232 v4515) a + S1x256x256.size a ≤ S16x512x256.size a) ∧
  (∀ (hinb : ∀ a, (k0_off232 v4515) a + S1x256x256.size a ≤ S16x512x256.size a), (Rect.unit (s := S16x512x256) (k0_off232 v4515) S1x256x256.size hinb).WholeWords (EltTy.packing .bf16)) ∧
  (∀ a, (k0_off233 v4515) a + S1x256x256.size a ≤ S16x512x256.size a) ∧
  (∀ (hinb : ∀ a, (k0_off233 v4515) a + S1x256x256.size a ≤ S16x512x256.size a), (Rect.unit (s := S16x512x256) (k0_off233 v4515) S1x256x256.size hinb).WholeWords (EltTy.packing .bf16)) ∧
  (∀ a, (k0_off234 v4515) a + S1x128x512.size a ≤ S16x256x512.size a) ∧
  (∀ (hinb : ∀ a, (k0_off234 v4515) a + S1x128x512.size a ≤ S16x256x512.size a), (Rect.unit (s := S16x256x512) (k0_off234 v4515) S1x128x512.size hinb).WholeWords (EltTy.packing .bf16)) ∧
  (∀ a, (k0_off235 v4515) a + S1x128x512.size a ≤ S16x256x512.size a) ∧
  (∀ (hinb : ∀ a, (k0_off235 v4515) a + S1x128x512.size a ≤ S16x256x512.size a), (Rect.unit (s := S16x256x512) (k0_off235 v4515) S1x128x512.size hinb).WholeWords (EltTy.packing .bf16))
theorem k0_off232_inb : ∀ (v4515 : BitVec 32) (k0_hw30 : k0_chk30 v4515), ∀ a, (k0_off232 v4515) a + S1x256x256.size a ≤ S16x512x256.size a := fun v4515 k0_hw30 => k0_hw30.1
theorem k0_off232_wordsbf16 : ∀ (v4515 : BitVec 32) (k0_hw30 : k0_chk30 v4515), (Rect.unit (s := S16x512x256) (k0_off232 v4515) S1x256x256.size (k0_off232_inb v4515 k0_hw30)).WholeWords (EltTy.packing .bf16) := fun v4515 k0_hw30 => k0_hw30.2.1 (k0_off232_inb v4515 k0_hw30)
theorem k0_off233_inb : ∀ (v4515 : BitVec 32) (k0_hw30 : k0_chk30 v4515), ∀ a, (k0_off233 v4515) a + S1x256x256.size a ≤ S16x512x256.size a := fun v4515 k0_hw30 => k0_hw30.2.2.1
theorem k0_off233_wordsbf16 : ∀ (v4515 : BitVec 32) (k0_hw30 : k0_chk30 v4515), (Rect.unit (s := S16x512x256) (k0_off233 v4515) S1x256x256.size (k0_off233_inb v4515 k0_hw30)).WholeWords (EltTy.packing .bf16) := fun v4515 k0_hw30 => k0_hw30.2.2.2.1 (k0_off233_inb v4515 k0_hw30)
theorem k0_off234_inb : ∀ (v4515 : BitVec 32) (k0_hw30 : k0_chk30 v4515), ∀ a, (k0_off234 v4515) a + S1x128x512.size a ≤ S16x256x512.size a := fun v4515 k0_hw30 => k0_hw30.2.2.2.2.1
theorem k0_off234_wordsbf16 : ∀ (v4515 : BitVec 32) (k0_hw30 : k0_chk30 v4515), (Rect.unit (s := S16x256x512) (k0_off234 v4515) S1x128x512.size (k0_off234_inb v4515 k0_hw30)).WholeWords (EltTy.packing .bf16) := fun v4515 k0_hw30 => k0_hw30.2.2.2.2.2.1 (k0_off234_inb v4515 k0_hw30)
theorem k0_off235_inb : ∀ (v4515 : BitVec 32) (k0_hw30 : k0_chk30 v4515), ∀ a, (k0_off235 v4515) a + S1x128x512.size a ≤ S16x256x512.size a := fun v4515 k0_hw30 => k0_hw30.2.2.2.2.2.2.1
theorem k0_off235_wordsbf16 : ∀ (v4515 : BitVec 32) (k0_hw30 : k0_chk30 v4515), (Rect.unit (s := S16x256x512) (k0_off235 v4515) S1x128x512.size (k0_off235_inb v4515 k0_hw30)).WholeWords (EltTy.packing .bf16) := fun v4515 k0_hw30 => k0_hw30.2.2.2.2.2.2.2 (k0_off235_inb v4515 k0_hw30)

def k0_off236 (v5 : BitVec 32) : Fin 1 → Nat :=
  let c4_i32_3443 : BitVec 32 := 4#32
  let v4540 : BitVec 32 := Scalar.addi v5 c4_i32_3443
  let c16_i32_3444 : BitVec 32 := 16#32
  let v4541 : BitVec 32 := Scalar.remsi v4540 c16_i32_3444
  let v4542 : Index := Scalar.indexCast v4541
  ![v4542.toNat]
def k0_off237 (v4543 : BitVec 32) : Fin 3 → Nat :=
  let c0_i32_3450 : BitVec 32 := 0#32
  let c0_i32_3451 : BitVec 32 := 0#32
  ![v4543.toNat, 0, 0]

def k0_off238 (v4543 : BitVec 32) : Fin 3 → Nat :=
  let c256_i32_3459 : BitVec 32 := 256#32
  let c0_i32_3460 : BitVec 32 := 0#32
  ![v4543.toNat, 256, 0]
def k0_off239 (v4543 : BitVec 32) : Fin 3 → Nat :=
  let c0_i32_3468 : BitVec 32 := 0#32
  let c0_i32_3469 : BitVec 32 := 0#32
  ![v4543.toNat, 0, 0]
def k0_off240 (v4543 : BitVec 32) : Fin 3 → Nat :=
  let c128_i32_3477 : BitVec 32 := 128#32
  let c0_i32_3478 : BitVec 32 := 0#32
  ![v4543.toNat, 128, 0]

def k0_chk31 (v4543 : BitVec 32) : Prop :=
  (∀ a, (k0_off237 v4543) a + S1x256x256.size a ≤ S16x512x256.size a) ∧
  (∀ (hinb : ∀ a, (k0_off237 v4543) a + S1x256x256.size a ≤ S16x512x256.size a), (Rect.unit (s := S16x512x256) (k0_off237 v4543) S1x256x256.size hinb).WholeWords (EltTy.packing .bf16)) ∧
  (∀ a, (k0_off238 v4543) a + S1x256x256.size a ≤ S16x512x256.size a) ∧
  (∀ (hinb : ∀ a, (k0_off238 v4543) a + S1x256x256.size a ≤ S16x512x256.size a), (Rect.unit (s := S16x512x256) (k0_off238 v4543) S1x256x256.size hinb).WholeWords (EltTy.packing .bf16)) ∧
  (∀ a, (k0_off239 v4543) a + S1x128x512.size a ≤ S16x256x512.size a) ∧
  (∀ (hinb : ∀ a, (k0_off239 v4543) a + S1x128x512.size a ≤ S16x256x512.size a), (Rect.unit (s := S16x256x512) (k0_off239 v4543) S1x128x512.size hinb).WholeWords (EltTy.packing .bf16)) ∧
  (∀ a, (k0_off240 v4543) a + S1x128x512.size a ≤ S16x256x512.size a) ∧
  (∀ (hinb : ∀ a, (k0_off240 v4543) a + S1x128x512.size a ≤ S16x256x512.size a), (Rect.unit (s := S16x256x512) (k0_off240 v4543) S1x128x512.size hinb).WholeWords (EltTy.packing .bf16))
theorem k0_off237_inb : ∀ (v4543 : BitVec 32) (k0_hw31 : k0_chk31 v4543), ∀ a, (k0_off237 v4543) a + S1x256x256.size a ≤ S16x512x256.size a := fun v4543 k0_hw31 => k0_hw31.1
theorem k0_off237_wordsbf16 : ∀ (v4543 : BitVec 32) (k0_hw31 : k0_chk31 v4543), (Rect.unit (s := S16x512x256) (k0_off237 v4543) S1x256x256.size (k0_off237_inb v4543 k0_hw31)).WholeWords (EltTy.packing .bf16) := fun v4543 k0_hw31 => k0_hw31.2.1 (k0_off237_inb v4543 k0_hw31)
theorem k0_off238_inb : ∀ (v4543 : BitVec 32) (k0_hw31 : k0_chk31 v4543), ∀ a, (k0_off238 v4543) a + S1x256x256.size a ≤ S16x512x256.size a := fun v4543 k0_hw31 => k0_hw31.2.2.1
theorem k0_off238_wordsbf16 : ∀ (v4543 : BitVec 32) (k0_hw31 : k0_chk31 v4543), (Rect.unit (s := S16x512x256) (k0_off238 v4543) S1x256x256.size (k0_off238_inb v4543 k0_hw31)).WholeWords (EltTy.packing .bf16) := fun v4543 k0_hw31 => k0_hw31.2.2.2.1 (k0_off238_inb v4543 k0_hw31)
theorem k0_off239_inb : ∀ (v4543 : BitVec 32) (k0_hw31 : k0_chk31 v4543), ∀ a, (k0_off239 v4543) a + S1x128x512.size a ≤ S16x256x512.size a := fun v4543 k0_hw31 => k0_hw31.2.2.2.2.1
theorem k0_off239_wordsbf16 : ∀ (v4543 : BitVec 32) (k0_hw31 : k0_chk31 v4543), (Rect.unit (s := S16x256x512) (k0_off239 v4543) S1x128x512.size (k0_off239_inb v4543 k0_hw31)).WholeWords (EltTy.packing .bf16) := fun v4543 k0_hw31 => k0_hw31.2.2.2.2.2.1 (k0_off239_inb v4543 k0_hw31)
theorem k0_off240_inb : ∀ (v4543 : BitVec 32) (k0_hw31 : k0_chk31 v4543), ∀ a, (k0_off240 v4543) a + S1x128x512.size a ≤ S16x256x512.size a := fun v4543 k0_hw31 => k0_hw31.2.2.2.2.2.2.1
theorem k0_off240_wordsbf16 : ∀ (v4543 : BitVec 32) (k0_hw31 : k0_chk31 v4543), (Rect.unit (s := S16x256x512) (k0_off240 v4543) S1x128x512.size (k0_off240_inb v4543 k0_hw31)).WholeWords (EltTy.packing .bf16) := fun v4543 k0_hw31 => k0_hw31.2.2.2.2.2.2.2 (k0_off240_inb v4543 k0_hw31)

def k0_off241 (v5 : BitVec 32) : Fin 1 → Nat :=
  let c5_i32_3481 : BitVec 32 := 5#32
  let v4568 : BitVec 32 := Scalar.addi v5 c5_i32_3481
  let c16_i32_3482 : BitVec 32 := 16#32
  let v4569 : BitVec 32 := Scalar.remsi v4568 c16_i32_3482
  let v4570 : Index := Scalar.indexCast v4569
  ![v4570.toNat]
def k0_off242 (v4571 : BitVec 32) : Fin 3 → Nat :=
  let c0_i32_3488 : BitVec 32 := 0#32
  let c0_i32_3489 : BitVec 32 := 0#32
  ![v4571.toNat, 0, 0]

def k0_off243 (v4571 : BitVec 32) : Fin 3 → Nat :=
  let c256_i32_3497 : BitVec 32 := 256#32
  let c0_i32_3498 : BitVec 32 := 0#32
  ![v4571.toNat, 256, 0]
def k0_off244 (v4571 : BitVec 32) : Fin 3 → Nat :=
  let c0_i32_3506 : BitVec 32 := 0#32
  let c0_i32_3507 : BitVec 32 := 0#32
  ![v4571.toNat, 0, 0]
def k0_off245 (v4571 : BitVec 32) : Fin 3 → Nat :=
  let c128_i32_3515 : BitVec 32 := 128#32
  let c0_i32_3516 : BitVec 32 := 0#32
  ![v4571.toNat, 128, 0]

def k0_chk32 (v4571 : BitVec 32) : Prop :=
  (∀ a, (k0_off242 v4571) a + S1x256x256.size a ≤ S16x512x256.size a) ∧
  (∀ (hinb : ∀ a, (k0_off242 v4571) a + S1x256x256.size a ≤ S16x512x256.size a), (Rect.unit (s := S16x512x256) (k0_off242 v4571) S1x256x256.size hinb).WholeWords (EltTy.packing .bf16)) ∧
  (∀ a, (k0_off243 v4571) a + S1x256x256.size a ≤ S16x512x256.size a) ∧
  (∀ (hinb : ∀ a, (k0_off243 v4571) a + S1x256x256.size a ≤ S16x512x256.size a), (Rect.unit (s := S16x512x256) (k0_off243 v4571) S1x256x256.size hinb).WholeWords (EltTy.packing .bf16)) ∧
  (∀ a, (k0_off244 v4571) a + S1x128x512.size a ≤ S16x256x512.size a) ∧
  (∀ (hinb : ∀ a, (k0_off244 v4571) a + S1x128x512.size a ≤ S16x256x512.size a), (Rect.unit (s := S16x256x512) (k0_off244 v4571) S1x128x512.size hinb).WholeWords (EltTy.packing .bf16)) ∧
  (∀ a, (k0_off245 v4571) a + S1x128x512.size a ≤ S16x256x512.size a) ∧
  (∀ (hinb : ∀ a, (k0_off245 v4571) a + S1x128x512.size a ≤ S16x256x512.size a), (Rect.unit (s := S16x256x512) (k0_off245 v4571) S1x128x512.size hinb).WholeWords (EltTy.packing .bf16))
theorem k0_off242_inb : ∀ (v4571 : BitVec 32) (k0_hw32 : k0_chk32 v4571), ∀ a, (k0_off242 v4571) a + S1x256x256.size a ≤ S16x512x256.size a := fun v4571 k0_hw32 => k0_hw32.1
theorem k0_off242_wordsbf16 : ∀ (v4571 : BitVec 32) (k0_hw32 : k0_chk32 v4571), (Rect.unit (s := S16x512x256) (k0_off242 v4571) S1x256x256.size (k0_off242_inb v4571 k0_hw32)).WholeWords (EltTy.packing .bf16) := fun v4571 k0_hw32 => k0_hw32.2.1 (k0_off242_inb v4571 k0_hw32)
theorem k0_off243_inb : ∀ (v4571 : BitVec 32) (k0_hw32 : k0_chk32 v4571), ∀ a, (k0_off243 v4571) a + S1x256x256.size a ≤ S16x512x256.size a := fun v4571 k0_hw32 => k0_hw32.2.2.1
theorem k0_off243_wordsbf16 : ∀ (v4571 : BitVec 32) (k0_hw32 : k0_chk32 v4571), (Rect.unit (s := S16x512x256) (k0_off243 v4571) S1x256x256.size (k0_off243_inb v4571 k0_hw32)).WholeWords (EltTy.packing .bf16) := fun v4571 k0_hw32 => k0_hw32.2.2.2.1 (k0_off243_inb v4571 k0_hw32)
theorem k0_off244_inb : ∀ (v4571 : BitVec 32) (k0_hw32 : k0_chk32 v4571), ∀ a, (k0_off244 v4571) a + S1x128x512.size a ≤ S16x256x512.size a := fun v4571 k0_hw32 => k0_hw32.2.2.2.2.1
theorem k0_off244_wordsbf16 : ∀ (v4571 : BitVec 32) (k0_hw32 : k0_chk32 v4571), (Rect.unit (s := S16x256x512) (k0_off244 v4571) S1x128x512.size (k0_off244_inb v4571 k0_hw32)).WholeWords (EltTy.packing .bf16) := fun v4571 k0_hw32 => k0_hw32.2.2.2.2.2.1 (k0_off244_inb v4571 k0_hw32)
theorem k0_off245_inb : ∀ (v4571 : BitVec 32) (k0_hw32 : k0_chk32 v4571), ∀ a, (k0_off245 v4571) a + S1x128x512.size a ≤ S16x256x512.size a := fun v4571 k0_hw32 => k0_hw32.2.2.2.2.2.2.1
theorem k0_off245_wordsbf16 : ∀ (v4571 : BitVec 32) (k0_hw32 : k0_chk32 v4571), (Rect.unit (s := S16x256x512) (k0_off245 v4571) S1x128x512.size (k0_off245_inb v4571 k0_hw32)).WholeWords (EltTy.packing .bf16) := fun v4571 k0_hw32 => k0_hw32.2.2.2.2.2.2.2 (k0_off245_inb v4571 k0_hw32)

def k0_off246 (v5 : BitVec 32) : Fin 1 → Nat :=
  let c6_i32_3519 : BitVec 32 := 6#32
  let v4596 : BitVec 32 := Scalar.addi v5 c6_i32_3519
  let c16_i32_3520 : BitVec 32 := 16#32
  let v4597 : BitVec 32 := Scalar.remsi v4596 c16_i32_3520
  let v4598 : Index := Scalar.indexCast v4597
  ![v4598.toNat]

def k0_chk3 (v5 : BitVec 32) : Prop :=
  (∀ a, (k0_off11 v5) a + S1.size a ≤ S16.size a) ∧
  (∀ a, (k0_off16 v5) a + S1.size a ≤ S16.size a) ∧
  (∀ a, (k0_off33 v5) a + S1.size a ≤ S16.size a) ∧
  (∀ a, (k0_off38 v5) a + S1.size a ≤ S16.size a) ∧
  (∀ a, (k0_off55 v5) a + S1.size a ≤ S16.size a) ∧
  (∀ a, (k0_off60 v5) a + S1.size a ≤ S16.size a) ∧
  (∀ a, (k0_off77 v5) a + S1.size a ≤ S16.size a) ∧
  (∀ a, (k0_off82 v5) a + S1.size a ≤ S16.size a) ∧
  (∀ a, (k0_off99 v5) a + S1.size a ≤ S16.size a) ∧
  (∀ a, (k0_off104 v5) a + S1.size a ≤ S16.size a) ∧
  (∀ a, (k0_off121 v5) a + S1.size a ≤ S16.size a) ∧
  (∀ a, (k0_off126 v5) a + S1.size a ≤ S16.size a) ∧
  (∀ a, (k0_off143 v5) a + S1.size a ≤ S16.size a) ∧
  (∀ a, (k0_off148 v5) a + S1.size a ≤ S16.size a) ∧
  (∀ a, (k0_off165 v5) a + S1.size a ≤ S16.size a) ∧
  (∀ a, (k0_off176 v5) a + S1.size a ≤ S16.size a) ∧
  (∀ a, (k0_off181 v5) a + S1.size a ≤ S16.size a) ∧
  (∀ a, (k0_off186 v5) a + S1.size a ≤ S16.size a) ∧
  (∀ a, (k0_off191 v5) a + S1.size a ≤ S16.size a) ∧
  (∀ a, (k0_off196 v5) a + S1.size a ≤ S16.size a) ∧
  (∀ a, (k0_off201 v5) a + S1.size a ≤ S16.size a) ∧
  (∀ a, (k0_off206 v5) a + S1.size a ≤ S16.size a) ∧
  (∀ a, (k0_off211 v5) a + S1.size a ≤ S16.size a) ∧
  (∀ a, (k0_off216 v5) a + S1.size a ≤ S16.size a) ∧
  (∀ a, (k0_off221 v5) a + S1.size a ≤ S16.size a) ∧
  (∀ a, (k0_off226 v5) a + S1.size a ≤ S16.size a) ∧
  (∀ a, (k0_off231 v5) a + S1.size a ≤ S16.size a) ∧
  (∀ a, (k0_off236 v5) a + S1.size a ≤ S16.size a) ∧
  (∀ a, (k0_off241 v5) a + S1.size a ≤ S16.size a) ∧
  (∀ a, (k0_off246 v5) a + S1.size a ≤ S16.size a)
theorem k0_off11_inb : ∀ (v5 : BitVec 32) (k0_hw3 : k0_chk3 v5), ∀ a, (k0_off11 v5) a + S1.size a ≤ S16.size a := fun v5 k0_hw3 => k0_hw3.1
theorem k0_off16_inb : ∀ (v5 : BitVec 32) (k0_hw3 : k0_chk3 v5), ∀ a, (k0_off16 v5) a + S1.size a ≤ S16.size a := fun v5 k0_hw3 => k0_hw3.2.1
theorem k0_off33_inb : ∀ (v5 : BitVec 32) (k0_hw3 : k0_chk3 v5), ∀ a, (k0_off33 v5) a + S1.size a ≤ S16.size a := fun v5 k0_hw3 => k0_hw3.2.2.1
theorem k0_off38_inb : ∀ (v5 : BitVec 32) (k0_hw3 : k0_chk3 v5), ∀ a, (k0_off38 v5) a + S1.size a ≤ S16.size a := fun v5 k0_hw3 => k0_hw3.2.2.2.1
theorem k0_off55_inb : ∀ (v5 : BitVec 32) (k0_hw3 : k0_chk3 v5), ∀ a, (k0_off55 v5) a + S1.size a ≤ S16.size a := fun v5 k0_hw3 => k0_hw3.2.2.2.2.1
theorem k0_off60_inb : ∀ (v5 : BitVec 32) (k0_hw3 : k0_chk3 v5), ∀ a, (k0_off60 v5) a + S1.size a ≤ S16.size a := fun v5 k0_hw3 => k0_hw3.2.2.2.2.2.1
theorem k0_off77_inb : ∀ (v5 : BitVec 32) (k0_hw3 : k0_chk3 v5), ∀ a, (k0_off77 v5) a + S1.size a ≤ S16.size a := fun v5 k0_hw3 => k0_hw3.2.2.2.2.2.2.1
theorem k0_off82_inb : ∀ (v5 : BitVec 32) (k0_hw3 : k0_chk3 v5), ∀ a, (k0_off82 v5) a + S1.size a ≤ S16.size a := fun v5 k0_hw3 => k0_hw3.2.2.2.2.2.2.2.1
theorem k0_off99_inb : ∀ (v5 : BitVec 32) (k0_hw3 : k0_chk3 v5), ∀ a, (k0_off99 v5) a + S1.size a ≤ S16.size a := fun v5 k0_hw3 => k0_hw3.2.2.2.2.2.2.2.2.1
theorem k0_off104_inb : ∀ (v5 : BitVec 32) (k0_hw3 : k0_chk3 v5), ∀ a, (k0_off104 v5) a + S1.size a ≤ S16.size a := fun v5 k0_hw3 => k0_hw3.2.2.2.2.2.2.2.2.2.1
theorem k0_off121_inb : ∀ (v5 : BitVec 32) (k0_hw3 : k0_chk3 v5), ∀ a, (k0_off121 v5) a + S1.size a ≤ S16.size a := fun v5 k0_hw3 => k0_hw3.2.2.2.2.2.2.2.2.2.2.1
theorem k0_off126_inb : ∀ (v5 : BitVec 32) (k0_hw3 : k0_chk3 v5), ∀ a, (k0_off126 v5) a + S1.size a ≤ S16.size a := fun v5 k0_hw3 => k0_hw3.2.2.2.2.2.2.2.2.2.2.2.1
theorem k0_off143_inb : ∀ (v5 : BitVec 32) (k0_hw3 : k0_chk3 v5), ∀ a, (k0_off143 v5) a + S1.size a ≤ S16.size a := fun v5 k0_hw3 => k0_hw3.2.2.2.2.2.2.2.2.2.2.2.2.1
theorem k0_off148_inb : ∀ (v5 : BitVec 32) (k0_hw3 : k0_chk3 v5), ∀ a, (k0_off148 v5) a + S1.size a ≤ S16.size a := fun v5 k0_hw3 => k0_hw3.2.2.2.2.2.2.2.2.2.2.2.2.2.1
theorem k0_off165_inb : ∀ (v5 : BitVec 32) (k0_hw3 : k0_chk3 v5), ∀ a, (k0_off165 v5) a + S1.size a ≤ S16.size a := fun v5 k0_hw3 => k0_hw3.2.2.2.2.2.2.2.2.2.2.2.2.2.2.1
theorem k0_off176_inb : ∀ (v5 : BitVec 32) (k0_hw3 : k0_chk3 v5), ∀ a, (k0_off176 v5) a + S1.size a ≤ S16.size a := fun v5 k0_hw3 => k0_hw3.2.2.2.2.2.2.2.2.2.2.2.2.2.2.2.1
theorem k0_off181_inb : ∀ (v5 : BitVec 32) (k0_hw3 : k0_chk3 v5), ∀ a, (k0_off181 v5) a + S1.size a ≤ S16.size a := fun v5 k0_hw3 => k0_hw3.2.2.2.2.2.2.2.2.2.2.2.2.2.2.2.2.1
theorem k0_off186_inb : ∀ (v5 : BitVec 32) (k0_hw3 : k0_chk3 v5), ∀ a, (k0_off186 v5) a + S1.size a ≤ S16.size a := fun v5 k0_hw3 => k0_hw3.2.2.2.2.2.2.2.2.2.2.2.2.2.2.2.2.2.1
theorem k0_off191_inb : ∀ (v5 : BitVec 32) (k0_hw3 : k0_chk3 v5), ∀ a, (k0_off191 v5) a + S1.size a ≤ S16.size a := fun v5 k0_hw3 => k0_hw3.2.2.2.2.2.2.2.2.2.2.2.2.2.2.2.2.2.2.1
theorem k0_off196_inb : ∀ (v5 : BitVec 32) (k0_hw3 : k0_chk3 v5), ∀ a, (k0_off196 v5) a + S1.size a ≤ S16.size a := fun v5 k0_hw3 => k0_hw3.2.2.2.2.2.2.2.2.2.2.2.2.2.2.2.2.2.2.2.1
theorem k0_off201_inb : ∀ (v5 : BitVec 32) (k0_hw3 : k0_chk3 v5), ∀ a, (k0_off201 v5) a + S1.size a ≤ S16.size a := fun v5 k0_hw3 => k0_hw3.2.2.2.2.2.2.2.2.2.2.2.2.2.2.2.2.2.2.2.2.1
theorem k0_off206_inb : ∀ (v5 : BitVec 32) (k0_hw3 : k0_chk3 v5), ∀ a, (k0_off206 v5) a + S1.size a ≤ S16.size a := fun v5 k0_hw3 => k0_hw3.2.2.2.2.2.2.2.2.2.2.2.2.2.2.2.2.2.2.2.2.2.1
theorem k0_off211_inb : ∀ (v5 : BitVec 32) (k0_hw3 : k0_chk3 v5), ∀ a, (k0_off211 v5) a + S1.size a ≤ S16.size a := fun v5 k0_hw3 => k0_hw3.2.2.2.2.2.2.2.2.2.2.2.2.2.2.2.2.2.2.2.2.2.2.1
theorem k0_off216_inb : ∀ (v5 : BitVec 32) (k0_hw3 : k0_chk3 v5), ∀ a, (k0_off216 v5) a + S1.size a ≤ S16.size a := fun v5 k0_hw3 => k0_hw3.2.2.2.2.2.2.2.2.2.2.2.2.2.2.2.2.2.2.2.2.2.2.2.1
theorem k0_off221_inb : ∀ (v5 : BitVec 32) (k0_hw3 : k0_chk3 v5), ∀ a, (k0_off221 v5) a + S1.size a ≤ S16.size a := fun v5 k0_hw3 => k0_hw3.2.2.2.2.2.2.2.2.2.2.2.2.2.2.2.2.2.2.2.2.2.2.2.2.1
theorem k0_off226_inb : ∀ (v5 : BitVec 32) (k0_hw3 : k0_chk3 v5), ∀ a, (k0_off226 v5) a + S1.size a ≤ S16.size a := fun v5 k0_hw3 => k0_hw3.2.2.2.2.2.2.2.2.2.2.2.2.2.2.2.2.2.2.2.2.2.2.2.2.2.1
theorem k0_off231_inb : ∀ (v5 : BitVec 32) (k0_hw3 : k0_chk3 v5), ∀ a, (k0_off231 v5) a + S1.size a ≤ S16.size a := fun v5 k0_hw3 => k0_hw3.2.2.2.2.2.2.2.2.2.2.2.2.2.2.2.2.2.2.2.2.2.2.2.2.2.2.1
theorem k0_off236_inb : ∀ (v5 : BitVec 32) (k0_hw3 : k0_chk3 v5), ∀ a, (k0_off236 v5) a + S1.size a ≤ S16.size a := fun v5 k0_hw3 => k0_hw3.2.2.2.2.2.2.2.2.2.2.2.2.2.2.2.2.2.2.2.2.2.2.2.2.2.2.2.1
theorem k0_off241_inb : ∀ (v5 : BitVec 32) (k0_hw3 : k0_chk3 v5), ∀ a, (k0_off241 v5) a + S1.size a ≤ S16.size a := fun v5 k0_hw3 => k0_hw3.2.2.2.2.2.2.2.2.2.2.2.2.2.2.2.2.2.2.2.2.2.2.2.2.2.2.2.2.1
theorem k0_off246_inb : ∀ (v5 : BitVec 32) (k0_hw3 : k0_chk3 v5), ∀ a, (k0_off246 v5) a + S1.size a ≤ S16.size a := fun v5 k0_hw3 => k0_hw3.2.2.2.2.2.2.2.2.2.2.2.2.2.2.2.2.2.2.2.2.2.2.2.2.2.2.2.2.2

def k0_off247 (v4599 : BitVec 32) : Fin 3 → Nat :=
  let c0_i32_3526 : BitVec 32 := 0#32
  let c0_i32_3527 : BitVec 32 := 0#32
  ![v4599.toNat, 0, 0]

def k0_off248 (v4599 : BitVec 32) : Fin 3 → Nat :=
  let c256_i32_3535 : BitVec 32 := 256#32
  let c0_i32_3536 : BitVec 32 := 0#32
  ![v4599.toNat, 256, 0]
def k0_off249 (v4599 : BitVec 32) : Fin 3 → Nat :=
  let c0_i32_3544 : BitVec 32 := 0#32
  let c0_i32_3545 : BitVec 32 := 0#32
  ![v4599.toNat, 0, 0]
def k0_off250 (v4599 : BitVec 32) : Fin 3 → Nat :=
  let c128_i32_3553 : BitVec 32 := 128#32
  let c0_i32_3554 : BitVec 32 := 0#32
  ![v4599.toNat, 128, 0]

def k0_chk33 (v4599 : BitVec 32) : Prop :=
  (∀ a, (k0_off247 v4599) a + S1x256x256.size a ≤ S16x512x256.size a) ∧
  (∀ (hinb : ∀ a, (k0_off247 v4599) a + S1x256x256.size a ≤ S16x512x256.size a), (Rect.unit (s := S16x512x256) (k0_off247 v4599) S1x256x256.size hinb).WholeWords (EltTy.packing .bf16)) ∧
  (∀ a, (k0_off248 v4599) a + S1x256x256.size a ≤ S16x512x256.size a) ∧
  (∀ (hinb : ∀ a, (k0_off248 v4599) a + S1x256x256.size a ≤ S16x512x256.size a), (Rect.unit (s := S16x512x256) (k0_off248 v4599) S1x256x256.size hinb).WholeWords (EltTy.packing .bf16)) ∧
  (∀ a, (k0_off249 v4599) a + S1x128x512.size a ≤ S16x256x512.size a) ∧
  (∀ (hinb : ∀ a, (k0_off249 v4599) a + S1x128x512.size a ≤ S16x256x512.size a), (Rect.unit (s := S16x256x512) (k0_off249 v4599) S1x128x512.size hinb).WholeWords (EltTy.packing .bf16)) ∧
  (∀ a, (k0_off250 v4599) a + S1x128x512.size a ≤ S16x256x512.size a) ∧
  (∀ (hinb : ∀ a, (k0_off250 v4599) a + S1x128x512.size a ≤ S16x256x512.size a), (Rect.unit (s := S16x256x512) (k0_off250 v4599) S1x128x512.size hinb).WholeWords (EltTy.packing .bf16))
theorem k0_off247_inb : ∀ (v4599 : BitVec 32) (k0_hw33 : k0_chk33 v4599), ∀ a, (k0_off247 v4599) a + S1x256x256.size a ≤ S16x512x256.size a := fun v4599 k0_hw33 => k0_hw33.1
theorem k0_off247_wordsbf16 : ∀ (v4599 : BitVec 32) (k0_hw33 : k0_chk33 v4599), (Rect.unit (s := S16x512x256) (k0_off247 v4599) S1x256x256.size (k0_off247_inb v4599 k0_hw33)).WholeWords (EltTy.packing .bf16) := fun v4599 k0_hw33 => k0_hw33.2.1 (k0_off247_inb v4599 k0_hw33)
theorem k0_off248_inb : ∀ (v4599 : BitVec 32) (k0_hw33 : k0_chk33 v4599), ∀ a, (k0_off248 v4599) a + S1x256x256.size a ≤ S16x512x256.size a := fun v4599 k0_hw33 => k0_hw33.2.2.1
theorem k0_off248_wordsbf16 : ∀ (v4599 : BitVec 32) (k0_hw33 : k0_chk33 v4599), (Rect.unit (s := S16x512x256) (k0_off248 v4599) S1x256x256.size (k0_off248_inb v4599 k0_hw33)).WholeWords (EltTy.packing .bf16) := fun v4599 k0_hw33 => k0_hw33.2.2.2.1 (k0_off248_inb v4599 k0_hw33)
theorem k0_off249_inb : ∀ (v4599 : BitVec 32) (k0_hw33 : k0_chk33 v4599), ∀ a, (k0_off249 v4599) a + S1x128x512.size a ≤ S16x256x512.size a := fun v4599 k0_hw33 => k0_hw33.2.2.2.2.1
theorem k0_off249_wordsbf16 : ∀ (v4599 : BitVec 32) (k0_hw33 : k0_chk33 v4599), (Rect.unit (s := S16x256x512) (k0_off249 v4599) S1x128x512.size (k0_off249_inb v4599 k0_hw33)).WholeWords (EltTy.packing .bf16) := fun v4599 k0_hw33 => k0_hw33.2.2.2.2.2.1 (k0_off249_inb v4599 k0_hw33)
theorem k0_off250_inb : ∀ (v4599 : BitVec 32) (k0_hw33 : k0_chk33 v4599), ∀ a, (k0_off250 v4599) a + S1x128x512.size a ≤ S16x256x512.size a := fun v4599 k0_hw33 => k0_hw33.2.2.2.2.2.2.1
theorem k0_off250_wordsbf16 : ∀ (v4599 : BitVec 32) (k0_hw33 : k0_chk33 v4599), (Rect.unit (s := S16x256x512) (k0_off250 v4599) S1x128x512.size (k0_off250_inb v4599 k0_hw33)).WholeWords (EltTy.packing .bf16) := fun v4599 k0_hw33 => k0_hw33.2.2.2.2.2.2.2 (k0_off250_inb v4599 k0_hw33)

abbrev stage0_0 : Fin 1 → Memref sig .tc .smem S3 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x64x256x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x64x256x65 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S32x256x512 : Shape := ⟨3, ![32, 256, 512]⟩
abbrev S512x4096 : Shape := ⟨2, ![512, 4096]⟩
abbrev S32x256x64x64 : Shape := ⟨4, ![32, 256, 64, 64]⟩
abbrev S4096x512 : Shape := ⟨2, ![4096, 512]⟩
abbrev S32x256x4096 : Shape := ⟨3, ![32, 256, 4096]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S32x64x256x256 : Shape := ⟨4, ![32, 64, 256, 256]⟩
abbrev S1x1x256x256 : Shape := ⟨4, ![1, 1, 256, 256]⟩
abbrev S32x64x256 : Shape := ⟨3, ![32, 64, 256]⟩
abbrev S32x64x256x1 : Shape := ⟨4, ![32, 64, 256, 1]⟩
abbrev S1x1x256x1 : Shape := ⟨4, ![1, 1, 256, 1]⟩
abbrev S32x64x64x256 : Shape := ⟨4, ![32, 64, 64, 256]⟩

abbrev nBuf : Space → Nat
  | .hbm => 67
  | .vmem => 0
  | .smem => 0
  | _ => 0

abbrev bufTy : (tb : Table) → Fin (tcTables nBuf tb) → BufTy
  | .hbm, ⟨0, _⟩ => ⟨S32x256x512, .f32⟩
  | .hbm, ⟨1, _⟩ => ⟨S512x4096, .f32⟩
  | .hbm, ⟨2, _⟩ => ⟨S32x256x64x64, .f32⟩
  | .hbm, ⟨3, _⟩ => ⟨S32x256x64x64, .f32⟩
  | .hbm, ⟨4, _⟩ => ⟨S4096x512, .f32⟩
  | .hbm, ⟨5, _⟩ => ⟨S32x256x4096, .f32⟩
  | .hbm, ⟨6, _⟩ => ⟨S32x256x64x64, .f32⟩
  | .hbm, ⟨7, _⟩ => ⟨S256, .i32⟩
  | .hbm, ⟨8, _⟩ => ⟨S256x1, .i32⟩
  | .hbm, ⟨9, _⟩ => ⟨S256, .i32⟩
  | .hbm, ⟨10, _⟩ => ⟨S1x256, .i32⟩
  | .hbm, ⟨11, _⟩ => ⟨S256x256, .i32⟩
  | .hbm, ⟨12, _⟩ => ⟨S256x256, .i32⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i1⟩
  | .hbm, ⟨18, _⟩ => ⟨S_, .i32⟩
  | .hbm, ⟨19, _⟩ => ⟨S1x256, .i32⟩
  | .hbm, ⟨20, _⟩ => ⟨S1x256, .i1⟩
  | .hbm, ⟨21, _⟩ => ⟨S_, .i32⟩
  | .hbm, ⟨22, _⟩ => ⟨S256x1, .i32⟩
  | .hbm, ⟨23, _⟩ => ⟨S256x1, .i1⟩
  | .hbm, ⟨24, _⟩ => ⟨S256x256, .i1⟩
  | .hbm, ⟨25, _⟩ => ⟨S256x256, .i1⟩
  | .hbm, ⟨26, _⟩ => ⟨S256x256, .i1⟩
  | .hbm, ⟨27, _⟩ => ⟨S256x256, .i1⟩
  | .hbm, ⟨28, _⟩ => ⟨S32x64x256x256, .f32⟩
  | .hbm, ⟨29, _⟩ => ⟨S_, .f32⟩
  | .hbm, ⟨30, _⟩ => ⟨S32x64x256x256, .f32⟩
  | .hbm, ⟨31, _⟩ => ⟨S32x64x256x256, .f32⟩
  | .hbm, ⟨32, _⟩ => ⟨S1x1x256x256, .i1⟩
  | .hbm, ⟨33, _⟩ => ⟨S_, .f32⟩
  | .hbm, ⟨34, _⟩ => ⟨S_, .f32⟩
  | .hbm, ⟨35, _⟩ => ⟨S32x64x256x256, .i1⟩
  | .hbm, ⟨36, _⟩ => ⟨S32x64x256x256, .f32⟩
  | .hbm, ⟨37, _⟩ => ⟨S32x64x256x256, .f32⟩
  | .hbm, ⟨38, _⟩ => ⟨S_, .f32⟩
  | .hbm, ⟨39, _⟩ => ⟨S32x64x256, .f32⟩
  | .hbm, ⟨40, _⟩ => ⟨S32x64x256x1, .f32⟩
  | .hbm, ⟨41, _⟩ => ⟨S32x64x256x256, .f32⟩
  | .hbm, ⟨42, _⟩ => ⟨S32x64x256x256, .f32⟩
  | .hbm, ⟨43, _⟩ => ⟨S32x64x256x256, .f32⟩
  | .hbm, ⟨44, _⟩ => ⟨S_, .i1⟩
  | .hbm, ⟨45, _⟩ => ⟨S256, .i1⟩
  | .hbm, ⟨46, _⟩ => ⟨S1x1x256x1, .i1⟩
  | .hbm, ⟨47, _⟩ => ⟨S_, .f32⟩
  | .hbm, ⟨48, _⟩ => ⟨S32x64x256, .f32⟩
  | .hbm, ⟨49, _⟩ => ⟨S32x64x256x1, .f32⟩
  | .hbm, ⟨50, _⟩ => ⟨S_, .f32⟩
  | .hbm, ⟨51, _⟩ => ⟨S_, .f32⟩
  | .hbm, ⟨52, _⟩ => ⟨S32x64x256x1, .i1⟩
  | .hbm, ⟨53, _⟩ => ⟨S32x64x256x1, .f32⟩
  | .hbm, ⟨54, _⟩ => ⟨S32x64x256x1, .f32⟩
  | .hbm, ⟨55, _⟩ => ⟨S32x64x256x256, .f32⟩
  | .hbm, ⟨56, _⟩ => ⟨S32x64x256x256, .f32⟩
  | .hbm, ⟨57, _⟩ => ⟨S1x1x256x1, .i1⟩
  | .hbm, ⟨58, _⟩ => ⟨S_, .f32⟩
  | .hbm, ⟨59, _⟩ => ⟨S_, .f32⟩
  | .hbm, ⟨60, _⟩ => ⟨S32x64x256x256, .i1⟩
  | .hbm, ⟨61, _⟩ => ⟨S32x64x256x256, .f32⟩
  | .hbm, ⟨62, _⟩ => ⟨S32x64x256x256, .f32⟩
  | .hbm, ⟨63, _⟩ => ⟨S32x64x64x256, .f32⟩
  | .hbm, ⟨64, _⟩ => ⟨S32x256x64x64, .f32⟩
  | .hbm, ⟨65, _⟩ => ⟨S32x256x4096, .f32⟩
  | .hbm, ⟨66, _⟩ => ⟨S32x256x512, .f32⟩
  | _, _ => ⟨S32x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Proof.Model.lean ====
module

public import proofs.«01_k».proof.Proof.Gen.KernelIdeal.Points

/-! # The kernel body as a structured program

The printed body is one long sequence of operations. Here it is written again from four building
blocks — receive a piece of a weight chunk, send a piece on, read a word of the ring table, add one
chunk's contribution to the output — each with the word naming the chunk as a parameter, and the
printed body is proved equal to that program by unfolding. -/

@[expose] public section

set_option maxRecDepth 65536

noncomputable section

namespace Cert.KernelIdeal.Ring

open Idealize.ShloMosaic Idealize.SL.Sem
open Cert.KernelIdeal Cert.KernelIdeal.Gen

variable {F : FTy → Type} [FloatOps F]

variable (F) in
/-- The programs of a TensorCore. -/
abbrev PR := Prog (TpuEff nD τ sig (Elt F) Λ₀ .tc)

/-! ## The operands -/

abbrev mNbr : Memref sig .tc .smem S3 .i32 := Memref.whole cc0_stg0_0
abbrev mRing : Memref sig .tc .smem S16 .i32 := Memref.whole cc0_stg1_0
abbrev mX : Memref sig .tc .vmem S2x256x512 .bf16 := Memref.whole cc0_stg2_0
abbrev mWq : Memref sig .tc .vmem S512x256 .bf16 := Memref.whole cc0_stg3_0
abbrev mK : Memref sig .tc .vmem S2x64x256x64 .bf16 := Memref.whole cc0_stg4_0
abbrev mV : Memref sig .tc .vmem S2x64x256x65 .bf16 := Memref.whole cc0_stg5_0
abbrev mWo : Memref sig .tc .vmem S256x512 .bf16 := Memref.whole cc0_stg6_0
abbrev mOut : Memref sig .tc .vmem S2x256x512 .f32 := Memref.whole cc0_stg7_0
abbrev mQ : Memref sig .tc .vmem S16x512x256 .bf16 := Memref.whole cc0_scratch0
abbrev mO : Memref sig .tc .vmem S16x256x512 .bf16 := Memref.whole cc0_scratch1

/-- The device a neighbour word names. -/
def devNat (v : BitVec 32) : ℕ := (Scalar.addi 0#32 (Scalar.muli v 1#32)).toNat

/-- The word a device computes for itself. -/
def myWord (d : Dev nD) : BitVec 32 := Scalar.remsi (Scalar.divsi (Dev.word d) 1#32) 16#32

theorem myWord_lt (d : Dev nD) : (myWord d).toNat < 16 := by
  revert d; decide +kernel

/-! ## Pieces of a slot: two halves of each of the two weight chunks -/

theorem pieceQ_inb {n : ℕ} (h : n < 16) (p : Fin 2) :
    ∀ a, (![n, 256 * p.val, 0] : Fin 3 → ℕ) a + S1x256x256.size a ≤ S16x512x256.size a := by
  have key : ∀ (n : Fin 16) (p : Fin 2) (a : Fin 3), (![n.val, 256 * p.val, 0] : Fin 3 → ℕ) a + S1x256x256.size a ≤ S16x512x256.size a := by decide +kernel
  exact key ⟨n, h⟩ p
theorem pieceO_inb {n : ℕ} (h : n < 16) (p : Fin 2) :
    ∀ a, (![n, 128 * p.val, 0] : Fin 3 → ℕ) a + S1x128x512.size a ≤ S16x256x512.size a := by
  have key : ∀ (n : Fin 16) (p : Fin 2) (a : Fin 3), (![n.val, 128 * p.val, 0] : Fin 3 → ℕ) a + S1x128x512.size a ≤ S16x256x512.size a := by decide +kernel
  exact key ⟨n, h⟩ p
theorem slotQ_inb {n : ℕ} (h : n < 16) :
    ∀ a, (![n, 0, 0] : Fin 3 → ℕ) a + S1x512x256.size a ≤ S16x512x256.size a := by
  have key : ∀ (n : Fin 16) (a : Fin 3), (![n.val, 0, 0] : Fin 3 → ℕ) a + S1x512x256.size a ≤ S16x512x256.size a := by decide +kernel
  exact key ⟨n, h⟩
theorem slotO_inb {n : ℕ} (h : n < 16) :
    ∀ a, (![n, 0, 0] : Fin 3 → ℕ) a + S1x256x512.size a ≤ S16x256x512.size a := by
  have key : ∀ (n : Fin 16) (a : Fin 3), (![n.val, 0, 0] : Fin 3 → ℕ) a + S1x256x512.size a ≤ S16x256x512.size a := by decide +kernel
  exact key ⟨n, h⟩

abbrev rectQ {n : ℕ} (h : n < 16) (p : Fin 2) : Rect S16x512x256 :=
  Rect.unit (s := S16x512x256) ![n, 256 * p.val, 0] S1x256x256.size (pieceQ_inb h p)
abbrev rectO {n : ℕ} (h : n < 16) (p : Fin 2) : Rect S16x256x512 :=
  Rect.unit (s := S16x256x512) ![n, 128 * p.val, 0] S1x128x512.size (pieceO_inb h p)
abbrev rectSQ {n : ℕ} (h : n < 16) : Rect S16x512x256 :=
  Rect.unit (s := S16x512x256) ![n, 0, 0] S1x512x256.size (slotQ_inb h)
abbrev rectSO {n : ℕ} (h : n < 16) : Rect S16x256x512 :=
  Rect.unit (s := S16x256x512) ![n, 0, 0] S1x256x512.size (slotO_inb h)

theorem rectQ_words {n : ℕ} (h : n < 16) (p : Fin 2) : (rectQ h p).WholeWords (EltTy.packing .bf16) := by
  have key : ∀ (n : Fin 16) (p : Fin 2), (rectQ n.isLt p).WholeWords (EltTy.packing .bf16) := by decide +kernel
  exact key ⟨n, h⟩ p
theorem rectO_words {n : ℕ} (h : n < 16) (p : Fin 2) : (rectO h p).WholeWords (EltTy.packing .bf16) := by
  have key : ∀ (n : Fin 16) (p : Fin 2), (rectO n.isLt p).WholeWords (EltTy.packing .bf16) := by decide +kernel
  exact key ⟨n, h⟩ p
theorem rectSQ_rows {n : ℕ} (h : n < 16) : (rectSQ h).PackedRows (EltTy.packing .bf16) := by
  have key : ∀ (n : Fin 16), (rectSQ n.isLt).PackedRows (EltTy.packing .bf16) := by decide +kernel
  exact key ⟨n, h⟩
theorem rectSO_rows {n : ℕ} (h : n < 16) : (rectSO h).PackedRows (EltTy.packing .bf16) := by
  have key : ∀ (n : Fin 16), (rectSO n.isLt).PackedRows (EltTy.packing .bf16) := by decide +kernel
  exact key ⟨n, h⟩

abbrev pieceQ {n : ℕ} (h : n < 16) (p : Fin 2) : Memref sig .tc .vmem S256x256 .bf16 :=
  (mQ.slice (rectQ h p) (fun _ => rfl)).squeeze S256x256 squeezes_S1x256x256_S256x256
abbrev pieceO {n : ℕ} (h : n < 16) (p : Fin 2) : Memref sig .tc .vmem S128x512 .bf16 :=
  (mO.slice (rectO h p) (fun _ => rfl)).squeeze S128x512 squeezes_S1x128x512_S128x512

/-! ## Semaphores: direction, payload, end, hop, half -/

/-- The semaphore of hop `k`, half `p`: `dir` false for the forward ring, `wo` for the output
    weights, `rc` for the receiving end. -/
def semOf (dir wo rc : Bool) (k : ℕ) (p : Fin 2) : DmaSem sig :=
  Fin.ofNat 128 (bif dir then 72 + 28 * wo.toNat + 14 * rc.toNat + 2 * k + p.val
    else 8 + 32 * wo.toNat + 16 * rc.toNat + 2 * k + p.val)

/-- Send one half of a slot's query weights on to the same slot of `dst`. -/
def sendQ (dst : Dev nD) (dir : Bool) (k : ℕ) {n : ℕ} (h : n < 16) (p : Fin 2) : PR F PUnit :=
  Prog.lift (.enqueueDma (pieceQ h p) (.remote (Dev.tc dst) (pieceQ h p) (.dma (semOf dir false false k p)))
    (.dma (semOf dir false true k p))
    (((Memref.isWhole_whole cc0_scratch0).wordExact_slice rfl _ (rectQ_words h p)).reshape _ _)
    (((Memref.isWhole_whole cc0_scratch0).wordExact_slice rfl _ (rectQ_words h p)).reshape _ _)
    ⟨⟨rfl, Or.inl rfl⟩, trivial⟩)

/-- Send one half of a slot's output weights on to the same slot of `dst`. -/
def sendO (dst : Dev nD) (dir : Bool) (k : ℕ) {n : ℕ} (h : n < 16) (p : Fin 2) : PR F PUnit :=
  Prog.lift (.enqueueDma (pieceO h p) (.remote (Dev.tc dst) (pieceO h p) (.dma (semOf dir true false k p)))
    (.dma (semOf dir true true k p))
    (((Memref.isWhole_whole cc0_scratch1).wordExact_slice rfl _ (rectO_words h p)).reshape _ _)
    (((Memref.isWhole_whole cc0_scratch1).wordExact_slice rfl _ (rectO_words h p)).reshape _ _)
    ⟨⟨rfl, Or.inl rfl⟩, trivial⟩)

/-- Wait for one half of a slot's query weights on one semaphore. -/
def waitQ (dir rc : Bool) (k : ℕ) {n : ℕ} (h : n < 16) (p : Fin 2) : PR F PUnit :=
  Prog.lift (.waitDma2 (semOf dir false rc k p) (pieceQ h p) (pieceQ h p)
    (((Memref.isWhole_whole cc0_scratch0).wordExact_slice rfl _ (rectQ_words h p)).reshape _ _)
    (((Memref.isWhole_whole cc0_scratch0).wordExact_slice rfl _ (rectQ_words h p)).reshape _ _))

/-- Wait for one half of a slot's output weights on one semaphore. -/
def waitO (dir rc : Bool) (k : ℕ) {n : ℕ} (h : n < 16) (p : Fin 2) : PR F PUnit :=
  Prog.lift (.waitDma2 (semOf dir true rc k p) (pieceO h p) (pieceO h p)
    (((Memref.isWhole_whole cc0_scratch1).wordExact_slice rfl _ (rectO_words h p)).reshape _ _)
    (((Memref.isWhole_whole cc0_scratch1).wordExact_slice rfl _ (rectO_words h p)).reshape _ _))

/-! ## One chunk's contribution -/

theorem kv_inb_nat {n : ℕ} (h : n < 16) (b : Fin 2) (r : Fin 4) :
    ∀ a, (![b.val, 4 * n + r.val, 0, 0] : Fin 4 → ℕ) a + S1x1x256x64.size a ≤ S2x64x256x64.size a := by
  have key : ∀ (n : Fin 16) (b : Fin 2) (r : Fin 4) (a : Fin 4), (![b.val, 4 * n.val + r.val, 0, 0] : Fin 4 → ℕ) a + S1x1x256x64.size a ≤ S2x64x256x64.size a := by decide +kernel
  exact key ⟨n, h⟩ b r
theorem va_inb_nat {n : ℕ} (h : n < 16) (b : Fin 2) (r : Fin 4) :
    ∀ a, (![b.val, 4 * n + r.val, 0, 0] : Fin 4 → ℕ) a + S1x1x256x65.size a ≤ S2x64x256x65.size a := by
  have key : ∀ (n : Fin 16) (b : Fin 2) (r : Fin 4) (a : Fin 4), (![b.val, 4 * n.val + r.val, 0, 0] : Fin 4 → ℕ) a + S1x1x256x65.size a ≤ S2x64x256x65.size a := by decide +kernel
  exact key ⟨n, h⟩ b r

/-- The head a chunk word and a head number within the chunk name. -/
def headNat (w : BitVec 32) (r : Fin 4) : ℕ :=
  (Scalar.indexCast (Scalar.addi (Scalar.muli w 4#32) (BitVec.ofNat 32 r.val))).toNat

theorem headNat_eq {w : BitVec 32} (h : w.toNat < 16) (r : Fin 4) : headNat w r = 4 * w.toNat + r.val := by
  have key : ∀ (n : Fin 16) (r : Fin 4), headNat (BitVec.ofNat 32 n.val) r = 4 * n.val + r.val := by decide +kernel
  have hw : w = BitVec.ofNat 32 w.toNat := by simp
  have := key ⟨w.toNat, h⟩ r
  rw [← hw] at this; exact this

theorem kv_inb {w : BitVec 32} (h : w.toNat < 16) (b : Fin 2) (r : Fin 4) :
    ∀ a, (![b.val, headNat w r, 0, 0] : Fin 4 → ℕ) a + S1x1x256x64.size a ≤ S2x64x256x64.size a := by
  rw [headNat_eq h r]; exact kv_inb_nat h b r
theorem va_inb {w : BitVec 32} (h : w.toNat < 16) (b : Fin 2) (r : Fin 4) :
    ∀ a, (![b.val, headNat w r, 0, 0] : Fin 4 → ℕ) a + S1x1x256x65.size a ≤ S2x64x256x65.size a := by
  rw [headNat_eq h r]; exact va_inb_nat h b r

def loadK {w : BitVec 32} (h : w.toNat < 16) (b : Fin 2) (r : Fin 4) : PR F (Vec F S1x1x256x64 .bf16) :=
  Prog.lift (.load mK (Rect.unit (s := S2x64x256x64) ![b.val, headNat w r, 0, 0] S1x1x256x64.size (kv_inb h b r)).toLoadRect
    (View.loadsAt_vmem h_S1x1x256x64))
def loadV {w : BitVec 32} (h : w.toNat < 16) (b : Fin 2) (r : Fin 4) : PR F (Vec F S1x1x256x65 .bf16) :=
  Prog.lift (.load mV (Rect.unit (s := S2x64x256x65) ![b.val, headNat w r, 0, 0] S1x1x256x65.size (va_inb h b r)).toLoadRect
    (View.loadsAt_vmem h_S1x1x256x65))
def loadQ {n : ℕ} (h : n < 16) : PR F (Vec F S1x512x256 .bf16) :=
  Prog.lift (.load mQ (rectSQ h).toLoadRect (View.loadsAt_vmem h_S1x512x256))
def loadO {n : ℕ} (h : n < 16) : PR F (Vec F S1x256x512 .bf16) :=
  Prog.lift (.load mO (rectSO h).toLoadRect (View.loadsAt_vmem h_S1x256x512))
abbrev rectX : Rect S2x256x512 := Rect.unit (s := S2x256x512) ![0, 0, 0] S2x256x512.size inb_S2x256x512_S2x256x512_0_0_0
def loadX : PR F (Vec F S2x256x512 .bf16) := Prog.lift (.load mX rectX.toLoadRect (View.loadsAt_vmem h_S2x256x512))
def loadOut : PR F (Vec F S2x256x512 .f32) := Prog.lift (.load mOut rectX.toLoadRect (View.loadsAt_vmem h_S2x256x512))
def storeOut (v : FVec F S2x256x512 .f32) : PR F PUnit :=
  Prog.lift (.store mOut rectX v Finset.univ (View.stores_vmem_bits_univ h_S2x256x512 rfl) (.inl rfl))

/-- One head of one batch: the weights `exp(q kᵀ)` kept where the mask is set, times the values,
    divided by the row sums the values' last column gives. -/
def headOut (msk : IVec S256x256 1) (qh : FVec F S256x64 .bf16) (k : Vec F S1x1x256x64 .bf16)
    (v : Vec F S1x1x256x65 .bf16) : FVec F S256x64 .f32 :=
  let s : FVec F S256x256 .f32 := matmul dot_S256x64_S256x64_S256x256_1_1_0_0_n_n none qh
    (shapeCast S256x64 k shapeCasts_S1x1x256x64_S256x64) (constant S256x256 .f32 0x00000000#32)
  let e : FVec F S256x256 .bf16 := truncf .bf16 (select msk (exp s) (broadcast S256x256 (Scalar.ofBits .f32 0x00000000#32 : F .f32))) bitsLt_bf16_f32
  let c : FVec F S256x65 .f32 := matmul dot_S256x256_S256x65_S256x65_1_0_0_1_n_n none e
    (shapeCast S256x65 v shapeCasts_S1x1x256x65_S256x65) (constant S256x65 .f32 0x00000000#32)
  mulf (extractStridedSlice S256x64 ![0, 0] c slices_S256x65_o0_0_S256x64)
    (broadcastTo S256x64 (divf (broadcast S256x1 (Scalar.ofBits .f32 0x3F800000#32 : F .f32))
      (extractStridedSlice S256x1 ![0, 64] c slices_S256x65_o0_64_S256x1)) broadcasts_S256x1_S256x64)

/-- The four heads of one batch side by side. -/
def batchOut (msk : IVec S256x256 1) (qb : FVec F S256x256 .bf16)
    (k0 : Vec F S1x1x256x64 .bf16) (v0 : Vec F S1x1x256x65 .bf16) (k1 : Vec F S1x1x256x64 .bf16) (v1 : Vec F S1x1x256x65 .bf16)
    (k2 : Vec F S1x1x256x64 .bf16) (v2 : Vec F S1x1x256x65 .bf16) (k3 : Vec F S1x1x256x64 .bf16) (v3 : Vec F S1x1x256x65 .bf16) :
    FVec F S256x256 .f32 :=
  concatenate S256x256 1 [
    ⟨S256x64, headOut msk (extractStridedSlice S256x64 ![0, 0] qb slices_S256x256_o0_0_S256x64) k0 v0⟩,
    ⟨S256x64, headOut msk (extractStridedSlice S256x64 ![0, 64] qb slices_S256x256_o0_64_S256x64) k1 v1⟩,
    ⟨S256x64, headOut msk (extractStridedSlice S256x64 ![0, 128] qb slices_S256x256_o0_128_S256x64) k2 v2⟩,
    ⟨S256x64, headOut msk (extractStridedSlice S256x64 ![0, 192] qb slices_S256x256_o0_192_S256x64) k3 v3⟩]
    concatenates_S256x64_S256x64_S256x64_S256x64_S256x256_d1

/-- The queries of one chunk's heads. -/
def queries (x2 : FVec F S512x512 .bf16) (wq : Vec F S1x512x256 .bf16) : FVec F S512x256 .bf16 :=
  truncf .bf16 (matmul dot_S512x512_S512x256_S512x256_1_0_0_1_n_n none x2
    (shapeCast S512x256 wq shapeCasts_S1x512x256_S512x256) (constant S512x256 .f32 0x00000000#32)) bitsLt_bf16_f32

/-- One chunk's contribution to the output. -/
def contrib (wo : Vec F S1x256x512 .bf16) (b0 b1 : FVec F S256x256 .f32) : FVec F S2x256x512 .f32 :=
  shapeCast S2x256x512 (matmul dot_S512x256_S256x512_S512x512_1_0_0_1_n_n none
    (truncf .bf16 (concatenate S512x256 0 [⟨S256x256, b0⟩, ⟨S256x256, b1⟩] concatenates_S256x256_S256x256_S512x256_d0) bitsLt_bf16_f32)
    (shapeCast S256x512 wo shapeCasts_S1x256x512_S256x512) (constant S512x512 .f32 0x00000000#32)) shapeCasts_S512x512_S2x256x512

/-- Add the contribution of the chunk in slot `w`. -/
def chunk (x2 : FVec F S512x512 .bf16) (msk : IVec S256x256 1) {w : BitVec 32} (h : w.toNat < 16) : PR F PUnit := do
  let wq ← loadQ h
  let wo ← loadO h
  let k00 ← loadK h 0 0
  let v00 ← loadV h 0 0
  let k01 ← loadK h 0 1
  let v01 ← loadV h 0 1
  let k02 ← loadK h 0 2
  let v02 ← loadV h 0 2
  let k03 ← loadK h 0 3
  let v03 ← loadV h 0 3
  let k10 ← loadK h 1 0
  let v10 ← loadV h 1 0
  let k11 ← loadK h 1 1
  let v11 ← loadV h 1 1
  let k12 ← loadK h 1 2
  let v12 ← loadV h 1 2
  let k13 ← loadK h 1 3
  let v13 ← loadV h 1 3
  let o ← loadOut
  let _ ← loadOut
  storeOut (addf (shapeCast S2x256x512 o shapeCasts_S2x256x512_S2x256x512) (contrib wo
    (batchOut msk (extractStridedSlice S256x256 ![0, 0] (queries x2 wq) slices_S512x256_o0_0_S256x256) k00 v00 k01 v01 k02 v02 k03 v03)
    (batchOut msk (extractStridedSlice S256x256 ![256, 0] (queries x2 wq) slices_S512x256_o256_0_S256x256) k10 v10 k11 v11 k12 v12 k13 v13)))

/-! ## Hops -/

/-- Receive the four pieces of hop `k`'s chunk and send each on as it lands. -/
def relay (dst : Dev nD) (dir : Bool) (k : ℕ) {n : ℕ} (h : n < 16) : PR F PUnit := do
  waitQ dir true k h 0
  sendQ dst dir (k + 1) h 0
  waitQ dir true k h 1
  sendQ dst dir (k + 1) h 1
  waitO dir true k h 0
  sendO dst dir (k + 1) h 0
  waitO dir true k h 1
  sendO dst dir (k + 1) h 1

/-- Send the four pieces of a slot. -/
def sendSlot (dst : Dev nD) (dir : Bool) (k : ℕ) {n : ℕ} (h : n < 16) : PR F PUnit := do
  sendQ dst dir k h 0
  sendQ dst dir k h 1
  sendO dst dir k h 0
  sendO dst dir k h 1

/-- Wait for the four pieces of a slot on one end of a hop. -/
def waitSlot (dir rc : Bool) (k : ℕ) {n : ℕ} (h : n < 16) : PR F PUnit := do
  waitQ dir rc k h 0
  waitQ dir rc k h 1
  waitO dir rc k h 0
  waitO dir rc k h 1

/-- Read the ring's word at `off` and check the side condition the program states of it. -/
def ringWord (off : Fin 1 → ℕ) (hoff : ∀ a, off a + S1.size a ≤ S16.size a) (P : BitVec 32 → Prop)
    (dP : ∀ w, Decidable (P w)) (hP : ∀ w, P w → w.toNat < 16) : PR F (Σ' w : BitVec 32, w.toNat < 16) := do
  let w : Elt F .i32 ← smemLoad mRing (Rect.unit (s := S16) off S1.size hoff) numel1_S1 rfl
  let hw ← Prog.lift (TpuEff.assume (P w) (dP w))
  pure ⟨w, hP w hw.down⟩

/-- A table word read and checked by the program. -/
def nbrWord (i : Fin 1 → ℕ) (hi : ∀ a, i a + S1.size a ≤ S3.size a) (P : BitVec 32 → Prop)
    (dP : ∀ w, Decidable (P w)) : PR F (Σ' w : BitVec 32, P w) := do
  let w : Elt F .i32 ← smemLoad mNbr (Rect.unit (s := S3) i S1.size hi) numel1_S1 rfl
  let hw ← Prog.lift (TpuEff.assume (P w) (dP w))
  pure ⟨w, hw.down⟩

/-- The device's own query weights, as one slot holds them. -/
def ownQ (v : Vec F S512x256 .bf16) : FVec F S1x512x256 .bf16 :=
  shapeCast S1x512x256 (shapeCast S512x256 v shapeCasts_S512x256_S512x256) shapeCasts_S512x256_S1x512x256

/-- The device's own output weights, as one slot holds them. -/
def ownO (v : Vec F S256x512 .bf16) : FVec F S1x256x512 .bf16 :=
  shapeCast S1x256x512 (shapeCast S256x512 v shapeCasts_S256x512_S256x512) shapeCasts_S256x512_S1x256x512

/-- The two batches' rows, one after the other. -/
def rows (v : Vec F S2x256x512 .bf16) : FVec F S512x512 .bf16 :=
  shapeCast S512x512 (shapeCast S2x256x512 v shapeCasts_S2x256x512_S2x256x512) shapeCasts_S2x256x512_S512x512

/-- The mask: near the diagonal, or an early column, or an early row. -/
def mask : IVec S256x256 1 :=
  ori (ori (cmpi .sle (absi (subi (iota .tc S256x256 32 [0] iota_S256x256_d0_w32) (iota .tc S256x256 32 [1] iota_S256x256_d1_w32)))
      (broadcast S256x256 128#32))
    (cmpi .slt (iota .tc S256x256 32 [1] iota_S256x256_d1_w32) (broadcast S256x256 32#32)))
    (cmpi .slt (iota .tc S256x256 32 [0] iota_S256x256_d0_w32) (broadcast S256x256 32#32))

/-- Place the device's own chunk in its slot of the gathered query weights. -/
def placeQ (d : Dev nD) : PR F PUnit := do
  let v ← Prog.lift (.load mWq (Rect.unit (s := S512x256) ![0, 0] S512x256.size inb_S512x256_S512x256_0_0).toLoadRect (View.loadsAt_vmem h_S512x256))
  let _ ← loadQ (F := F) (myWord_lt d)
  Prog.lift (.store mQ (rectSQ (myWord_lt d)) (ownQ v) Finset.univ
    (View.stores_vmem h_S1x512x256 ((Memref.isWhole_whole cc0_scratch0).storeExact_slice rfl _ (rectSQ_rows (myWord_lt d))) (fun _ => rfl)) (.inl rfl))

/-- Place the device's own chunk in its slot of the gathered output weights. -/
def placeO (d : Dev nD) : PR F PUnit := do
  let v ← Prog.lift (.load mWo (Rect.unit (s := S256x512) ![0, 0] S256x512.size inb_S256x512_S256x512_0_0).toLoadRect (View.loadsAt_vmem h_S256x512))
  let _ ← loadO (F := F) (myWord_lt d)
  Prog.lift (.store mO (rectSO (myWord_lt d)) (ownO v) Finset.univ
    (View.stores_vmem h_S1x256x512 ((Memref.isWhole_whole cc0_scratch1).storeExact_slice rfl _ (rectSO_rows (myWord_lt d))) (fun _ => rfl)) (.inl rfl))

theorem lt_of_off {n m : ℕ} (h : ∀ a, (![n, m, 0] : Fin 3 → ℕ) a + S1x256x256.size a ≤ S16x512x256.size a) : n < 16 := by
  have := h 0; simpa [Nat.succ_le_iff] using this

end Cert.KernelIdeal.Ring
-- ==== Proof.Body.lean ====
module

public import proofs.«01_k».proof.Proof.Model

/-! # The body is the structured program -/

@[expose] public section

set_option maxRecDepth 65536

noncomputable section

namespace Cert.KernelIdeal.Ring

open Idealize.ShloMosaic Idealize.SL.Sem
open Cert.KernelIdeal Cert.KernelIdeal.Gen

variable {F : FTy → Type} [FloatOps F]

/-- A read of the ring table, with what the program knows of the word. -/
abbrev RW (F : FTy → Type) := PR F (Σ' w : BitVec 32, w.toNat < 16)

/-- One full hop: the forward slot is received, sent on, then the backward one; then both contributions are added. -/
def hopP (dR dL : Dev nD) (x2 : FVec F S512x512 .bf16) (k : ℕ) (rf rb : RW F) : PR F PUnit := do
  let f ← rf
  relay dR false k f.2
  let b ← rb
  relay dL true k b.2
  chunk x2 mask f.2
  chunk x2 mask b.2

/-- The last two hops: the last forward slot to be sent on, then the last slot of either direction. -/
def lastP (dR : Dev nD) (x2 : FVec F S512x512 .bf16) (rf rb rl : RW F) : PR F PUnit := do
  let f ← rf
  relay dR false 6 f.2
  let b ← rb
  waitSlot true true 6 b.2
  chunk x2 mask f.2
  chunk x2 mask b.2
  let l ← rl
  waitSlot false true 7 l.2
  chunk x2 mask l.2

/-- Take back what a hop's transfers had borrowed. -/
def tailP (dir : Bool) (k : ℕ) (r : RW F) : PR F PUnit := do
  let s ← r
  waitSlot dir false k s.2

/-- Before the transfers: the output cleared, the rows read, both neighbours told, both waited for. -/
def startP (dR dL : Dev nD) : PR F (Vec F S2x256x512 .bf16) := do
  let _ ← loadOut
  storeOut (broadcast S2x256x512 (Scalar.ofBits .f32 0x00000000#32))
  let x ← loadX
  semSignalWord dL (sig.barrier 0 rfl) 1#32
  semSignalWord dR (sig.barrier 0 rfl) 1#32
  semWaitWord (sig.barrier 0 rfl) 2#32
  pure x

/-- The own chunk: placed, sent both ways, its contribution added. -/
def ownP (d dR dL : Dev nD) (x2 : FVec F S512x512 .bf16) : PR F PUnit := do
  placeQ d
  placeO d
  sendSlot dR false 0 (myWord_lt d)
  sendSlot dL true 0 (myWord_lt d)
  chunk x2 mask (myWord_lt d)

/-- The transfers, once the neighbours and the place in the ring are known. -/
def ringP (d dR dL : Dev nD) (v5 : BitVec 32) (h5 : k0_chk3 v5) : PR F PUnit := do
  let x ← startP dR dL
  ownP d dR dL (rows x)
  hopP dR dL (rows x) 0 (ringWord _ (k0_off11_inb v5 h5) k0_chk4 k0_chk4.dec (fun _ h => lt_of_off h.1))
    (ringWord _ (k0_off16_inb v5 h5) k0_chk5 k0_chk5.dec (fun _ h => lt_of_off h.1))
  hopP dR dL (rows x) 1 (ringWord _ (k0_off33_inb v5 h5) k0_chk6 k0_chk6.dec (fun _ h => lt_of_off h.1))
    (ringWord _ (k0_off38_inb v5 h5) k0_chk7 k0_chk7.dec (fun _ h => lt_of_off h.1))
  hopP dR dL (rows x) 2 (ringWord _ (k0_off55_inb v5 h5) k0_chk8 k0_chk8.dec (fun _ h => lt_of_off h.1))
    (ringWord _ (k0_off60_inb v5 h5) k0_chk9 k0_chk9.dec (fun _ h => lt_of_off h.1))
  hopP dR dL (rows x) 3 (ringWord _ (k0_off77_inb v5 h5) k0_chk10 k0_chk10.dec (fun _ h => lt_of_off h.1))
    (ringWord _ (k0_off82_inb v5 h5) k0_chk11 k0_chk11.dec (fun _ h => lt_of_off h.1))
  hopP dR dL (rows x) 4 (ringWord _ (k0_off99_inb v5 h5) k0_chk12 k0_chk12.dec (fun _ h => lt_of_off h.1))
    (ringWord _ (k0_off104_inb v5 h5) k0_chk13 k0_chk13.dec (fun _ h => lt_of_off h.1))
  hopP dR dL (rows x) 5 (ringWord _ (k0_off121_inb v5 h5) k0_chk14 k0_chk14.dec (fun _ h => lt_of_off h.1))
    (ringWord _ (k0_off126_inb v5 h5) k0_chk15 k0_chk15.dec (fun _ h => lt_of_off h.1))
  lastP dR (rows x) (ringWord _ (k0_off143_inb v5 h5) k0_chk16 k0_chk16.dec (fun _ h => lt_of_off h.1))
    (ringWord _ (k0_off148_inb v5 h5) k0_chk17 k0_chk17.dec (fun _ h => lt_of_off h.1))
    (ringWord _ (k0_off165_inb v5 h5) k0_chk18 k0_chk18.dec (fun _ h => lt_of_off h.1))
  tailP false 0 (ringWord _ (k0_off176_inb v5 h5) k0_chk19 k0_chk19.dec (fun _ h => lt_of_off h.1))
  tailP false 1 (ringWord _ (k0_off181_inb v5 h5) k0_chk20 k0_chk20.dec (fun _ h => lt_of_off h.1))
  tailP false 2 (ringWord _ (k0_off186_inb v5 h5) k0_chk21 k0_chk21.dec (fun _ h => lt_of_off h.1))
  tailP false 3 (ringWord _ (k0_off191_inb v5 h5) k0_chk22 k0_chk22.dec (fun _ h => lt_of_off h.1))
  tailP false 4 (ringWord _ (k0_off196_inb v5 h5) k0_chk23 k0_chk23.dec (fun _ h => lt_of_off h.1))
  tailP false 5 (ringWord _ (k0_off201_inb v5 h5) k0_chk24 k0_chk24.dec (fun _ h => lt_of_off h.1))
  tailP false 6 (ringWord _ (k0_off206_inb v5 h5) k0_chk25 k0_chk25.dec (fun _ h => lt_of_off h.1))
  tailP false 7 (ringWord _ (k0_off211_inb v5 h5) k0_chk26 k0_chk26.dec (fun _ h => lt_of_off h.1))
  tailP true 0 (ringWord _ (k0_off216_inb v5 h5) k0_chk27 k0_chk27.dec (fun _ h => lt_of_off h.1))
  tailP true 1 (ringWord _ (k0_off221_inb v5 h5) k0_chk28 k0_chk28.dec (fun _ h => lt_of_off h.1))
  tailP true 2 (ringWord _ (k0_off226_inb v5 h5) k0_chk29 k0_chk29.dec (fun _ h => lt_of_off h.1))
  tailP true 3 (ringWord _ (k0_off231_inb v5 h5) k0_chk30 k0_chk30.dec (fun _ h => lt_of_off h.1))
  tailP true 4 (ringWord _ (k0_off236_inb v5 h5) k0_chk31 k0_chk31.dec (fun _ h => lt_of_off h.1))
  tailP true 5 (ringWord _ (k0_off241_inb v5 h5) k0_chk32 k0_chk32.dec (fun _ h => lt_of_off h.1))
  tailP true 6 (ringWord _ (k0_off246_inb v5 h5) k0_chk33 k0_chk33.dec (fun _ h => lt_of_off h.1))

/-- The body over the staged operands. -/
def body : PR F PUnit := do
  let d ← Prog.lift .deviceId
  let r ← nbrWord ![0] inb_S3_S1_0 k0_chk2 k0_chk2.dec
  let l ← nbrWord ![1] inb_S3_S1_1 k0_chk1 k0_chk1.dec
  let v ← nbrWord ![2] inb_S3_S1_2 k0_chk3 k0_chk3.dec
  ringP d ⟨devNat r.1, r.2.1.1⟩ ⟨devNat l.1, l.2.1⟩ v.1 v.2

set_option maxHeartbeats 40000000 in
/-- The printed body, at the operands the launch gives it, is the structured program. -/
theorem body_eq :
    cc0_body (F := F) mNbr (Memref.isWhole_whole _) mRing (Memref.isWhole_whole _) mX (Memref.isWhole_whole _)
      mWq (Memref.isWhole_whole _) mK (Memref.isWhole_whole _) mV (Memref.isWhole_whole _) mWo (Memref.isWhole_whole _)
      mOut (Memref.isWhole_whole _) mQ (Memref.isWhole_whole _) mO (Memref.isWhole_whole _)
      cc0_scratch2 cc0_scratch3 cc0_scratch4 cc0_scratch5 cc0_scratch6 cc0_scratch7 cc0_scratch8 cc0_scratch9 = body := rfl

end Cert.KernelIdeal.Ring
-- ==== Proof.Protocol.lean ====
module

public import proofs.«01_k».proof.Proof.Body
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.Lib.Ring
public import Idealize.ShloMosaic.PureOps
public import Idealize.ShloMosaic.Lib.Pipeline.RegionTalk

/-! # The protocol of the ring: who waits for whom, and what each signal hands over

The weight chunks go round the sixteen devices both ways at once. Every device has sixteen slots,
one per chunk. Before the first transfer each device tells both neighbours that it has entered the
kernel; with the signal it hands over the slots that neighbour will write. From then on hop `k`
writes, on the receiving device, the slot of the chunk the sender holds since hop `k - 1`, and the
receive semaphore of that hop hands the written piece back. A sender lends half of its share of a
piece to the transfer and takes it back at the end from the send semaphore. -/

@[expose] public section

set_option maxRecDepth 65536

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

/-- The devices in ring order. -/
def ringTab : Fin 16 → Fin 16 := ![0, 4, 8, 12, 13, 9, 5, 1, 2, 6, 10, 14, 15, 11, 7, 3]
/-- Each device's position in the ring. -/
def posTab : Fin 16 → Fin 16 := ![0, 7, 8, 15, 1, 6, 9, 14, 2, 5, 10, 13, 3, 4, 11, 12]

/-- The chunk device `c` sends at hop `k`: forward (`dir` false) the chunk from `k` places behind, backward from `k` places ahead. -/
def org (dir : Bool) (k : ℕ) (c : Dev nD) : Dev nD := ringTab (posTab c + Fin.ofNat 16 (bif dir then k else 15 * k))
/-- The neighbour device `c` sends to. -/
def dst (dir : Bool) (c : Dev nD) : Dev nD := org (!dir) 1 c
/-- The neighbour device `c` receives from. -/
def src (dir : Bool) (c : Dev nD) : Dev nD := org dir 1 c

theorem org_zero (dir : Bool) (c : Dev nD) : org dir 0 c = c := by revert dir c; decide +kernel
theorem src_dst (dir : Bool) (c : Dev nD) : src dir (dst dir c) = c := by revert dir c; decide +kernel
theorem dst_src (dir : Bool) (c : Dev nD) : dst dir (src dir c) = c := by revert dir c; decide +kernel
theorem dst_not (dir : Bool) (c : Dev nD) : dst (!dir) c = src dir c := by cases dir <;> rfl
theorem org_mod (dir : Bool) (k : ℕ) (c : Dev nD) : org dir (k % 16) c = org dir k c := by
  unfold org; congr 2; apply Fin.ext; cases dir <;> simp [Fin.ofNat, Nat.mul_mod]
theorem org_dst (dir : Bool) (k : ℕ) (c : Dev nD) : org dir (k + 1) (dst dir c) = org dir k c := by
  have key : ∀ (dir : Bool) (k : Fin 16) (c : Dev nD), org dir (k.val + 1) (dst dir c) = org dir k.val c := by decide +kernel
  have := key dir ⟨k % 16, Nat.mod_lt _ (by decide)⟩ c
  rw [← org_mod dir k c, ← this, ← org_mod dir (k + 1), ← org_mod dir (k % 16 + 1)]; congr 1; omega

/-- The hops of a direction. -/
def hops (dir : Bool) : ℕ := bif dir then 7 else 8

/-! ## Cells -/

abbrev barS : Sem sig := sig.barrier 0 rfl
abbrev barCell (c : Dev nD) : GSem nD τ sig := ((c : Thread nD τ), .reg barS)
abbrev cell (dir wo rc : Bool) (k : ℕ) (p : Fin 2) (c : Dev nD) : GSem nD τ sig := ((c : Thread nD τ), .dma (semOf dir wo rc k p))

/-- The direction, operand, end, hop and half a semaphore stands for. -/
def decode (s : DmaSem sig) : Bool × Bool × Bool × ℕ × Fin 2 :=
  if s.val < 72 then (false, decide (32 ≤ s.val - 8), decide (16 ≤ (s.val - 8) % 32), ((s.val - 8) % 16) / 2, Fin.ofNat 2 s.val)
  else (true, decide (28 ≤ s.val - 72), decide (14 ≤ (s.val - 72) % 28), ((s.val - 72) % 14) / 2, Fin.ofNat 2 s.val)

theorem decode_semOf (dir wo rc : Bool) {k : ℕ} (hk : k < hops dir) (p : Fin 2) : decode (semOf dir wo rc k p) = (dir, wo, rc, k, p) := by
  have key : ∀ (dir wo rc : Bool) (k : Fin 8) (p : Fin 2), k.val < hops dir → decode (semOf dir wo rc k.val p) = (dir, wo, rc, k.val, p) := by decide +kernel
  exact key dir wo rc ⟨k, hk.trans_le (by cases dir <;> decide)⟩ p hk
theorem semOf_ge (dir wo rc : Bool) {k : ℕ} (hk : k < hops dir) (p : Fin 2) : 8 ≤ (semOf dir wo rc k p).val := by
  have key : ∀ (dir wo rc : Bool) (k : Fin 8) (p : Fin 2), k.val < hops dir → 8 ≤ (semOf dir wo rc k.val p).val := by decide +kernel
  exact key dir wo rc ⟨k, hk.trans_le (by cases dir <;> decide)⟩ p hk

/-! ## Pieces -/

/-- The units one piece's transfer credits. -/
abbrev NP : ℕ := (pieceQ (n := 0) (by decide) 0).view.dmaCredit
theorem NP_pos : 0 < NP := View.dmaCredit_pos _ (by decide)
theorem NP_Q {n : ℕ} (h : n < 16) (p : Fin 2) : (pieceQ h p).view.dmaCredit = NP := by
  have key : ∀ (n : Fin 16) (p : Fin 2), (pieceQ n.isLt p).view.dmaCredit = NP := by decide +kernel
  exact key ⟨n, h⟩ p
theorem NP_O {n : ℕ} (h : n < 16) (p : Fin 2) : (pieceO h p).view.dmaCredit = NP := by
  have key : ∀ (n : Fin 16) (p : Fin 2), (pieceO n.isLt p).view.dmaCredit = NP := by decide +kernel
  exact key ⟨n, h⟩ p

variable (F) in
/-- The gathered weights, as every device's slots come to hold them. -/
structure Gath where
  q : (cc0_scratch0 : Ref sig .tc).ty.Contents (Elt F)
  o : (cc0_scratch1 : Ref sig .tc).ty.Contents (Elt F)

/-- Half `p` of slot `n` on device `c`: of the query weights, or (`wo`) of the output weights. -/
def pc (wo : Bool) (c n : Dev nD) (p : Fin 2) (q : PosShare TreeShare) (G : Gath F) : sProp 𝕄 :=
  match wo with
  | false => mQ.view.loc (c : Thread nD τ) ↦[(pieceQ n.isLt p).view.set]{q} G.q
  | true => mO.view.loc (c : Thread nD τ) ↦[(pieceO n.isLt p).view.set]{q} G.o

/-- The same at contents not named. -/
def pcAny (wo : Bool) (c n : Dev nD) (p : Fin 2) : sProp 𝕄 := iprop(∃ G, pc (F := F) wo c n p fullShare G)

omit [FloatOps F] in
instance pc_storable (wo : Bool) (c n : Dev nD) (p q) (G : Gath F) : BI.Storable (upEmb : UEmb _ 𝕄) (pc wo c n p q G) := by
  unfold pc; cases wo <;> infer_instance
omit [FloatOps F] in
instance pcAny_storable (wo : Bool) (c n : Dev nD) (p) : BI.Storable (upEmb : UEmb _ 𝕄) (pcAny (F := F) wo c n p) := by
  unfold pcAny; infer_instance

omit [FloatOps F] in
theorem pc_halves (wo : Bool) (c n : Dev nD) (p) (q : PosShare TreeShare) (G : Gath F) :
    pc wo c n p q G ⊣⊢ iprop(pc wo c n p q.left G ∗ pc wo c n p q.right G) := by
  unfold pc; cases wo <;> exact pointsTo_share (PosShare.mem_left_op_right q)

/-- The share of a piece lent to hop `k`'s transfer: the device's own chunk goes both ways at once. -/
def shr (dir : Bool) (k : ℕ) : PosShare TreeShare :=
  if k = 0 then (bif dir then fullShare.right.right else fullShare.right.left) else fullShare.right

/-- The four pieces of a slot. -/
def four (Φ : Bool → Fin 2 → sProp 𝕄) : sProp 𝕄 := iprop(Φ false 0 ∗ Φ false 1 ∗ Φ true 0 ∗ Φ true 1)

omit [FloatOps F] in
theorem four_mono {Φ Ψ : Bool → Fin 2 → sProp 𝕄} (h : ∀ wo p, Φ wo p ⊢ Ψ wo p) : four Φ ⊢ four Ψ :=
  BI.sep_mono (h _ _) (BI.sep_mono (h _ _) (BI.sep_mono (h _ _) (h _ _)))
omit [FloatOps F] in
theorem four_eq (Φ : Bool → Fin 2 → sProp 𝕄) : four Φ = bigSep Finset.univ (fun x : Bool × Fin 2 => Φ x.1 x.2) := by
  rw [bigSep_univ_eq_bigSepL [(false, 0), (false, 1), (true, 0), (true, 1)] (by decide) (by decide)]
  simp only [bigSepL_cons_cons, bigSepL_singleton]; rfl
omit [FloatOps F] in
theorem four_sep (Φ Ψ : Bool → Fin 2 → sProp 𝕄) : four (fun wo p => iprop(Φ wo p ∗ Ψ wo p)) = iprop(four Φ ∗ four Ψ) := by
  rw [four_eq, four_eq, four_eq]; exact bigSep_sep' _ _ _

/-! ## The schedule -/

variable (G : Gath F)

/-- What device `dst dir c` hands over when it signals device `c`: the slots `c` will write there, and that their receive cells are open. -/
def barPay (c : Dev nD) (dir : Bool) : sProp 𝕄 :=
  bigSep (Finset.range (hops dir)) fun k => four fun wo p =>
    iprop(pcAny (F := F) wo (dst dir c) (org dir k c) p ∗ reached ER (cell dir wo true k p (dst dir c)) 0)

/-- What a transfer's semaphore hands over: the written piece, or the lent share. -/
def dmaPay (c : Dev nD) (s : DmaSem sig) : sProp 𝕄 :=
  let x := decode s
  if x.2.2.1 then pc x.2.1 c (org x.1 (x.2.2.2.1 + 1) c) x.2.2.2.2 fullShare G
  else pc x.2.1 c (org x.1 x.2.2.2.1 c) x.2.2.2.2 (shr x.1 x.2.2.2.1) G

omit [FloatOps F] in
instance barPay_storable (c : Dev nD) (dir : Bool) : BI.Storable (upEmb : UEmb _ 𝕄) (barPay (F := F) c dir) := by
  unfold barPay four; infer_instance
omit [FloatOps F] in
instance dmaPay_storable (c : Dev nD) (s : DmaSem sig) : BI.Storable (upEmb : UEmb _ 𝕄) (dmaPay G c s) := by
  unfold dmaPay; dsimp only; split <;> infer_instance

def IsBar (g : GSem nD τ sig) : Prop := g.1.2 = .tc ∧ g.2 = .reg barS
def IsXfer (g : GSem nD τ sig) : Prop := g.1.2 = .tc ∧ ∃ s : DmaSem sig, g.2 = .dma s ∧ 8 ≤ s.val
instance (g : GSem nD τ sig) : Decidable (IsBar g) := by unfold IsBar; infer_instance
instance (g : GSem nD τ sig) : Decidable (IsXfer g) := by unfold IsXfer; exact Classical.propDecidable _

def rd : Rounds.Schedule (GSem nD τ sig) Bool 𝕄 where
  duties g r := if r = 0 ∧ IsBar g then Finset.univ else if r = 0 ∧ IsXfer g then {false} else ∅
  unitless _ := False
  amount g _ _ := match g.2 with
    | .reg _ => 1
    | .dma _ => NP
  payload g _ d := match g.2 with
    | .reg _ => barPay g.1.1 d
    | .dma s => dmaPay G g.1.1 s
  amount_pos g _ _ _ := by
    split
    · exact Nat.one_pos
    · exact NP_pos

omit [FloatOps F] in
instance rd_storable (g : GSem nD τ sig) (r : ℕ) (d : Bool) : BI.Storable (upEmb : UEmb _ 𝕄) ((rd G).payload g r d) := by
  dsimp only [rd]; split <;> infer_instance

section Sched
variable (c : Dev nD)

omit [FloatOps F] in
theorem duties_bar : (rd G).duties (barCell c) 0 = Finset.univ := by dsimp only [rd]; exact if_pos ⟨rfl, rfl, rfl⟩
omit [FloatOps F] in
theorem duties_dma {s : DmaSem sig} (hs : 8 ≤ s.val) : (rd G).duties ((c : Thread nD τ), .dma s) 0 = {false} := by
  dsimp only [rd]; rw [if_neg (fun h => by cases h.2.2)]; exact if_pos ⟨rfl, rfl, s, rfl, hs⟩
omit [FloatOps F] in
theorem duties_later (g : GSem nD τ sig) : ∀ r, 1 ≤ r → (rd G).duties g r = ∅ :=
  fun r hr => by dsimp only [rd]; rw [if_neg fun h => by omega, if_neg fun h => by omega]

omit [FloatOps F] in
theorem expect_bar : (rd G).expect (barCell c) 0 = 2 := by
  unfold Schedule.expect Schedule.amountOf
  rw [duties_bar]; rfl
omit [FloatOps F] in
theorem expect_dma {s : DmaSem sig} (hs : 8 ≤ s.val) : (rd G).expect ((c : Thread nD τ), .dma s) 0 = NP := by
  unfold Schedule.expect Schedule.amountOf; rw [duties_dma G c hs, Finset.sum_singleton]; rfl

omit [FloatOps F] in
theorem rest_bar : bigSep ((rd G).duties (barCell c) 0 \ ∅) (fun d => (rd G).payload (barCell c) 0 d) = iprop(barPay c false ∗ barPay c true) := by
  rw [Finset.sdiff_empty, duties_bar, bigSep_univ_eq_bigSepL [false, true] (by decide) (by decide), bigSepL_cons_cons, bigSepL_singleton]
  rfl
omit [FloatOps F] in
theorem rest_dma {s : DmaSem sig} (hs : 8 ≤ s.val) :
    bigSep ((rd G).duties ((c : Thread nD τ), .dma s) 0 \ ∅) (fun d => (rd G).payload ((c : Thread nD τ), .dma s) 0 d) = dmaPay G c s := by
  rw [Finset.sdiff_empty, duties_dma G c hs, bigSep_singleton]; rfl

omit [FloatOps F] in
theorem dmaPay_recv (dir wo : Bool) {k : ℕ} (hk : k < hops dir) (p : Fin 2) :
    dmaPay G c (semOf dir wo true k p) = pc wo c (org dir (k + 1) c) p fullShare G := by
  unfold dmaPay; rw [decode_semOf dir wo true hk p]; exact if_pos rfl
omit [FloatOps F] in
theorem dmaPay_send (dir wo : Bool) {k : ℕ} (hk : k < hops dir) (p : Fin 2) :
    dmaPay G c (semOf dir wo false k p) = pc wo c (org dir k c) p (shr dir k) G := by
  unfold dmaPay; rw [decode_semOf dir wo false hk p]; exact if_neg Bool.false_ne_true

end Sched

/-! ## The order of the transfers, what is owed, the levels

The program sends in groups of four pieces, forward and backward in turn: group `j` is hop `j / 2` of direction `j mod 2`. -/

def dirOf (j : ℕ) : Bool := decide (j % 2 = 1)
def hopOf (j : ℕ) : ℕ := j / 2
theorem hop_lt {j : ℕ} (hj : j < 15) : hopOf j < hops (dirOf j) := by
  have key : ∀ j : Fin 15, hopOf j.val < hops (dirOf j.val) := by decide
  exact key ⟨j, hj⟩

/-- The receive cell of the `i`-th transfer of device `c`. -/
def sentTo (c : Dev nD) (i : ℕ) : GSem nD τ sig :=
  cell (dirOf (i / 4)) (decide (i / 2 % 2 = 1)) true (hopOf (i / 4)) (Fin.ofNat 2 i) (dst (dirOf (i / 4)) c)

/-- What device `c` owes from its `i`-th transfer on, when `n` are left. -/
def owed (c : Dev nD) : ℕ → CellTallies nD τ sig Unit
  | 0 => 0
  | n + 1 => owed c n + tallyAt (sentTo c (59 - n)) () NP

theorem owed_zero (c : Dev nD) : owed c 0 = 0 := rfl
theorem owed_succ (c : Dev nD) (n : ℕ) : owed c (n + 1) = owed c n + tallyAt (sentTo c (59 - n)) () NP := rfl

/-- What device `c` owes at entry: all transfers, and the two signals. -/
def O₀ (c : Dev nD) : CellTallies nD τ sig Unit :=
  owed c 60 + tallyAt (barCell (dst false c)) () 1 + tallyAt (barCell (dst true c)) () 1

def L (g : GSem nD τ sig) : Finset Unit := if g.1.2 = .tc then {()} else ∅
/-- The barrier below the transfers' receiving ends, those in the order of the groups; everything else below the barrier. -/
def lv (g : GSem nD τ sig) (_ : Unit) : ℕ := match g.2 with
  | .reg _ => 1
  | .dma s => if 8 ≤ s.val ∧ (decode s).2.2.1 then 2 + (2 * (decode s).2.2.2.1 + (decode s).1.toNat) else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (dir wo : Bool) {k : ℕ} (hk : k < hops dir) (p : Fin 2) (c : Dev nD) :
    lv (cell dir wo true k p c) () = 2 + (2 * k + dir.toNat) := by
  dsimp only [lv]; rw [decode_semOf dir wo true hk p, if_pos ⟨semOf_ge dir wo true hk p, rfl⟩]
theorem lv_sentTo (c : Dev nD) {i : ℕ} (hi : i < 60) : lv (sentTo c i) () = 2 + i / 4 := by
  unfold sentTo; rw [lv_recv _ _ (hop_lt (by omega))]
  have key : ∀ j : Fin 15, 2 * hopOf j.val + (dirOf j.val).toNat = j.val := by decide
  exact congrArg (2 + ·) (key ⟨i / 4, by omega⟩)

theorem owed_pos {c : Dev nD} {g : GSem nD τ sig} {u : Unit} : ∀ {n : ℕ}, n ≤ 60 → 0 < owed c n g u → ∃ i, 60 - n ≤ i ∧ i < 60 ∧ g = sentTo c i
  | 0, _, h => absurd h (Nat.lt_irrefl 0)
  | n + 1, hn, h => by
    rw [owed_succ, Pi.add_apply, Finsupp.add_apply, tallyAt_apply] at h
    by_cases hg : g = sentTo c (59 - n)
    · exact ⟨59 - n, by omega, by omega, hg⟩
    · rw [if_neg (fun h' => hg h'.1)] at h
      obtain ⟨i, h1, h2, h3⟩ := owed_pos (n := n) (by omega) h
      exact ⟨i, by omega, h2, h3⟩

attribute [irreducible] owed

theorem O₀_pos {c : Dev nD} {g : GSem nD τ sig} {u : Unit} (h : 0 < O₀ c g u) :
    (∃ i, i < 60 ∧ g = sentTo c i) ∨ g = barCell (dst false c) ∨ g = barCell (dst true c) := by
  unfold O₀ at h
  rw [Pi.add_apply, Finsupp.add_apply, Pi.add_apply, Finsupp.add_apply, tallyAt_apply, tallyAt_apply] at h
  by_contra hn; rw [not_or, not_or] at hn
  obtain ⟨h1, h2, h3⟩ := hn
  rw [if_neg (fun h' => h2 h'.1), if_neg (fun h' => h3 h'.1)] at h
  obtain ⟨i, -, hi, hg⟩ := owed_pos (n := 60) le_rfl h
  exact h1 ⟨i, hi, hg⟩

omit [FloatOps F] in
/-- A device may wait on a cell below every transfer it still owes. -/
theorem mayWait_owed (c : Dev nD) (sm : SemLoc sig) {n : ℕ} (hn : n ≤ 60) (cut : ℕ) (hs : lv ((c : Thread nD τ), sm) () ≤ cut)
    (hc : ∀ i, 60 - n ≤ i → i < 60 → cut < 2 + i / 4) :
    (levAts L lv : sProp 𝕄) ⊢ MayWait (c : Thread nD τ) sm () (owed c n) :=
  MayOwe.of_cut (L := L) (lev := lv) cut (fun p hp => by rw [Finset.mem_singleton.mp hp, L_tc]; exact Finset.mem_singleton_self _)
    (fun g u hg => by obtain ⟨i, -, -, rfl⟩ := owed_pos hn hg; exact Finset.mem_singleton_self _)
    (fun p hp => by rw [Finset.mem_singleton.mp hp]; exact hs)
    (fun g u hg => by obtain ⟨i, h1, h2, rfl⟩ := owed_pos hn hg; rw [lv_sentTo c h2]; exact hc i h1 h2)

omit [FloatOps F] in
/-- A staging copy may be waited for whatever is owed of the protocol. -/
theorem mayWait_stage (c : Dev nD) (s : DmaSem sig) (hs : s.val < 8) (O : CellTallies nD τ sig Unit) (hO : O = O₀ c ∨ O = 0) :
    (levAts L lv : sProp 𝕄) ⊢ MayWait (c : Thread nD τ) (.dma s) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, -, rfl⟩ | rfl | rfl <;> exact Finset.mem_singleton_self _)
      (fun p hp => by rw [Finset.mem_singleton.mp hp]; dsimp only [lv]; rw [if_neg (fun h => by omega)])
      (fun g u hg => by
        rcases O₀_pos hg with ⟨i, hi, rfl⟩ | rfl | rfl
        · rw [lv_sentTo c hi]; omega
        · exact Nat.one_pos
        · exact Nat.one_pos)
  · rw [MayWait_zero]; iintro -; iempintro

end Cert.KernelIdeal.Ring
-- ==== Proof.Steps.lean ====
module

public import proofs.«01_k».proof.Proof.Protocol

/-! # The body's steps under the protocol: a transfer, a wait, the barrier -/

@[expose] public section

set_option maxRecDepth 65536

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-! ## The cells of the protocol -/

def barEmb : Dev nD ↪ GSem nD τ sig := ⟨fun c => barCell c, fun a b h => by
  have := congrArg (fun g : GSem nD τ sig => g.1.1) h; exact this⟩
/-- The protocol's transfer semaphores. -/
abbrev osem : Fin 120 → SemLoc sig := fun k => .dma (Fin.ofNat 128 (8 + k.val))
theorem osem_inj : Function.Injective osem := by decide +kernel
def dmaEmb : Dev nD × Fin 120 ↪ GSem nD τ sig := ⟨fun x => ((x.1 : Thread nD τ), osem x.2), fun a b h => by
  have h1 : a.1 = b.1 := congrArg (fun g : GSem nD τ sig => g.1.1) h
  have h2 : osem a.2 = osem b.2 := congrArg (fun g : GSem nD τ sig => g.2) h
  exact Prod.ext h1 (osem_inj h2)⟩
def barCells : Finset (GSem nD τ sig) := Finset.univ.map barEmb
def dmaCells : Finset (GSem nD τ sig) := Finset.univ.map dmaEmb

theorem bar_mem (c : Dev nD) : barCell c ∈ barCells ∪ dmaCells :=
  Finset.mem_union_left _ (Finset.mem_map.mpr ⟨c, Finset.mem_univ _, rfl⟩)
theorem dma_mem (c : Dev nD) {s : DmaSem sig} (hs : 8 ≤ s.val) : ((c : Thread nD τ), .dma s) ∈ barCells ∪ dmaCells :=
  Finset.mem_union_right _ (Finset.mem_map.mpr ⟨(c, ⟨s.val - 8, by have := s.isLt; simp only [sig] at this; omega⟩), Finset.mem_univ _, by
    have : Fin.ofNat 128 (8 + (s.val - 8)) = s := by
      apply Fin.ext; have := s.isLt; simp only [sig] at this; simp only [Fin.ofNat]; omega
    exact congrArg (fun x : DmaSem sig => (((c : Thread nD τ), SemLoc.dma x) : GSem nD τ sig)) this⟩)

variable (G : Gath F) (K : GSem nD τ sig → ℕ)

/-- Every cell of the protocol carries its invariant. -/
def Invs : sProp 𝕄 := bigSep (barCells ∪ dmaCells) fun g => cellInv ER (rd G) (K g) g

omit [FloatOps F] in
instance Invs_persistent : BI.Persistent (Invs G K) := by unfold Invs; infer_instance

omit [FloatOps F] in
theorem Invs_elim {g : GSem nD τ sig} (hg : g ∈ barCells ∪ dmaCells) : Invs G K ⊢ cellInv ER (rd G) (K g) g := by
  unfold Invs; exact bigSep_elim hg

/-- What a device owes, whatever waits it has recorded. -/
def owesX (c : Dev nD) (O : CellTallies nD τ sig Unit) : sProp 𝕄 := iprop(∃ W, owes (c : Thread nD τ) O W)

/-- What a transfer takes besides its source: its two tokens, that both cells are open, and the destination piece. -/
def sIn (c : Dev nD) (dir : Bool) (k : ℕ) (wo : Bool) (p : Fin 2) : sProp 𝕄 :=
  iprop(dutyTok ER (cell dir wo false k p c) 0 false ∗ reached ER (cell dir wo false k p c) 0
    ∗ dutyTok ER (cell dir wo true k p (dst dir c)) 0 false
    ∗ pcAny (F := F) wo (dst dir c) (org dir k c) p ∗ reached ER (cell dir wo true k p (dst dir c)) 0)

/-- What a wait takes on one of the transfers' cells. -/
def rIn (c : Dev nD) (dir : Bool) (k : ℕ) (wo : Bool) (p : Fin 2) : sProp 𝕄 :=
  iprop(atPos ER (cell dir wo true k p c) 0 ∅ 0 ∗ cred (tallyAt (cell dir wo true k p c) () NP))
/-- What a send leaves to be waited for. -/
def sOut (c : Dev nD) (dir : Bool) (k : ℕ) (wo : Bool) (p : Fin 2) : sProp 𝕄 :=
  iprop(atPos ER (cell dir wo false k p c) 0 ∅ 0 ∗ cred (tallyAt (cell dir wo false k p c) () NP))

omit [FloatOps F] in
/-- A piece written with what another device's same piece reads holds that piece. -/
theorem written_Q {n : ℕ} (h : n < 16) (p : Fin 2) (fd g : (cc0_scratch0 : Ref sig .tc).ty.Contents (Elt F)) (ℓ : Loc nD τ sig)
    (i) (hi : i ∈ (pieceQ h p).view.set) :
    (pieceQ h p).view.write (Elt F) fd ((pieceQ h p).view.read (Elt F) g) Finset.univ i = g i := by
  rw [View.write_read_eq_piecewise]; exact Finset.piecewise_eq_of_mem _ _ _ hi
omit [FloatOps F] in
theorem written_O {n : ℕ} (h : n < 16) (p : Fin 2) (fd g : (cc0_scratch1 : Ref sig .tc).ty.Contents (Elt F)) (ℓ : Loc nD τ sig)
    (i) (hi : i ∈ (pieceO h p).view.set) :
    (pieceO h p).view.write (Elt F) fd ((pieceO h p).view.read (Elt F) g) Finset.univ i = g i := by
  rw [View.write_read_eq_piecewise]; exact Finset.piecewise_eq_of_mem _ _ _ hi

section Wp

/-- A device sends half a slot of query weights. -/
theorem wp_sendQ (c d : Dev nD) (dir : Bool) {k : ℕ} (hk : k < hops dir) (hd : d = dst dir c) {n : ℕ} (h : n < 16) (hn : n = (org dir k c).val)
    (p : Fin 2) (O : CellTallies nD τ sig Unit)
    {α : Type} {Q : α → sProp 𝕄} {kont : PUnit → PR F α} :
    iprop(Invs G K ∗ sIn c dir k false p ∗ pc false c (org dir k c) p (shr dir k) G
        ∗ owesX c (O + tallyAt (cell dir false true k p (dst dir c)) () NP))
      ⊢ iprop(((cred (tallyAt (cell dir false false k p c) () NP) ∗ owesX c O)
          -∗ wp frame (wpE (defs₀ (F := F)) 𝒱₀ (c : Thread nD τ) none) Set.univ (kont ⟨⟩) Q)
        -∗ wp frame (wpE (defs₀ (F := F)) 𝒱₀ (c : Thread nD τ) none) Set.univ (sendQ d dir k h p >>= kont) Q) := by
  subst hd; subst hn
  iintro ⟨#HI, Hs, Hsrc, HO⟩ Hk
  unfold sIn pcAny owesX
  icases Hs with ⟨Ht1, Hr1, Ht2, ⟨%Gd, Hd⟩, Hr2⟩
  icases HO with ⟨%W, HO⟩
  unfold pc; dsimp only
  iapply (Rounds.wp_send_pointsTo 𝒱₀ ER (rd G) (c : Thread nD τ) none (c' := (dst dir c : Thread nD τ))
    (src := pieceQ (org dir k c).isLt p) (dst := pieceQ (org dir k c).isLt p) (sS := .dma (semOf dir false false k p)) (sem := .dma (semOf dir false true k p))
    (q := shr dir k) (fs := G.q)
    (κ₁ := K (cell dir false false k p c)) (κ₂ := K (cell dir false true k p (dst dir c)))
    (r₁ := 0) (r₂ := 0) (d₁ := false) (d₂ := false) (fd := Gd.q) (k := kont)
    (by rw [duties_dma G c (semOf_ge dir _ _ hk p)]; exact Finset.mem_singleton_self _)
    (by rw [duties_dma G (dst dir c) (semOf_ge dir _ _ hk p)]; exact Finset.mem_singleton_self _)
    () () NP (NP_Q _ p) rfl rfl O rfl (W := W)
    (by
      show _ ⊢ dmaPay G c _
      rw [dmaPay_send G c dir false hk p]; exact BI.Entails.refl _)
    (by
      show _ ⊢ dmaPay G (dst dir c) _
      rw [dmaPay_recv G (dst dir c) dir false hk p, org_dst]
      exact Entails.of_eq (pointsTo_congr (written_Q _ p _ _ (mQ.view.loc (c : Thread nD τ)))))) $$ [Hsrc Hd HO Ht1 Hr1 Ht2 Hr2]
  · isplitr
    · iapply (Invs_elim G K (dma_mem c (semOf_ge dir _ _ hk p))); iexact HI
    isplitr
    · iapply (Invs_elim G K (dma_mem (dst dir c) (semOf_ge dir _ _ hk p))); iexact HI
    isplitl [Hsrc]; · iexact Hsrc
    isplitl [Hd]; · iexact Hd
    isplitl [HO]; · iexact HO
    isplitl [Ht1]; · iexact Ht1
    isplitl [Hr1]; · iexact Hr1
    isplitl [Ht2] <;> iassumption
  iintro ⟨Hc, HO⟩
  iapply Hk
  isplitl [Hc]; · iexact Hc
  iexists W; iexact HO

/-- A device sends half a slot of output weights. -/
theorem wp_sendO (c d : Dev nD) (dir : Bool) {k : ℕ} (hk : k < hops dir) (hd : d = dst dir c) {n : ℕ} (h : n < 16) (hn : n = (org dir k c).val)
    (p : Fin 2) (O : CellTallies nD τ sig Unit)
    {α : Type} {Q : α → sProp 𝕄} {kont : PUnit → PR F α} :
    iprop(Invs G K ∗ sIn c dir k true p ∗ pc true c (org dir k c) p (shr dir k) G
        ∗ owesX c (O + tallyAt (cell dir true true k p (dst dir c)) () NP))
      ⊢ iprop(((cred (tallyAt (cell dir true false k p c) () NP) ∗ owesX c O)
          -∗ wp frame (wpE (defs₀ (F := F)) 𝒱₀ (c : Thread nD τ) none) Set.univ (kont ⟨⟩) Q)
        -∗ wp frame (wpE (defs₀ (F := F)) 𝒱₀ (c : Thread nD τ) none) Set.univ (sendO d dir k h p >>= kont) Q) := by
  subst hd; subst hn
  iintro ⟨#HI, Hs, Hsrc, HO⟩ Hk
  unfold sIn pcAny owesX
  icases Hs with ⟨Ht1, Hr1, Ht2, ⟨%Gd, Hd⟩, Hr2⟩
  icases HO with ⟨%W, HO⟩
  unfold pc; dsimp only
  iapply (Rounds.wp_send_pointsTo 𝒱₀ ER (rd G) (c : Thread nD τ) none (c' := (dst dir c : Thread nD τ))
    (src := pieceO (org dir k c).isLt p) (dst := pieceO (org dir k c).isLt p) (sS := .dma (semOf dir true false k p)) (sem := .dma (semOf dir true true k p))
    (q := shr dir k) (fs := G.o)
    (κ₁ := K (cell dir true false k p c)) (κ₂ := K (cell dir true true k p (dst dir c)))
    (r₁ := 0) (r₂ := 0) (d₁ := false) (d₂ := false) (fd := Gd.o) (k := kont)
    (by rw [duties_dma G c (semOf_ge dir _ _ hk p)]; exact Finset.mem_singleton_self _)
    (by rw [duties_dma G (dst dir c) (semOf_ge dir _ _ hk p)]; exact Finset.mem_singleton_self _)
    () () NP (NP_O _ p) rfl rfl O rfl (W := W)
    (by
      show _ ⊢ dmaPay G c _
      rw [dmaPay_send G c dir true hk p]; exact BI.Entails.refl _)
    (by
      show _ ⊢ dmaPay G (dst dir c) _
      rw [dmaPay_recv G (dst dir c) dir true hk p, org_dst]
      exact Entails.of_eq (pointsTo_congr (written_O _ p _ _ (mO.view.loc (c : Thread nD τ)))))) $$ [Hsrc Hd HO Ht1 Hr1 Ht2 Hr2]
  · isplitr
    · iapply (Invs_elim G K (dma_mem c (semOf_ge dir _ _ hk p))); iexact HI
    isplitr
    · iapply (Invs_elim G K (dma_mem (dst dir c) (semOf_ge dir _ _ hk p))); iexact HI
    isplitl [Hsrc]; · iexact Hsrc
    isplitl [Hd]; · iexact Hd
    isplitl [HO]; · iexact HO
    isplitl [Ht1]; · iexact Ht1
    isplitl [Hr1]; · iexact Hr1
    isplitl [Ht2] <;> iassumption
  iintro ⟨Hc, HO⟩
  iapply Hk
  isplitl [Hc]; · iexact Hc
  iexists W; iexact HO

/-- A device waits for half a slot of query weights, on either end of a hop, and takes its cell's counter back. -/
theorem wp_waitQ (c : Dev nD) (dir rc : Bool) {k : ℕ} (hk : k < hops dir) {n : ℕ} (h : n < 16) (p : Fin 2) (O : CellTallies nD τ sig Unit)
    {α : Type} {Q : α → sProp 𝕄} {kont : PUnit → PR F α} :
    iprop(Invs G K ∗ (atPos ER (cell dir false rc k p c) 0 ∅ 0 ∗ cred (tallyAt (cell dir false rc k p c) () NP))
        ∗ owesX c O ∗ MayWait (c : Thread nD τ) (.dma (semOf dir false rc k p)) () O)
      ⊢ iprop(((semVal (cell dir false rc k p c) 0 ∗ dmaPay G c (semOf dir false rc k p) ∗ owesX c O)
          -∗ wp frame (wpE (defs₀ (F := F)) 𝒱₀ (c : Thread nD τ) none) Set.univ (kont ⟨⟩) Q)
        -∗ wp frame (wpE (defs₀ (F := F)) 𝒱₀ (c : Thread nD τ) none) Set.univ (waitQ dir rc k h p >>= kont) Q) := by
  iintro ⟨#HI, ⟨Hat, Hc⟩, HO, Hm⟩ Hk
  unfold owesX
  icases HO with ⟨%W, HO⟩
  have hs := semOf_ge dir false rc hk p
  iapply (Rounds.wp_wait_rest_token 𝒱₀ ER (rd G) (c : Thread nD τ) none (κ := K (cell dir false rc k p c)) (sm := .dma (semOf dir false rc k p)) (k := kont)
    (wpE_waitDma2_eq 𝒱₀ (c : Thread nD τ) none Set.univ) (Set.mem_univ _) () (O := O) (W := W) (R := 0) (m := 0) (T := ∅)
    (by rw [expect_dma G c hs, Nat.zero_add, NP_Q])) $$ [Hat Hc HO Hm]
  · isplitr
    · iapply (Invs_elim G K (dma_mem c hs)); iexact HI
    isplitl [Hc]; · rw [NP_Q]; iexact Hc
    isplitl [HO]; · iexact HO
    isplitl [Hm]; · iexact Hm
    iexact Hat
  rw [rest_dma G c hs]
  iintro ⟨HO, Hat, -, Hpay⟩
  imod (Rounds.cell_close ER (rd G) (Set.mem_univ (K (cell dir false rc k p c))) id (duties_later G (cell dir false rc k p c))) $$ [Hat] with Hz
  · isplitr
    · iapply (Invs_elim G K (dma_mem c hs)); iexact HI
    iexact Hat
  iapply Hk
  isplitl [Hz]; · iexact Hz
  isplitl [Hpay]; · iexact Hpay
  iexists _; iexact HO

/-- A device waits for half a slot of output weights, on either end of a hop, and takes its cell's counter back. -/
theorem wp_waitO (c : Dev nD) (dir rc : Bool) {k : ℕ} (hk : k < hops dir) {n : ℕ} (h : n < 16) (p : Fin 2) (O : CellTallies nD τ sig Unit)
    {α : Type} {Q : α → sProp 𝕄} {kont : PUnit → PR F α} :
    iprop(Invs G K ∗ (atPos ER (cell dir true rc k p c) 0 ∅ 0 ∗ cred (tallyAt (cell dir true rc k p c) () NP))
        ∗ owesX c O ∗ MayWait (c : Thread nD τ) (.dma (semOf dir true rc k p)) () O)
      ⊢ iprop(((semVal (cell dir true rc k p c) 0 ∗ dmaPay G c (semOf dir true rc k p) ∗ owesX c O)
          -∗ wp frame (wpE (defs₀ (F := F)) 𝒱₀ (c : Thread nD τ) none) Set.univ (kont ⟨⟩) Q)
        -∗ wp frame (wpE (defs₀ (F := F)) 𝒱₀ (c : Thread nD τ) none) Set.univ (waitO dir rc k h p >>= kont) Q) := by
  iintro ⟨#HI, ⟨Hat, Hc⟩, HO, Hm⟩ Hk
  unfold owesX
  icases HO with ⟨%W, HO⟩
  have hs := semOf_ge dir true rc hk p
  iapply (Rounds.wp_wait_rest_token 𝒱₀ ER (rd G) (c : Thread nD τ) none (κ := K (cell dir true rc k p c)) (sm := .dma (semOf dir true rc k p)) (k := kont)
    (wpE_waitDma2_eq 𝒱₀ (c : Thread nD τ) none Set.univ) (Set.mem_univ _) () (O := O) (W := W) (R := 0) (m := 0) (T := ∅)
    (by rw [expect_dma G c hs, Nat.zero_add, NP_O])) $$ [Hat Hc HO Hm]
  · isplitr
    · iapply (Invs_elim G K (dma_mem c hs)); iexact HI
    isplitl [Hc]; · rw [NP_O]; iexact Hc
    isplitl [HO]; · iexact HO
    isplitl [Hm]; · iexact Hm
    iexact Hat
  rw [rest_dma G c hs]
  iintro ⟨HO, Hat, -, Hpay⟩
  imod (Rounds.cell_close ER (rd G) (Set.mem_univ (K (cell dir true rc k p c))) id (duties_later G (cell dir true rc k p c))) $$ [Hat] with Hz
  · isplitr
    · iapply (Invs_elim G K (dma_mem c hs)); iexact HI
    iexact Hat
  iapply Hk
  isplitl [Hz]; · iexact Hz
  isplitl [Hpay]; · iexact Hpay
  iexists _; iexact HO

end Wp

end Cert.KernelIdeal.Ring
-- ==== Proof.Hops.lean ====
module

public import proofs.«01_k».proof.Proof.Steps

/-! # A hop: receive a slot, send it on; send the own slot; wait for a slot -/

@[expose] public section

set_option maxRecDepth 65536

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

theorem sentTo_eq (c : Dev nD) {j : ℕ} (hj : j < 15) (wo : Bool) (p : Fin 2) :
    sentTo c (4 * j + 2 * wo.toNat + p.val) = cell (dirOf j) wo true (hopOf j) p (dst (dirOf j) c) := by
  have e1 : (4 * j + 2 * wo.toNat + p.val) / 4 = j := by have := p.isLt; cases wo <;> simp only [Bool.toNat] <;> simp <;> omega
  have e2 : decide ((4 * j + 2 * wo.toNat + p.val) / 2 % 2 = 1) = wo := by
    have := p.isLt; cases wo <;> simp only [Bool.toNat] <;> simp <;> omega
  have e3 : Fin.ofNat 2 (4 * j + 2 * wo.toNat + p.val) = p := by
    apply Fin.ext; simp only [Fin.ofNat]; have := p.isLt; omega
  unfold sentTo; rw [e1, e2, e3]

theorem owed_step (c : Dev nD) {j : ℕ} (hj : j < 15) (wo : Bool) (p : Fin 2) {m : ℕ} (hm : m + (4 * j + 2 * wo.toNat + p.val) = 59) :
    owed c (m + 1) = owed c m + tallyAt (cell (dirOf j) wo true (hopOf j) p (dst (dirOf j) c)) () NP := by
  rw [owed_succ, show 59 - m = 4 * j + 2 * wo.toNat + p.val by omega, sentTo_eq c hj]

variable (G : Gath F) (K : GSem nD τ sig → ℕ)

/-- The four receive ends of a group, before their waits. -/
def rIn4 (c : Dev nD) (dir : Bool) (k : ℕ) : sProp 𝕄 := four fun wo p => rIn c dir k wo p
/-- What the four transfers of a group take besides their sources. -/
def sIn4 (c : Dev nD) (dir : Bool) (k : ℕ) : sProp 𝕄 := four fun wo p => sIn (F := F) c dir k wo p
/-- The credits the four transfers of a group leave with their sender. -/
def sCr4 (c : Dev nD) (dir : Bool) (k : ℕ) : sProp 𝕄 := four fun wo p => cred (tallyAt (cell dir wo false k p c) () NP)
/-- The sender's positions on a group's send cells. -/
def sAt4 (c : Dev nD) (dir : Bool) (k : ℕ) : sProp 𝕄 := four fun wo p => atPos ER (cell dir wo false k p c) 0 ∅ 0
/-- A slot, at a share. -/
def pc4 (c n : Dev nD) (q : PosShare TreeShare) : sProp 𝕄 := four fun wo p => pc wo c n p q G
/-- A group's counters on one end, back in the device's hand. -/
def z4 (c : Dev nD) (dir rc : Bool) (k : ℕ) : sProp 𝕄 := four fun wo p => semVal (cell dir wo rc k p c) 0

/-- Receive half a slot of query weights and send it on. -/
theorem wp_hopQ (c d : Dev nD) {j : ℕ} (hj : j + 2 < 15) {dir : Bool} {k : ℕ} (hdir : dir = dirOf j) (hk : k = hopOf j) (hd : d = dst dir c)
    {n : ℕ} (h : n < 16) (hn : n = (org dir (k + 1) c).val) (p : Fin 2) {m : ℕ} (hm : m + (4 * (j + 2) + p.val) = 59)
    {α : Type} {Q : α → sProp 𝕄} {kont : PUnit → PR F α} :
    iprop(Invs G K ∗ levAts L lv ∗ rIn c dir k false p ∗ sIn c dir (k + 1) false p ∗ owesX c (owed c (m + 1)))
      ⊢ iprop(((semVal (cell dir false true k p c) 0 ∗ cred (tallyAt (cell dir false false (k + 1) p c) () NP)
            ∗ pc false c (org dir (k + 1) c) p fullShare.left G ∗ owesX c (owed c m))
          -∗ wp frame (wpE (defs₀ (F := F)) 𝒱₀ (c : Thread nD τ) none) Set.univ (kont ⟨⟩) Q)
        -∗ wp frame (wpE (defs₀ (F := F)) 𝒱₀ (c : Thread nD τ) none) Set.univ (waitQ dir true k h p >>= fun _ => sendQ d dir (k + 1) h p >>= kont) Q) := by
  subst hdir; subst hk
  have hk0 : hopOf j < hops (dirOf j) := hop_lt (by omega)
  have e1 : hopOf (j + 2) = hopOf j + 1 := by simp [hopOf]
  have e2 : dirOf (j + 2) = dirOf j := by simp [dirOf]
  have hk1 : hopOf j + 1 < hops (dirOf j) := by rw [← e1, ← e2]; exact hop_lt hj
  have ho : owed c (m + 1) = owed c m + tallyAt (cell (dirOf j) false true (hopOf j + 1) p (dst (dirOf j) c)) () NP := by
    have := owed_step c hj false p (m := m) (by simpa using hm); rwa [e1, e2] at this
  have hq : shr (dirOf j) (hopOf j + 1) = fullShare.right := if_neg (Nat.succ_ne_zero _)
  iintro ⟨#HI, #HL, Hr, Hs, HO⟩ Hk
  iapply (wp_waitQ G K c (dirOf j) true hk0 h p (owed c (m + 1))) $$ [Hr HO]
  · isplitr; · iexact HI
    isplitl [Hr]; · unfold rIn; iexact Hr
    isplitl [HO]; · iexact HO
    iapply (mayWait_owed c (.dma (semOf (dirOf j) false true (hopOf j) p)) (n := m + 1) (by omega) (2 + j)
      (by rw [show lv ((c : Thread nD τ), .dma (semOf (dirOf j) false true (hopOf j) p)) () = _ from lv_recv (dirOf j) false hk0 p c]
          have : 2 * hopOf j + (dirOf j).toNat = j := by
            unfold hopOf dirOf; by_cases h1 : j % 2 = 1 <;> simp [h1] <;> omega
          omega) (fun i h1 h2 => by omega))
    iexact HL
  iintro ⟨Hz, Hpay, HO⟩
  ihave Hpay := (Entails.of_eq (dmaPay_recv G c (dirOf j) false hk0 p)) $$ Hpay
  ihave Hp := (pc_halves false c _ p fullShare G).1 $$ Hpay
  icases Hp with ⟨Hl, Hrt⟩
  iapply (wp_sendQ G K c d (dirOf j) hk1 hd h hn p (owed c m)) $$ [Hrt Hs HO]
  · isplitr; · iexact HI
    isplitl [Hs]; · iexact Hs
    rw [hq, ← ho]
    isplitl [Hrt] <;> iassumption
  iintro ⟨Hc, HO⟩
  iapply Hk
  isplitl [Hz]; · iexact Hz
  isplitl [Hc]; · iexact Hc
  isplitl [Hl] <;> iassumption

/-- Receive half a slot of output weights and send it on. -/
theorem wp_hopO (c d : Dev nD) {j : ℕ} (hj : j + 2 < 15) {dir : Bool} {k : ℕ} (hdir : dir = dirOf j) (hk : k = hopOf j) (hd : d = dst dir c)
    {n : ℕ} (h : n < 16) (hn : n = (org dir (k + 1) c).val) (p : Fin 2) {m : ℕ} (hm : m + (4 * (j + 2) + 2 + p.val) = 59)
    {α : Type} {Q : α → sProp 𝕄} {kont : PUnit → PR F α} :
    iprop(Invs G K ∗ levAts L lv ∗ rIn c dir k true p ∗ sIn c dir (k + 1) true p ∗ owesX c (owed c (m + 1)))
      ⊢ iprop(((semVal (cell dir true true k p c) 0 ∗ cred (tallyAt (cell dir true false (k + 1) p c) () NP)
            ∗ pc true c (org dir (k + 1) c) p fullShare.left G ∗ owesX c (owed c m))
          -∗ wp frame (wpE (defs₀ (F := F)) 𝒱₀ (c : Thread nD τ) none) Set.univ (kont ⟨⟩) Q)
        -∗ wp frame (wpE (defs₀ (F := F)) 𝒱₀ (c : Thread nD τ) none) Set.univ (waitO dir true k h p >>= fun _ => sendO d dir (k + 1) h p >>= kont) Q) := by
  subst hdir; subst hk
  have hk0 : hopOf j < hops (dirOf j) := hop_lt (by omega)
  have e1 : hopOf (j + 2) = hopOf j + 1 := by simp [hopOf]
  have e2 : dirOf (j + 2) = dirOf j := by simp [dirOf]
  have hk1 : hopOf j + 1 < hops (dirOf j) := by rw [← e1, ← e2]; exact hop_lt hj
  have ho : owed c (m + 1) = owed c m + tallyAt (cell (dirOf j) true true (hopOf j + 1) p (dst (dirOf j) c)) () NP := by
    have := owed_step c hj true p (m := m) (by simpa using hm); rwa [e1, e2] at this
  have hq : shr (dirOf j) (hopOf j + 1) = fullShare.right := if_neg (Nat.succ_ne_zero _)
  iintro ⟨#HI, #HL, Hr, Hs, HO⟩ Hk
  iapply (wp_waitO G K c (dirOf j) true hk0 h p (owed c (m + 1))) $$ [Hr HO]
  · isplitr; · iexact HI
    isplitl [Hr]; · unfold rIn; iexact Hr
    isplitl [HO]; · iexact HO
    iapply (mayWait_owed c (.dma (semOf (dirOf j) true true (hopOf j) p)) (n := m + 1) (by omega) (2 + j)
      (by rw [show lv ((c : Thread nD τ), .dma (semOf (dirOf j) true true (hopOf j) p)) () = _ from lv_recv (dirOf j) true hk0 p c]
          have : 2 * hopOf j + (dirOf j).toNat = j := by
            unfold hopOf dirOf; by_cases h1 : j % 2 = 1 <;> simp [h1] <;> omega
          omega) (fun i h1 h2 => by omega))
    iexact HL
  iintro ⟨Hz, Hpay, HO⟩
  ihave Hpay := (Entails.of_eq (dmaPay_recv G c (dirOf j) true hk0 p)) $$ Hpay
  ihave Hp := (pc_halves true c _ p fullShare G).1 $$ Hpay
  icases Hp with ⟨Hl, Hrt⟩
  iapply (wp_sendO G K c d (dirOf j) hk1 hd h hn p (owed c m)) $$ [Hrt Hs HO]
  · isplitr; · iexact HI
    isplitl [Hs]; · iexact Hs
    rw [hq, ← ho]
    isplitl [Hrt] <;> iassumption
  iintro ⟨Hc, HO⟩
  iapply Hk
  isplitl [Hz]; · iexact Hz
  isplitl [Hc]; · iexact Hc
  isplitl [Hl] <;> iassumption

/-! ## Groups of four -/

omit [FloatOps F] in
theorem relay_bind (d : Dev nD) (dir : Bool) (k : ℕ) {n : ℕ} (h : n < 16) {α : Type} (kont : PUnit → PR F α) :
    (relay d dir k h >>= kont) = (waitQ dir true k h 0 >>= fun _ => sendQ d dir (k + 1) h 0 >>= fun _ =>
      waitQ dir true k h 1 >>= fun _ => sendQ d dir (k + 1) h 1 >>= fun _ =>
      waitO dir true k h 0 >>= fun _ => sendO d dir (k + 1) h 0 >>= fun _ =>
      waitO dir true k h 1 >>= fun _ => sendO d dir (k + 1) h 1 >>= kont) := rfl
omit [FloatOps F] in
theorem sendSlot_bind (d : Dev nD) (dir : Bool) (k : ℕ) {n : ℕ} (h : n < 16) {α : Type} (kont : PUnit → PR F α) :
    (sendSlot d dir k h >>= kont) = (sendQ d dir k h 0 >>= fun _ => sendQ d dir k h 1 >>= fun _ =>
      sendO d dir k h 0 >>= fun _ => sendO d dir k h 1 >>= kont) := rfl
omit [FloatOps F] in
theorem waitSlot_bind (dir rc : Bool) (k : ℕ) {n : ℕ} (h : n < 16) {α : Type} (kont : PUnit → PR F α) :
    (waitSlot dir rc k h >>= kont) = (waitQ dir rc k h 0 >>= fun _ => waitQ dir rc k h 1 >>= fun _ =>
      waitO dir rc k h 0 >>= fun _ => waitO dir rc k h 1 >>= kont) := rfl

/-- Receive a slot and send it on. -/
theorem wp_relay (c d : Dev nD) {j : ℕ} (hj : j + 2 < 15) {dir : Bool} {k : ℕ} (hdir : dir = dirOf j) (hk : k = hopOf j) (hd : d = dst dir c)
    {n : ℕ} (h : n < 16) (hn : n = (org dir (k + 1) c).val) {m : ℕ} (hm : m + (4 * (j + 2) + 4) = 60)
    {α : Type} {Q : α → sProp 𝕄} {kont : PUnit → PR F α} :
    iprop(Invs G K ∗ levAts L lv ∗ rIn4 c dir k ∗ sIn4 c dir (k + 1) ∗ owesX c (owed c (m + 4)))
      ⊢ iprop(((z4 c dir true k ∗ sCr4 c dir (k + 1) ∗ pc4 G c (org dir (k + 1) c) fullShare.left ∗ owesX c (owed c m))
          -∗ wp frame (wpE (defs₀ (F := F)) 𝒱₀ (c : Thread nD τ) none) Set.univ (kont ⟨⟩) Q)
        -∗ wp frame (wpE (defs₀ (F := F)) 𝒱₀ (c : Thread nD τ) none) Set.univ (relay d dir k h >>= kont) Q) := by
  rw [relay_bind]
  unfold rIn4 sIn4 z4 sCr4 pc4 four
  iintro ⟨#HI, #HL, ⟨R1, R2, R3, R4⟩, ⟨S1, S2, S3, S4⟩, HO⟩ Hk
  iapply (wp_hopQ G K c d hj hdir hk hd h hn 0 (m := m + 3) (by simp; omega)) $$ [R1 S1 HO]
  · isplitr; · iexact HI
    isplitr; · iexact HL
    isplitl [R1]; · iexact R1
    isplitl [S1] <;> iassumption
  iintro ⟨Z1, C1, P1, HO⟩
  iapply (wp_hopQ G K c d hj hdir hk hd h hn 1 (m := m + 2) (by simp; omega)) $$ [R2 S2 HO]
  · isplitr; · iexact HI
    isplitr; · iexact HL
    isplitl [R2]; · iexact R2
    isplitl [S2] <;> iassumption
  iintro ⟨Z2, C2, P2, HO⟩
  iapply (wp_hopO G K c d hj hdir hk hd h hn 0 (m := m + 1) (by simp; omega)) $$ [R3 S3 HO]
  · isplitr; · iexact HI
    isplitr; · iexact HL
    isplitl [R3]; · iexact R3
    isplitl [S3] <;> iassumption
  iintro ⟨Z3, C3, P3, HO⟩
  iapply (wp_hopO G K c d hj hdir hk hd h hn 1 (m := m) (by simp; omega)) $$ [R4 S4 HO]
  · isplitr; · iexact HI
    isplitr; · iexact HL
    isplitl [R4]; · iexact R4
    isplitl [S4] <;> iassumption
  iintro ⟨Z4, C4, P4, HO⟩
  iapply Hk
  isplitl [Z1 Z2 Z3 Z4]
  · isplitl [Z1]; · iexact Z1
    isplitl [Z2]; · iexact Z2
    isplitl [Z3] <;> iassumption
  isplitl [C1 C2 C3 C4]
  · isplitl [C1]; · iexact C1
    isplitl [C2]; · iexact C2
    isplitl [C3] <;> iassumption
  isplitl [P1 P2 P3 P4]
  · isplitl [P1]; · iexact P1
    isplitl [P2]; · iexact P2
    isplitl [P3] <;> iassumption
  iexact HO

/-- Send the device's own slot. -/
theorem wp_sendSlot (c d : Dev nD) {j : ℕ} (hj : j < 15) {dir : Bool} {k : ℕ} (hdir : dir = dirOf j) (hk : k = hopOf j) (hd : d = dst dir c)
    {n : ℕ} (h : n < 16) (hn : n = (org dir k c).val) {m : ℕ} (hm : m + (4 * j + 4) = 60)
    {α : Type} {Q : α → sProp 𝕄} {kont : PUnit → PR F α} :
    iprop(Invs G K ∗ sIn4 c dir k ∗ pc4 G c (org dir k c) (shr dir k) ∗ owesX c (owed c (m + 4)))
      ⊢ iprop(((sCr4 c dir k ∗ owesX c (owed c m))
          -∗ wp frame (wpE (defs₀ (F := F)) 𝒱₀ (c : Thread nD τ) none) Set.univ (kont ⟨⟩) Q)
        -∗ wp frame (wpE (defs₀ (F := F)) 𝒱₀ (c : Thread nD τ) none) Set.univ (sendSlot d dir k h >>= kont) Q) := by
  subst hdir; subst hk
  have hk0 := hop_lt hj
  rw [sendSlot_bind]
  unfold sIn4 sCr4 pc4 four
  iintro ⟨#HI, ⟨S1, S2, S3, S4⟩, ⟨P1, P2, P3, P4⟩, HO⟩ Hk
  iapply (wp_sendQ G K c d (dirOf j) hk0 hd h hn 0 (owed c (m + 3))) $$ [P1 S1 HO]
  · isplitr; · iexact HI
    rw [← owed_step c hj false 0 (m := m + 3) (by simp; omega)]
    isplitl [S1]; · iexact S1
    isplitl [P1] <;> iassumption
  iintro ⟨C1, HO⟩
  iapply (wp_sendQ G K c d (dirOf j) hk0 hd h hn 1 (owed c (m + 2))) $$ [P2 S2 HO]
  · isplitr; · iexact HI
    rw [← owed_step c hj false 1 (m := m + 2) (by simp; omega)]
    isplitl [S2]; · iexact S2
    isplitl [P2] <;> iassumption
  iintro ⟨C2, HO⟩
  iapply (wp_sendO G K c d (dirOf j) hk0 hd h hn 0 (owed c (m + 1))) $$ [P3 S3 HO]
  · isplitr; · iexact HI
    rw [← owed_step c hj true 0 (m := m + 1) (by simp; omega)]
    isplitl [S3]; · iexact S3
    isplitl [P3] <;> iassumption
  iintro ⟨C3, HO⟩
  iapply (wp_sendO G K c d (dirOf j) hk0 hd h hn 1 (owed c m)) $$ [P4 S4 HO]
  · isplitr; · iexact HI
    rw [← owed_step c hj true 1 (m := m) (by simp; omega)]
    isplitl [S4]; · iexact S4
    isplitl [P4] <;> iassumption
  iintro ⟨C4, HO⟩
  iapply Hk
  isplitl [C1 C2 C3 C4]
  · isplitl [C1]; · iexact C1
    isplitl [C2]; · iexact C2
    isplitl [C3] <;> iassumption
  iexact HO

/-- Wait for the four pieces of a slot on one end of a hop. -/
theorem wp_waitSlot (c : Dev nD) (dir rc : Bool) {k : ℕ} (hk : k < hops dir) {n : ℕ} (h : n < 16) (m : ℕ) (hm : m ≤ 60) (cut : ℕ)
    (hlv : ∀ wo p, lv (cell dir wo rc k p c) () ≤ cut) (hc : ∀ i, 60 - m ≤ i → i < 60 → cut < 2 + i / 4)
    {α : Type} {Q : α → sProp 𝕄} {kont : PUnit → PR F α} :
    iprop(Invs G K ∗ levAts L lv ∗ four (fun wo p => iprop(atPos ER (cell dir wo rc k p c) 0 ∅ 0 ∗ cred (tallyAt (cell dir wo rc k p c) () NP)))
        ∗ owesX c (owed c m))
      ⊢ iprop(((z4 c dir rc k ∗ four (fun wo p => dmaPay G c (semOf dir wo rc k p)) ∗ owesX c (owed c m))
          -∗ wp frame (wpE (defs₀ (F := F)) 𝒱₀ (c : Thread nD τ) none) Set.univ (kont ⟨⟩) Q)
        -∗ wp frame (wpE (defs₀ (F := F)) 𝒱₀ (c : Thread nD τ) none) Set.univ (waitSlot dir rc k h >>= kont) Q) := by
  rw [waitSlot_bind]
  unfold z4 four
  have hw : ∀ wo p, (levAts L lv : sProp 𝕄) ⊢ MayWait (c : Thread nD τ) (.dma (semOf dir wo rc k p)) () (owed c m) :=
    fun wo p => mayWait_owed c _ hm cut (hlv wo p) hc
  iintro ⟨#HI, #HL, ⟨R1, R2, R3, R4⟩, HO⟩ Hk
  iapply (wp_waitQ G K c dir rc hk h 0 (owed c m)) $$ [R1 HO]
  · isplitr; · iexact HI
    isplitl [R1]; · iexact R1
    isplitl [HO]; · iexact HO
    iapply (hw false 0); iexact HL
  iintro ⟨Z1, P1, HO⟩
  iapply (wp_waitQ G K c dir rc hk h 1 (owed c m)) $$ [R2 HO]
  · isplitr; · iexact HI
    isplitl [R2]; · iexact R2
    isplitl [HO]; · iexact HO
    iapply (hw false 1); iexact HL
  iintro ⟨Z2, P2, HO⟩
  iapply (wp_waitO G K c dir rc hk h 0 (owed c m)) $$ [R3 HO]
  · isplitr; · iexact HI
    isplitl [R3]; · iexact R3
    isplitl [HO]; · iexact HO
    iapply (hw true 0); iexact HL
  iintro ⟨Z3, P3, HO⟩
  iapply (wp_waitO G K c dir rc hk h 1 (owed c m)) $$ [R4 HO]
  · isplitr; · iexact HI
    isplitl [R4]; · iexact R4
    isplitl [HO]; · iexact HO
    iapply (hw true 1); iexact HL
  iintro ⟨Z4, P4, HO⟩
  iapply Hk
  isplitl [Z1 Z2 Z3 Z4]
  · isplitl [Z1]; · iexact Z1
    isplitl [Z2]; · iexact Z2
    isplitl [Z3] <;> iassumption
  isplitl [P1 P2 P3 P4]
  · isplitl [P1]; · iexact P1
    isplitl [P2]; · iexact P2
    isplitl [P3] <;> iassumption
  iexact HO

end Cert.KernelIdeal.Ring
-- ==== Proof.Chunk.lean ====
module

public import proofs.«01_k».proof.Proof.Hops

/-! # Reading the tables, placing the own chunk, adding a chunk's contribution -/

@[expose] public section

set_option maxRecDepth 65536

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The two tables -/

/-- A device as a word. -/
def wordOf (n : Fin 16) : BitVec 32 := BitVec.ofNat 32 n.val
theorem wordOf_toNat (n : Fin 16) : (wordOf n).toNat = n.val := by revert n; decide +kernel

variable (F) in
/-- What device `c` finds in the neighbour table: its two neighbours and its place in the ring. -/
def nbrC (c : Dev nD) : (cc0_stg0_0 : Ref sig .tc).ty.Contents (Elt F) :=
  fun i => wordOf ((![dst false c, dst true c, posTab c] : Fin 3 → Fin 16) (i 0))
variable (F) in
/-- The ring table. -/
def ringC : (cc0_stg1_0 : Ref sig .tc).ty.Contents (Elt F) := fun i => wordOf (ringTab (i 0))

theorem devNat_wordOf (n : Fin 16) : devNat (wordOf n) = n.val := by revert n; decide +kernel
theorem chk2_wordOf (n : Fin 16) : k0_chk2 (wordOf n) := by revert n; decide +kernel
theorem chk1_wordOf (n : Fin 16) : k0_chk1 (wordOf n) := by revert n; decide +kernel
theorem chk3_wordOf (n : Fin 16) : k0_chk3 (wordOf n) := by revert n; decide +kernel
/-- What the program checks of the word naming a chunk it then uses, and of one it only waits for. -/
theorem chk4_wordOf (n : Fin 16) : k0_chk4 (wordOf n) := by revert n; decide +kernel
theorem chk19_wordOf (n : Fin 16) : k0_chk19 (wordOf n) := by revert n; decide +kernel

theorem chunk_words (n : Fin 16) : k0_chk5 (wordOf n) ∧ k0_chk6 (wordOf n) ∧ k0_chk7 (wordOf n) ∧ k0_chk8 (wordOf n) ∧ k0_chk9 (wordOf n)
    ∧ k0_chk10 (wordOf n) ∧ k0_chk11 (wordOf n) ∧ k0_chk12 (wordOf n) ∧ k0_chk13 (wordOf n) ∧ k0_chk14 (wordOf n) ∧ k0_chk15 (wordOf n)
    ∧ k0_chk16 (wordOf n) ∧ k0_chk17 (wordOf n) ∧ k0_chk18 (wordOf n) :=
  have h := chk4_wordOf n
  ⟨h, h, h, h, h, h, h, h, h, h, h, h, h, h⟩
theorem tail_words (n : Fin 16) : k0_chk20 (wordOf n) ∧ k0_chk21 (wordOf n) ∧ k0_chk22 (wordOf n) ∧ k0_chk23 (wordOf n) ∧ k0_chk24 (wordOf n)
    ∧ k0_chk25 (wordOf n) ∧ k0_chk26 (wordOf n) ∧ k0_chk27 (wordOf n) ∧ k0_chk28 (wordOf n) ∧ k0_chk29 (wordOf n) ∧ k0_chk30 (wordOf n)
    ∧ k0_chk31 (wordOf n) ∧ k0_chk32 (wordOf n) ∧ k0_chk33 (wordOf n) :=
  have h := chk19_wordOf n
  ⟨h, h, h, h, h, h, h, h, h, h, h, h, h, h⟩

section Wp
variable (c : Dev nD)

/-- Reading the word of the ring table that names a device. -/
theorem wp_ringWord (off : Fin 1 → ℕ) (hoff : ∀ a, off a + S1.size a ≤ S16.size a) (P : BitVec 32 → Prop)
    (dP : ∀ w, Decidable (P w)) (hP : ∀ w, P w → w.toNat < 16) (i : Fin 16) (hi : off 0 = i.val) (hPw : P (wordOf (ringTab i)))
    {α : Type} {Q : α → sProp 𝕄} {kont : (Σ' w : BitVec 32, w.toNat < 16) → PR F α} :
    (mRing.view.loc (c : Thread nD τ) ↦{fullShare} ringC F)
      ⊢ iprop(((mRing.view.loc (c : Thread nD τ) ↦{fullShare} ringC F)
          -∗ wp frame (wpE (defs₀ (F := F)) 𝒱₀ (c : Thread nD τ) none) Set.univ (kont ⟨wordOf (ringTab i), hP _ hPw⟩) Q)
        -∗ wp frame (wpE (defs₀ (F := F)) 𝒱₀ (c : Thread nD τ) none) Set.univ (ringWord off hoff P dP hP >>= kont) Q) := by
  iintro H Hk
  have hv : (mRing.access (Rect.unit (s := S16) off S1.size hoff)).read (Elt F) (ringC F)
      (Shape.Idx.first (numel1_S1.symm ▸ Nat.one_pos)) = wordOf (ringTab i) := by
    show wordOf (ringTab _) = _
    congr 2; apply Fin.ext
    show off 0 + 1 * _ = i.val
    have : ((Shape.Idx.first (s := S1) (numel1_S1.symm ▸ Nat.one_pos)) 0).val = 0 := Nat.lt_one_iff.mp (Fin.isLt _)
    rw [hi]; simp only [Rect.unit, LoadRect.stride]; omega
  iapply (wp_smemLoadElt 𝒱₀ (c : Thread nD τ) none Set.univ (m := mRing) (r := Rect.unit (s := S16) off S1.size hoff)
    (hw := View.loads_smem_one rfl numel1_S1)
    (x := Shape.Idx.first (numel1_S1.symm ▸ Nat.one_pos))
    (k := fun w : Elt F .i32 => (Prog.lift (TpuEff.assume (P w) (dP w)) >>= fun hw => (pure (⟨w, hP w hw.down⟩ : Σ' w : BitVec 32, w.toNat < 16) : PR F _)) >>= kont)
    (S := Finset.univ) (q := fullShare) (f := ringC F) (Finset.subset_univ _)) $$ [H]
  · iexact H
  iintro H
  rw [hv]
  iapply (wp_assume 𝒱₀ (c : Thread nD τ) none Set.univ hPw)
  iapply Hk; iexact H

/-- Reading a word of the neighbour table. -/
theorem wp_nbrWord (off : Fin 1 → ℕ) (hoff : ∀ a, off a + S1.size a ≤ S3.size a) (P : BitVec 32 → Prop)
    (dP : ∀ w, Decidable (P w)) (i : Fin 3) (hi : off 0 = i.val)
    (hPw : P (wordOf ((![dst false c, dst true c, posTab c] : Fin 3 → Fin 16) i)))
    {α : Type} {Q : α → sProp 𝕄} {kont : (Σ' w : BitVec 32, P w) → PR F α} :
    (mNbr.view.loc (c : Thread nD τ) ↦{fullShare} nbrC F c)
      ⊢ iprop(((mNbr.view.loc (c : Thread nD τ) ↦{fullShare} nbrC F c)
          -∗ wp frame (wpE (defs₀ (F := F)) 𝒱₀ (c : Thread nD τ) none) Set.univ (kont ⟨_, hPw⟩) Q)
        -∗ wp frame (wpE (defs₀ (F := F)) 𝒱₀ (c : Thread nD τ) none) Set.univ (nbrWord off hoff P dP >>= kont) Q) := by
  iintro H Hk
  have hv : (mNbr.access (Rect.unit (s := S3) off S1.size hoff)).read (Elt F) (nbrC F c)
      (Shape.Idx.first (numel1_S1.symm ▸ Nat.one_pos)) = wordOf ((![dst false c, dst true c, posTab c] : Fin 3 → Fin 16) i) := by
    show wordOf ((![dst false c, dst true c, posTab c] : Fin 3 → Fin 16) _) = _
    congr 2; apply Fin.ext
    show off 0 + 1 * _ = i.val
    have : ((Shape.Idx.first (s := S1) (numel1_S1.symm ▸ Nat.one_pos)) 0).val = 0 := Nat.lt_one_iff.mp (Fin.isLt _)
    rw [hi]; simp only [Rect.unit, LoadRect.stride]; omega
  iapply (wp_smemLoadElt 𝒱₀ (c : Thread nD τ) none Set.univ (m := mNbr) (r := Rect.unit (s := S3) off S1.size hoff)
    (hw := View.loads_smem_one rfl numel1_S1)
    (x := Shape.Idx.first (numel1_S1.symm ▸ Nat.one_pos))
    (k := fun w : Elt F .i32 => (Prog.lift (TpuEff.assume (P w) (dP w)) >>= fun hw => (pure (⟨w, hw.down⟩ : Σ' w : BitVec 32, P w) : PR F _)) >>= kont)
    (S := Finset.univ) (q := fullShare) (f := nbrC F c) (Finset.subset_univ _)) $$ [H]
  · iexact H
  iintro H
  rw [hv]
  iapply (wp_assume 𝒱₀ (c : Thread nD τ) none Set.univ hPw)
  iapply Hk; iexact H

end Wp

/-! ## A slot is its two halves -/

theorem setQ_eq {n : ℕ} (h : n < 16) : (pieceQ h 0).view.set ∪ (pieceQ h 1).view.set = (mQ.access (rectSQ h)).set := by
  rw [show (pieceQ h 0).view.set = (rectQ h 0).set from (View.set_reshape _ _).trans (View.set_slice_whole _ _),
    show (pieceQ h 1).view.set = (rectQ h 1).set from (View.set_reshape _ _).trans (View.set_slice_whole _ _),
    show (mQ.access (rectSQ h)).set = (rectSQ h).set from View.set_slice_whole _ _]
  apply Finset.ext; intro i
  have h1 : (i 1).val < 512 := (i 1).isLt
  have h2 : (i 2).val < 256 := (i 2).isLt
  rw [Finset.mem_union, Rect.mem_set_unit, Rect.mem_set_unit, Rect.mem_set_unit]
  simp only [Fin.forall_fin_succ, S16x512x256, S1x256x256, S1x512x256]
  simp
  omega
theorem setO_eq {n : ℕ} (h : n < 16) : (pieceO h 0).view.set ∪ (pieceO h 1).view.set = (mO.access (rectSO h)).set := by
  rw [show (pieceO h 0).view.set = (rectO h 0).set from (View.set_reshape _ _).trans (View.set_slice_whole _ _),
    show (pieceO h 1).view.set = (rectO h 1).set from (View.set_reshape _ _).trans (View.set_slice_whole _ _),
    show (mO.access (rectSO h)).set = (rectSO h).set from View.set_slice_whole _ _]
  apply Finset.ext; intro i
  have h1 : (i 1).val < 256 := (i 1).isLt
  have h2 : (i 2).val < 512 := (i 2).isLt
  rw [Finset.mem_union, Rect.mem_set_unit, Rect.mem_set_unit, Rect.mem_set_unit]
  simp only [Fin.forall_fin_succ, S16x256x512, S1x128x512, S1x256x512]
  simp
  omega
theorem disjQ {n : ℕ} (h : n < 16) : Disjoint (pieceQ h 0).view.set (pieceQ h 1).view.set := by
  rw [show (pieceQ h 0).view.set = (rectQ h 0).set from (View.set_reshape _ _).trans (View.set_slice_whole _ _),
    show (pieceQ h 1).view.set = (rectQ h 1).set from (View.set_reshape _ _).trans (View.set_slice_whole _ _)]
  exact Rect.unit_disjoint 1 (Or.inl (by simp [S1x256x256]))
theorem disjO {n : ℕ} (h : n < 16) : Disjoint (pieceO h 0).view.set (pieceO h 1).view.set := by
  rw [show (pieceO h 0).view.set = (rectO h 0).set from (View.set_reshape _ _).trans (View.set_slice_whole _ _),
    show (pieceO h 1).view.set = (rectO h 1).set from (View.set_reshape _ _).trans (View.set_slice_whole _ _)]
  exact Rect.unit_disjoint 1 (Or.inl (by simp [S1x128x512]))

/-- A slot, operand by operand. -/
def slot (c n : Dev nD) (q : PosShare TreeShare) (G : Gath F) : sProp 𝕄 :=
  iprop((mQ.view.loc (c : Thread nD τ) ↦[(mQ.access (rectSQ n.isLt)).set]{q} G.q)
    ∗ (mO.view.loc (c : Thread nD τ) ↦[(mO.access (rectSO n.isLt)).set]{q} G.o))

omit [FloatOps F] in
theorem slot_eq (c n : Dev nD) (q : PosShare TreeShare) (G : Gath F) : pc4 G c n q ⊣⊢ slot c n q G := by
  unfold pc4 four pc slot
  rw [← setQ_eq n.isLt, ← setO_eq n.isLt]
  constructor
  · iintro ⟨A, B, C, D⟩
    isplitl [A B]
    · iapply (pointsTo_union (disjQ n.isLt)).2; isplitl [A] <;> iassumption
    · iapply (pointsTo_union (disjO n.isLt)).2; isplitl [C] <;> iassumption
  · iintro ⟨A, C⟩
    ihave A := (pointsTo_union (disjQ n.isLt)).1 $$ A
    ihave C := (pointsTo_union (disjO n.isLt)).1 $$ C
    icases A with ⟨A, B⟩
    icases C with ⟨C, D⟩
    isplitl [A]; · iexact A
    isplitl [B]; · iexact B
    isplitl [C] <;> iassumption

/-! ## What a device's staged operands hold, and a chunk's contribution from them -/

variable (F) in
structure Stg where
  x : Vec F S2x256x512 .bf16
  wq : Vec F S512x256 .bf16
  k : Vec F S2x64x256x64 .bf16
  v : Vec F S2x64x256x65 .bf16
  wo : Vec F S256x512 .bf16

/-- The staged operands a device only reads. -/
def stgs (c : Dev nD) (S : Stg F) : sProp 𝕄 :=
  iprop((mX.view.loc (c : Thread nD τ) ↦{fullShare} S.x) ∗ (mWq.view.loc (c : Thread nD τ) ↦{fullShare} S.wq)
    ∗ (mK.view.loc (c : Thread nD τ) ↦{fullShare} S.k) ∗ (mV.view.loc (c : Thread nD τ) ↦{fullShare} S.v)
    ∗ (mWo.view.loc (c : Thread nD τ) ↦{fullShare} S.wo))
/-- The output buffer. -/
def outs (c : Dev nD) (v : Vec F S2x256x512 .f32) : sProp 𝕄 := mOut.view.loc (c : Thread nD τ) ↦{fullShare} v

/-- The keys and values of one head of one batch. -/
def kAt (S : Stg F) {w : BitVec 32} (h : w.toNat < 16) (b : Fin 2) (r : Fin 4) : Vec F S1x1x256x64 .bf16 :=
  (mK.access (Rect.unit (s := S2x64x256x64) ![b.val, headNat w r, 0, 0] S1x1x256x64.size (kv_inb h b r))).read (Elt F) S.k
def vAt (S : Stg F) {w : BitVec 32} (h : w.toNat < 16) (b : Fin 2) (r : Fin 4) : Vec F S1x1x256x65 .bf16 :=
  (mV.access (Rect.unit (s := S2x64x256x65) ![b.val, headNat w r, 0, 0] S1x1x256x65.size (va_inb h b r))).read (Elt F) S.v
/-- A slot's two weight chunks. -/
def qAt (G : Gath F) {n : ℕ} (h : n < 16) : Vec F S1x512x256 .bf16 := (mQ.access (rectSQ h)).read (Elt F) G.q
def oAt (G : Gath F) {n : ℕ} (h : n < 16) : Vec F S1x256x512 .bf16 := (mO.access (rectSO h)).read (Elt F) G.o

/-- One batch's heads of a chunk. -/
def headsAt (S : Stg F) {w : BitVec 32} (h : w.toNat < 16) (b : Fin 2) (qb : FVec F S256x256 .bf16) : FVec F S256x256 .f32 :=
  batchOut mask qb (kAt S h b 0) (vAt S h b 0) (kAt S h b 1) (vAt S h b 1) (kAt S h b 2) (vAt S h b 2) (kAt S h b 3) (vAt S h b 3)

/-- A chunk's contribution. -/
def chunkVal (S : Stg F) (G : Gath F) {w : BitVec 32} (h : w.toNat < 16) : FVec F S2x256x512 .f32 :=
  contrib (oAt G h)
    (headsAt S h 0 (extractStridedSlice S256x256 ![0, 0] (queries (rows S.x) (qAt G h)) slices_S512x256_o0_0_S256x256))
    (headsAt S h 1 (extractStridedSlice S256x256 ![256, 0] (queries (rows S.x) (qAt G h)) slices_S512x256_o256_0_S256x256))

/-- The output after a chunk's contribution. -/
def addChunk (o : Vec F S2x256x512 .f32) (v : FVec F S2x256x512 .f32) : Vec F S2x256x512 .f32 :=
  addf (shapeCast S2x256x512 o shapeCasts_S2x256x512_S2x256x512) v

section Wp
variable (c : Dev nD)

theorem wp_loadQ (G : Gath F) (n : Dev nD) {m : ℕ} (h : m < 16) (hm : m = n.val) (q : PosShare TreeShare)
    {α : Type} {Q : α → sProp 𝕄} {kont : Vec F S1x512x256 .bf16 → PR F α} :
    (mQ.view.loc (c : Thread nD τ) ↦[(mQ.access (rectSQ n.isLt)).set]{q} G.q)
      ⊢ iprop(((mQ.view.loc (c : Thread nD τ) ↦[(mQ.access (rectSQ n.isLt)).set]{q} G.q)
          -∗ wp frame (wpE (defs₀ (F := F)) 𝒱₀ (c : Thread nD τ) none) Set.univ (kont (qAt G h)) Q)
        -∗ wp frame (wpE (defs₀ (F := F)) 𝒱₀ (c : Thread nD τ) none) Set.univ (loadQ h >>= kont) Q) := by
  subst hm
  exact wp_load_rect 𝒱₀ (c : Thread nD τ) none Set.univ (m := mQ) (r := rectSQ h) (hl := View.loadsAt_vmem h_S1x512x256)
    (k := kont) (q := q) (f := G.q) (Finset.Subset.refl _)
theorem wp_loadO (G : Gath F) (n : Dev nD) {m : ℕ} (h : m < 16) (hm : m = n.val) (q : PosShare TreeShare)
    {α : Type} {Q : α → sProp 𝕄} {kont : Vec F S1x256x512 .bf16 → PR F α} :
    (mO.view.loc (c : Thread nD τ) ↦[(mO.access (rectSO n.isLt)).set]{q} G.o)
      ⊢ iprop(((mO.view.loc (c : Thread nD τ) ↦[(mO.access (rectSO n.isLt)).set]{q} G.o)
          -∗ wp frame (wpE (defs₀ (F := F)) 𝒱₀ (c : Thread nD τ) none) Set.univ (kont (oAt G h)) Q)
        -∗ wp frame (wpE (defs₀ (F := F)) 𝒱₀ (c : Thread nD τ) none) Set.univ (loadO h >>= kont) Q) := by
  subst hm
  exact wp_load_rect 𝒱₀ (c : Thread nD τ) none Set.univ (m := mO) (r := rectSO h) (hl := View.loadsAt_vmem h_S1x256x512)
    (k := kont) (q := q) (f := G.o) (Finset.Subset.refl _)
theorem wp_loadK (S : Stg F) {w : BitVec 32} (h : w.toNat < 16) (b : Fin 2) (r : Fin 4)
    {α : Type} {Q : α → sProp 𝕄} {kont : Vec F S1x1x256x64 .bf16 → PR F α} :
    (mK.view.loc (c : Thread nD τ) ↦{fullShare} S.k)
      ⊢ iprop(((mK.view.loc (c : Thread nD τ) ↦{fullShare} S.k)
          -∗ wp frame (wpE (defs₀ (F := F)) 𝒱₀ (c : Thread nD τ) none) Set.univ (kont (kAt S h b r)) Q)
        -∗ wp frame (wpE (defs₀ (F := F)) 𝒱₀ (c : Thread nD τ) none) Set.univ (loadK h b r >>= kont) Q) :=
  wp_load_rect 𝒱₀ (c : Thread nD τ) none Set.univ (m := mK)
    (r := Rect.unit (s := S2x64x256x64) ![b.val, headNat w r, 0, 0] S1x1x256x64.size (kv_inb h b r)) (hl := View.loadsAt_vmem h_S1x1x256x64)
    (k := kont) (q := fullShare) (f := S.k) (Finset.subset_univ _)
theorem wp_loadV (S : Stg F) {w : BitVec 32} (h : w.toNat < 16) (b : Fin 2) (r : Fin 4)
    {α : Type} {Q : α → sProp 𝕄} {kont : Vec F S1x1x256x65 .bf16 → PR F α} :
    (mV.view.loc (c : Thread nD τ) ↦{fullShare} S.v)
      ⊢ iprop(((mV.view.loc (c : Thread nD τ) ↦{fullShare} S.v)
          -∗ wp frame (wpE (defs₀ (F := F)) 𝒱₀ (c : Thread nD τ) none) Set.univ (kont (vAt S h b r)) Q)
        -∗ wp frame (wpE (defs₀ (F := F)) 𝒱₀ (c : Thread nD τ) none) Set.univ (loadV h b r >>= kont) Q) :=
  wp_load_rect 𝒱₀ (c : Thread nD τ) none Set.univ (m := mV)
    (r := Rect.unit (s := S2x64x256x65) ![b.val, headNat w r, 0, 0] S1x1x256x65.size (va_inb h b r)) (hl := View.loadsAt_vmem h_S1x1x256x65)
    (k := kont) (q := fullShare) (f := S.v) (Finset.subset_univ _)

theorem off3_zero : (![0, 0, 0] : Fin 3 → ℕ) = fun _ => 0 := by decide
theorem off2_zero : (![0, 0] : Fin 2 → ℕ) = fun _ => 0 := by decide

theorem wp_loadX (x : Vec F S2x256x512 .bf16)
    {α : Type} {Q : α → sProp 𝕄} {kont : Vec F S2x256x512 .bf16 → PR F α} :
    (mX.view.loc (c : Thread nD τ) ↦{fullShare} x)
      ⊢ iprop(((mX.view.loc (c : Thread nD τ) ↦{fullShare} x)
          -∗ wp frame (wpE (defs₀ (F := F)) 𝒱₀ (c : Thread nD τ) none) Set.univ (kont x) Q)
        -∗ wp frame (wpE (defs₀ (F := F)) 𝒱₀ (c : Thread nD τ) none) Set.univ (loadX >>= kont) Q) := by
  have h := wp_load_rect (Ix := Unit) (Name := ℕ) (U := UU) (Lvl := ℕ) (Q := Q) 𝒱₀ (c : Thread nD τ) none Set.univ (Γ := .empty) (defs := defs₀ (F := F)) (m := mX) (r := rectX) (hl := View.loadsAt_vmem h_S2x256x512)
    (k := kont) (q := fullShare) (f := x) (Finset.subset_univ _)
  have hr : (mX.access rectX).read (Elt F) x = x := Memref.read_access_unit_zero (Elt F) cc0_stg2_0 off3_zero _ x
  rw [hr] at h
  exact h
theorem wp_loadOut (o : Vec F S2x256x512 .f32)
    {α : Type} {Q : α → sProp 𝕄} {kont : Vec F S2x256x512 .f32 → PR F α} :
    outs c o
      ⊢ iprop((outs c o
          -∗ wp frame (wpE (defs₀ (F := F)) 𝒱₀ (c : Thread nD τ) none) Set.univ (kont o) Q)
        -∗ wp frame (wpE (defs₀ (F := F)) 𝒱₀ (c : Thread nD τ) none) Set.univ (loadOut >>= kont) Q) := by
  have h := wp_load_rect (Ix := Unit) (Name := ℕ) (U := UU) (Lvl := ℕ) (Q := Q) 𝒱₀ (c : Thread nD τ) none Set.univ (Γ := .empty) (defs := defs₀ (F := F)) (m := mOut) (r := rectX) (hl := View.loadsAt_vmem h_S2x256x512)
    (k := kont) (q := fullShare) (f := o) (Finset.subset_univ _)
  have hr : (mOut.access rectX).read (Elt F) o = o := Memref.read_access_unit_zero (Elt F) cc0_stg7_0 off3_zero _ o
  rw [hr] at h
  exact h
theorem wp_storeOut (o v : Vec F S2x256x512 .f32)
    {α : Type} {Q : α → sProp 𝕄} {kont : PUnit → PR F α} :
    outs c o
      ⊢ iprop((outs c v
          -∗ wp frame (wpE (defs₀ (F := F)) 𝒱₀ (c : Thread nD τ) none) Set.univ (kont ⟨⟩) Q)
        -∗ wp frame (wpE (defs₀ (F := F)) 𝒱₀ (c : Thread nD τ) none) Set.univ (storeOut v >>= kont) Q) := by
  have h := wp_store (Ix := Unit) (Name := ℕ) (U := UU) (Lvl := ℕ) (Q := Q) 𝒱₀ (c : Thread nD τ) none Set.univ (Γ := .empty) (defs := defs₀ (F := F)) (m := mOut) (r := rectX) (w := v) (Mk := Finset.univ)
    (hx := View.stores_vmem_bits_univ h_S2x256x512 rfl) (hm := .inl rfl)
    (k := kont) (f := o) (Finset.subset_univ _)
  have hr : (mOut.access rectX).write (Elt F) o v Finset.univ = v := Memref.write_access_unit_zero_univ (Elt F) cc0_stg7_0 off3_zero _ o v
  rw [hr] at h
  exact h

theorem chunk_bind (x2 : FVec F S512x512 .bf16) (msk : IVec S256x256 1) {w : BitVec 32} (h : w.toNat < 16) {α : Type} (kont : PUnit → PR F α) :
    (chunk x2 msk h >>= kont) = (loadQ h >>= fun wq => loadO h >>= fun wo =>
      loadK h 0 0 >>= fun k00 => loadV h 0 0 >>= fun v00 => loadK h 0 1 >>= fun k01 => loadV h 0 1 >>= fun v01 =>
      loadK h 0 2 >>= fun k02 => loadV h 0 2 >>= fun v02 => loadK h 0 3 >>= fun k03 => loadV h 0 3 >>= fun v03 =>
      loadK h 1 0 >>= fun k10 => loadV h 1 0 >>= fun v10 => loadK h 1 1 >>= fun k11 => loadV h 1 1 >>= fun v11 =>
      loadK h 1 2 >>= fun k12 => loadV h 1 2 >>= fun v12 => loadK h 1 3 >>= fun k13 => loadV h 1 3 >>= fun v13 =>
      loadOut >>= fun o => loadOut >>= fun _ =>
      storeOut (addf (shapeCast S2x256x512 o shapeCasts_S2x256x512_S2x256x512) (contrib wo
        (batchOut msk (extractStridedSlice S256x256 ![0, 0] (queries x2 wq) slices_S512x256_o0_0_S256x256) k00 v00 k01 v01 k02 v02 k03 v03)
        (batchOut msk (extractStridedSlice S256x256 ![256, 0] (queries x2 wq) slices_S512x256_o256_0_S256x256) k10 v10 k11 v11 k12 v12 k13 v13)))
      >>= kont) := rfl

/-- Adding the contribution of the chunk in slot `n`. -/
theorem wp_chunk (S : Stg F) (G : Gath F) (n : Dev nD) {w : BitVec 32} (h : w.toNat < 16) (hw : w.toNat = n.val) (q : PosShare TreeShare)
    (o : Vec F S2x256x512 .f32) {α : Type} {Q : α → sProp 𝕄} {kont : PUnit → PR F α} :
    iprop(stgs c S ∗ pc4 G c n q ∗ outs c o)
      ⊢ iprop(((stgs c S ∗ pc4 G c n q ∗ outs c (addChunk o (chunkVal S G h)))
          -∗ wp frame (wpE (defs₀ (F := F)) 𝒱₀ (c : Thread nD τ) none) Set.univ (kont ⟨⟩) Q)
        -∗ wp frame (wpE (defs₀ (F := F)) 𝒱₀ (c : Thread nD τ) none) Set.univ (chunk (rows S.x) mask h >>= kont) Q) := by
  rw [chunk_bind]
  iintro ⟨Hs, Hp, Ho⟩ Hk
  ihave Hp := (slot_eq c n q G).1 $$ Hp
  unfold slot stgs
  icases Hp with ⟨Hq, Hw⟩
  icases Hs with ⟨SX, SQ, SK, SV, SO⟩
  iapply (wp_loadQ c G n h hw q) $$ [Hq]; · iexact Hq
  iintro Hq
  iapply (wp_loadO c G n h hw q) $$ [Hw]; · iexact Hw
  iintro Hw
  iapply (wp_loadK c S h 0 0) $$ [SK]; · iexact SK
  iintro SK
  iapply (wp_loadV c S h 0 0) $$ [SV]; · iexact SV
  iintro SV
  iapply (wp_loadK c S h 0 1) $$ [SK]; · iexact SK
  iintro SK
  iapply (wp_loadV c S h 0 1) $$ [SV]; · iexact SV
  iintro SV
  iapply (wp_loadK c S h 0 2) $$ [SK]; · iexact SK
  iintro SK
  iapply (wp_loadV c S h 0 2) $$ [SV]; · iexact SV
  iintro SV
  iapply (wp_loadK c S h 0 3) $$ [SK]; · iexact SK
  iintro SK
  iapply (wp_loadV c S h 0 3) $$ [SV]; · iexact SV
  iintro SV
  iapply (wp_loadK c S h 1 0) $$ [SK]; · iexact SK
  iintro SK
  iapply (wp_loadV c S h 1 0) $$ [SV]; · iexact SV
  iintro SV
  iapply (wp_loadK c S h 1 1) $$ [SK]; · iexact SK
  iintro SK
  iapply (wp_loadV c S h 1 1) $$ [SV]; · iexact SV
  iintro SV
  iapply (wp_loadK c S h 1 2) $$ [SK]; · iexact SK
  iintro SK
  iapply (wp_loadV c S h 1 2) $$ [SV]; · iexact SV
  iintro SV
  iapply (wp_loadK c S h 1 3) $$ [SK]; · iexact SK
  iintro SK
  iapply (wp_loadV c S h 1 3) $$ [SV]; · iexact SV
  iintro SV
  iapply (wp_loadOut c o) $$ [Ho]; · iexact Ho
  iintro Ho
  iapply (wp_loadOut c o) $$ [Ho]; · iexact Ho
  iintro Ho
  iapply (wp_storeOut c o) $$ [Ho]; · iexact Ho
  iintro Ho
  iapply Hk
  isplitl [SX SQ SK SV SO]
  · isplitl [SX]; · iexact SX
    isplitl [SQ]; · iexact SQ
    isplitl [SK]; · iexact SK
    isplitl [SV]; · iexact SV
    iexact SO
  isplitl [Hq Hw]
  · iapply (slot_eq c n q G).2; unfold slot; isplitl [Hq] <;> iassumption
  iexact Ho

/-! ## Placing the device's own chunk -/

/-- The gathered weights hold device `c`'s own chunk in slot `c`. -/
def Own (c : Dev nD) (S : Stg F) (G : Gath F) : Prop := qAt G c.isLt = ownQ S.wq ∧ oAt G c.isLt = ownO S.wo

theorem myWord_eq (d : Dev nD) : myWord d = wordOf d := by revert d; decide +kernel
theorem myWord_toNat (d : Dev nD) : (myWord d).toNat = d.val := by rw [myWord_eq, wordOf_toNat]

theorem wp_loadWq (v : Vec F S512x256 .bf16) {α : Type} {Q : α → sProp 𝕄} {kont : Vec F S512x256 .bf16 → PR F α} :
    (mWq.view.loc (c : Thread nD τ) ↦{fullShare} v)
      ⊢ iprop(((mWq.view.loc (c : Thread nD τ) ↦{fullShare} v)
          -∗ wp frame (wpE (defs₀ (F := F)) 𝒱₀ (c : Thread nD τ) none) Set.univ (kont v) Q)
        -∗ wp frame (wpE (defs₀ (F := F)) 𝒱₀ (c : Thread nD τ) none) Set.univ ((Prog.lift (.load mWq (Rect.unit (s := S512x256) ![0, 0] S512x256.size inb_S512x256_S512x256_0_0).toLoadRect
          (View.loadsAt_vmem h_S512x256)) : PR F _) >>= kont) Q) := by
  have h := wp_load_rect (Ix := Unit) (Name := ℕ) (U := UU) (Lvl := ℕ) (Q := Q) 𝒱₀ (c : Thread nD τ) none Set.univ (Γ := .empty) (defs := defs₀ (F := F)) (m := mWq)
    (r := Rect.unit (s := S512x256) ![0, 0] S512x256.size inb_S512x256_S512x256_0_0) (hl := View.loadsAt_vmem h_S512x256)
    (k := kont) (q := fullShare) (f := v) (Finset.subset_univ _)
  have hr : (mWq.access (Rect.unit (s := S512x256) ![0, 0] S512x256.size inb_S512x256_S512x256_0_0)).read (Elt F) v = v :=
    Memref.read_access_unit_zero (Elt F) cc0_stg3_0 off2_zero _ v
  rw [hr] at h
  exact h
omit [FloatOps F] in
theorem placeQ_bind (d : Dev nD) {α : Type} (kont : PUnit → PR F α) :
    (placeQ d >>= kont) = ((Prog.lift (.load mWq (Rect.unit (s := S512x256) ![0, 0] S512x256.size inb_S512x256_S512x256_0_0).toLoadRect (View.loadsAt_vmem h_S512x256)) : PR F _)
      >>= fun v => loadQ (F := F) (myWord_lt d) >>= fun _ =>
      (Prog.lift (.store mQ (rectSQ (myWord_lt d)) (ownQ v) Finset.univ
        (View.stores_vmem h_S1x512x256 ((Memref.isWhole_whole cc0_scratch0).storeExact_slice rfl _ (rectSQ_rows (myWord_lt d))) (fun _ => rfl)) (.inl rfl)) : PR F PUnit) >>= kont) := rfl
/-- Placing the device's own chunk in its slot. -/
theorem wp_placeQ (S : Stg F) (G : Gath F) (hown : qAt G c.isLt = ownQ S.wq) (f : (cc0_scratch0 : Ref sig .tc).ty.Contents (Elt F))
    {α : Type} {Q : α → sProp 𝕄} {kont : PUnit → PR F α} :
    iprop((mWq.view.loc (c : Thread nD τ) ↦{fullShare} S.wq) ∗ (mQ.view.loc (c : Thread nD τ) ↦[(mQ.access (rectSQ c.isLt)).set]{fullShare} f))
      ⊢ iprop((((mWq.view.loc (c : Thread nD τ) ↦{fullShare} S.wq) ∗ (mQ.view.loc (c : Thread nD τ) ↦[(mQ.access (rectSQ c.isLt)).set]{fullShare} G.q))
          -∗ wp frame (wpE (defs₀ (F := F)) 𝒱₀ (c : Thread nD τ) none) Set.univ (kont ⟨⟩) Q)
        -∗ wp frame (wpE (defs₀ (F := F)) 𝒱₀ (c : Thread nD τ) none) Set.univ (placeQ c >>= kont) Q) := by
  rw [placeQ_bind]
  have hset : (mQ.access (rectSQ (myWord_lt c))).set = (mQ.access (rectSQ c.isLt)).set := by
    have : ∀ {m : ℕ} (h : m < 16), m = c.val → (mQ.access (rectSQ h)).set = (mQ.access (rectSQ c.isLt)).set := fun h e => by subst e; rfl
    exact this _ (myWord_toNat c)
  have hq : ownQ S.wq = (mQ.access (rectSQ (myWord_lt c))).read (Elt F) G.q := by
    rw [← hown]; unfold qAt
    have : ∀ {m : ℕ} (h : m < 16), m = c.val → (mQ.access (rectSQ c.isLt)).read (Elt F) G.q = (mQ.access (rectSQ h)).read (Elt F) G.q :=
      fun h e => by subst e; rfl
    exact this _ (myWord_toNat c)
  have hp : (mQ.view.loc (c : Thread nD τ) ↦[(mQ.access (rectSQ c.isLt)).set]{fullShare}
        (mQ.access (rectSQ (myWord_lt c))).write (Elt F) f (ownQ S.wq) Finset.univ)
      = (mQ.view.loc (c : Thread nD τ) ↦[(mQ.access (rectSQ c.isLt)).set]{fullShare} G.q : sProp 𝕄) := by
    rw [hq, View.write_read_eq_piecewise, View.setOn_univ, hset]
    exact pointsTo_congr (fun i hi => Finset.piecewise_eq_of_mem _ G.q f hi)
  iintro ⟨H1, H2⟩ Hk
  iapply (wp_loadWq c S.wq) $$ [H1]; · iexact H1
  iintro H1
  iapply (wp_loadQ c (⟨f, G.o⟩ : Gath F) c (myWord_lt c) (myWord_toNat c) fullShare) $$ [H2]
  · iexact H2
  iintro H2
  iapply (wp_store 𝒱₀ (c : Thread nD τ) none Set.univ (m := mQ) (r := rectSQ (myWord_lt c)) (w := ownQ S.wq) (Mk := Finset.univ)
    (hx := View.stores_vmem h_S1x512x256 ((Memref.isWhole_whole cc0_scratch0).storeExact_slice rfl _ (rectSQ_rows (myWord_lt c))) (fun _ => rfl)) (hm := .inl rfl)
    (k := kont) (S := (mQ.access (rectSQ c.isLt)).set) (f := f) (by rw [View.setOn_univ, hset])) $$ [H2]
  · iexact H2
  iintro H2
  iapply Hk
  isplitl [H1]; · iexact H1
  iapply (Entails.of_eq hp); iexact H2

theorem wp_loadWo (v : Vec F S256x512 .bf16) {α : Type} {Q : α → sProp 𝕄} {kont : Vec F S256x512 .bf16 → PR F α} :
    (mWo.view.loc (c : Thread nD τ) ↦{fullShare} v)
      ⊢ iprop(((mWo.view.loc (c : Thread nD τ) ↦{fullShare} v)
          -∗ wp frame (wpE (defs₀ (F := F)) 𝒱₀ (c : Thread nD τ) none) Set.univ (kont v) Q)
        -∗ wp frame (wpE (defs₀ (F := F)) 𝒱₀ (c : Thread nD τ) none) Set.univ ((Prog.lift (.load mWo (Rect.unit (s := S256x512) ![0, 0] S256x512.size inb_S256x512_S256x512_0_0).toLoadRect
          (View.loadsAt_vmem h_S256x512)) : PR F _) >>= kont) Q) := by
  have h := wp_load_rect (Ix := Unit) (Name := ℕ) (U := UU) (Lvl := ℕ) (Q := Q) 𝒱₀ (c : Thread nD τ) none Set.univ (Γ := .empty) (defs := defs₀ (F := F)) (m := mWo)
    (r := Rect.unit (s := S256x512) ![0, 0] S256x512.size inb_S256x512_S256x512_0_0) (hl := View.loadsAt_vmem h_S256x512)
    (k := kont) (q := fullShare) (f := v) (Finset.subset_univ _)
  have hr : (mWo.access (Rect.unit (s := S256x512) ![0, 0] S256x512.size inb_S256x512_S256x512_0_0)).read (Elt F) v = v :=
    Memref.read_access_unit_zero (Elt F) cc0_stg6_0 off2_zero _ v
  rw [hr] at h
  exact h
omit [FloatOps F] in
theorem placeO_bind (d : Dev nD) {α : Type} (kont : PUnit → PR F α) :
    (placeO d >>= kont) = ((Prog.lift (.load mWo (Rect.unit (s := S256x512) ![0, 0] S256x512.size inb_S256x512_S256x512_0_0).toLoadRect (View.loadsAt_vmem h_S256x512)) : PR F _)
      >>= fun v => loadO (F := F) (myWord_lt d) >>= fun _ =>
      (Prog.lift (.store mO (rectSO (myWord_lt d)) (ownO v) Finset.univ
        (View.stores_vmem h_S1x256x512 ((Memref.isWhole_whole cc0_scratch1).storeExact_slice rfl _ (rectSO_rows (myWord_lt d))) (fun _ => rfl)) (.inl rfl)) : PR F PUnit) >>= kont) := rfl
/-- Placing the device's own chunk in its slot. -/
theorem wp_placeO (S : Stg F) (G : Gath F) (hown : oAt G c.isLt = ownO S.wo) (f : (cc0_scratch1 : Ref sig .tc).ty.Contents (Elt F))
    {α : Type} {Q : α → sProp 𝕄} {kont : PUnit → PR F α} :
    iprop((mWo.view.loc (c : Thread nD τ) ↦{fullShare} S.wo) ∗ (mO.view.loc (c : Thread nD τ) ↦[(mO.access (rectSO c.isLt)).set]{fullShare} f))
      ⊢ iprop((((mWo.view.loc (c : Thread nD τ) ↦{fullShare} S.wo) ∗ (mO.view.loc (c : Thread nD τ) ↦[(mO.access (rectSO c.isLt)).set]{fullShare} G.o))
          -∗ wp frame (wpE (defs₀ (F := F)) 𝒱₀ (c : Thread nD τ) none) Set.univ (kont ⟨⟩) Q)
        -∗ wp frame (wpE (defs₀ (F := F)) 𝒱₀ (c : Thread nD τ) none) Set.univ (placeO c >>= kont) Q) := by
  rw [placeO_bind]
  have hset : (mO.access (rectSO (myWord_lt c))).set = (mO.access (rectSO c.isLt)).set := by
    have : ∀ {m : ℕ} (h : m < 16), m = c.val → (mO.access (rectSO h)).set = (mO.access (rectSO c.isLt)).set := fun h e => by subst e; rfl
    exact this _ (myWord_toNat c)
  have hq : ownO S.wo = (mO.access (rectSO (myWord_lt c))).read (Elt F) G.o := by
    rw [← hown]; unfold oAt
    have : ∀ {m : ℕ} (h : m < 16), m = c.val → (mO.access (rectSO c.isLt)).read (Elt F) G.o = (mO.access (rectSO h)).read (Elt F) G.o :=
      fun h e => by subst e; rfl
    exact this _ (myWord_toNat c)
  have hp : (mO.view.loc (c : Thread nD τ) ↦[(mO.access (rectSO c.isLt)).set]{fullShare}
        (mO.access (rectSO (myWord_lt c))).write (Elt F) f (ownO S.wo) Finset.univ)
      = (mO.view.loc (c : Thread nD τ) ↦[(mO.access (rectSO c.isLt)).set]{fullShare} G.o : sProp 𝕄) := by
    rw [hq, View.write_read_eq_piecewise, View.setOn_univ, hset]
    exact pointsTo_congr (fun i hi => Finset.piecewise_eq_of_mem _ G.o f hi)
  iintro ⟨H1, H2⟩ Hk
  iapply (wp_loadWo c S.wo) $$ [H1]; · iexact H1
  iintro H1
  iapply (wp_loadO c (⟨G.q, f⟩ : Gath F) c (myWord_lt c) (myWord_toNat c) fullShare) $$ [H2]
  · iexact H2
  iintro H2
  iapply (wp_store 𝒱₀ (c : Thread nD τ) none Set.univ (m := mO) (r := rectSO (myWord_lt c)) (w := ownO S.wo) (Mk := Finset.univ)
    (hx := View.stores_vmem h_S1x256x512 ((Memref.isWhole_whole cc0_scratch1).storeExact_slice rfl _ (rectSO_rows (myWord_lt c))) (fun _ => rfl)) (hm := .inl rfl)
    (k := kont) (S := (mO.access (rectSO c.isLt)).set) (f := f) (by rw [View.setOn_univ, hset])) $$ [H2]
  · iexact H2
  iintro H2
  iapply Hk
  isplitl [H1]; · iexact H1
  iapply (Entails.of_eq hp); iexact H2

end Wp

end Cert.KernelIdeal.Ring
-- ==== Proof.Start.lean ====
module

public import proofs.«01_k».proof.Proof.Chunk

/-! # The start of the body: the output cleared, both neighbours told and waited for, the own chunk sent -/

@[expose] public section

set_option maxRecDepth 65536

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

theorem org_src (dir : Bool) (k : ℕ) (c : Dev nD) : org dir k (dst (!dir) c) = org dir (k + 1) c := by
  rw [dst_not, ← org_dst, dst_src]

variable (G : Gath F) (K : GSem nD τ sig → ℕ)

/-- What a device hands to the neighbour it will receive from: the slots that neighbour writes. -/
def handOver (c : Dev nD) (dir : Bool) : sProp 𝕄 :=
  bigSep (Finset.range (hops dir)) fun k => four fun wo p =>
    iprop(pcAny (F := F) wo c (org dir (k + 1) c) p ∗ reached ER (cell dir wo true k p c) 0)

omit [FloatOps F] in
theorem handOver_eq (c : Dev nD) (dir : Bool) : handOver (F := F) c dir = barPay (dst (!dir) c) dir := by
  unfold handOver barPay
  have e : dst dir (dst (!dir) c) = c := by rw [dst_not, dst_src]
  simp only [org_src, e]

section Wp
variable (c : Dev nD)

/-- Tell the neighbour `dst (!dir) c` that the slots it will write are free. -/
theorem wp_tell (dir : Bool) (d : Dev nD) (hd : d = dst (!dir) c) (O : CellTallies nD τ sig Unit)
    {α : Type} {Q : α → sProp 𝕄} {kont : PUnit → PR F α} :
    iprop(Invs G K ∗ dutyTok ER (barCell (dst (!dir) c)) 0 dir ∗ reached ER (barCell (dst (!dir) c)) 0 ∗ handOver (F := F) c dir
        ∗ owesX c (O + tallyAt (barCell (dst (!dir) c)) () 1))
      ⊢ iprop((owesX c O
          -∗ wp frame (wpE (defs₀ (F := F)) 𝒱₀ (c : Thread nD τ) none) Set.univ (kont ⟨⟩) Q)
        -∗ wp frame (wpE (defs₀ (F := F)) 𝒱₀ (c : Thread nD τ) none) Set.univ ((semSignalWord d (sig.barrier 0 rfl) 1#32 : PR F PUnit) >>= kont) Q) := by
  subst hd
  iintro ⟨#HI, Ht, #Hr, Hp, HO⟩ Hk
  unfold owesX
  icases HO with ⟨%W, HO⟩
  ihave Hp := (Entails.of_eq ((handOver_eq c dir).trans (show barPay (dst (!dir) c) dir = (rd G).payload (barCell (dst (!dir) c)) 0 dir from rfl))) $$ Hp
  simp only [semSignalWord, Prog.lift, Prog.bind_op, Prog.bind_ret]
  iapply (Rounds.wp_signal 𝒱₀ ER (rd G) (c : Thread nD τ) none (dst := ((dst (!dir) c : Dev nD) : Thread nD τ)) (sem := barS) (r := 0) (d := dir)
      (κ := K (barCell (dst (!dir) c))) (by rw [duties_bar]; exact Finset.mem_univ _) (show 1 = _ from by decide) () O rfl) $$ [HO Ht Hp]
  · isplitr; · iapply (Invs_elim G K (bar_mem _)); iexact HI
    isplitl [HO]; · iexact HO
    isplitl [Ht]; · iexact Ht
    isplitl [Hp]; · iexact Hp
    iexact Hr
  iintro HO
  iapply Hk
  iexists _; iexact HO

/-- Wait for both neighbours: the slots this device will write there come with it. -/
theorem wp_barWait {α : Type} {Q : α → sProp 𝕄} {kont : PUnit → PR F α} :
    iprop(Invs G K ∗ levAts L lv ∗ atPos ER (barCell c) 0 ∅ 0 ∗ cred (tallyAt (barCell c) () 2) ∗ owesX c (owed c 60))
      ⊢ iprop(((semVal (barCell c) 0 ∗ barPay c false ∗ barPay c true ∗ owesX c (owed c 60))
          -∗ wp frame (wpE (defs₀ (F := F)) 𝒱₀ (c : Thread nD τ) none) Set.univ (kont ⟨⟩) Q)
        -∗ wp frame (wpE (defs₀ (F := F)) 𝒱₀ (c : Thread nD τ) none) Set.univ ((semWaitWord (sig.barrier 0 rfl) 2#32 : PR F PUnit) >>= kont) Q) := by
  iintro ⟨#HI, #HL, Hat, Hc, HO⟩ Hk
  unfold owesX
  icases HO with ⟨%W, HO⟩
  simp only [semWaitWord, Prog.lift, Prog.bind_op, Prog.bind_ret]
  ihave #HIb := (Invs_elim G K (bar_mem c)) $$ HI
  iapply (Rounds.wp_wait_rest_token 𝒱₀ ER (rd G) (c : Thread nD τ) none (κ := K (barCell c))
      (wpE_semWait_eq 𝒱₀ (c : Thread nD τ) none Set.univ) (Set.mem_univ _) () (O := owed c 60) (W := W) (R := 0) (m := 0) (T := ∅)
      (by rw [expect_bar]; decide)) $$ [Hc HO Hat]
  · isplitr; · iexact HIb
    isplitl [Hc]; · iexact Hc
    isplitl [HO]; · iexact HO
    isplitr
    · iapply (mayWait_owed c (.reg barS) (n := 60) le_rfl 1 (le_refl 1) (fun i _ _ => by omega)); iexact HL
    iexact Hat
  iintro ⟨HO, Hat, -, Hpay⟩
  ihave Hp := (Entails.of_eq (rest_bar G c)) $$ Hpay
  icases Hp with ⟨Hp1, Hp2⟩
  imod (Rounds.cell_close ER (rd G) (Set.mem_univ (K (barCell c))) id (duties_later G (barCell c))) $$ [Hat] with Hz
  · isplitr; · iexact HIb
    iexact Hat
  iapply Hk
  isplitl [Hz]; · iexact Hz
  isplitl [Hp1]; · iexact Hp1
  isplitl [Hp2]; · iexact Hp2
  iexists _; iexact HO

omit [FloatOps F] in
theorem startP_bind (dR dL : Dev nD) [FloatOps F] {α : Type} (kont : Vec F S2x256x512 .bf16 → PR F α) :
    (startP dR dL >>= kont) = (loadOut >>= fun _ => storeOut (broadcast S2x256x512 (Scalar.ofBits .f32 0x00000000#32)) >>= fun _ =>
      loadX >>= fun x => semSignalWord dL (sig.barrier 0 rfl) 1#32 >>= fun _ => semSignalWord dR (sig.barrier 0 rfl) 1#32 >>= fun _ =>
      semWaitWord (sig.barrier 0 rfl) 2#32 >>= fun _ => kont x) := rfl

variable (F) in
/-- The output before any contribution. -/
def zeros : Vec F S2x256x512 .f32 := broadcast S2x256x512 (Scalar.ofBits .f32 0x00000000#32)

/-- What a device has for its barrier: its place on its own cell, and the duty it pays on either neighbour's. -/
def barIn (c : Dev nD) : sProp 𝕄 :=
  iprop(atPos ER (barCell c) 0 ∅ 0 ∗ cred (tallyAt (barCell c) () 2)
    ∗ (dutyTok ER (barCell (dst true c)) 0 false ∗ reached ER (barCell (dst true c)) 0)
    ∗ (dutyTok ER (barCell (dst false c)) 0 true ∗ reached ER (barCell (dst false c)) 0))

theorem wp_startP (S : Stg F) (o : Vec F S2x256x512 .f32) (dR dL : Dev nD) (hR : dR = dst false c) (hL : dL = dst true c)
    {α : Type} {Q : α → sProp 𝕄} {kont : Vec F S2x256x512 .bf16 → PR F α} :
    iprop(Invs G K ∗ levAts L lv ∗ stgs c S ∗ outs c o ∗ barIn c ∗ handOver (F := F) c false ∗ handOver (F := F) c true ∗ owesX c (O₀ c))
      ⊢ iprop(((stgs c S ∗ outs c (zeros F) ∗ semVal (barCell c) 0 ∗ barPay c false ∗ barPay c true ∗ owesX c (owed c 60))
          -∗ wp frame (wpE (defs₀ (F := F)) 𝒱₀ (c : Thread nD τ) none) Set.univ (kont S.x) Q)
        -∗ wp frame (wpE (defs₀ (F := F)) 𝒱₀ (c : Thread nD τ) none) Set.univ (startP dR dL >>= kont) Q) := by
  rw [startP_bind]
  unfold stgs barIn
  iintro ⟨#HI, #HL, ⟨SX, SR⟩, Ho, ⟨Hat, Hc, ⟨Ht1, #Hr1⟩, ⟨Ht2, #Hr2⟩⟩, H1, H2, HO⟩ Hk
  iapply (wp_loadOut c o) $$ [Ho]; · iexact Ho
  iintro Ho
  iapply (wp_storeOut c o) $$ [Ho]; · iexact Ho
  iintro Ho
  iapply (wp_loadX c S.x) $$ [SX]; · iexact SX
  iintro SX
  iapply (wp_tell G K c false dL hL (owed c 60 + tallyAt (barCell (dst false c)) () 1)) $$ [Ht1 H1 HO]
  · isplitr; · iexact HI
    isplitl [Ht1]; · iexact Ht1
    isplitr; · iexact Hr1
    isplitl [H1]; · iexact H1
    unfold O₀; iexact HO
  iintro HO
  iapply (wp_tell G K c true dR hR (owed c 60)) $$ [Ht2 H2 HO]
  · isplitr; · iexact HI
    isplitl [Ht2]; · iexact Ht2
    isplitr; · iexact Hr2
    isplitl [H2]; · iexact H2
    iexact HO
  iintro HO
  iapply (wp_barWait G K c) $$ [Hat Hc HO]
  · isplitr; · iexact HI
    isplitr; · iexact HL
    isplitl [Hat]; · iexact Hat
    isplitl [Hc] <;> iassumption
  iintro ⟨Hz, P1, P2, HO⟩
  iapply Hk
  isplitl [SX SR]; · isplitl [SX] <;> iassumption
  isplitl [Ho]; · iexact Ho
  isplitl [Hz]; · iexact Hz
  isplitl [P1]; · iexact P1
  isplitl [P2] <;> iassumption

end Wp

end Cert.KernelIdeal.Ring
-- ==== Proof.Run.lean ====
module

public import proofs.«01_k».proof.Proof.Start

/-! # The body's blocks: the own chunk, a hop, the last hops, the closing waits -/

@[expose] public section

set_option maxRecDepth 65536

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

theorem wordOf_lt (n : Fin 16) : (wordOf n).toNat < 16 := by rw [wordOf_toNat]; exact n.isLt

/-- The contribution of device `n`'s chunk to the output of the device whose operands are `S`. -/
def cv (S : Stg F) (G : Gath F) (n : Dev nD) : FVec F S2x256x512 .f32 := chunkVal S G (wordOf_lt n)

theorem cv_own (S : Stg F) (G : Gath F) (c : Dev nD) : chunkVal S G (myWord_lt c) = cv S G c := by
  have : ∀ {w w' : BitVec 32} (h : w.toNat < 16) (h' : w'.toNat < 16), w = w' → chunkVal S G h = chunkVal S G h' := fun h h' e => by subst e; rfl
  exact this _ _ (myWord_eq c)

/-! ## What a hop takes and leaves -/

variable (G : Gath F) (K : GSem nD τ sig → ℕ)

def hopIn (c : Dev nD) (k : ℕ) : sProp 𝕄 :=
  iprop(rIn4 c false k ∗ rIn4 c true k ∗ sIn4 c false (k + 1) ∗ sIn4 c true (k + 1))
def hopOut (c : Dev nD) (k : ℕ) : sProp 𝕄 :=
  iprop((z4 c false true k ∗ z4 c true true k ∗ sCr4 c false (k + 1) ∗ sCr4 c true (k + 1))
    ∗ pc4 G c (org false (k + 1) c) fullShare.left ∗ pc4 G c (org true (k + 1) c) fullShare.left)
def lastIn (c : Dev nD) : sProp 𝕄 :=
  iprop(rIn4 c false 6 ∗ rIn4 c true 6 ∗ rIn4 c false 7 ∗ sIn4 c false 7)
def lastOut (c : Dev nD) : sProp 𝕄 :=
  iprop((z4 c false true 6 ∗ z4 c true true 6 ∗ z4 c false true 7 ∗ sCr4 c false 7)
    ∗ pc4 G c (org false 7 c) fullShare.left ∗ pc4 G c (org true 7 c) fullShare ∗ pc4 G c (org false 8 c) fullShare)
def tailIn (c : Dev nD) (dir : Bool) (k : ℕ) : sProp 𝕄 := iprop(sAt4 c dir k ∗ sCr4 c dir k)
def tailOut (c : Dev nD) (dir : Bool) (k : ℕ) : sProp 𝕄 := iprop(z4 c dir false k ∗ pc4 G c (org dir k c) (shr dir k))

/-- The ring table, as a device holds it. -/
def ringT (c : Dev nD) : sProp 𝕄 := mRing.view.loc (c : Thread nD τ) ↦{fullShare} ringC F

section Wp
variable (c : Dev nD)

/-- A read of the ring table: the program's check of the word passes and the word names device `n`. -/
structure Reads (off : Fin 1 → ℕ) (P : BitVec 32 → Prop) (n : Dev nD) : Prop where
  at_ : ∃ i : Fin 16, off 0 = i.val ∧ ringTab i = n
  ok : P (wordOf n)

theorem wp_word (off : Fin 1 → ℕ) (hoff : ∀ a, off a + S1.size a ≤ S16.size a) (P : BitVec 32 → Prop)
    (dP : ∀ w, Decidable (P w)) (hP : ∀ w, P w → w.toNat < 16) (n : Dev nD) (hr : Reads off P n)
    {α : Type} {Q : α → sProp 𝕄} {kont : (Σ' w : BitVec 32, w.toNat < 16) → PR F α} :
    ringT c
      ⊢ iprop((ringT c -∗ wp frame (wpE (defs₀ (F := F)) 𝒱₀ (c : Thread nD τ) none) Set.univ (kont ⟨wordOf n, wordOf_lt n⟩) Q)
        -∗ wp frame (wpE (defs₀ (F := F)) 𝒱₀ (c : Thread nD τ) none) Set.univ (ringWord off hoff P dP hP >>= kont) Q) := by
  obtain ⟨⟨i, hi, rfl⟩, hok⟩ := hr
  exact wp_ringWord c off hoff P dP hP i hi hok

omit [FloatOps F] in
theorem hopP_bind [FloatOps F] (dR dL : Dev nD) (x2 : FVec F S512x512 .bf16) (k : ℕ) (rf rb : RW F) {α : Type} (kont : PUnit → PR F α) :
    (hopP dR dL x2 k rf rb >>= kont) = (rf >>= fun f => relay dR false k f.2 >>= fun _ => rb >>= fun b => relay dL true k b.2 >>= fun _ =>
      chunk x2 mask f.2 >>= fun _ => chunk x2 mask b.2 >>= kont) := by
  unfold hopP; simp only [Prog.bind_assoc]

omit [FloatOps F] in
theorem lastP_bind [FloatOps F] (dR : Dev nD) (x2 : FVec F S512x512 .bf16) (rf rb rl : RW F) {α : Type} (kont : PUnit → PR F α) :
    (lastP dR x2 rf rb rl >>= kont) = (rf >>= fun f => relay dR false 6 f.2 >>= fun _ => rb >>= fun b => waitSlot true true 6 b.2 >>= fun _ =>
      chunk x2 mask f.2 >>= fun _ => chunk x2 mask b.2 >>= fun _ => rl >>= fun l => waitSlot false true 7 l.2 >>= fun _ =>
      chunk x2 mask l.2 >>= kont) := by
  unfold lastP; simp only [Prog.bind_assoc]

omit [FloatOps F] in
theorem tailP_bind [FloatOps F] (dir : Bool) (k : ℕ) (r : RW F) {α : Type} (kont : PUnit → PR F α) :
    (tailP dir k r >>= kont) = (r >>= fun s => waitSlot dir false k s.2 >>= kont) := by
  unfold tailP; simp only [Prog.bind_assoc]

omit [FloatOps F] in
theorem ownP_bind [FloatOps F] (d dR dL : Dev nD) (x2 : FVec F S512x512 .bf16) {α : Type} (kont : PUnit → PR F α) :
    (ownP d dR dL x2 >>= kont) = (placeQ d >>= fun _ => placeO d >>= fun _ => sendSlot dR false 0 (myWord_lt d) >>= fun _ =>
      sendSlot dL true 0 (myWord_lt d) >>= fun _ => chunk x2 mask (myWord_lt d) >>= kont) := by
  unfold ownP; simp only [Prog.bind_assoc]

omit [FloatOps F] in
theorem pc4_halves (n : Dev nD) (q : PosShare TreeShare) : pc4 G c n q ⊣⊢ iprop(pc4 G c n q.left ∗ pc4 G c n q.right) := by
  unfold pc4
  rw [← four_sep]
  exact ⟨four_mono fun wo p => (pc_halves wo c n p q G).1, four_mono fun wo p => (pc_halves wo c n p q G).2⟩

/-- A hop. -/
theorem wp_hopP (S : Stg F) (o : Vec F S2x256x512 .f32) (dR dL : Dev nD) (hR : dR = dst false c) (hL : dL = dst true c) {k : ℕ} (hk : k < 6)
    {offf : Fin 1 → ℕ} (hofff : ∀ a, offf a + S1.size a ≤ S16.size a) {Pf : BitVec 32 → Prop} (dPf : ∀ w, Decidable (Pf w)) (hPf : ∀ w, Pf w → w.toNat < 16)
    {offb : Fin 1 → ℕ} (hoffb : ∀ a, offb a + S1.size a ≤ S16.size a) {Pb : BitVec 32 → Prop} (dPb : ∀ w, Decidable (Pb w)) (hPb : ∀ w, Pb w → w.toNat < 16)
    (hf : Reads offf Pf (org false (k + 1) c)) (hb : Reads offb Pb (org true (k + 1) c)) {m : ℕ} (hm : m + 8 * k = 44)
    {α : Type} {Q : α → sProp 𝕄} {kont : PUnit → PR F α} :
    iprop(Invs G K ∗ levAts L lv ∗ ringT c ∗ stgs c S ∗ outs c o ∗ owesX c (owed c (m + 8)) ∗ hopIn c k)
      ⊢ iprop(((ringT c ∗ stgs c S ∗ outs c (addChunk (addChunk o (cv S G (org false (k + 1) c))) (cv S G (org true (k + 1) c)))
            ∗ owesX c (owed c m) ∗ hopOut G c k)
          -∗ wp frame (wpE (defs₀ (F := F)) 𝒱₀ (c : Thread nD τ) none) Set.univ (kont ⟨⟩) Q)
        -∗ wp frame (wpE (defs₀ (F := F)) 𝒱₀ (c : Thread nD τ) none) Set.univ
          (hopP dR dL (rows S.x) k (ringWord offf hofff Pf dPf hPf) (ringWord offb hoffb Pb dPb hPb) >>= kont) Q) := by
  rw [hopP_bind]
  unfold hopIn hopOut
  iintro ⟨#HI, #HL, HT, Hs, Ho, HO, ⟨R1, R2, S1, S2⟩⟩ Hk
  iapply (wp_word c offf hofff Pf dPf hPf _ hf) $$ [HT]; · iexact HT
  iintro HT
  iapply (wp_relay G K c dR (j := 2 * k) (by omega) (dir := false) (k := k) (by simp [dirOf]) (by simp [hopOf]) hR (wordOf_lt _)
    (wordOf_toNat _) (m := m + 4) (by omega)) $$ [R1 S1 HO]
  · isplitr; · iexact HI
    isplitr; · iexact HL
    isplitl [R1]; · iexact R1
    isplitl [S1] <;> iassumption
  iintro ⟨Z1, C1, P1, HO⟩
  iapply (wp_word c offb hoffb Pb dPb hPb _ hb) $$ [HT]; · iexact HT
  iintro HT
  iapply (wp_relay G K c dL (j := 2 * k + 1) (by omega) (dir := true) (k := k) (by simp [dirOf]) (by simp [hopOf]; omega) hL (wordOf_lt _)
    (wordOf_toNat _) (m := m) (by omega)) $$ [R2 S2 HO]
  · isplitr; · iexact HI
    isplitr; · iexact HL
    isplitl [R2]; · iexact R2
    isplitl [S2] <;> iassumption
  iintro ⟨Z2, C2, P2, HO⟩
  iapply (wp_chunk c S G (org false (k + 1) c) (wordOf_lt _) (wordOf_toNat _) fullShare.left o) $$ [Hs P1 Ho]
  · isplitl [Hs]; · iexact Hs
    isplitl [P1] <;> iassumption
  iintro ⟨Hs, P1, Ho⟩
  iapply (wp_chunk c S G (org true (k + 1) c) (wordOf_lt _) (wordOf_toNat _) fullShare.left _) $$ [Hs P2 Ho]
  · isplitl [Hs]; · iexact Hs
    isplitl [P2] <;> iassumption
  iintro ⟨Hs, P2, Ho⟩
  iapply Hk
  isplitl [HT]; · iexact HT
  isplitl [Hs]; · iexact Hs
  isplitl [Ho]; · iexact Ho
  isplitl [HO]; · iexact HO
  isplitl [Z1 Z2 C1 C2]
  · isplitl [Z1]; · iexact Z1
    isplitl [Z2]; · iexact Z2
    isplitl [C1] <;> iassumption
  isplitl [P1] <;> iassumption

omit [FloatOps F] in
/-- What the receive end of a hop hands over, all four pieces. -/
theorem recv_four {dir : Bool} {k : ℕ} (hk : k < hops dir) :
    four (fun wo p => dmaPay G c (semOf dir wo true k p)) = pc4 G c (org dir (k + 1) c) fullShare := by
  unfold pc4; congr 1; funext wo p; exact dmaPay_recv G c dir wo hk p
omit [FloatOps F] in
theorem send_four {dir : Bool} {k : ℕ} (hk : k < hops dir) :
    four (fun wo p => dmaPay G c (semOf dir wo false k p)) = pc4 G c (org dir k c) (shr dir k) := by
  unfold pc4; congr 1; funext wo p; exact dmaPay_send G c dir wo hk p

omit [FloatOps F] in
theorem rIn4_eq (dir : Bool) (k : ℕ) : (rIn4 c dir k : sProp 𝕄)
    = four (fun wo p => iprop(atPos ER (cell dir wo true k p c) 0 ∅ 0 ∗ cred (tallyAt (cell dir wo true k p c) () NP))) := rfl

/-- The last hops. -/
theorem wp_lastP (S : Stg F) (o : Vec F S2x256x512 .f32) (dR : Dev nD) (hR : dR = dst false c)
    {offf : Fin 1 → ℕ} (hofff : ∀ a, offf a + S1.size a ≤ S16.size a) {Pf : BitVec 32 → Prop} (dPf : ∀ w, Decidable (Pf w)) (hPf : ∀ w, Pf w → w.toNat < 16)
    {offb : Fin 1 → ℕ} (hoffb : ∀ a, offb a + S1.size a ≤ S16.size a) {Pb : BitVec 32 → Prop} (dPb : ∀ w, Decidable (Pb w)) (hPb : ∀ w, Pb w → w.toNat < 16)
    {offl : Fin 1 → ℕ} (hoffl : ∀ a, offl a + S1.size a ≤ S16.size a) {Pl : BitVec 32 → Prop} (dPl : ∀ w, Decidable (Pl w)) (hPl : ∀ w, Pl w → w.toNat < 16)
    (hf : Reads offf Pf (org false 7 c)) (hb : Reads offb Pb (org true 7 c)) (hl : Reads offl Pl (org false 8 c))
    {α : Type} {Q : α → sProp 𝕄} {kont : PUnit → PR F α} :
    iprop(Invs G K ∗ levAts L lv ∗ ringT c ∗ stgs c S ∗ outs c o ∗ owesX c (owed c 4) ∗ lastIn c)
      ⊢ iprop(((ringT c ∗ stgs c S ∗ outs c (addChunk (addChunk (addChunk o (cv S G (org false 7 c))) (cv S G (org true 7 c))) (cv S G (org false 8 c)))
            ∗ owesX c (owed c 0) ∗ lastOut G c)
          -∗ wp frame (wpE (defs₀ (F := F)) 𝒱₀ (c : Thread nD τ) none) Set.univ (kont ⟨⟩) Q)
        -∗ wp frame (wpE (defs₀ (F := F)) 𝒱₀ (c : Thread nD τ) none) Set.univ
          (lastP dR (rows S.x) (ringWord offf hofff Pf dPf hPf) (ringWord offb hoffb Pb dPb hPb) (ringWord offl hoffl Pl dPl hPl) >>= kont) Q) := by
  rw [lastP_bind]
  unfold lastIn lastOut
  iintro ⟨#HI, #HL, HT, Hs, Ho, HO, ⟨R1, R2, R3, S1⟩⟩ Hk
  iapply (wp_word c offf hofff Pf dPf hPf _ hf) $$ [HT]; · iexact HT
  iintro HT
  iapply (wp_relay G K c dR (j := 12) (by omega) (dir := false) (k := 6) rfl rfl hR (wordOf_lt _)
    (wordOf_toNat _) (m := 0) (by omega)) $$ [R1 S1 HO]
  · isplitr; · iexact HI
    isplitr; · iexact HL
    isplitl [R1]; · iexact R1
    isplitl [S1] <;> iassumption
  iintro ⟨Z1, C1, P1, HO⟩
  iapply (wp_word c offb hoffb Pb dPb hPb _ hb) $$ [HT]; · iexact HT
  iintro HT
  iapply (wp_waitSlot G K c true true (k := 6) (by decide) (wordOf_lt _) 0 (by omega) (lv (cell true false true 6 0 c) ())
    (fun wo p => by rw [lv_recv true wo (by decide), lv_recv true false (by decide)]) (fun i h1 h2 => by omega)) $$ [R2 HO]
  · isplitr; · iexact HI
    isplitr; · iexact HL
    isplitl [R2]; · iapply (Entails.of_eq (rIn4_eq c true 6)); iexact R2
    iexact HO
  iintro ⟨Z2, P2, HO⟩
  ihave P2 := (Entails.of_eq (recv_four G c (dir := true) (k := 6) (by decide))) $$ P2
  iapply (wp_chunk c S G (org false 7 c) (wordOf_lt _) (wordOf_toNat _) fullShare.left o) $$ [Hs P1 Ho]
  · isplitl [Hs]; · iexact Hs
    isplitl [P1] <;> iassumption
  iintro ⟨Hs, P1, Ho⟩
  iapply (wp_chunk c S G (org true 7 c) (wordOf_lt _) (wordOf_toNat _) fullShare _) $$ [Hs P2 Ho]
  · isplitl [Hs]; · iexact Hs
    isplitl [P2]; · iexact P2
    iexact Ho
  iintro ⟨Hs, P2, Ho⟩
  iapply (wp_word c offl hoffl Pl dPl hPl _ hl) $$ [HT]; · iexact HT
  iintro HT
  iapply (wp_waitSlot G K c false true (k := 7) (by decide) (wordOf_lt _) 0 (by omega) (lv (cell false false true 7 0 c) ())
    (fun wo p => by rw [lv_recv false wo (by decide), lv_recv false false (by decide)]) (fun i h1 h2 => by omega)) $$ [R3 HO]
  · isplitr; · iexact HI
    isplitr; · iexact HL
    isplitl [R3]; · iapply (Entails.of_eq (rIn4_eq c false 7)); iexact R3
    iexact HO
  iintro ⟨Z3, P3, HO⟩
  ihave P3 := (Entails.of_eq (recv_four G c (dir := false) (k := 7) (by decide))) $$ P3
  iapply (wp_chunk c S G (org false 8 c) (wordOf_lt _) (wordOf_toNat _) fullShare _) $$ [Hs P3 Ho]
  · isplitl [Hs]; · iexact Hs
    isplitl [P3]; · iexact P3
    iexact Ho
  iintro ⟨Hs, P3, Ho⟩
  iapply Hk
  isplitl [HT]; · iexact HT
  isplitl [Hs]; · iexact Hs
  isplitl [Ho]; · iexact Ho
  isplitl [HO]; · iexact HO
  isplitl [Z1 Z2 Z3 C1]
  · isplitl [Z1]; · iexact Z1
    isplitl [Z2]; · iexact Z2
    isplitl [Z3] <;> iassumption
  isplitl [P1]; · iexact P1
  isplitl [P2] <;> iassumption

/-- A closing wait. -/
theorem wp_tailP (dir : Bool) {k : ℕ} (hk : k < hops dir)
    {off : Fin 1 → ℕ} (hoff : ∀ a, off a + S1.size a ≤ S16.size a) {P : BitVec 32 → Prop} (dP : ∀ w, Decidable (P w)) (hP : ∀ w, P w → w.toNat < 16)
    (hr : Reads off P (org dir k c))
    {α : Type} {Q : α → sProp 𝕄} {kont : PUnit → PR F α} :
    iprop(Invs G K ∗ levAts L lv ∗ ringT c ∗ owesX c (owed c 0) ∗ tailIn c dir k)
      ⊢ iprop(((ringT c ∗ owesX c (owed c 0) ∗ tailOut G c dir k)
          -∗ wp frame (wpE (defs₀ (F := F)) 𝒱₀ (c : Thread nD τ) none) Set.univ (kont ⟨⟩) Q)
        -∗ wp frame (wpE (defs₀ (F := F)) 𝒱₀ (c : Thread nD τ) none) Set.univ (tailP dir k (ringWord off hoff P dP hP) >>= kont) Q) := by
  rw [tailP_bind]
  unfold tailIn tailOut sAt4 sCr4
  rw [← four_sep]
  iintro ⟨#HI, #HL, HT, HO, R⟩ Hk
  iapply (wp_word c off hoff P dP hP _ hr) $$ [HT]; · iexact HT
  iintro HT
  iapply (wp_waitSlot G K c dir false hk (wordOf_lt _) 0 (by omega) (max (max (lv (cell dir false false k 0 c) ()) (lv (cell dir false false k 1 c) ())) (max (lv (cell dir true false k 0 c) ()) (lv (cell dir true false k 1 c) ())))
    (fun wo p => by cases wo <;> fin_cases p <;> simp only [Fin.zero_eta, Fin.mk_one] <;> omega) (fun i h1 h2 => by omega)) $$ [R HO]
  · isplitr; · iexact HI
    isplitr; · iexact HL
    isplitl [R]; · iexact R
    iexact HO
  iintro ⟨Z, P, HO⟩
  ihave P := (Entails.of_eq (send_four G c hk)) $$ P
  iapply Hk
  isplitl [HT]; · iexact HT
  isplitl [HO]; · iexact HO
  isplitl [Z] <;> iassumption

/-- The own chunk. -/
theorem wp_ownP (S : Stg F) (hown : Own c S G) (G0 : Gath F) (o : Vec F S2x256x512 .f32) (dR dL : Dev nD) (hR : dR = dst false c) (hL : dL = dst true c)
    {α : Type} {Q : α → sProp 𝕄} {kont : PUnit → PR F α} :
    iprop(Invs G K ∗ stgs c S ∗ outs c o ∗ owesX c (owed c 60) ∗ pc4 G0 c c fullShare ∗ sIn4 c false 0 ∗ sIn4 c true 0)
      ⊢ iprop(((stgs c S ∗ outs c (addChunk o (cv S G c)) ∗ owesX c (owed c 52) ∗ pc4 G c c fullShare.left ∗ sCr4 c false 0 ∗ sCr4 c true 0)
          -∗ wp frame (wpE (defs₀ (F := F)) 𝒱₀ (c : Thread nD τ) none) Set.univ (kont ⟨⟩) Q)
        -∗ wp frame (wpE (defs₀ (F := F)) 𝒱₀ (c : Thread nD τ) none) Set.univ (ownP c dR dL (rows S.x) >>= kont) Q) := by
  rw [ownP_bind]
  have e1 : pc4 G c c fullShare.right.left = pc4 G c (org false 0 c) (shr false 0) := by rw [org_zero]; rfl
  have e2 : pc4 G c c fullShare.right.right = pc4 G c (org true 0 c) (shr true 0) := by rw [org_zero]; rfl
  have n1 : (myWord c).toNat = (org false 0 c).val := by rw [org_zero, myWord_toNat]
  have n2 : (myWord c).toNat = (org true 0 c).val := by rw [org_zero, myWord_toNat]
  iintro ⟨#HI, Hs, Ho, HO, HP, S1, S2⟩ Hk
  ihave HP := (slot_eq c c fullShare G0).1 $$ HP
  unfold slot stgs
  icases HP with ⟨HQ, HW⟩
  icases Hs with ⟨SX, SQ, SK, SV, SO⟩
  iapply (wp_placeQ c S G hown.1 G0.q) $$ [SQ HQ]
  · isplitl [SQ] <;> iassumption
  iintro ⟨SQ, HQ⟩
  iapply (wp_placeO c S G hown.2 G0.o) $$ [SO HW]
  · isplitl [SO] <;> iassumption
  iintro ⟨SO, HW⟩
  ihave HP : pc4 G c c fullShare $$ [HQ HW]
  · iapply (slot_eq c c fullShare G).2; unfold slot; isplitl [HQ] <;> iassumption
  ihave HP := (pc4_halves G c c fullShare).1 $$ HP
  icases HP with ⟨HP, HR⟩
  ihave HR := (pc4_halves G c c fullShare.right).1 $$ HR
  icases HR with ⟨H1, H2⟩
  ihave H1 := (Entails.of_eq e1) $$ H1
  ihave H2 := (Entails.of_eq e2) $$ H2
  iapply (wp_sendSlot G K c dR (j := 0) (by omega) (dir := false) (k := 0) rfl rfl hR (myWord_lt c) n1 (m := 56) (by omega)) $$ [S1 H1 HO]
  · isplitr; · iexact HI
    isplitl [S1]; · iexact S1
    isplitl [H1] <;> iassumption
  iintro ⟨C1, HO⟩
  iapply (wp_sendSlot G K c dL (j := 1) (by omega) (dir := true) (k := 0) rfl rfl hL (myWord_lt c) n2 (m := 52) (by omega)) $$ [S2 H2 HO]
  · isplitr; · iexact HI
    isplitl [S2]; · iexact S2
    isplitl [H2] <;> iassumption
  iintro ⟨C2, HO⟩
  iapply (wp_chunk c S G c (myWord_lt c) (myWord_toNat c) fullShare.left o) $$ [SX SQ SK SV SO HP Ho]
  · isplitl [SX SQ SK SV SO]
    · unfold stgs
      isplitl [SX]; · iexact SX
      isplitl [SQ]; · iexact SQ
      isplitl [SK]; · iexact SK
      isplitl [SV] <;> iassumption
    isplitl [HP] <;> iassumption
  rw [cv_own]
  unfold stgs
  iintro ⟨Hs, HP, Ho⟩
  iapply Hk
  isplitl [Hs]; · iexact Hs
  isplitl [Ho]; · iexact Ho
  isplitl [HO]; · iexact HO
  isplitl [HP]; · iexact HP
  isplitl [C1] <;> iassumption

end Wp

end Cert.KernelIdeal.Ring
-- ==== Proof.Whole.lean ====
module

public import proofs.«01_k».proof.Proof.Run

/-! # The whole body -/

@[expose] public section

set_option maxRecDepth 65536

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Bookkeeping over the hops -/

section Ranges
omit [FloatOps F]
instance : _root_.Std.Commutative (α := sProp 𝕄) BIBase.sep := ⟨fun _ _ => equiv_iff.mp ⟨BI.sep_comm, BI.sep_comm⟩⟩
instance : _root_.Std.Associative (α := sProp 𝕄) BIBase.sep := ⟨fun _ _ _ => equiv_iff.mp ⟨BI.sep_assoc, BI.sep_assoc'⟩⟩

theorem range6 (X : ℕ → sProp 𝕄) : bigSep (Finset.range 6) X = iprop(X 0 ∗ X 1 ∗ X 2 ∗ X 3 ∗ X 4 ∗ X 5) := by
  rw [show Finset.range 6 = ([0, 1, 2, 3, 4, 5] : List ℕ).toFinset from by decide, bigSep_eq_bigSepL [0, 1, 2, 3, 4, 5] (by decide)]
  simp only [bigSepL_cons_cons, bigSepL_singleton]; rfl
theorem range7 (X : ℕ → sProp 𝕄) : bigSep (Finset.range 7) X = iprop(X 0 ∗ X 1 ∗ X 2 ∗ X 3 ∗ X 4 ∗ X 5 ∗ X 6) := by
  rw [show Finset.range 7 = ([0, 1, 2, 3, 4, 5, 6] : List ℕ).toFinset from by decide, bigSep_eq_bigSepL [0, 1, 2, 3, 4, 5, 6] (by decide)]
  simp only [bigSepL_cons_cons, bigSepL_singleton]; rfl
theorem range8 (X : ℕ → sProp 𝕄) : bigSep (Finset.range 8) X = iprop(X 0 ∗ X 1 ∗ X 2 ∗ X 3 ∗ X 4 ∗ X 5 ∗ X 6 ∗ X 7) := by
  rw [show Finset.range 8 = ([0, 1, 2, 3, 4, 5, 6, 7] : List ℕ).toFinset from by decide, bigSep_eq_bigSepL [0, 1, 2, 3, 4, 5, 6, 7] (by decide)]
  simp only [bigSepL_cons_cons, bigSepL_singleton]; rfl

theorem range8_succ (X : ℕ → sProp 𝕄) : bigSep (Finset.range 8) X = iprop(bigSep (Finset.range 7) X ∗ X 7) := by
  simp only [range8, range7]; ac_rfl
theorem range7_succ (X : ℕ → sProp 𝕄) : bigSep (Finset.range 7) X = iprop(bigSep (Finset.range 6) X ∗ X 6) := by
  simp only [range7, range6]; ac_rfl

/-- Over every hop of both directions. -/
def hopsAll (A : Bool → ℕ → sProp 𝕄) : sProp 𝕄 := iprop(bigSep (Finset.range 8) (A false) ∗ bigSep (Finset.range 7) (A true))

theorem hopsAll_mono {A B : Bool → ℕ → sProp 𝕄} (h : ∀ dir k, k < hops dir → A dir k ⊢ B dir k) : hopsAll A ⊢ hopsAll B :=
  BI.sep_mono (bigSep_mono fun k hk => h false k (Finset.mem_range.mp hk)) (bigSep_mono fun k hk => h true k (Finset.mem_range.mp hk))
theorem hopsAll_sep (A B : Bool → ℕ → sProp 𝕄) : hopsAll (fun dir k => iprop(A dir k ∗ B dir k)) = iprop(hopsAll A ∗ hopsAll B) := by
  unfold hopsAll; simp only [range8, range7]; ac_rfl

/-- The receive ends and the sends of all hops, as the program meets them. -/
theorem regroup (A B : Bool → ℕ → sProp 𝕄) :
    iprop(hopsAll A ∗ hopsAll B)
      = iprop(bigSep (Finset.range 6) (fun k => iprop(A false k ∗ A true k ∗ B false (k + 1) ∗ B true (k + 1)))
        ∗ (B false 0 ∗ B true 0) ∗ (A false 6 ∗ A true 6 ∗ A false 7 ∗ B false 7)) := by
  unfold hopsAll; simp only [range6, range7, range8, Nat.reduceAdd]; ac_rfl
end Ranges

variable (G : Gath F) (K : GSem nD τ sig → ℕ)

/-- The tokens of a hop's four transfers. -/
def sTok4 (c : Dev nD) (dir : Bool) (k : ℕ) : sProp 𝕄 := four fun wo p =>
  iprop(dutyTok ER (cell dir wo false k p c) 0 false ∗ reached ER (cell dir wo false k p c) 0 ∗ dutyTok ER (cell dir wo true k p (dst dir c)) 0 false)

omit [FloatOps F] in
theorem sIn4_of (c : Dev nD) : iprop(hopsAll (sTok4 (F := F) c) ∗ barPay c false ∗ barPay c true) ⊢ hopsAll (sIn4 c) := by
  have e : iprop(hopsAll (sTok4 (F := F) c) ∗ barPay c false ∗ barPay c true) = iprop(hopsAll (sTok4 (F := F) c)
      ∗ hopsAll (fun dir k => four fun wo p => iprop(pcAny (F := F) wo (dst dir c) (org dir k c) p ∗ reached ER (cell dir wo true k p (dst dir c)) 0))) := rfl
  rw [e, ← hopsAll_sep]
  refine hopsAll_mono fun dir k _ => ?_
  unfold sTok4 sIn4
  rw [← four_sep]
  refine four_mono fun wo p => ?_
  unfold sIn
  iintro ⟨⟨A, B, C⟩, D, E⟩
  isplitl [A]; · iexact A
  isplitl [B]; · iexact B
  isplitl [C]; · iexact C
  isplitl [D]; · iexact D
  iexact E

omit [FloatOps F] in
/-- Once everything is back, every slot is whole. -/
theorem slots_join (c : Dev nD) :
    iprop(bigSep (Finset.range 6) (fun k => iprop(pc4 G c (org false (k + 1) c) fullShare.left ∗ pc4 G c (org true (k + 1) c) fullShare.left))
        ∗ (pc4 G c (org false 7 c) fullShare.left ∗ pc4 G c (org true 7 c) fullShare ∗ pc4 G c (org false 8 c) fullShare)
        ∗ pc4 G c c fullShare.left ∗ hopsAll (fun dir k => pc4 G c (org dir k c) (shr dir k)))
      ⊢ iprop(pc4 G c c fullShare ∗ hopsAll (fun dir k => pc4 G c (org dir (k + 1) c) fullShare)) := by
  have h0 : iprop(pc4 G c c fullShare.left ∗ pc4 G c (org false 0 c) (shr false 0) ∗ pc4 G c (org true 0 c) (shr true 0)) ⊢ pc4 G c c fullShare := by
    rw [org_zero, org_zero]
    iintro ⟨A, B, C⟩
    iapply (pc4_halves G c c fullShare).2
    isplitl [A]; · iexact A
    iapply (pc4_halves G c c fullShare.right).2
    isplitl [B]; · iexact B
    iexact C
  have h1 : ∀ dir k, iprop(pc4 G c (org dir (k + 1) c) fullShare.left ∗ pc4 G c (org dir (k + 1) c) (shr dir (k + 1))) ⊢ pc4 G c (org dir (k + 1) c) fullShare :=
    fun dir k => by rw [show shr dir (k + 1) = fullShare.right from if_neg (Nat.succ_ne_zero _)]; exact (pc4_halves G c _ fullShare).2
  have key : ∀ (L T W : Bool → ℕ → sProp 𝕄) (Lo Wo : sProp 𝕄), (iprop(Lo ∗ T false 0 ∗ T true 0) ⊢ Wo) →
      (∀ dir k, iprop(L dir (k + 1) ∗ T dir (k + 1)) ⊢ W dir (k + 1)) →
      iprop(bigSep (Finset.range 6) (fun k => iprop(L false (k + 1) ∗ L true (k + 1))) ∗ (L false 7 ∗ W true 7 ∗ W false 8) ∗ Lo ∗ hopsAll T)
        ⊢ iprop(Wo ∗ hopsAll (fun dir k => W dir (k + 1))) := by
    intro L T W Lo Wo h0 h1
    have e : iprop(bigSep (Finset.range 6) (fun k => iprop(L false (k + 1) ∗ L true (k + 1))) ∗ (L false 7 ∗ W true 7 ∗ W false 8) ∗ Lo ∗ hopsAll T)
        = iprop((Lo ∗ T false 0 ∗ T true 0) ∗ (bigSep (Finset.range 7) (fun k => iprop(L false (k + 1) ∗ T false (k + 1))) ∗ W false 8)
          ∗ (bigSep (Finset.range 6) (fun k => iprop(L true (k + 1) ∗ T true (k + 1))) ∗ W true 7)) := by
      unfold hopsAll; simp only [range6, range7, range8, Nat.reduceAdd]; ac_rfl
    rw [e]
    refine BI.sep_mono h0 (BI.sep_mono ?_ ?_)
    · rw [range8_succ]
      exact BI.sep_mono (bigSep_mono fun k _ => h1 false k) (BI.Entails.refl _)
    · rw [range7_succ]
      exact BI.sep_mono (bigSep_mono fun k _ => h1 true k) (BI.Entails.refl _)
  exact key (fun dir k => pc4 G c (org dir k c) fullShare.left) (fun dir k => pc4 G c (org dir k c) (shr dir k))
    (fun dir k => pc4 G c (org dir k c) fullShare) _ _ h0 h1

/-! ## The output -/

/-- The output after the own chunk and `n` full hops. -/
def acc (S : Stg F) (c : Dev nD) : ℕ → Vec F S2x256x512 .f32
  | 0 => addChunk (zeros F) (cv S G c)
  | n + 1 => addChunk (addChunk (acc S c n) (cv S G (org false (n + 1) c))) (cv S G (org true (n + 1) c))
/-- The output at the end. -/
def outVal (S : Stg F) (c : Dev nD) : Vec F S2x256x512 .f32 := addChunk (acc G S c 7) (cv S G (org false 8 c))

/-! ## The table reads -/

section Reads
variable (c : Dev nD)
theorem reads_mk {off : Fin 1 → ℕ} {P : BitVec 32 → Prop} (dir : Bool) (k : ℕ)
    (h : off 0 = (posTab c + Fin.ofNat 16 (bif dir then k else 15 * k)).val) (ok : ∀ n : Fin 16, P (wordOf n)) : Reads off P (org dir k c) :=
  ⟨⟨_, h, rfl⟩, ok _⟩
theorem reads11 : Reads (k0_off11 (wordOf (posTab c))) k0_chk4 (org false 1 c) :=
  reads_mk c false 1 (by revert c; decide +kernel) chk4_wordOf
theorem reads16 : Reads (k0_off16 (wordOf (posTab c))) k0_chk5 (org true 1 c) :=
  reads_mk c true 1 (by revert c; decide +kernel) chk4_wordOf
theorem reads33 : Reads (k0_off33 (wordOf (posTab c))) k0_chk6 (org false 2 c) :=
  reads_mk c false 2 (by revert c; decide +kernel) chk4_wordOf
theorem reads38 : Reads (k0_off38 (wordOf (posTab c))) k0_chk7 (org true 2 c) :=
  reads_mk c true 2 (by revert c; decide +kernel) chk4_wordOf
theorem reads55 : Reads (k0_off55 (wordOf (posTab c))) k0_chk8 (org false 3 c) :=
  reads_mk c false 3 (by revert c; decide +kernel) chk4_wordOf
theorem reads60 : Reads (k0_off60 (wordOf (posTab c))) k0_chk9 (org true 3 c) :=
  reads_mk c true 3 (by revert c; decide +kernel) chk4_wordOf
theorem reads77 : Reads (k0_off77 (wordOf (posTab c))) k0_chk10 (org false 4 c) :=
  reads_mk c false 4 (by revert c; decide +kernel) chk4_wordOf
theorem reads82 : Reads (k0_off82 (wordOf (posTab c))) k0_chk11 (org true 4 c) :=
  reads_mk c true 4 (by revert c; decide +kernel) chk4_wordOf
theorem reads99 : Reads (k0_off99 (wordOf (posTab c))) k0_chk12 (org false 5 c) :=
  reads_mk c false 5 (by revert c; decide +kernel) chk4_wordOf
theorem reads104 : Reads (k0_off104 (wordOf (posTab c))) k0_chk13 (org true 5 c) :=
  reads_mk c true 5 (by revert c; decide +kernel) chk4_wordOf
theorem reads121 : Reads (k0_off121 (wordOf (posTab c))) k0_chk14 (org false 6 c) :=
  reads_mk c false 6 (by revert c; decide +kernel) chk4_wordOf
theorem reads126 : Reads (k0_off126 (wordOf (posTab c))) k0_chk15 (org true 6 c) :=
  reads_mk c true 6 (by revert c; decide +kernel) chk4_wordOf
theorem reads143 : Reads (k0_off143 (wordOf (posTab c))) k0_chk16 (org false 7 c) :=
  reads_mk c false 7 (by revert c; decide +kernel) chk4_wordOf
theorem reads148 : Reads (k0_off148 (wordOf (posTab c))) k0_chk17 (org true 7 c) :=
  reads_mk c true 7 (by revert c; decide +kernel) chk4_wordOf
theorem reads165 : Reads (k0_off165 (wordOf (posTab c))) k0_chk18 (org false 8 c) :=
  reads_mk c false 8 (by revert c; decide +kernel) chk4_wordOf
theorem reads176 : Reads (k0_off176 (wordOf (posTab c))) k0_chk19 (org false 0 c) :=
  reads_mk c false 0 (by revert c; decide +kernel) chk19_wordOf
theorem reads181 : Reads (k0_off181 (wordOf (posTab c))) k0_chk20 (org false 1 c) :=
  reads_mk c false 1 (by revert c; decide +kernel) chk19_wordOf
theorem reads186 : Reads (k0_off186 (wordOf (posTab c))) k0_chk21 (org false 2 c) :=
  reads_mk c false 2 (by revert c; decide +kernel) chk19_wordOf
theorem reads191 : Reads (k0_off191 (wordOf (posTab c))) k0_chk22 (org false 3 c) :=
  reads_mk c false 3 (by revert c; decide +kernel) chk19_wordOf
theorem reads196 : Reads (k0_off196 (wordOf (posTab c))) k0_chk23 (org false 4 c) :=
  reads_mk c false 4 (by revert c; decide +kernel) chk19_wordOf
theorem reads201 : Reads (k0_off201 (wordOf (posTab c))) k0_chk24 (org false 5 c) :=
  reads_mk c false 5 (by revert c; decide +kernel) chk19_wordOf
theorem reads206 : Reads (k0_off206 (wordOf (posTab c))) k0_chk25 (org false 6 c) :=
  reads_mk c false 6 (by revert c; decide +kernel) chk19_wordOf
theorem reads211 : Reads (k0_off211 (wordOf (posTab c))) k0_chk26 (org false 7 c) :=
  reads_mk c false 7 (by revert c; decide +kernel) chk19_wordOf
theorem reads216 : Reads (k0_off216 (wordOf (posTab c))) k0_chk27 (org true 0 c) :=
  reads_mk c true 0 (by revert c; decide +kernel) chk19_wordOf
theorem reads221 : Reads (k0_off221 (wordOf (posTab c))) k0_chk28 (org true 1 c) :=
  reads_mk c true 1 (by revert c; decide +kernel) chk19_wordOf
theorem reads226 : Reads (k0_off226 (wordOf (posTab c))) k0_chk29 (org true 2 c) :=
  reads_mk c true 2 (by revert c; decide +kernel) chk19_wordOf
theorem reads231 : Reads (k0_off231 (wordOf (posTab c))) k0_chk30 (org true 3 c) :=
  reads_mk c true 3 (by revert c; decide +kernel) chk19_wordOf
theorem reads236 : Reads (k0_off236 (wordOf (posTab c))) k0_chk31 (org true 4 c) :=
  reads_mk c true 4 (by revert c; decide +kernel) chk19_wordOf
theorem reads241 : Reads (k0_off241 (wordOf (posTab c))) k0_chk32 (org true 5 c) :=
  reads_mk c true 5 (by revert c; decide +kernel) chk19_wordOf
theorem reads246 : Reads (k0_off246 (wordOf (posTab c))) k0_chk33 (org true 6 c) :=
  reads_mk c true 6 (by revert c; decide +kernel) chk19_wordOf
end Reads

/-! ## The body -/

/-- What a device enters the body with, besides its buffers. -/
def entry (c : Dev nD) : sProp 𝕄 :=
  iprop(barIn c ∗ handOver (F := F) c false ∗ handOver (F := F) c true ∗ hopsAll (rIn4 c) ∗ hopsAll (sTok4 (F := F) c) ∗ hopsAll (sAt4 c))
/-- What it leaves with. -/
def leaving (c : Dev nD) : sProp 𝕄 :=
  iprop(semVal (barCell c) 0 ∗ hopsAll (fun dir k => z4 c dir true k) ∗ hopsAll (fun dir k => z4 c dir false k)
    ∗ hopsAll (fun dir k => pc4 G c (org dir (k + 1) c) fullShare))

theorem wp_ringP (c : Dev nD) (S : Stg F) (hown : Own c S G) (G0 : Gath F) (o : Vec F S2x256x512 .f32) (dR dL : Dev nD) (hR : dR = dst false c) (hL : dL = dst true c)
    (h5 : k0_chk3 (wordOf (posTab c))) {α : Type} {Q : α → sProp 𝕄} {kont : PUnit → PR F α} :
    iprop(Invs G K ∗ levAts L lv ∗ ringT c ∗ stgs c S ∗ outs c o ∗ owesX c (O₀ c) ∗ pc4 G0 c c fullShare ∗ entry c)
      ⊢ iprop(((ringT c ∗ stgs c S ∗ outs c (outVal G S c) ∗ owesX c 0 ∗ pc4 G c c fullShare ∗ leaving G c)
          -∗ wp frame (wpE (defs₀ (F := F)) 𝒱₀ (c : Thread nD τ) none) Set.univ (kont ⟨⟩) Q)
        -∗ wp frame (wpE (defs₀ (F := F)) 𝒱₀ (c : Thread nD τ) none) Set.univ (ringP c dR dL (wordOf (posTab c)) h5 >>= kont) Q) := by
  unfold entry
  iintro ⟨#HI, #HL, HT, Hs, Ho, HO, HP, ⟨HB, HF, HG, HR, HS, HA⟩⟩ Hk
  unfold ringP
  simp only [Prog.bind_assoc]
  iapply (wp_startP G K c S o dR dL hR hL) $$ [Hs Ho HB HF HG HO]
  · isplitr; · iexact HI
    isplitr; · iexact HL
    isplitl [Hs]; · iexact Hs
    isplitl [Ho]; · iexact Ho
    isplitl [HB]; · iexact HB
    isplitl [HF]; · iexact HF
    isplitl [HG] <;> iassumption
  iintro ⟨Hs, Ho, Hz, B1, B2, HO⟩
  ihave HS := (sIn4_of c) $$ [HS B1 B2]
  · isplitl [HS]; · iexact HS
    isplitl [B1] <;> iassumption
  ihave HH : iprop(bigSep (Finset.range 6) (hopIn (F := F) c) ∗ (sIn4 (F := F) c false 0 ∗ sIn4 (F := F) c true 0) ∗ lastIn (F := F) c) $$ [HR HS]
  · iapply (Entails.of_eq (regroup (F := F) (rIn4 c) (sIn4 c)))
    isplitl [HR] <;> iassumption
  icases HH with ⟨HH, ⟨S1, S2⟩, HLast⟩
  ihave HH := (Entails.of_eq (range6 _)) $$ HH
  icases HH with ⟨I0, I1, I2, I3, I4, I5⟩
  iapply (wp_ownP G K c S hown G0 (zeros F) dR dL hR hL) $$ [Hs Ho HO HP S1 S2]
  · isplitr; · iexact HI
    isplitl [Hs]; · iexact Hs
    isplitl [Ho]; · iexact Ho
    isplitl [HO]; · iexact HO
    isplitl [HP]; · iexact HP
    isplitl [S1] <;> iassumption
  iintro ⟨Hs, Ho, HO, HP, C1, C2⟩
  iapply (wp_hopP G K c S _ dR dL hR hL (k := 0) (by omega) _ _ _ _ _ _ (reads11 c) (reads16 c) (m := 44) (by omega)) $$ [HT Hs Ho HO I0]
  · isplitr; · iexact HI
    isplitr; · iexact HL
    isplitl [HT]; · iexact HT
    isplitl [Hs]; · iexact Hs
    isplitl [Ho]; · iexact Ho
    isplitl [HO]; · iexact HO
    iexact I0
  iintro ⟨HT, Hs, Ho, HO, I0⟩
  iapply (wp_hopP G K c S _ dR dL hR hL (k := 1) (by omega) _ _ _ _ _ _ (reads33 c) (reads38 c) (m := 36) (by omega)) $$ [HT Hs Ho HO I1]
  · isplitr; · iexact HI
    isplitr; · iexact HL
    isplitl [HT]; · iexact HT
    isplitl [Hs]; · iexact Hs
    isplitl [Ho]; · iexact Ho
    isplitl [HO]; · iexact HO
    iexact I1
  iintro ⟨HT, Hs, Ho, HO, I1⟩
  iapply (wp_hopP G K c S _ dR dL hR hL (k := 2) (by omega) _ _ _ _ _ _ (reads55 c) (reads60 c) (m := 28) (by omega)) $$ [HT Hs Ho HO I2]
  · isplitr; · iexact HI
    isplitr; · iexact HL
    isplitl [HT]; · iexact HT
    isplitl [Hs]; · iexact Hs
    isplitl [Ho]; · iexact Ho
    isplitl [HO]; · iexact HO
    iexact I2
  iintro ⟨HT, Hs, Ho, HO, I2⟩
  iapply (wp_hopP G K c S _ dR dL hR hL (k := 3) (by omega) _ _ _ _ _ _ (reads77 c) (reads82 c) (m := 20) (by omega)) $$ [HT Hs Ho HO I3]
  · isplitr; · iexact HI
    isplitr; · iexact HL
    isplitl [HT]; · iexact HT
    isplitl [Hs]; · iexact Hs
    isplitl [Ho]; · iexact Ho
    isplitl [HO]; · iexact HO
    iexact I3
  iintro ⟨HT, Hs, Ho, HO, I3⟩
  iapply (wp_hopP G K c S _ dR dL hR hL (k := 4) (by omega) _ _ _ _ _ _ (reads99 c) (reads104 c) (m := 12) (by omega)) $$ [HT Hs Ho HO I4]
  · isplitr; · iexact HI
    isplitr; · iexact HL
    isplitl [HT]; · iexact HT
    isplitl [Hs]; · iexact Hs
    isplitl [Ho]; · iexact Ho
    isplitl [HO]; · iexact HO
    iexact I4
  iintro ⟨HT, Hs, Ho, HO, I4⟩
  iapply (wp_hopP G K c S _ dR dL hR hL (k := 5) (by omega) _ _ _ _ _ _ (reads121 c) (reads126 c) (m := 4) (by omega)) $$ [HT Hs Ho HO I5]
  · isplitr; · iexact HI
    isplitr; · iexact HL
    isplitl [HT]; · iexact HT
    isplitl [Hs]; · iexact Hs
    isplitl [Ho]; · iexact Ho
    isplitl [HO]; · iexact HO
    iexact I5
  iintro ⟨HT, Hs, Ho, HO, I5⟩
  iapply (wp_lastP G K c S _ dR hR _ _ _ _ _ _ _ _ _ (reads143 c) (reads148 c) (reads165 c)) $$ [HT Hs Ho HO HLast]
  · isplitr; · iexact HI
    isplitr; · iexact HL
    isplitl [HT]; · iexact HT
    isplitl [Hs]; · iexact Hs
    isplitl [Ho]; · iexact Ho
    isplitl [HO]; · iexact HO
    iexact HLast
  iintro ⟨HT, Hs, Ho, HO, HLast⟩
  unfold lastOut
  icases HLast with ⟨ZL, PL⟩
  ihave HH : iprop(bigSep (Finset.range 6) (hopOut G c)) $$ [I0 I1 I2 I3 I4 I5]
  · rw [range6]
    isplitl [I0]; · iexact I0
    isplitl [I1]; · iexact I1
    isplitl [I2]; · iexact I2
    isplitl [I3]; · iexact I3
    isplitl [I4] <;> iassumption
  unfold hopOut
  ihave HH := (Entails.of_eq (bigSep_sep' _ _ _)) $$ HH
  icases HH with ⟨ZH, PH⟩
  ihave HZ : iprop(hopsAll (F := F) (fun dir k => z4 c dir true k) ∗ hopsAll (F := F) (sCr4 c)) $$ [ZH ZL C1 C2]
  · rw [regroup]
    isplitl [ZH]; · iexact ZH
    isplitl [C1 C2]
    · isplitl [C1] <;> iassumption
    iexact ZL
  icases HZ with ⟨HZ, HC⟩
  ihave HTl : hopsAll (F := F) (tailIn c) $$ [HA HC]
  · iapply (Entails.of_eq (hopsAll_sep (F := F) (sAt4 c) (sCr4 c)).symm)
    isplitl [HA] <;> iassumption
  ihave HTl := (Entails.of_eq (show hopsAll (F := F) (tailIn c) = iprop(bigSep (Finset.range 8) (tailIn c false) ∗ bigSep (Finset.range 7) (tailIn c true)) from rfl)) $$ HTl
  icases HTl with ⟨TF, TB⟩
  ihave TF := (Entails.of_eq (range8 _)) $$ TF
  ihave TB := (Entails.of_eq (range7 _)) $$ TB
  icases TF with ⟨F0, F1, F2, F3, F4, F5, F6, F7⟩
  icases TB with ⟨B0, B1, B2, B3, B4, B5, B6⟩
  iapply (wp_tailP G K c false (k := 0) (by decide) _ _ _ (reads176 c)) $$ [HT HO F0]
  · isplitr; · iexact HI
    isplitr; · iexact HL
    isplitl [HT]; · iexact HT
    isplitl [HO]; · iexact HO
    iexact F0
  iintro ⟨HT, HO, F0⟩
  iapply (wp_tailP G K c false (k := 1) (by decide) _ _ _ (reads181 c)) $$ [HT HO F1]
  · isplitr; · iexact HI
    isplitr; · iexact HL
    isplitl [HT]; · iexact HT
    isplitl [HO]; · iexact HO
    iexact F1
  iintro ⟨HT, HO, F1⟩
  iapply (wp_tailP G K c false (k := 2) (by decide) _ _ _ (reads186 c)) $$ [HT HO F2]
  · isplitr; · iexact HI
    isplitr; · iexact HL
    isplitl [HT]; · iexact HT
    isplitl [HO]; · iexact HO
    iexact F2
  iintro ⟨HT, HO, F2⟩
  iapply (wp_tailP G K c false (k := 3) (by decide) _ _ _ (reads191 c)) $$ [HT HO F3]
  · isplitr; · iexact HI
    isplitr; · iexact HL
    isplitl [HT]; · iexact HT
    isplitl [HO]; · iexact HO
    iexact F3
  iintro ⟨HT, HO, F3⟩
  iapply (wp_tailP G K c false (k := 4) (by decide) _ _ _ (reads196 c)) $$ [HT HO F4]
  · isplitr; · iexact HI
    isplitr; · iexact HL
    isplitl [HT]; · iexact HT
    isplitl [HO]; · iexact HO
    iexact F4
  iintro ⟨HT, HO, F4⟩
  iapply (wp_tailP G K c false (k := 5) (by decide) _ _ _ (reads201 c)) $$ [HT HO F5]
  · isplitr; · iexact HI
    isplitr; · iexact HL
    isplitl [HT]; · iexact HT
    isplitl [HO]; · iexact HO
    iexact F5
  iintro ⟨HT, HO, F5⟩
  iapply (wp_tailP G K c false (k := 6) (by decide) _ _ _ (reads206 c)) $$ [HT HO F6]
  · isplitr; · iexact HI
    isplitr; · iexact HL
    isplitl [HT]; · iexact HT
    isplitl [HO]; · iexact HO
    iexact F6
  iintro ⟨HT, HO, F6⟩
  iapply (wp_tailP G K c false (k := 7) (by decide) _ _ _ (reads211 c)) $$ [HT HO F7]
  · isplitr; · iexact HI
    isplitr; · iexact HL
    isplitl [HT]; · iexact HT
    isplitl [HO]; · iexact HO
    iexact F7
  iintro ⟨HT, HO, F7⟩
  iapply (wp_tailP G K c true (k := 0) (by decide) _ _ _ (reads216 c)) $$ [HT HO B0]
  · isplitr; · iexact HI
    isplitr; · iexact HL
    isplitl [HT]; · iexact HT
    isplitl [HO]; · iexact HO
    iexact B0
  iintro ⟨HT, HO, B0⟩
  iapply (wp_tailP G K c true (k := 1) (by decide) _ _ _ (reads221 c)) $$ [HT HO B1]
  · isplitr; · iexact HI
    isplitr; · iexact HL
    isplitl [HT]; · iexact HT
    isplitl [HO]; · iexact HO
    iexact B1
  iintro ⟨HT, HO, B1⟩
  iapply (wp_tailP G K c true (k := 2) (by decide) _ _ _ (reads226 c)) $$ [HT HO B2]
  · isplitr; · iexact HI
    isplitr; · iexact HL
    isplitl [HT]; · iexact HT
    isplitl [HO]; · iexact HO
    iexact B2
  iintro ⟨HT, HO, B2⟩
  iapply (wp_tailP G K c true (k := 3) (by decide) _ _ _ (reads231 c)) $$ [HT HO B3]
  · isplitr; · iexact HI
    isplitr; · iexact HL
    isplitl [HT]; · iexact HT
    isplitl [HO]; · iexact HO
    iexact B3
  iintro ⟨HT, HO, B3⟩
  iapply (wp_tailP G K c true (k := 4) (by decide) _ _ _ (reads236 c)) $$ [HT HO B4]
  · isplitr; · iexact HI
    isplitr; · iexact HL
    isplitl [HT]; · iexact HT
    isplitl [HO]; · iexact HO
    iexact B4
  iintro ⟨HT, HO, B4⟩
  iapply (wp_tailP G K c true (k := 5) (by decide) _ _ _ (reads241 c)) $$ [HT HO B5]
  · isplitr; · iexact HI
    isplitr; · iexact HL
    isplitl [HT]; · iexact HT
    isplitl [HO]; · iexact HO
    iexact B5
  iintro ⟨HT, HO, B5⟩
  iapply (wp_tailP G K c true (k := 6) (by decide) _ _ _ (reads246 c)) $$ [HT HO B6]
  · isplitr; · iexact HI
    isplitr; · iexact HL
    isplitl [HT]; · iexact HT
    isplitl [HO]; · iexact HO
    iexact B6
  iintro ⟨HT, HO, B6⟩
  ihave HQ : hopsAll (F := F) (tailOut G c) $$ [F0 F1 F2 F3 F4 F5 F6 F7 B0 B1 B2 B3 B4 B5 B6]
  · unfold hopsAll
    rw [range8, range7]
    isplitl [F0 F1 F2 F3 F4 F5 F6 F7]
    · isplitl [F0]; · iexact F0
      isplitl [F1]; · iexact F1
      isplitl [F2]; · iexact F2
      isplitl [F3]; · iexact F3
      isplitl [F4]; · iexact F4
      isplitl [F5]; · iexact F5
      isplitl [F6] <;> iassumption
    isplitl [B0]; · iexact B0
    isplitl [B1]; · iexact B1
    isplitl [B2]; · iexact B2
    isplitl [B3]; · iexact B3
    isplitl [B4]; · iexact B4
    isplitl [B5] <;> iassumption
  ihave HQ := (Entails.of_eq (show hopsAll (F := F) (tailOut G c) = iprop(hopsAll (fun dir k => z4 c dir false k) ∗ hopsAll (fun dir k => pc4 G c (org dir k c) (shr dir k))) from
    hopsAll_sep _ _)) $$ HQ
  icases HQ with ⟨ZQ, PQ⟩
  ihave HP := (slots_join G c) $$ [PH PL HP PQ]
  · isplitl [PH]; · iexact PH
    isplitl [PL]; · iexact PL
    isplitl [HP] <;> iassumption
  icases HP with ⟨HP, HW⟩
  iapply Hk
  isplitl [HT]; · iexact HT
  isplitl [Hs]; · iexact Hs
  isplitl [Ho]; · iexact Ho
  isplitl [HO]; · rw [← owed_zero c]; iexact HO
  isplitl [HP]; · iexact HP
  unfold leaving
  isplitl [Hz]; · iexact Hz
  isplitl [HZ]; · iexact HZ
  isplitl [ZQ] <;> iassumption

theorem body_bind {α : Type} (kont : PUnit → PR F α) : (body (F := F) >>= kont) = (Prog.lift .deviceId >>= fun d =>
    nbrWord ![0] inb_S3_S1_0 k0_chk2 k0_chk2.dec >>= fun r => nbrWord ![1] inb_S3_S1_1 k0_chk1 k0_chk1.dec >>= fun l =>
    nbrWord ![2] inb_S3_S1_2 k0_chk3 k0_chk3.dec >>= fun v => ringP d ⟨devNat r.1, r.2.1.1⟩ ⟨devNat l.1, l.2.1⟩ v.1 v.2 >>= kont) := by
  unfold body; simp only [Prog.bind_assoc]

/-- The neighbour table, as a device holds it. -/
def nbrT (c : Dev nD) : sProp 𝕄 := mNbr.view.loc (c : Thread nD τ) ↦{fullShare} nbrC F c

theorem wp_body (c : Dev nD) (S : Stg F) (hown : Own c S G) (G0 : Gath F) (o : Vec F S2x256x512 .f32)
    {α : Type} {Q : α → sProp 𝕄} {kont : PUnit → PR F α} :
    iprop(Invs G K ∗ levAts L lv ∗ nbrT c ∗ ringT c ∗ stgs c S ∗ outs c o ∗ owesX c (O₀ c) ∗ pc4 G0 c c fullShare ∗ entry c)
      ⊢ iprop(((nbrT c ∗ ringT c ∗ stgs c S ∗ outs c (outVal G S c) ∗ owesX c 0 ∗ pc4 G c c fullShare ∗ leaving G c)
          -∗ wp frame (wpE (defs₀ (F := F)) 𝒱₀ (c : Thread nD τ) none) Set.univ (kont ⟨⟩) Q)
        -∗ wp frame (wpE (defs₀ (F := F)) 𝒱₀ (c : Thread nD τ) none) Set.univ (body >>= kont) Q) := by
  rw [body_bind]
  iintro ⟨#HI, #HL, HN, HT, Hs, Ho, HO, HP, HE⟩ Hk
  simp only [Prog.lift, Prog.bind_op, Prog.bind_ret, wp_deviceId]
  unfold nbrT
  iapply (wp_nbrWord c ![0] inb_S3_S1_0 k0_chk2 k0_chk2.dec 0 rfl (chk2_wordOf _)) $$ [HN]; · iexact HN
  iintro HN
  iapply (wp_nbrWord c ![1] inb_S3_S1_1 k0_chk1 k0_chk1.dec 1 rfl (chk1_wordOf _)) $$ [HN]; · iexact HN
  iintro HN
  iapply (wp_nbrWord c ![2] inb_S3_S1_2 k0_chk3 k0_chk3.dec 2 rfl (chk3_wordOf _)) $$ [HN]; · iexact HN
  iintro HN
  iapply (wp_ringP G K c S hown G0 o _ _ (Fin.ext (devNat_wordOf (dst false c))) (Fin.ext (devNat_wordOf (dst true c))) _) $$ [HT Hs Ho HO HP HE]
  · isplitr; · iexact HI
    isplitr; · iexact HL
    isplitl [HT]; · iexact HT
    isplitl [Hs]; · iexact Hs
    isplitl [Ho]; · iexact Ho
    isplitl [HO]; · iexact HO
    isplitl [HP] <;> iassumption
  iintro ⟨HT, Hs, Ho, HO, HP, HE⟩
  iapply Hk
  isplitl [HN]; · iexact HN
  isplitl [HT]; · iexact HT
  isplitl [Hs]; · iexact Hs
  isplitl [Ho]; · iexact Ho
  isplitl [HO]; · iexact HO
  isplitl [HP] <;> iassumption

end Cert.KernelIdeal.Ring
-- ==== Proof.Split.lean ====
module

public import proofs.«01_k».proof.Proof.Whole

/-! # The resources of a device, sorted by chunk and by hop

The two scratch buffers are the sixteen slots of the chunks, the device's own and the fifteen that arrive; the 120
transfer semaphores are the send and receive ends of the 15 hops. -/

@[expose] public section

set_option maxRecDepth 65536

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The sixteen chunks -/

/-- The chunks, in the order a device uses them. -/
abbrev chunks (c : Dev nD) : List (Dev nD) :=
  [c, org false 1 c, org false 2 c, org false 3 c, org false 4 c, org false 5 c, org false 6 c, org false 7 c, org false 8 c,
    org true 1 c, org true 2 c, org true 3 c, org true 4 c, org true 5 c, org true 6 c, org true 7 c]

theorem chunks_nodup : ∀ c : Dev nD, (chunks c).Nodup := by decide +kernel
theorem chunks_all : ∀ c : Dev nD, (chunks c).toFinset = Finset.univ := by decide +kernel

omit [FloatOps F] in
theorem by_chunk (c : Dev nD) (X : Dev nD → sProp 𝕄) :
    bigSep Finset.univ X = iprop(X c ∗ hopsAll (fun dir k => X (org dir (k + 1) c))) := by
  rw [← chunks_all c, bigSep_eq_bigSepL (chunks c) (chunks_nodup c)]
  unfold hopsAll
  simp only [chunks, bigSepL_cons_cons, bigSepL_singleton, range8, range7, Nat.reduceAdd]
  ac_rfl

/-! ## The semaphores -/

/-- The place of a transfer end among the semaphores. -/
abbrev place (x : (Fin 8 ⊕ Fin 7) × Bool × Bool × Fin 2) : Fin 120 :=
  Fin.ofNat 120 ((Sum.elim (fun k : Fin 8 => semOf false x.2.2.1 x.2.1 k.val x.2.2.2) (fun k : Fin 7 => semOf true x.2.2.1 x.2.1 k.val x.2.2.2) x.1).val - 8)

theorem place_inj : ∀ a : (Fin 8 ⊕ Fin 7) × Bool × Bool × Fin 2, ∀ b, place a = place b → a = b := by decide +kernel

theorem place_bij : Function.Bijective place :=
  (Fintype.bijective_iff_injective_and_card place).mpr ⟨fun a b h => place_inj a b h, by decide +kernel⟩

theorem place_f : ∀ (k : Fin 8) (wo rc : Bool) (p : Fin 2), osem (place (.inl k, rc, wo, p)) = .dma (semOf false wo rc k.val p) := by decide +kernel
theorem place_b : ∀ (k : Fin 7) (wo rc : Bool) (p : Fin 2), osem (place (.inr k, rc, wo, p)) = .dma (semOf true wo rc k.val p) := by decide +kernel

omit [FloatOps F] in
theorem bool_sep (X : Bool → sProp 𝕄) : bigSep Finset.univ X = iprop(X false ∗ X true) := by
  rw [bigSep_univ_eq_bigSepL [false, true] (by decide) (by decide)]
  simp only [bigSepL_cons_cons, bigSepL_singleton]; rfl
omit [FloatOps F] in
theorem fin8 (X : ℕ → sProp 𝕄) : bigSep Finset.univ (fun k : Fin 8 => X k.val) = bigSep (Finset.range 8) X := by
  rw [bigSep_univ_eq_bigSepL [0, 1, 2, 3, 4, 5, 6, 7] (by decide) (by decide), range8]
  simp only [bigSepL_cons_cons, bigSepL_singleton]; rfl
omit [FloatOps F] in
theorem fin7 (X : ℕ → sProp 𝕄) : bigSep Finset.univ (fun k : Fin 7 => X k.val) = bigSep (Finset.range 7) X := by
  rw [bigSep_univ_eq_bigSepL [0, 1, 2, 3, 4, 5, 6] (by decide) (by decide), range7]
  simp only [bigSepL_cons_cons, bigSepL_singleton]; rfl

omit [FloatOps F] in
theorem by_sem (X : SemLoc sig → sProp 𝕄) :
    bigSep Finset.univ (fun i : Fin 120 => X (osem i))
      = hopsAll (fun dir k => iprop(four (fun wo p => X (.dma (semOf dir wo false k p))) ∗ four (fun wo p => X (.dma (semOf dir wo true k p))))) := by
  rw [bigSep_univ_equiv (Equiv.ofBijective place place_bij), bigSep_univ_prod, bigSep_univ_sum]
  unfold hopsAll
  rw [← fin8, ← fin7]
  congr 1
  · refine congrArg _ (funext fun k => ?_)
    rw [bigSep_univ_prod, bool_sep]
    dsimp only
    rw [four_eq, four_eq]
    congr 1 <;> exact congrArg _ (funext fun x => congrArg X (place_f k x.1 _ x.2))
  · refine congrArg _ (funext fun k => ?_)
    rw [bigSep_univ_prod, bool_sep]
    dsimp only
    rw [four_eq, four_eq]
    congr 1 <;> exact congrArg _ (funext fun x => congrArg X (place_b k x.1 _ x.2))

/-! ## The scratch buffers -/

theorem setsQ (c : Dev nD) : ((Finset.univ : Finset (Dev nD)).biUnion (β := Idx (mQ.view.loc (c : Thread nD τ))) fun n => (mQ.access (rectSQ n.isLt)).set) = Finset.univ := by
  apply Finset.eq_univ_of_forall; intro i
  have h0 : (i 0).val < 16 := (i 0).isLt
  have h1 : (i 1).val < 512 := (i 1).isLt
  have h2 : (i 2).val < 256 := (i 2).isLt
  refine Finset.mem_biUnion.mpr ⟨⟨(i 0).val, h0⟩, Finset.mem_univ _, ?_⟩
  rw [show (mQ.access (rectSQ h0)).set = (rectSQ h0).set from View.set_slice_whole _ _, Rect.mem_set_unit]
  simp only [Fin.forall_fin_succ, S16x512x256, S1x512x256]
  refine ⟨?_, ?_, ?_, fun x => x.elim0⟩ <;> simp <;> omega
theorem setsO (c : Dev nD) : ((Finset.univ : Finset (Dev nD)).biUnion (β := Idx (mO.view.loc (c : Thread nD τ))) fun n => (mO.access (rectSO n.isLt)).set) = Finset.univ := by
  apply Finset.eq_univ_of_forall; intro i
  have h0 : (i 0).val < 16 := (i 0).isLt
  have h1 : (i 1).val < 256 := (i 1).isLt
  have h2 : (i 2).val < 512 := (i 2).isLt
  refine Finset.mem_biUnion.mpr ⟨⟨(i 0).val, h0⟩, Finset.mem_univ _, ?_⟩
  rw [show (mO.access (rectSO h0)).set = (rectSO h0).set from View.set_slice_whole _ _, Rect.mem_set_unit]
  simp only [Fin.forall_fin_succ, S16x256x512, S1x256x512]
  refine ⟨?_, ?_, ?_, fun x => x.elim0⟩ <;> simp <;> omega

theorem apartQ (n m : Dev nD) (h : n ≠ m) : Disjoint (mQ.access (rectSQ n.isLt)).set (mQ.access (rectSQ m.isLt)).set := by
  rw [show (mQ.access (rectSQ n.isLt)).set = (rectSQ n.isLt).set from View.set_slice_whole _ _,
    show (mQ.access (rectSQ m.isLt)).set = (rectSQ m.isLt).set from View.set_slice_whole _ _]
  have h' : n.val ≠ m.val := fun e => h (Fin.ext e)
  refine Rect.unit_disjoint 0 ?_
  simp [S1x512x256]; omega
theorem apartO (n m : Dev nD) (h : n ≠ m) : Disjoint (mO.access (rectSO n.isLt)).set (mO.access (rectSO m.isLt)).set := by
  rw [show (mO.access (rectSO n.isLt)).set = (rectSO n.isLt).set from View.set_slice_whole _ _,
    show (mO.access (rectSO m.isLt)).set = (rectSO m.isLt).set from View.set_slice_whole _ _]
  have h' : n.val ≠ m.val := fun e => h (Fin.ext e)
  refine Rect.unit_disjoint 0 ?_
  simp [S1x256x512]; omega

omit [FloatOps F] in
theorem slots_eq (c : Dev nD) (G : Gath F) :
    iprop((mQ.view.loc (c : Thread nD τ) ↦{fullShare} G.q) ∗ (mO.view.loc (c : Thread nD τ) ↦{fullShare} G.o))
      = iprop(pc4 G c c fullShare ∗ hopsAll (fun dir k => pc4 G c (org dir (k + 1) c) fullShare)) := by
  have hs : bigSep Finset.univ (fun n : Dev nD => pc4 G c n fullShare) = bigSep Finset.univ (fun n : Dev nD => slot c n fullShare G) :=
    congrArg _ (funext fun n => BI.equiv_iff.mp ⟨(slot_eq c n fullShare G).1, (slot_eq c n fullShare G).2⟩)
  rw [← by_chunk c (fun n => pc4 G c n fullShare), hs]
  unfold slot
  rw [bigSep_sep']
  congr 1
  · rw [← pointsTo_biUnion _ _ fun n _ m _ h => apartQ n m h, setsQ c]
  · rw [← pointsTo_biUnion _ _ fun n _ m _ h => apartO n m h, setsO c]

end Cert.KernelIdeal.Ring
-- ==== Proof.Enter.lean ====
module

public import proofs.«01_k».proof.Proof.Split

/-! # Entering and leaving the body, and the launch's shares

What a device holds when the kernel starts, sorted into what the body asks for; what the body leaves, sorted back into the
buffers and the counters it started from. -/

@[expose] public section

set_option maxRecDepth 65536

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

omit [FloatOps F] in
theorem four_sep' (Φ Ψ : Bool → Fin 2 → sProp 𝕄) : iprop(four Φ ∗ four Ψ) = four (fun wo p => iprop(Φ wo p ∗ Ψ wo p)) :=
  (four_sep Φ Ψ).symm
omit [FloatOps F] in
theorem hopsAll_sep' (A B : Bool → ℕ → sProp 𝕄) : iprop(hopsAll A ∗ hopsAll B) = hopsAll (fun dir k => iprop(A dir k ∗ B dir k)) :=
  (hopsAll_sep A B).symm

/-! ## Entering -/

/-- The tokens of a hop's four transfers, of the sender's and of the receiver's ends. -/
def tok4 (c : Dev nD) (dir : Bool) (k : ℕ) : sProp 𝕄 := four fun wo p =>
  iprop(dutyTok ER (cell dir wo false k p c) 0 false ∗ dutyTok ER (cell dir wo true k p (dst dir c)) 0 false)
/-- The credits of a hop's four arrivals. -/
def crd4 (c : Dev nD) (dir : Bool) (k : ℕ) : sProp 𝕄 := four fun wo p => cred (tallyAt (cell dir wo true k p c) () NP)
/-- The cells of all transfers of a device, open. -/
def opened (c : Dev nD) : sProp 𝕄 := bigSep Finset.univ fun i : Fin 120 =>
  iprop(atPos ER ((c : Thread nD τ), osem i) 0 ∅ 0 ∗ reached ER ((c : Thread nD τ), osem i) 0)
/-- The scratch buffers at some contents. -/
def scr (c : Dev nD) : sProp 𝕄 :=
  iprop((∃ f : Buf (Elt F) (mQ.view.loc (c : Thread nD τ)), mQ.view.loc (c : Thread nD τ) ↦{fullShare} f)
    ∗ (∃ f : Buf (Elt F) (mO.view.loc (c : Thread nD τ)), mO.view.loc (c : Thread nD τ) ↦{fullShare} f))

/-- One hop's slot, as it is handed to the neighbour. -/
def hand4 (c : Dev nD) (dir : Bool) (k : ℕ) : sProp 𝕄 := four fun wo p =>
  iprop(pcAny (F := F) wo c (org dir (k + 1) c) p ∗ reached ER (cell dir wo true k p c) 0)

omit [FloatOps F] in
theorem enter_hop (c : Dev nD) (G0 : Gath F) (dir : Bool) (k : ℕ) :
    iprop((four (fun wo p => iprop(atPos ER (cell dir wo false k p c) 0 ∅ 0 ∗ reached ER (cell dir wo false k p c) 0))
        ∗ four (fun wo p => iprop(atPos ER (cell dir wo true k p c) 0 ∅ 0 ∗ reached ER (cell dir wo true k p c) 0)))
      ∗ tok4 (F := F) c dir k ∗ crd4 c dir k ∗ pc4 G0 c (org dir (k + 1) c) fullShare)
      ⊢ iprop(hand4 (F := F) c dir k ∗ rIn4 c dir k ∗ sTok4 c dir k ∗ sAt4 c dir k) := by
  unfold tok4 crd4 pc4 hand4 rIn4 sTok4 sAt4
  simp only [four_sep']
  refine four_mono fun wo p => ?_
  unfold rIn pcAny
  iintro ⟨⟨⟨A1, A2⟩, B1, B2⟩, ⟨T1, T2⟩, C, P⟩
  isplitl [P B2]
  · isplitl [P]; · iexists G0; iexact P
    iexact B2
  isplitl [B1 C]
  · isplitl [B1] <;> iassumption
  isplitl [T1 T2 A2]
  · isplitl [T1]; · iexact T1
    isplitl [A2] <;> iassumption
  iexact A1

omit [FloatOps F] in
theorem enter (c : Dev nD) :
    iprop(barIn c ∗ opened (F := F) c ∗ hopsAll (tok4 (F := F) c) ∗ hopsAll (crd4 c) ∗ scr (F := F) c)
      ⊢ iprop(∃ G0 : Gath F, pc4 G0 c c fullShare ∗ entry c) := by
  have e1 : opened (F := F) c = hopsAll (fun dir k => iprop(
      four (fun wo p => iprop(atPos ER (cell dir wo false k p c) 0 ∅ 0 ∗ reached ER (cell dir wo false k p c) 0))
        ∗ four (fun wo p => iprop(atPos ER (cell dir wo true k p c) 0 ∅ 0 ∗ reached ER (cell dir wo true k p c) 0)))) :=
    by_sem fun s => iprop(atPos ER ((c : Thread nD τ), s) 0 ∅ 0 ∗ reached ER ((c : Thread nD τ), s) 0)
  have e2 (G0 : Gath F) : iprop(opened (F := F) c ∗ hopsAll (tok4 (F := F) c) ∗ hopsAll (crd4 c) ∗ hopsAll (fun dir k => pc4 G0 c (org dir (k + 1) c) fullShare))
      ⊢ iprop(hopsAll (hand4 (F := F) c) ∗ hopsAll (rIn4 c) ∗ hopsAll (sTok4 c) ∗ hopsAll (sAt4 c)) := by
    rw [e1, hopsAll_sep', hopsAll_sep', hopsAll_sep', hopsAll_sep', hopsAll_sep', hopsAll_sep']
    exact hopsAll_mono fun dir k _ => enter_hop c G0 dir k
  have e3 : hopsAll (hand4 (F := F) c) = iprop(handOver (F := F) c false ∗ handOver (F := F) c true) := rfl
  unfold scr
  iintro ⟨HB, HO, HT, HC, ⟨%f0, S0⟩, ⟨%f1, S1⟩⟩
  iexists (⟨f0, f1⟩ : Gath F)
  ihave HS := (Entails.of_eq (slots_eq c (⟨f0, f1⟩ : Gath F))) $$ [S0 S1]
  · isplitl [S0] <;> iassumption
  icases HS with ⟨HP, HS⟩
  isplitl [HP]; · iexact HP
  ihave H := (e2 ⟨f0, f1⟩) $$ [HO HT HC HS]
  · isplitl [HO]; · iexact HO
    isplitl [HT]; · iexact HT
    isplitl [HC] <;> iassumption
  icases H with ⟨H1, H2, H3, H4⟩
  ihave H1 := (Entails.of_eq e3) $$ H1
  icases H1 with ⟨H0, H1⟩
  unfold entry
  isplitl [HB]; · iexact HB
  isplitl [H0]; · iexact H0
  isplitl [H1]; · iexact H1
  isplitl [H2]; · iexact H2
  isplitl [H3] <;> iassumption

/-! ## Leaving -/

omit [FloatOps F] in
theorem leave (c : Dev nD) (G : Gath F) :
    iprop(pc4 G c c fullShare ∗ leaving G c)
      ⊢ iprop(semVal (barCell c) 0 ∗ (bigSep Finset.univ fun i : Fin 120 => semVal ((c : Thread nD τ), osem i) 0) ∗ scr (F := F) c) := by
  have e1 : (bigSep Finset.univ fun i : Fin 120 => (semVal ((c : Thread nD τ), osem i) 0 : sProp 𝕄))
      = hopsAll (fun dir k => iprop(z4 c dir false k ∗ z4 c dir true k)) :=
    by_sem fun s => semVal ((c : Thread nD τ), s) 0
  unfold leaving scr
  iintro ⟨HP, HB, Z1, Z2, HS⟩
  isplitl [HB]; · iexact HB
  isplitl [Z1 Z2]
  · rw [e1, hopsAll_sep]
    isplitl [Z2] <;> iassumption
  ihave H := (Entails.of_eq (slots_eq c G).symm) $$ [HP HS]
  · isplitl [HP] <;> iassumption
  icases H with ⟨H0, H1⟩
  isplitl [H0]
  · iexists _; iexact H0
  · iexists _; iexact H1

/-! ## What the devices owe one another at launch -/

/-- The place of a transfer in the program's order. -/
abbrev idx (dir wo : Bool) (k : ℕ) (p : Fin 2) : ℕ := 4 * (2 * k + dir.toNat) + 2 * wo.toNat + p.val

theorem sentTo_place (dir wo : Bool) {k : ℕ} (hk : k < hops dir) (p : Fin 2) {i : ℕ} (hi : i < 60) :
    (semOf (dirOf (i / 4)) (decide (i / 2 % 2 = 1)) true (hopOf (i / 4)) (Fin.ofNat 2 i) = semOf dir wo true k p ↔ i = idx dir wo k p)
      ∧ idx dir wo k p < 60 ∧ dirOf (idx dir wo k p / 4) = dir := by
  have key : ∀ (i : Fin 60) (dir wo : Bool) (k : Fin 8) (p : Fin 2), k.val < hops dir →
      (semOf (dirOf (i.val / 4)) (decide (i.val / 2 % 2 = 1)) true (hopOf (i.val / 4)) (Fin.ofNat 2 i.val) = semOf dir wo true k.val p ↔ i.val = idx dir wo k.val p)
        ∧ idx dir wo k.val p < 60 ∧ dirOf (idx dir wo k.val p / 4) = dir := by decide +kernel
  exact key ⟨i, hi⟩ dir wo ⟨k, hk.trans_le (by cases dir <;> decide)⟩ p hk

theorem sentTo_iff (dir wo : Bool) {k : ℕ} (hk : k < hops dir) (p : Fin 2) (c d : Dev nD) {i : ℕ} (hi : i < 60) :
    cell dir wo true k p c = sentTo d i ↔ i = idx dir wo k p ∧ d = src dir c := by
  obtain ⟨h1, _, h3⟩ := sentTo_place dir wo hk p hi
  constructor
  · intro h
    have hs : (semOf (dirOf (i / 4)) (decide (i / 2 % 2 = 1)) true (hopOf (i / 4)) (Fin.ofNat 2 i) = semOf dir wo true k p) :=
      (SemLoc.dma.inj (congrArg (fun g : GSem nD τ sig => g.2) h)).symm
    have hi' := h1.mp hs
    have hc : c = dst (dirOf (i / 4)) d := congrArg (fun g : GSem nD τ sig => g.1.1) h
    refine ⟨hi', ?_⟩
    rw [hi', h3] at hc
    rw [hc, src_dst]
  · rintro ⟨h, rfl⟩
    have hs := h1.mpr h
    have hd : dirOf (i / 4) = dir := by rw [h]; exact h3
    have hc : dst (dirOf (i / 4)) (src dir c) = c := by rw [hd, dst_src]
    exact (Prod.ext (congrArg (fun d : Dev nD => (d : Thread nD τ)) hc) (congrArg SemLoc.dma hs)).symm

theorem owed_apply (d : Dev nD) (g : GSem nD τ sig) : ∀ n, owed d n g () = ∑ i ∈ Finset.range n, if g = sentTo d (59 - i) then NP else 0
  | 0 => by rw [owed_zero, Finset.range_zero, Finset.sum_empty]; rfl
  | n + 1 => by
    rw [owed_succ, Pi.add_apply, Finsupp.add_apply, Finset.sum_range_succ, owed_apply d g n, tallyAt_apply]
    congr 1
    by_cases h : g = sentTo d (59 - n) <;> simp [h]

theorem owed_recv (dir wo : Bool) {k : ℕ} (hk : k < hops dir) (p : Fin 2) (c d : Dev nD) :
    owed d 60 (cell dir wo true k p c) () = if d = src dir c then NP else 0 := by
  obtain ⟨_, h2, _⟩ := sentTo_place dir wo hk p (i := 0) (by decide)
  rw [owed_apply, Finset.sum_eq_single (59 - idx dir wo k p)]
  · refine if_congr ?_ rfl rfl
    rw [sentTo_iff dir wo hk p c d (by omega)]
    exact ⟨fun h => h.2, fun h => ⟨by omega, h⟩⟩
  · intro i hi hne
    have hi := Finset.mem_range.mp hi
    rw [if_neg]
    rw [sentTo_iff dir wo hk p c d (by omega)]
    exact fun h => hne (by omega)
  · intro h; exact absurd (Finset.mem_range.mpr (by omega)) h

theorem owed_bar (c d : Dev nD) : owed d 60 (barCell c) () = 0 := by
  rw [owed_apply]
  refine Finset.sum_eq_zero fun i _ => if_neg fun h => ?_
  have := congrArg (fun g : GSem nD τ sig => g.2) h
  cases this

theorem O₀_recv (dir wo : Bool) {k : ℕ} (hk : k < hops dir) (p : Fin 2) (c d : Dev nD) :
    O₀ d (cell dir wo true k p c) () = if d = src dir c then NP else 0 := by
  have h (e : Dev nD) : ¬ (cell dir wo true k p c = barCell e ∧ () = ()) := fun h => by
    have := congrArg (fun g : GSem nD τ sig => g.2) h.1
    cases this
  unfold O₀
  rw [Pi.add_apply, Pi.add_apply, Finsupp.add_apply, Finsupp.add_apply, tallyAt_apply, tallyAt_apply, if_neg (h _), if_neg (h _), owed_recv dir wo hk p c d]
  rfl

theorem O₀_bar (c d : Dev nD) :
    O₀ d (barCell c) () = (if c = dst false d then 1 else 0) + (if c = dst true d then 1 else 0) := by
  have h (e : Dev nD) : (barCell c = barCell e ∧ () = ()) ↔ c = e :=
    ⟨fun h => congrArg (fun g : GSem nD τ sig => g.1.1) h.1, fun h => ⟨congrArg barCell h, rfl⟩⟩
  unfold O₀
  rw [Pi.add_apply, Pi.add_apply, Finsupp.add_apply, Finsupp.add_apply, tallyAt_apply, tallyAt_apply, if_congr (h _) rfl rfl, if_congr (h _) rfl rfl, owed_bar c d, Nat.zero_add]

theorem launch_bar (c : Dev nD) :
    (tallyOn (barCell c) (launchCredit (Pipeline.owing O₀) 0 (barCell c)) : CellTallies nD τ sig Unit) = tallyAt (barCell c) () 2 := by
  unfold tallyAt
  refine congrArg _ (Finsupp.ext fun u => ?_)
  cases u
  rw [Pipeline.launchCredit_owing, Finsupp.single_eq_same, Finset.sum_congr rfl fun d _ => O₀_bar c d]
  revert c; decide +kernel

theorem launch_recv (dir wo : Bool) {k : ℕ} (hk : k < hops dir) (p : Fin 2) (c : Dev nD) :
    (tallyOn (cell dir wo true k p c) (launchCredit (Pipeline.owing O₀) 0 (cell dir wo true k p c)) : CellTallies nD τ sig Unit)
      = tallyAt (cell dir wo true k p c) () NP := by
  unfold tallyAt
  refine congrArg _ (Finsupp.ext fun u => ?_)
  cases u
  rw [Pipeline.launchCredit_owing, Finsupp.single_eq_same, Finset.sum_congr rfl fun d _ => O₀_recv dir wo hk p c d,
    Finset.sum_ite_eq' Finset.univ (src dir c) fun _ => NP, if_pos (Finset.mem_univ _)]

omit [FloatOps F] in
/-- A device's launch credits: two units of its barrier, and every arrival. -/
theorem creds (c : Dev nD) :
    (Pipeline.launchCred O₀ c : sProp 𝕄) ⊢ iprop(cred (tallyAt (barCell c) () 2) ∗ hopsAll (crd4 c)) := by
  unfold Pipeline.launchCred
  rw [bigSep_univ_at _ (SemLoc.reg barS), launch_bar]
  refine BI.sep_mono (BI.Entails.refl _) ?_
  have hsub : (Finset.univ.map ⟨osem, osem_inj⟩ : Finset (SemLoc sig)) ⊆ Finset.univ.erase (SemLoc.reg barS) := by
    intro s hs
    obtain ⟨i, _, rfl⟩ := Finset.mem_map.mp hs
    refine Finset.mem_erase.mpr (And.intro ?_ (Finset.mem_univ _))
    intro h; injection h
  refine (bigSep_subset hsub).trans ?_
  rw [bigSep_map]
  refine (Entails.of_eq (by_sem fun s => (cred (tallyOn ((c : Thread nD τ), s) (launchCredit (Pipeline.owing O₀) 0 ((c : Thread nD τ), s))) : sProp 𝕄))).trans ?_
  refine hopsAll_mono fun dir k hk => ?_
  unfold crd4
  refine (Laws.sep_elim_right).trans ?_
  exact (four_mono fun wo p => Entails.of_eq (congrArg (fun x => (cred x : sProp 𝕄)) (launch_recv dir wo hk p c)))

/-! ## The tokens, dealt -/

/-- A cell's round-0 duty. -/
def tokEmb : (Dev nD × Bool) ⊕ (Dev nD × Fin 120) ↪ GSem nD τ sig × ℕ × Bool :=
  ⟨Sum.elim (fun x => (barCell x.1, 0, x.2)) (fun x => (dmaEmb x, 0, false)), by
    rintro (a | a) (b | b) h
    · have h1 : a.1 = b.1 := congrArg (fun x : GSem nD τ sig × ℕ × Bool => x.1.1.1) h
      have h2 : a.2 = b.2 := congrArg (fun x : GSem nD τ sig × ℕ × Bool => x.2.2) h
      exact congrArg _ (Prod.ext h1 h2)
    · have := congrArg (fun x : GSem nD τ sig × ℕ × Bool => x.1.2) h
      cases this
    · have := congrArg (fun x : GSem nD τ sig × ℕ × Bool => x.1.2) h
      cases this
    · exact congrArg _ (dmaEmb.injective (congrArg (fun x : GSem nD τ sig × ℕ × Bool => x.1) h))⟩
def toks : Finset (GSem nD τ sig × ℕ × Bool) := Finset.univ.map tokEmb

/-- The neighbour in a direction, as a rearrangement of the devices. -/
def ringE (dir : Bool) : Dev nD ≃ Dev nD := ⟨dst dir, src dir, src_dst dir, dst_src dir⟩

/-- The tokens a device spends. -/
def tokOf (c : Dev nD) : sProp 𝕄 :=
  iprop(dutyTok ER (barCell (dst true c)) 0 false ∗ dutyTok ER (barCell (dst false c)) 0 true ∗ hopsAll (tok4 (F := F) c))

omit [FloatOps F] in
theorem hops_around (A : Bool → ℕ → Dev nD → sProp 𝕄) :
    bigSep Finset.univ (fun c => hopsAll (fun dir k => A dir k c)) = bigSep Finset.univ (fun c => hopsAll (fun dir k => A dir k (dst dir c))) := by
  unfold hopsAll
  rw [bigSep_sep', bigSep_sep']
  congr 1
  · exact bigSep_univ_equiv (ringE false) fun c => bigSep (Finset.range 8) (fun k => A false k c)
  · exact bigSep_univ_equiv (ringE true) fun c => bigSep (Finset.range 7) (fun k => A true k c)

omit [FloatOps F] in
/-- The tokens of all cells are what the devices spend. -/
theorem toks_around :
    bigSep toks (fun x => (dutyTok ER x.1 x.2.1 x.2.2 : sProp 𝕄)) = bigSep Finset.univ (fun c : Dev nD => tokOf (F := F) c) := by
  unfold toks
  rw [bigSep_map, bigSep_univ_sum, bigSep_univ_prod, bigSep_univ_prod]
  have e1 : bigSep Finset.univ (fun c : Dev nD => bigSep Finset.univ fun d : Bool =>
        (dutyTok ER (tokEmb (.inl (c, d))).1 (tokEmb (.inl (c, d))).2.1 (tokEmb (.inl (c, d))).2.2 : sProp 𝕄))
      = iprop(bigSep Finset.univ (fun c : Dev nD => (dutyTok ER (barCell (dst true c)) 0 false : sProp 𝕄))
        ∗ bigSep Finset.univ (fun c : Dev nD => (dutyTok ER (barCell (dst false c)) 0 true : sProp 𝕄))) := by
    refine Eq.trans ?_ (congrArg₂ (fun X Y : sProp 𝕄 => iprop(X ∗ Y))
      (bigSep_univ_equiv (ringE true) fun c => (dutyTok ER (barCell c) 0 false : sProp 𝕄))
      (bigSep_univ_equiv (ringE false) fun c => (dutyTok ER (barCell c) 0 true : sProp 𝕄)))
    rw [← bigSep_sep']
    exact congrArg _ (funext fun c => bool_sep _)
  have e2 : bigSep Finset.univ (fun c : Dev nD => bigSep Finset.univ fun i : Fin 120 =>
        (dutyTok ER (tokEmb (.inr (c, i))).1 (tokEmb (.inr (c, i))).2.1 (tokEmb (.inr (c, i))).2.2 : sProp 𝕄))
      = bigSep Finset.univ (fun c : Dev nD => hopsAll (tok4 (F := F) c)) := by
    have h1 (c : Dev nD) : (bigSep Finset.univ fun i : Fin 120 =>
        (dutyTok ER (tokEmb (.inr (c, i))).1 (tokEmb (.inr (c, i))).2.1 (tokEmb (.inr (c, i))).2.2 : sProp 𝕄))
        = iprop(hopsAll (fun dir k => four (fun wo p => (dutyTok ER (cell dir wo false k p c) 0 false : sProp 𝕄)))
          ∗ hopsAll (fun dir k => four (fun wo p => (dutyTok ER (cell dir wo true k p c) 0 false : sProp 𝕄)))) :=
      (by_sem fun s => (dutyTok ER ((c : Thread nD τ), s) 0 false : sProp 𝕄)).trans (hopsAll_sep _ _)
    have h2 (c : Dev nD) : hopsAll (tok4 (F := F) c)
        = iprop(hopsAll (fun dir k => four (fun wo p => (dutyTok ER (cell dir wo false k p c) 0 false : sProp 𝕄)))
          ∗ hopsAll (fun dir k => four (fun wo p => (dutyTok ER (cell dir wo true k p (dst dir c)) 0 false : sProp 𝕄)))) := by
      rw [hopsAll_sep']; simp only [four_sep']; rfl
    rw [congrArg (bigSep Finset.univ) (funext h1), congrArg (bigSep Finset.univ) (funext h2), bigSep_sep', bigSep_sep']
    congr 1
    exact hops_around fun dir k c => four (fun wo p => (dutyTok ER (cell dir wo true k p c) 0 false : sProp 𝕄))
  unfold tokOf
  rw [bigSep_sep', bigSep_sep']
  refine (congrArg₂ (fun X Y : sProp 𝕄 => iprop(X ∗ Y)) e1 e2).trans ?_
  ac_rfl

end Cert.KernelIdeal.Ring
-- ==== Proof.Host.lean ====
module

public import proofs.«01_k».proof.Proof.Enter
public import proofs.«01_k».proof.Proof.Gen.KernelIdeal.Regions
public import Idealize.ShloMosaic.Lib.Claim

/-! # What the host hands the kernel -/

@[expose] public section
set_option maxRecDepth 65536
noncomputable section
namespace Cert.KernelIdeal.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
variable {F : FTy → Type} [FloatOps F]
local notation "𝕄" => MT nD τ sig Unit (Elt F) ℕ UU ℕ

variable (m : (ℓ : Loc nD τ sig) → Buf (Elt F) ℓ) (c : Dev nD)

/-- The host's buffers before its `n`-th operation. -/
def pre (n : ℕ) : Valuation τ sig (Elt F) := StableHlo.after ((hostOps0 c).take n) (V0 m c)

theorem after_two (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

theorem V1_split (n : ℕ) : V1 m c = StableHlo.after ((hostOps0 c).drop n) (pre m c n) := by
  unfold pre; rw [← after_two, List.take_append_drop]

theorem pre_at (n : ℕ) (r : Ref sig .tc) (h : r ∉ hostOps0_W.drop n)
    (hw : ((hostOps0 c : List (HloOp τ sig (Elt F))).drop n).map HloOp.writes = (hostOps0_W.drop n).map fun r => {Proc.devRef (τ := τ) .tc r}) :
    pre m c n (Proc.devRef .tc r) = V1 m c r := by
  rw [V1_split m c n]; exact (StableHlo.after_of_writes_sub _ _ (StableHlo.forall_writes_sub_of_map hw) h).symm

theorem at_op (n : ℕ) (op : HloOp τ sig (Elt F)) (post : List (HloOp τ sig (Elt F))) (hd : (hostOps0 c).drop n = op :: post)
    (r : Ref sig .tc) (h : r ∉ hostOps0_W.drop (n + 1))
    (hw : post.map HloOp.writes = (hostOps0_W.drop (n + 1)).map fun r => {Proc.devRef (τ := τ) .tc r}) :
    V1 m c r = op.result (pre m c n) (Proc.devRef .tc r) := by
  rw [V1_split m c n, hd]; exact StableHlo.after_of_writes_sub post _ (StableHlo.forall_writes_sub_of_map hw) h

theorem e_main_c : V1 m c main_c = (fun i => lit0 (S16.rowMajor i)) :=
  (at_op m c 0 _ _ rfl main_c (by decide) rfl).trans (StableHlo.nullary_result _ _ _ _)
theorem e_main_c_0 : V1 m c main_c_0 = (fun i => lit1 (S16.rowMajor i)) :=
  (at_op m c 1 _ _ rfl main_c_0 (by decide) rfl).trans (StableHlo.nullary_result _ _ _ _)
theorem e_main_c_1 : V1 m c main_c_1 = (fun i => lit2 (S16.rowMajor i)) :=
  (at_op m c 2 _ _ rfl main_c_1 (by decide) rfl).trans (StableHlo.nullary_result _ _ _ _)
theorem e_main_c_2 : V1 m c main_c_2 = (fun i => lit3 (S16.rowMajor i)) :=
  (at_op m c 3 _ _ rfl main_c_2 (by decide) rfl).trans (StableHlo.nullary_result _ _ _ _)
theorem e_main_c_3 : V1 m c main_c_3 = (constantI S_ 32 1#32) :=
  (at_op m c 4 _ _ rfl main_c_3 (by decide) rfl).trans (StableHlo.nullary_result _ _ _ _)
theorem e_main_c_4 : V1 m c main_c_4 = (constantI S_ 32 16#32) :=
  (at_op m c 5 _ _ rfl main_c_4 (by decide) rfl).trans (StableHlo.nullary_result _ _ _ _)
theorem e_main_v1 : V1 m c main_v1 = (constantI S_ 32 (Dev.word c)) :=
  (at_op m c 6 _ _ rfl main_v1 (by decide) rfl).trans (StableHlo.nullary_result _ _ _ _)
theorem e_main_v2 : V1 m c main_v2 = (Host.divui : (⟨S_, .i32⟩ : BufTy).Contents (Elt F) → (⟨S_, .i32⟩ : BufTy).Contents (Elt F) → (⟨S_, .i32⟩ : BufTy).Contents (Elt F)) (V1 m c main_v1) (V1 m c main_c_3) := by
  rw [at_op m c 7 _ _ rfl main_v2 (by decide) rfl, StableHlo.binary_result, pre_at m c 7 main_v1 (by decide) rfl, pre_at m c 7 main_c_3 (by decide) rfl]
theorem e_main_v3 : V1 m c main_v3 = (Host.remui : (⟨S_, .i32⟩ : BufTy).Contents (Elt F) → (⟨S_, .i32⟩ : BufTy).Contents (Elt F) → (⟨S_, .i32⟩ : BufTy).Contents (Elt F)) (V1 m c main_v2) (V1 m c main_c_4) := by
  rw [at_op m c 8 _ _ rfl main_v3 (by decide) rfl, StableHlo.binary_result, pre_at m c 8 main_v2 (by decide) rfl, pre_at m c 8 main_c_4 (by decide) rfl]
theorem e_main_v4 : V1 m c main_v4 = (id : (⟨S_, .i32⟩ : BufTy).Contents (Elt F) → (⟨S_, .i32⟩ : BufTy).Contents (Elt F)) (V1 m c main_v3) := by
  rw [at_op m c 9 _ _ rfl main_v4 (by decide) rfl, StableHlo.unary_result, pre_at m c 9 main_v3 (by decide) rfl]
theorem e_main_c_5 : V1 m c main_c_5 = (constantI S_ 32 2#32) :=
  (at_op m c 10 _ _ rfl main_c_5 (by decide) rfl).trans (StableHlo.nullary_result _ _ _ _)
theorem e_main_v5 : V1 m c main_v5 = (muli : (⟨S_, .i32⟩ : BufTy).Contents (Elt F) → (⟨S_, .i32⟩ : BufTy).Contents (Elt F) → (⟨S_, .i32⟩ : BufTy).Contents (Elt F)) (V1 m c main_v4) (V1 m c main_c_5) := by
  rw [at_op m c 11 _ _ rfl main_v5 (by decide) rfl, StableHlo.binary_result, pre_at m c 11 main_v4 (by decide) rfl, pre_at m c 11 main_c_5 (by decide) rfl]
theorem e_main_c_6 : V1 m c main_c_6 = (constantI S_ 32 0#32) :=
  (at_op m c 12 _ _ rfl main_c_6 (by decide) rfl).trans (StableHlo.nullary_result _ _ _ _)
theorem e_main_v6 : V1 m c main_v6 = (cmpi .slt : (⟨S_, .i32⟩ : BufTy).Contents (Elt F) → (⟨S_, .i32⟩ : BufTy).Contents (Elt F) → (⟨S_, .i1⟩ : BufTy).Contents (Elt F)) (V1 m c main_v5) (V1 m c main_c_6) := by
  rw [at_op m c 13 _ _ rfl main_v6 (by decide) rfl, StableHlo.binary_result, pre_at m c 13 main_v5 (by decide) rfl, pre_at m c 13 main_c_6 (by decide) rfl]
theorem e_main_c_7 : V1 m c main_c_7 = (constantI S_ 32 32#32) :=
  (at_op m c 14 _ _ rfl main_c_7 (by decide) rfl).trans (StableHlo.nullary_result _ _ _ _)
theorem e_main_v7 : V1 m c main_v7 = (addi : (⟨S_, .i32⟩ : BufTy).Contents (Elt F) → (⟨S_, .i32⟩ : BufTy).Contents (Elt F) → (⟨S_, .i32⟩ : BufTy).Contents (Elt F)) (V1 m c main_v5) (V1 m c main_c_7) := by
  rw [at_op m c 15 _ _ rfl main_v7 (by decide) rfl, StableHlo.binary_result, pre_at m c 15 main_v5 (by decide) rfl, pre_at m c 15 main_c_7 (by decide) rfl]
theorem e_main_v8 : V1 m c main_v8 = (select : (⟨S_, .i1⟩ : BufTy).Contents (Elt F) → (⟨S_, .i32⟩ : BufTy).Contents (Elt F) → (⟨S_, .i32⟩ : BufTy).Contents (Elt F) → (⟨S_, .i32⟩ : BufTy).Contents (Elt F)) (V1 m c main_v6) (V1 m c main_v7) (V1 m c main_v5) := by
  rw [at_op m c 16 _ _ rfl main_v8 (by decide) rfl, StableHlo.ternary_result, pre_at m c 16 main_v6 (by decide) rfl, pre_at m c 16 main_v7 (by decide) rfl, pre_at m c 16 main_v5 (by decide) rfl]
theorem e_main_c_8 : V1 m c main_c_8 = (constantI S_ 32 0#32) :=
  (at_op m c 17 _ _ rfl main_c_8 (by decide) rfl).trans (StableHlo.nullary_result _ _ _ _)
theorem e_main_c_9 : V1 m c main_c_9 = (constantI S_ 32 0#32) :=
  (at_op m c 18 _ _ rfl main_c_9 (by decide) rfl).trans (StableHlo.nullary_result _ _ _ _)
theorem e_main_c_10 : V1 m c main_c_10 = (constantI S_ 32 0#32) :=
  (at_op m c 19 _ _ rfl main_c_10 (by decide) rfl).trans (StableHlo.nullary_result _ _ _ _)
theorem e_main_v9 : V1 m c main_v9 = ((fun x i => Host.dynamicSlice S2x256x64x64 x (fun k => (i k (Shape.Idx.first h_S_)).toInt) sliceFits_S32x256x64x64_S2x256x64x64) : (⟨S32x256x64x64, .f32⟩ : BufTy).Contents (Elt F) → (Fin 4 → (⟨S_, .i32⟩ : BufTy).Contents (Elt F)) → (⟨S2x256x64x64, .f32⟩ : BufTy).Contents (Elt F)) (V1 m c main_arg2) ![(V1 m c main_v8 : (⟨S_, .i32⟩ : BufTy).Contents (Elt F)), (V1 m c main_c_8 : (⟨S_, .i32⟩ : BufTy).Contents (Elt F)), (V1 m c main_c_9 : (⟨S_, .i32⟩ : BufTy).Contents (Elt F)), (V1 m c main_c_10 : (⟨S_, .i32⟩ : BufTy).Contents (Elt F))] := by
  rw [at_op m c 20 _ _ rfl main_v9 (by decide) rfl, StableHlo.unaryIndexed_result, pre_at m c 20 main_arg2 (by decide) rfl]
  refine congrArg (((fun x i => Host.dynamicSlice S2x256x64x64 x (fun k => (i k (Shape.Idx.first h_S_)).toInt) sliceFits_S32x256x64x64_S2x256x64x64) : (⟨S32x256x64x64, .f32⟩ : BufTy).Contents (Elt F) → (Fin 4 → (⟨S_, .i32⟩ : BufTy).Contents (Elt F)) → (⟨S2x256x64x64, .f32⟩ : BufTy).Contents (Elt F)) (V1 m c main_arg2)) ?_
  rw [← pre_at m c 20 main_v8 (by decide) rfl, ← pre_at m c 20 main_c_8 (by decide) rfl, ← pre_at m c 20 main_c_9 (by decide) rfl, ← pre_at m c 20 main_c_10 (by decide) rfl]
  generalize pre m c 20 = X
  funext k
  match k with
  | 0 => exact eq_of_heq (cast_heq _ _)
  | 1 => exact eq_of_heq (cast_heq _ _)
  | 2 => exact eq_of_heq (cast_heq _ _)
  | 3 => exact eq_of_heq (cast_heq _ _)
theorem e_main_v10 : V1 m c main_v10 = ((transpose S2x64x256x64 [0, 2, 1, 3] · transposes_S2x256x64x64_S2x64x256x64_0_2_1_3) : (⟨S2x256x64x64, .f32⟩ : BufTy).Contents (Elt F) → (⟨S2x64x256x64, .f32⟩ : BufTy).Contents (Elt F)) (V1 m c main_v9) := by
  rw [at_op m c 21 _ _ rfl main_v10 (by decide) rfl, StableHlo.unary_result, pre_at m c 21 main_v9 (by decide) rfl]
theorem e_main_v11 : V1 m c main_v11 = ((truncf .bf16 · bitsLt_bf16_f32) : (⟨S2x64x256x64, .f32⟩ : BufTy).Contents (Elt F) → (⟨S2x64x256x64, .bf16⟩ : BufTy).Contents (Elt F)) (V1 m c main_v10) := by
  rw [at_op m c 22 _ _ rfl main_v11 (by decide) rfl, StableHlo.unary_result, pre_at m c 22 main_v10 (by decide) rfl]
theorem e_main_c_11 : V1 m c main_c_11 = (constantI S_ 32 0#32) :=
  (at_op m c 23 _ _ rfl main_c_11 (by decide) rfl).trans (StableHlo.nullary_result _ _ _ _)
theorem e_main_v12 : V1 m c main_v12 = (cmpi .slt : (⟨S_, .i32⟩ : BufTy).Contents (Elt F) → (⟨S_, .i32⟩ : BufTy).Contents (Elt F) → (⟨S_, .i1⟩ : BufTy).Contents (Elt F)) (V1 m c main_v5) (V1 m c main_c_11) := by
  rw [at_op m c 24 _ _ rfl main_v12 (by decide) rfl, StableHlo.binary_result, pre_at m c 24 main_v5 (by decide) rfl, pre_at m c 24 main_c_11 (by decide) rfl]
theorem e_main_c_12 : V1 m c main_c_12 = (constantI S_ 32 32#32) :=
  (at_op m c 25 _ _ rfl main_c_12 (by decide) rfl).trans (StableHlo.nullary_result _ _ _ _)
theorem e_main_v13 : V1 m c main_v13 = (addi : (⟨S_, .i32⟩ : BufTy).Contents (Elt F) → (⟨S_, .i32⟩ : BufTy).Contents (Elt F) → (⟨S_, .i32⟩ : BufTy).Contents (Elt F)) (V1 m c main_v5) (V1 m c main_c_12) := by
  rw [at_op m c 26 _ _ rfl main_v13 (by decide) rfl, StableHlo.binary_result, pre_at m c 26 main_v5 (by decide) rfl, pre_at m c 26 main_c_12 (by decide) rfl]
theorem e_main_v14 : V1 m c main_v14 = (select : (⟨S_, .i1⟩ : BufTy).Contents (Elt F) → (⟨S_, .i32⟩ : BufTy).Contents (Elt F) → (⟨S_, .i32⟩ : BufTy).Contents (Elt F) → (⟨S_, .i32⟩ : BufTy).Contents (Elt F)) (V1 m c main_v12) (V1 m c main_v13) (V1 m c main_v5) := by
  rw [at_op m c 27 _ _ rfl main_v14 (by decide) rfl, StableHlo.ternary_result, pre_at m c 27 main_v12 (by decide) rfl, pre_at m c 27 main_v13 (by decide) rfl, pre_at m c 27 main_v5 (by decide) rfl]
theorem e_main_c_13 : V1 m c main_c_13 = (constantI S_ 32 0#32) :=
  (at_op m c 28 _ _ rfl main_c_13 (by decide) rfl).trans (StableHlo.nullary_result _ _ _ _)
theorem e_main_c_14 : V1 m c main_c_14 = (constantI S_ 32 0#32) :=
  (at_op m c 29 _ _ rfl main_c_14 (by decide) rfl).trans (StableHlo.nullary_result _ _ _ _)
theorem e_main_c_15 : V1 m c main_c_15 = (constantI S_ 32 0#32) :=
  (at_op m c 30 _ _ rfl main_c_15 (by decide) rfl).trans (StableHlo.nullary_result _ _ _ _)
theorem e_main_v15 : V1 m c main_v15 = ((fun x i => Host.dynamicSlice S2x256x64x64 x (fun k => (i k (Shape.Idx.first h_S_)).toInt) sliceFits_S32x256x64x64_S2x256x64x64) : (⟨S32x256x64x64, .f32⟩ : BufTy).Contents (Elt F) → (Fin 4 → (⟨S_, .i32⟩ : BufTy).Contents (Elt F)) → (⟨S2x256x64x64, .f32⟩ : BufTy).Contents (Elt F)) (V1 m c main_arg3) ![(V1 m c main_v14 : (⟨S_, .i32⟩ : BufTy).Contents (Elt F)), (V1 m c main_c_13 : (⟨S_, .i32⟩ : BufTy).Contents (Elt F)), (V1 m c main_c_14 : (⟨S_, .i32⟩ : BufTy).Contents (Elt F)), (V1 m c main_c_15 : (⟨S_, .i32⟩ : BufTy).Contents (Elt F))] := by
  rw [at_op m c 31 _ _ rfl main_v15 (by decide) rfl, StableHlo.unaryIndexed_result, pre_at m c 31 main_arg3 (by decide) rfl]
  refine congrArg (((fun x i => Host.dynamicSlice S2x256x64x64 x (fun k => (i k (Shape.Idx.first h_S_)).toInt) sliceFits_S32x256x64x64_S2x256x64x64) : (⟨S32x256x64x64, .f32⟩ : BufTy).Contents (Elt F) → (Fin 4 → (⟨S_, .i32⟩ : BufTy).Contents (Elt F)) → (⟨S2x256x64x64, .f32⟩ : BufTy).Contents (Elt F)) (V1 m c main_arg3)) ?_
  rw [← pre_at m c 31 main_v14 (by decide) rfl, ← pre_at m c 31 main_c_13 (by decide) rfl, ← pre_at m c 31 main_c_14 (by decide) rfl, ← pre_at m c 31 main_c_15 (by decide) rfl]
  generalize pre m c 31 = X
  funext k
  match k with
  | 0 => exact eq_of_heq (cast_heq _ _)
  | 1 => exact eq_of_heq (cast_heq _ _)
  | 2 => exact eq_of_heq (cast_heq _ _)
  | 3 => exact eq_of_heq (cast_heq _ _)
theorem e_main_v16 : V1 m c main_v16 = ((transpose S2x64x256x64 [0, 2, 1, 3] · transposes_S2x256x64x64_S2x64x256x64_0_2_1_3) : (⟨S2x256x64x64, .f32⟩ : BufTy).Contents (Elt F) → (⟨S2x64x256x64, .f32⟩ : BufTy).Contents (Elt F)) (V1 m c main_v15) := by
  rw [at_op m c 32 _ _ rfl main_v16 (by decide) rfl, StableHlo.unary_result, pre_at m c 32 main_v15 (by decide) rfl]
theorem e_main_v17 : V1 m c main_v17 = ((truncf .bf16 · bitsLt_bf16_f32) : (⟨S2x64x256x64, .f32⟩ : BufTy).Contents (Elt F) → (⟨S2x64x256x64, .bf16⟩ : BufTy).Contents (Elt F)) (V1 m c main_v16) := by
  rw [at_op m c 33 _ _ rfl main_v17 (by decide) rfl, StableHlo.unary_result, pre_at m c 33 main_v16 (by decide) rfl]
theorem e_main_cst : V1 m c main_cst = (constant S_ .bf16 0x3F80#16) :=
  (at_op m c 34 _ _ rfl main_cst (by decide) rfl).trans (StableHlo.nullary_result _ _ _ _)
theorem e_main_v18 : V1 m c main_v18 = (broadcastInDim S2x64x256x1 ![] bcast_S_S2x64x256x1 : (⟨S_, .bf16⟩ : BufTy).Contents (Elt F) → (⟨S2x64x256x1, .bf16⟩ : BufTy).Contents (Elt F)) (V1 m c main_cst) := by
  rw [at_op m c 35 _ _ rfl main_v18 (by decide) rfl, StableHlo.unary_result, pre_at m c 35 main_cst (by decide) rfl]
theorem e_main_v19 : V1 m c main_v19 = ((fun a b => concatenate S2x64x256x65 3 [⟨S2x64x256x64, a⟩, ⟨S2x64x256x1, b⟩] concatenates_S2x64x256x64_S2x64x256x1_S2x64x256x65_d3) : (⟨S2x64x256x64, .bf16⟩ : BufTy).Contents (Elt F) → (⟨S2x64x256x1, .bf16⟩ : BufTy).Contents (Elt F) → (⟨S2x64x256x65, .bf16⟩ : BufTy).Contents (Elt F)) (V1 m c main_v17) (V1 m c main_v18) := by
  rw [at_op m c 36 _ _ rfl main_v19 (by decide) rfl, StableHlo.binary_result, pre_at m c 36 main_v17 (by decide) rfl, pre_at m c 36 main_v18 (by decide) rfl]
theorem e_main_v20 : V1 m c main_v20 = ((truncf .bf16 · bitsLt_bf16_f32) : (⟨S2x256x512, .f32⟩ : BufTy).Contents (Elt F) → (⟨S2x256x512, .bf16⟩ : BufTy).Contents (Elt F)) (V1 m c main_arg0) := by
  rw [at_op m c 37 _ _ rfl main_v20 (by decide) rfl, StableHlo.unary_result, pre_at m c 37 main_arg0 (by decide) rfl]
theorem e_main_cst_16 : V1 m c main_cst_16 = (constant S_ .f32 0x3E000000#32) :=
  (at_op m c 38 _ _ rfl main_cst_16 (by decide) rfl).trans (StableHlo.nullary_result _ _ _ _)
theorem e_main_v21 : V1 m c main_v21 = (broadcastInDim S512x256 ![] bcast_S_S512x256 : (⟨S_, .f32⟩ : BufTy).Contents (Elt F) → (⟨S512x256, .f32⟩ : BufTy).Contents (Elt F)) (V1 m c main_cst_16) := by
  rw [at_op m c 39 _ _ rfl main_v21 (by decide) rfl, StableHlo.unary_result, pre_at m c 39 main_cst_16 (by decide) rfl]
theorem e_main_v22 : V1 m c main_v22 = (mulf : (⟨S512x256, .f32⟩ : BufTy).Contents (Elt F) → (⟨S512x256, .f32⟩ : BufTy).Contents (Elt F) → (⟨S512x256, .f32⟩ : BufTy).Contents (Elt F)) (V1 m c main_arg1) (V1 m c main_v21) := by
  rw [at_op m c 40 _ _ rfl main_v22 (by decide) rfl, StableHlo.binary_result, pre_at m c 40 main_arg1 (by decide) rfl, pre_at m c 40 main_v21 (by decide) rfl]
theorem e_main_v23 : V1 m c main_v23 = ((truncf .bf16 · bitsLt_bf16_f32) : (⟨S512x256, .f32⟩ : BufTy).Contents (Elt F) → (⟨S512x256, .bf16⟩ : BufTy).Contents (Elt F)) (V1 m c main_v22) := by
  rw [at_op m c 41 _ _ rfl main_v23 (by decide) rfl, StableHlo.unary_result, pre_at m c 41 main_v22 (by decide) rfl]
theorem e_main_v24 : V1 m c main_v24 = ((truncf .bf16 · bitsLt_bf16_f32) : (⟨S256x512, .f32⟩ : BufTy).Contents (Elt F) → (⟨S256x512, .bf16⟩ : BufTy).Contents (Elt F)) (V1 m c main_arg4) := by
  rw [at_op m c 42 _ _ rfl main_v24 (by decide) rfl, StableHlo.unary_result, pre_at m c 42 main_arg4 (by decide) rfl]
theorem e_main_c_17 : V1 m c main_c_17 = (constantI S_ 32 0#32) :=
  (at_op m c 43 _ _ rfl main_c_17 (by decide) rfl).trans (StableHlo.nullary_result _ _ _ _)
theorem e_main_v25 : V1 m c main_v25 = (cmpi .slt : (⟨S_, .i32⟩ : BufTy).Contents (Elt F) → (⟨S_, .i32⟩ : BufTy).Contents (Elt F) → (⟨S_, .i1⟩ : BufTy).Contents (Elt F)) (V1 m c main_v4) (V1 m c main_c_17) := by
  rw [at_op m c 44 _ _ rfl main_v25 (by decide) rfl, StableHlo.binary_result, pre_at m c 44 main_v4 (by decide) rfl, pre_at m c 44 main_c_17 (by decide) rfl]
theorem e_main_c_18 : V1 m c main_c_18 = (constantI S_ 32 16#32) :=
  (at_op m c 45 _ _ rfl main_c_18 (by decide) rfl).trans (StableHlo.nullary_result _ _ _ _)
theorem e_main_v26 : V1 m c main_v26 = (addi : (⟨S_, .i32⟩ : BufTy).Contents (Elt F) → (⟨S_, .i32⟩ : BufTy).Contents (Elt F) → (⟨S_, .i32⟩ : BufTy).Contents (Elt F)) (V1 m c main_v4) (V1 m c main_c_18) := by
  rw [at_op m c 46 _ _ rfl main_v26 (by decide) rfl, StableHlo.binary_result, pre_at m c 46 main_v4 (by decide) rfl, pre_at m c 46 main_c_18 (by decide) rfl]
theorem e_main_v27 : V1 m c main_v27 = (select : (⟨S_, .i1⟩ : BufTy).Contents (Elt F) → (⟨S_, .i32⟩ : BufTy).Contents (Elt F) → (⟨S_, .i32⟩ : BufTy).Contents (Elt F) → (⟨S_, .i32⟩ : BufTy).Contents (Elt F)) (V1 m c main_v25) (V1 m c main_v26) (V1 m c main_v4) := by
  rw [at_op m c 47 _ _ rfl main_v27 (by decide) rfl, StableHlo.ternary_result, pre_at m c 47 main_v25 (by decide) rfl, pre_at m c 47 main_v26 (by decide) rfl, pre_at m c 47 main_v4 (by decide) rfl]
theorem e_main_v28 : V1 m c main_v28 = ((fun x i => Host.dynamicSlice S1 x (fun k => (i k (Shape.Idx.first h_S_)).toInt) sliceFits_S16_S1) : (⟨S16, .i32⟩ : BufTy).Contents (Elt F) → (Fin 1 → (⟨S_, .i32⟩ : BufTy).Contents (Elt F)) → (⟨S1, .i32⟩ : BufTy).Contents (Elt F)) (V1 m c main_c) ![(V1 m c main_v27 : (⟨S_, .i32⟩ : BufTy).Contents (Elt F))] := by
  rw [at_op m c 48 _ _ rfl main_v28 (by decide) rfl, StableHlo.unaryIndexed_result, pre_at m c 48 main_c (by decide) rfl]
  refine congrArg (((fun x i => Host.dynamicSlice S1 x (fun k => (i k (Shape.Idx.first h_S_)).toInt) sliceFits_S16_S1) : (⟨S16, .i32⟩ : BufTy).Contents (Elt F) → (Fin 1 → (⟨S_, .i32⟩ : BufTy).Contents (Elt F)) → (⟨S1, .i32⟩ : BufTy).Contents (Elt F)) (V1 m c main_c)) ?_
  rw [← pre_at m c 48 main_v27 (by decide) rfl]
  generalize pre m c 48 = X
  funext k
  obtain rfl : k = 0 := Subsingleton.elim _ _
  exact eq_of_heq (cast_heq _ _)
theorem e_main_v29 : V1 m c main_v29 = shapeCast main_v29.ty.shape (V1 m c main_v28) shapeCasts_S1_S_ := by
  rw [at_op m c 49 _ _ rfl main_v29 (by decide) rfl, StableHlo.reshape_result, pre_at m c 49 main_v28 (by decide) rfl]
theorem e_main_c_19 : V1 m c main_c_19 = (constantI S_ 32 0#32) :=
  (at_op m c 50 _ _ rfl main_c_19 (by decide) rfl).trans (StableHlo.nullary_result _ _ _ _)
theorem e_main_v30 : V1 m c main_v30 = (cmpi .slt : (⟨S_, .i32⟩ : BufTy).Contents (Elt F) → (⟨S_, .i32⟩ : BufTy).Contents (Elt F) → (⟨S_, .i1⟩ : BufTy).Contents (Elt F)) (V1 m c main_v4) (V1 m c main_c_19) := by
  rw [at_op m c 51 _ _ rfl main_v30 (by decide) rfl, StableHlo.binary_result, pre_at m c 51 main_v4 (by decide) rfl, pre_at m c 51 main_c_19 (by decide) rfl]
theorem e_main_c_20 : V1 m c main_c_20 = (constantI S_ 32 16#32) :=
  (at_op m c 52 _ _ rfl main_c_20 (by decide) rfl).trans (StableHlo.nullary_result _ _ _ _)
theorem e_main_v31 : V1 m c main_v31 = (addi : (⟨S_, .i32⟩ : BufTy).Contents (Elt F) → (⟨S_, .i32⟩ : BufTy).Contents (Elt F) → (⟨S_, .i32⟩ : BufTy).Contents (Elt F)) (V1 m c main_v4) (V1 m c main_c_20) := by
  rw [at_op m c 53 _ _ rfl main_v31 (by decide) rfl, StableHlo.binary_result, pre_at m c 53 main_v4 (by decide) rfl, pre_at m c 53 main_c_20 (by decide) rfl]
theorem e_main_v32 : V1 m c main_v32 = (select : (⟨S_, .i1⟩ : BufTy).Contents (Elt F) → (⟨S_, .i32⟩ : BufTy).Contents (Elt F) → (⟨S_, .i32⟩ : BufTy).Contents (Elt F) → (⟨S_, .i32⟩ : BufTy).Contents (Elt F)) (V1 m c main_v30) (V1 m c main_v31) (V1 m c main_v4) := by
  rw [at_op m c 54 _ _ rfl main_v32 (by decide) rfl, StableHlo.ternary_result, pre_at m c 54 main_v30 (by decide) rfl, pre_at m c 54 main_v31 (by decide) rfl, pre_at m c 54 main_v4 (by decide) rfl]
theorem e_main_v33 : V1 m c main_v33 = ((fun x i => Host.dynamicSlice S1 x (fun k => (i k (Shape.Idx.first h_S_)).toInt) sliceFits_S16_S1) : (⟨S16, .i32⟩ : BufTy).Contents (Elt F) → (Fin 1 → (⟨S_, .i32⟩ : BufTy).Contents (Elt F)) → (⟨S1, .i32⟩ : BufTy).Contents (Elt F)) (V1 m c main_c_0) ![(V1 m c main_v32 : (⟨S_, .i32⟩ : BufTy).Contents (Elt F))] := by
  rw [at_op m c 55 _ _ rfl main_v33 (by decide) rfl, StableHlo.unaryIndexed_result, pre_at m c 55 main_c_0 (by decide) rfl]
  refine congrArg (((fun x i => Host.dynamicSlice S1 x (fun k => (i k (Shape.Idx.first h_S_)).toInt) sliceFits_S16_S1) : (⟨S16, .i32⟩ : BufTy).Contents (Elt F) → (Fin 1 → (⟨S_, .i32⟩ : BufTy).Contents (Elt F)) → (⟨S1, .i32⟩ : BufTy).Contents (Elt F)) (V1 m c main_c_0)) ?_
  rw [← pre_at m c 55 main_v32 (by decide) rfl]
  generalize pre m c 55 = X
  funext k
  obtain rfl : k = 0 := Subsingleton.elim _ _
  exact eq_of_heq (cast_heq _ _)
theorem e_main_v34 : V1 m c main_v34 = shapeCast main_v34.ty.shape (V1 m c main_v33) shapeCasts_S1_S_ := by
  rw [at_op m c 56 _ _ rfl main_v34 (by decide) rfl, StableHlo.reshape_result, pre_at m c 56 main_v33 (by decide) rfl]
theorem e_main_c_21 : V1 m c main_c_21 = (constantI S_ 32 0#32) :=
  (at_op m c 57 _ _ rfl main_c_21 (by decide) rfl).trans (StableHlo.nullary_result _ _ _ _)
theorem e_main_v35 : V1 m c main_v35 = (cmpi .slt : (⟨S_, .i32⟩ : BufTy).Contents (Elt F) → (⟨S_, .i32⟩ : BufTy).Contents (Elt F) → (⟨S_, .i1⟩ : BufTy).Contents (Elt F)) (V1 m c main_v4) (V1 m c main_c_21) := by
  rw [at_op m c 58 _ _ rfl main_v35 (by decide) rfl, StableHlo.binary_result, pre_at m c 58 main_v4 (by decide) rfl, pre_at m c 58 main_c_21 (by decide) rfl]
theorem e_main_c_22 : V1 m c main_c_22 = (constantI S_ 32 16#32) :=
  (at_op m c 59 _ _ rfl main_c_22 (by decide) rfl).trans (StableHlo.nullary_result _ _ _ _)
theorem e_main_v36 : V1 m c main_v36 = (addi : (⟨S_, .i32⟩ : BufTy).Contents (Elt F) → (⟨S_, .i32⟩ : BufTy).Contents (Elt F) → (⟨S_, .i32⟩ : BufTy).Contents (Elt F)) (V1 m c main_v4) (V1 m c main_c_22) := by
  rw [at_op m c 60 _ _ rfl main_v36 (by decide) rfl, StableHlo.binary_result, pre_at m c 60 main_v4 (by decide) rfl, pre_at m c 60 main_c_22 (by decide) rfl]
theorem e_main_v37 : V1 m c main_v37 = (select : (⟨S_, .i1⟩ : BufTy).Contents (Elt F) → (⟨S_, .i32⟩ : BufTy).Contents (Elt F) → (⟨S_, .i32⟩ : BufTy).Contents (Elt F) → (⟨S_, .i32⟩ : BufTy).Contents (Elt F)) (V1 m c main_v35) (V1 m c main_v36) (V1 m c main_v4) := by
  rw [at_op m c 61 _ _ rfl main_v37 (by decide) rfl, StableHlo.ternary_result, pre_at m c 61 main_v35 (by decide) rfl, pre_at m c 61 main_v36 (by decide) rfl, pre_at m c 61 main_v4 (by decide) rfl]
theorem e_main_v38 : V1 m c main_v38 = ((fun x i => Host.dynamicSlice S1 x (fun k => (i k (Shape.Idx.first h_S_)).toInt) sliceFits_S16_S1) : (⟨S16, .i32⟩ : BufTy).Contents (Elt F) → (Fin 1 → (⟨S_, .i32⟩ : BufTy).Contents (Elt F)) → (⟨S1, .i32⟩ : BufTy).Contents (Elt F)) (V1 m c main_c_1) ![(V1 m c main_v37 : (⟨S_, .i32⟩ : BufTy).Contents (Elt F))] := by
  rw [at_op m c 62 _ _ rfl main_v38 (by decide) rfl, StableHlo.unaryIndexed_result, pre_at m c 62 main_c_1 (by decide) rfl]
  refine congrArg (((fun x i => Host.dynamicSlice S1 x (fun k => (i k (Shape.Idx.first h_S_)).toInt) sliceFits_S16_S1) : (⟨S16, .i32⟩ : BufTy).Contents (Elt F) → (Fin 1 → (⟨S_, .i32⟩ : BufTy).Contents (Elt F)) → (⟨S1, .i32⟩ : BufTy).Contents (Elt F)) (V1 m c main_c_1)) ?_
  rw [← pre_at m c 62 main_v37 (by decide) rfl]
  generalize pre m c 62 = X
  funext k
  obtain rfl : k = 0 := Subsingleton.elim _ _
  exact eq_of_heq (cast_heq _ _)
theorem e_main_v39 : V1 m c main_v39 = shapeCast main_v39.ty.shape (V1 m c main_v38) shapeCasts_S1_S_ := by
  rw [at_op m c 63 _ _ rfl main_v39 (by decide) rfl, StableHlo.reshape_result, pre_at m c 63 main_v38 (by decide) rfl]
theorem e_main_v40 : V1 m c main_v40 = (broadcastInDim S1 ![] bcast_S_S1 : (⟨S_, .i32⟩ : BufTy).Contents (Elt F) → (⟨S1, .i32⟩ : BufTy).Contents (Elt F)) (V1 m c main_v29) := by
  rw [at_op m c 64 _ _ rfl main_v40 (by decide) rfl, StableHlo.unary_result, pre_at m c 64 main_v29 (by decide) rfl]
theorem e_main_v41 : V1 m c main_v41 = (broadcastInDim S1 ![] bcast_S_S1 : (⟨S_, .i32⟩ : BufTy).Contents (Elt F) → (⟨S1, .i32⟩ : BufTy).Contents (Elt F)) (V1 m c main_v34) := by
  rw [at_op m c 65 _ _ rfl main_v41 (by decide) rfl, StableHlo.unary_result, pre_at m c 65 main_v34 (by decide) rfl]
theorem e_main_v42 : V1 m c main_v42 = (broadcastInDim S1 ![] bcast_S_S1 : (⟨S_, .i32⟩ : BufTy).Contents (Elt F) → (⟨S1, .i32⟩ : BufTy).Contents (Elt F)) (V1 m c main_v39) := by
  rw [at_op m c 66 _ _ rfl main_v42 (by decide) rfl, StableHlo.unary_result, pre_at m c 66 main_v39 (by decide) rfl]
theorem e_main_v43 : V1 m c main_v43 = ( (concatenate S3 0 [⟨S1, (V1 m c main_v40 : (⟨S1, .i32⟩ : BufTy).Contents (Elt F))⟩, ⟨S1, (V1 m c main_v41 : (⟨S1, .i32⟩ : BufTy).Contents (Elt F))⟩, ⟨S1, (V1 m c main_v42 : (⟨S1, .i32⟩ : BufTy).Contents (Elt F))⟩] concatenates_S1_S1_S1_S3_d0 : (⟨S3, .i32⟩ : BufTy).Contents (Elt F))) := by
  rw [at_op m c 67 _ _ rfl main_v43 (by decide) rfl, StableHlo.nary_result]
  rw [← pre_at m c 67 main_v40 (by decide) rfl , ← pre_at m c 67 main_v41 (by decide) rfl , ← pre_at m c 67 main_v42 (by decide) rfl]; rfl

theorem host_ring : V1 m c main_c_2 = ringC F := by
  rw [e_main_c_2]
  have key : ∀ i : S16.Idx, lit3 (S16.rowMajor i) = wordOf (ringTab (i 0)) := by decide +kernel
  exact funext key

/-- The device's number as the host works it out. -/
def rankW (c : Dev nD) : IVec S_ 32 :=
  Host.remui (Host.divui (constantI S_ 32 (Dev.word c)) (constantI S_ 32 1#32)) (constantI S_ 32 16#32)

theorem rankW_eq : ∀ (c : Dev nD) (i : S_.Idx), rankW c i = wordOf c := by decide +kernel

theorem host_rank : V1 m c main_v4 = fun _ => wordOf c := by
  rw [e_main_v4, e_main_v3, e_main_v2, e_main_v1, e_main_c_3, e_main_c_4]
  exact funext (rankW_eq c)

/-- The start of a lookup in a table of sixteen words. -/
def startW (c : Dev nD) : IVec S_ 32 :=
  select (cmpi .slt (fun _ => wordOf c : IVec S_ 32) (constantI S_ 32 0#32)) (addi (fun _ => wordOf c : IVec S_ 32) (constantI S_ 32 16#32)) (fun _ => wordOf c)

theorem startW_eq : ∀ (c : Dev nD) (i : S_.Idx), startW c i = wordOf c := by decide +kernel

/-- One word of a table, as a one-word vector. -/
def lookW (t : IVec S16 32) (c : Dev nD) : IVec S1 32 :=
  broadcastInDim S1 ![] bcast_S_S1 (shapeCast S_ (Host.dynamicSlice S1 t (fun k => ((![(fun _ => wordOf c : IVec S_ 32)] : Fin 1 → IVec S_ 32) k (Shape.Idx.first h_S_)).toInt) sliceFits_S16_S1) shapeCasts_S1_S_)

theorem look_lit0 : ∀ (c : Dev nD) (i : S1.Idx), lookW (fun i => lit0 (S16.rowMajor i)) c i = wordOf (dst false c) := by decide +kernel
theorem look_lit1 : ∀ (c : Dev nD) (i : S1.Idx), lookW (fun i => lit1 (S16.rowMajor i)) c i = wordOf (dst true c) := by decide +kernel
theorem look_lit2 : ∀ (c : Dev nD) (i : S1.Idx), lookW (fun i => lit2 (S16.rowMajor i)) c i = wordOf (posTab c) := by decide +kernel

theorem host_v27 : V1 m c main_v27 = fun _ => wordOf c := by
  rw [e_main_v27, e_main_v25, e_main_v26, host_rank, e_main_c_17, e_main_c_18]; exact funext (startW_eq c)
theorem host_v32 : V1 m c main_v32 = fun _ => wordOf c := by
  rw [e_main_v32, e_main_v30, e_main_v31, host_rank, e_main_c_19, e_main_c_20]; exact funext (startW_eq c)
theorem host_v37 : V1 m c main_v37 = fun _ => wordOf c := by
  rw [e_main_v37, e_main_v35, e_main_v36, host_rank, e_main_c_21, e_main_c_22]; exact funext (startW_eq c)

theorem host_v40 : V1 m c main_v40 = fun _ => wordOf (dst false c) := by
  rw [e_main_v40, e_main_v29, e_main_v28, host_v27, e_main_c]; exact funext (look_lit0 c)
theorem host_v41 : V1 m c main_v41 = fun _ => wordOf (dst true c) := by
  rw [e_main_v41, e_main_v34, e_main_v33, host_v32, e_main_c_0]; exact funext (look_lit1 c)
theorem host_v42 : V1 m c main_v42 = fun _ => wordOf (posTab c) := by
  rw [e_main_v42, e_main_v39, e_main_v38, host_v37, e_main_c_1]; exact funext (look_lit2 c)

theorem words3 : ∀ (c : Dev nD) (i : S3.Idx),
    (concatenate S3 0 [⟨S1, (fun _ => wordOf (dst false c) : IVec S1 32)⟩, ⟨S1, (fun _ => wordOf (dst true c) : IVec S1 32)⟩, ⟨S1, (fun _ => wordOf (posTab c) : IVec S1 32)⟩] concatenates_S1_S1_S1_S3_d0 : IVec S3 32) i
      = wordOf ((![dst false c, dst true c, posTab c] : Fin 3 → Fin 16) (i 0)) := by decide +kernel

theorem host_nbr : V1 m c main_v43 = nbrC F c := by
  rw [e_main_v43, host_v40, host_v41, host_v42]; exact funext (words3 c)

end Cert.KernelIdeal.Ring
-- ==== Proof.Point.lean ====
module

public import proofs.«01_k».proof.Proof.Host
public import proofs.«01_k».proof.Proof.Gen.KernelIdeal.Points
public import Idealize.ShloMosaic.Lib.Pipeline.Value

/-! # The kernel's one grid point: the proof data and the body obligation -/

@[expose] public section
set_option maxRecDepth 65536
noncomputable section
namespace Cert.KernelIdeal.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
variable {F : FTy → Type} [FloatOps F]
local notation "𝕄" => MT nD τ sig Unit (Elt F) ℕ UU ℕ

variable (m : (ℓ : Loc nD τ sig) → Buf (Elt F) ℓ)

/-- What the devices stage. -/
def stgOf (c : Dev nD) : Stg F :=
  ⟨V1 m c main_v20, V1 m c main_v23, V1 m c main_v11, V1 m c main_v19, V1 m c main_v24⟩

/-- A slot's row and column. -/
abbrev qIx (i : S16x512x256.Idx) : S512x256.Idx := fun a => match a with
  | ⟨0, _⟩ => i 1
  | ⟨1, _⟩ => i 2
abbrev oIx (i : S16x256x512.Idx) : S256x512.Idx := fun a => match a with
  | ⟨0, _⟩ => i 1
  | ⟨1, _⟩ => i 2

/-- The devices' weight chunks, one after the other. -/
def gathOf : Gath F :=
  ⟨fun i => (stgOf m (i 0)).wq (qIx i), fun i => (stgOf m (i 0)).wo (oIx i)⟩

theorem own_of (c : Dev nD) : Own c (stgOf m c) (gathOf m) := by
  constructor
  · unfold ownQ
    rw [shapeCast_self]
    funext j
    have h := shapeCast_addUnit_apply (![512, 256]) (stgOf m c).wq shapeCasts_S512x256_S1x512x256 j
    refine Eq.trans ?_ h.symm
    have h0 : (j 0).val = 0 := by have := (j 0).isLt; simpa using this
    show (stgOf m ((rectSQ c.isLt).emb j 0)).wq (qIx ((rectSQ c.isLt).emb j)) = _
    have e0 : (rectSQ c.isLt).emb j 0 = c := Fin.ext (by show c.val + 1 * (j 0).val = c.val; omega)
    rw [e0]
    congr 1; funext a
    match a with
    | 0 => exact Fin.ext (by show 0 + 1 * (j 1).val = (j 1).val; omega)
    | 1 => exact Fin.ext (by show 0 + 1 * (j 2).val = (j 2).val; omega)
  · unfold ownO
    rw [shapeCast_self]
    funext j
    have h := shapeCast_addUnit_apply (![256, 512]) (stgOf m c).wo shapeCasts_S256x512_S1x256x512 j
    refine Eq.trans ?_ h.symm
    have h0 : (j 0).val = 0 := by have := (j 0).isLt; simpa using this
    show (stgOf m ((rectSO c.isLt).emb j 0)).wo (oIx ((rectSO c.isLt).emb j)) = _
    have e0 : (rectSO c.isLt).emb j 0 = c := Fin.ext (by show c.val + 1 * (j 0).val = c.val; omega)
    rw [e0]
    congr 1; funext a
    match a with
    | 0 => exact Fin.ext (by show 0 + 1 * (j 1).val = (j 1).val; omega)
    | 1 => exact Fin.ext (by show 0 + 1 * (j 2).val = (j 2).val; omega)

/-- The kernel's result on device `c`. -/
def resOf (c : Dev nD) : Vec F S2x256x512 .f32 := outVal (gathOf m) (stgOf m c) c

/-- A window's block, read off the arrays the host left. -/
abbrev xs (c : Dev nD) (w : Fin 8) : (cfg0.win w).block.Idx → Elt F (cfg0.win w).elt :=
  match w with
  | ⟨0, _⟩ => V1 m c main_v43
  | ⟨1, _⟩ => V1 m c main_c_2
  | ⟨2, _⟩ => V1 m c main_v20
  | ⟨3, _⟩ => V1 m c main_v23
  | ⟨4, _⟩ => V1 m c main_v11
  | ⟨5, _⟩ => V1 m c main_v19
  | ⟨6, _⟩ => V1 m c main_v24
  | ⟨7, _⟩ => resOf m c

theorem emb0 (x : S3.Idx) : (win0_0.rect t0_0).emb x = x := funext fun a => Fin.ext (by
  match a with
  | 0 => show 0 + 1 * (x 0).val = (x 0).val; omega)
theorem emb1 (x : S16.Idx) : (win0_1.rect t0_0).emb x = x := funext fun a => Fin.ext (by
  match a with
  | 0 => show 0 + 1 * (x 0).val = (x 0).val; omega)
theorem emb2 (x : S2x256x512.Idx) : (win0_2.rect t0_0).emb x = x := funext fun a => Fin.ext (by
  match a with
  | 0 => show 0 + 1 * (x 0).val = (x 0).val; omega
  | 1 => show 0 + 1 * (x 1).val = (x 1).val; omega
  | 2 => show 0 + 1 * (x 2).val = (x 2).val; omega)
theorem emb3 (x : S512x256.Idx) : (win0_3.rect t0_0).emb x = x := funext fun a => Fin.ext (by
  match a with
  | 0 => show 0 + 1 * (x 0).val = (x 0).val; omega
  | 1 => show 0 + 1 * (x 1).val = (x 1).val; omega)
theorem emb4 (x : S2x64x256x64.Idx) : (win0_4.rect t0_0).emb x = x := funext fun a => Fin.ext (by
  match a with
  | 0 => show 0 + 1 * (x 0).val = (x 0).val; omega
  | 1 => show 0 + 1 * (x 1).val = (x 1).val; omega
  | 2 => show 0 + 1 * (x 2).val = (x 2).val; omega
  | 3 => show 0 + 1 * (x 3).val = (x 3).val; omega)
theorem emb5 (x : S2x64x256x65.Idx) : (win0_5.rect t0_0).emb x = x := funext fun a => Fin.ext (by
  match a with
  | 0 => show 0 + 1 * (x 0).val = (x 0).val; omega
  | 1 => show 0 + 1 * (x 1).val = (x 1).val; omega
  | 2 => show 0 + 1 * (x 2).val = (x 2).val; omega
  | 3 => show 0 + 1 * (x 3).val = (x 3).val; omega)
theorem emb6 (x : S256x512.Idx) : (win0_6.rect t0_0).emb x = x := funext fun a => Fin.ext (by
  match a with
  | 0 => show 0 + 1 * (x 0).val = (x 0).val; omega
  | 1 => show 0 + 1 * (x 1).val = (x 1).val; omega)
theorem emb7 (x : S2x256x512.Idx) : (win0_7.rect t0_0).emb x = x := funext fun a => Fin.ext (by
  match a with
  | 0 => show 0 + 1 * (x 0).val = (x 0).val; omega
  | 1 => show 0 + 1 * (x 1).val = (x 1).val; omega
  | 2 => show 0 + 1 * (x 2).val = (x 2).val; omega)

omit [FloatOps F] in
theorem blk0 (f : (main_v43 : Ref sig .tc).ty.Contents (Elt F)) : ((cfg0.win 0).blk t0_0).view.read (Elt F) f = f :=
  funext fun x => congrArg f (emb0 x)
omit [FloatOps F] in
theorem blk1 (f : (main_c_2 : Ref sig .tc).ty.Contents (Elt F)) : ((cfg0.win 1).blk t0_0).view.read (Elt F) f = f :=
  funext fun x => congrArg f (emb1 x)
omit [FloatOps F] in
theorem blk2 (f : (main_v20 : Ref sig .tc).ty.Contents (Elt F)) : ((cfg0.win 2).blk t0_0).view.read (Elt F) f = f :=
  funext fun x => congrArg f (emb2 x)
omit [FloatOps F] in
theorem blk3 (f : (main_v23 : Ref sig .tc).ty.Contents (Elt F)) : ((cfg0.win 3).blk t0_0).view.read (Elt F) f = f :=
  funext fun x => congrArg f (emb3 x)
omit [FloatOps F] in
theorem blk4 (f : (main_v11 : Ref sig .tc).ty.Contents (Elt F)) : ((cfg0.win 4).blk t0_0).view.read (Elt F) f = f :=
  funext fun x => congrArg f (emb4 x)
omit [FloatOps F] in
theorem blk5 (f : (main_v19 : Ref sig .tc).ty.Contents (Elt F)) : ((cfg0.win 5).blk t0_0).view.read (Elt F) f = f :=
  funext fun x => congrArg f (emb5 x)
omit [FloatOps F] in
theorem blk6 (f : (main_v24 : Ref sig .tc).ty.Contents (Elt F)) : ((cfg0.win 6).blk t0_0).view.read (Elt F) f = f :=
  funext fun x => congrArg f (emb6 x)
omit [FloatOps F] in
theorem blk7 (f : (main_v44 : Ref sig .tc).ty.Contents (Elt F)) : ((cfg0.win 7).blk t0_0).view.read (Elt F) f = f :=
  funext fun x => congrArg f (emb7 x)

/-- What holds before the point. -/
def Xk (c : Dev nD) : sProp 𝕄 := iprop(∃ K, Invs (gathOf m) K ∗ levAts L lv ∗ barIn c ∗ opened (F := F) c ∗ hopsAll (tok4 (F := F) c) ∗ hopsAll (crd4 c))
/-- What the point leaves of it. -/
def Yk (c : Dev nD) : sProp 𝕄 := semVal (barCell c) 0
def sems0 (c : Dev nD) : sProp 𝕄 := bigSep Finset.univ fun i : Fin 120 => semVal ((c : Thread nD τ), osem i) 0
def phi0 (c : Dev nD) : sProp 𝕄 := iprop(scr (F := F) c ∗ (∃ r, prngReg c r) ∗ Xk m c)
def phi1 (c : Dev nD) : sProp 𝕄 := iprop(scr (F := F) c ∗ (∃ r, prngReg c r) ∗ sems0 (F := F) c ∗ Yk (F := F) c)

/-- The region's proof data. -/
def dat0 (c : Dev nD) : Pipeline.Dat τ (Elt F) Unit ℕ UU ℕ cfg0 c where
  A w := V1 m c (Proc.devRef .tc (Pipeline.arrRef spec0 w))
  after w _ := xs m c w
  Φ t := if t.val = 0 then phi0 m c else phi1 c
  q _ := fullShare
  owed t := if t.val = 0 then O₀ c else 0

def pdats : (p : Fin 1) → (c : Dev nD) → Pipeline.Dat τ (Elt F) Unit ℕ UU ℕ (Pipeline.pin (pcfgs (F := F)) adm p) c
  | 0 => dat0 m

theorem dat_owed0 (c : Dev nD) : (dat0 m c).owed 0 = O₀ c := by
  show (if (0 : Fin (cfg0.N + 1)).val = 0 then O₀ c else 0) = O₀ c
  exact if_pos rfl
theorem dat_owedN (c : Dev nD) : (dat0 m c).owed (Fin.last _) = 0 := by
  show (if (Fin.last cfg0.N).val = 0 then O₀ c else 0) = 0
  rw [Fin.val_last, if_neg (by rw [show cfg0.N = 1 from N_0]; decide)]
theorem phi_zero (c : Dev nD) : (dat0 m c).Φ 0 = phi0 m c := by
  show (if (0 : Fin (cfg0.N + 1)).val = 0 then phi0 m c else phi1 c) = phi0 m c
  exact if_pos rfl
theorem phi_last (c : Dev nD) : (dat0 m c).Φ (Fin.last _) = phi1 c := by
  show (if (Fin.last cfg0.N).val = 0 then phi0 m c else phi1 c) = phi1 c
  rw [Fin.val_last, if_neg (by rw [show cfg0.N = 1 from N_0]; decide)]

theorem succ_last : (t0_0 : Fin cfg0.N).succ = Fin.last _ := by decide +kernel
theorem cast_zero : (t0_0 : Fin cfg0.N).castSucc = 0 := by decide +kernel

theorem before0 (c : Dev nD) (d) : (dat0 m c).before 0 t0_0 d = xs m c 0 := by
  unfold Pipeline.Dat.before; rw [if_pos (fetch0_0 _)]
  exact Eq.trans (b := ((cfg0.win 0).blk t0_0).view.read (Elt F) (xs m c 0)) rfl (blk0 _)
theorem before1 (c : Dev nD) (d) : (dat0 m c).before 1 t0_0 d = xs m c 1 := by
  unfold Pipeline.Dat.before; rw [if_pos (fetch0_1 _)]
  exact Eq.trans (b := ((cfg0.win 1).blk t0_0).view.read (Elt F) (xs m c 1)) rfl (blk1 _)
theorem before2 (c : Dev nD) (d) : (dat0 m c).before 2 t0_0 d = xs m c 2 := by
  unfold Pipeline.Dat.before; rw [if_pos (fetch0_2 _)]
  exact Eq.trans (b := ((cfg0.win 2).blk t0_0).view.read (Elt F) (xs m c 2)) rfl (blk2 _)
theorem before3 (c : Dev nD) (d) : (dat0 m c).before 3 t0_0 d = xs m c 3 := by
  unfold Pipeline.Dat.before; rw [if_pos (fetch0_3 _)]
  exact Eq.trans (b := ((cfg0.win 3).blk t0_0).view.read (Elt F) (xs m c 3)) rfl (blk3 _)
theorem before4 (c : Dev nD) (d) : (dat0 m c).before 4 t0_0 d = xs m c 4 := by
  unfold Pipeline.Dat.before; rw [if_pos (fetch0_4 _)]
  exact Eq.trans (b := ((cfg0.win 4).blk t0_0).view.read (Elt F) (xs m c 4)) rfl (blk4 _)
theorem before5 (c : Dev nD) (d) : (dat0 m c).before 5 t0_0 d = xs m c 5 := by
  unfold Pipeline.Dat.before; rw [if_pos (fetch0_5 _)]
  exact Eq.trans (b := ((cfg0.win 5).blk t0_0).view.read (Elt F) (xs m c 5)) rfl (blk5 _)
theorem before6 (c : Dev nD) (d) : (dat0 m c).before 6 t0_0 d = xs m c 6 := by
  unfold Pipeline.Dat.before; rw [if_pos (fetch0_6 _)]
  exact Eq.trans (b := ((cfg0.win 6).blk t0_0).view.read (Elt F) (xs m c 6)) rfl (blk6 _)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem body_run (c : Dev nD) (o : Vec F S2x256x512 .f32) :
    iprop(phi0 m c ∗ owesX c (O₀ c) ∗ nbrT c ∗ ringT c ∗ stgs c (stgOf m c) ∗ outs c o)
      ⊢ (wp frame (wpE (defs₀ (F := F)) 𝒱₀ (c : Thread nD τ) none) Set.univ body fun _ =>
        iprop(phi1 c ∗ owesX c 0 ∗ nbrT c ∗ ringT c ∗ stgs c (stgOf m c) ∗ outs c (resOf m c)) : sProp 𝕄) := by
  unfold phi0 Xk
  iintro ⟨⟨HS, Hp, ⟨%K, #HI, #HL, HB, HO, HT, HC⟩⟩, HW, HN, HR, Hst, Hout⟩
  ihave HE := (enter c) $$ [HB HO HT HC HS]
  · isplitl [HB]; · iexact HB
    isplitl [HO]; · iexact HO
    isplitl [HT]; · iexact HT
    isplitl [HC] <;> iassumption
  icases HE with ⟨%G0, HP, HE⟩
  rw [← Prog.bind_pure (body (F := F))]
  iapply (wp_body (K := K) (G := gathOf m) c (stgOf m c) (own_of m c) G0 o) $$ [HW HN HR Hst Hout HP HE]
  · isplitr; · iexact HI
    isplitr; · iexact HL
    isplitl [HN]; · iexact HN
    isplitl [HR]; · iexact HR
    isplitl [Hst]; · iexact Hst
    isplitl [Hout]; · iexact Hout
    isplitl [HW]; · iexact HW
    isplitl [HP] <;> iassumption
  iintro ⟨HN, HR, Hst, Hout, HW, HP, HE⟩
  ihave HE := (leave c (gathOf m)) $$ [HP HE]
  · isplitl [HP] <;> iassumption
  icases HE with ⟨HB, HZ, HS⟩
  rw [wp_pure]
  imodintro
  unfold phi1 sems0 Yk
  isplitl [HS Hp HZ HB]
  · isplitl [HS]; · iexact HS
    isplitl [Hp]; · iexact Hp
    isplitl [HZ]; · iexact HZ
    iexact HB
  isplitl [HW]; · iexact HW
  isplitl [HN]; · iexact HN
  isplitl [HR]; · iexact HR
  isplitl [Hst]; · iexact Hst
  iexact Hout

theorem defs_body : defs₀ (F := F) Proc.tc 0 (t0_0, cfg0.slots t0_0) = body :=
  Eq.trans (b := bodyAt0 (F := F) t0_0) rfl body_eq

set_option maxHeartbeats 4000000 in
theorem body_obligation (c : Dev nD) : Pipeline.BodyObligation (dat0 (F := F) m c) (defs₀ (F := F)) 𝒱₀ () Set.univ := fun t => by
  obtain rfl := fin_N0 t
  rw [bigSep_W0, bigSep_W0]
  simp only [owns_whole_eq]
  rw [cast_zero, succ_last, phi_zero, phi_last]
  have hin : (dat0 m c).owesAt () 0 ⊢ (owesX c (O₀ c) : sProp 𝕄) := by
    unfold Pipeline.Dat.owesAt Pipeline.owesWithin owesX; rw [dat_owed0]; iintro ⟨%W, -, HO⟩; iexists W; iexact HO
  have hout : (owesX c 0 : sProp 𝕄) ⊢ (dat0 m c).owesAt () (Fin.last cfg0.N) := by
    unfold Pipeline.Dat.owesAt Pipeline.owesWithin Pipeline.Dat.bound owesX; rw [dat_owedN]; iintro ⟨%W, HO⟩; iexists W
    isplitr; · ipureintro; exact fun _ _ => Or.inl trivial
    iexact HO
  iintro ⟨HPhi, HO, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩⟩
  rw [before0] at h0; rw [before1] at h1; rw [before2] at h2; rw [before3] at h3; rw [before4] at h4; rw [before5] at h5; rw [before6] at h6
  subst h0; subst h1; subst h2; subst h3; subst h4; subst h5; subst h6
  ihave HO := hin $$ HO
  have hrun := body_run m c f7
  unfold nbrT ringT stgs outs at hrun
  rw [← host_nbr m c, ← host_ring m c] at hrun
  iapply (wp_wand frame (wpE (defs₀ (F := F)) 𝒱₀ (c : Thread nD τ) none) Set.univ (Q := fun _ => iprop(phi1 c ∗ owesX c 0 ∗ (mNbr.view.loc (c : Thread nD τ) ↦{fullShare} V1 m c main_v43) ∗ (mRing.view.loc (c : Thread nD τ) ↦{fullShare} V1 m c main_c_2)
      ∗ ((mX.view.loc (c : Thread nD τ) ↦{fullShare} (stgOf m c).x) ∗ (mWq.view.loc (c : Thread nD τ) ↦{fullShare} (stgOf m c).wq)
    ∗ (mK.view.loc (c : Thread nD τ) ↦{fullShare} (stgOf m c).k) ∗ (mV.view.loc (c : Thread nD τ) ↦{fullShare} (stgOf m c).v)
    ∗ (mWo.view.loc (c : Thread nD τ) ↦{fullShare} (stgOf m c).wo)) ∗ (mOut.view.loc (c : Thread nD τ) ↦{fullShare} resOf m c)))) $$ [HPhi HO H0 H1 H2 H3 H4 H5 H6 H7]
  · rw [defs_body]
    iapply hrun
    isplitl [HPhi]; · iexact HPhi
    isplitl [HO]; · iexact HO
    isplitl [H0]; · iexact H0
    isplitl [H1]; · iexact H1
    isplitr [H7]
    · isplitl [H2]; · iexact H2
      isplitl [H3]; · iexact H3
      isplitl [H4]; · iexact H4
      isplitl [H5]; · iexact H5
      iexact H6
    iexact H7
  iintro %_ ⟨HPhi, HO, H0, H1, ⟨H2, H3, H4, H5, H6⟩, H7⟩
  isplitl [HPhi]; · iexact HPhi
  isplitl [HO]; · iapply hout; iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; rfl
  isplitl [H6]; · iexists _; isplitr; swap; (· iexact H6); ipureintro; rfl
  iexists _; isplitr; swap; (· iexact H7); ipureintro; rfl

end Cert.KernelIdeal.Ring
-- ==== Proof.Launch.lean ====
module

public import proofs.«01_k».proof.Proof.Point

/-! # The launch: the protocol's ghost state dealt to the devices, the region's record, and the run

`run_main`: from any memory with zero counters every weakly fair execution of `main` on the sixteen devices terminates, and
every final state has the arguments unchanged, the result buffer holding `resOf` and every semaphore counter at zero. -/

@[expose] public section
set_option maxRecDepth 65536
noncomputable section
namespace Cert.KernelIdeal.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
variable {F : FTy → Type} [FloatOps F]
local notation "𝕄" => MT nD τ sig Unit (Elt F) ℕ UU ℕ

variable (m : (ℓ : Loc nD τ sig) → Buf (Elt F) ℓ) (ρ : Dev nD → PrngReg)

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

omit [FloatOps F] in
theorem bigSep_pair {I : Type} [Fintype I] {Φ Ψ : I → sProp 𝕄} :
    iprop(bigSep Finset.univ Φ ∗ bigSep Finset.univ Ψ) ⊢ bigSep Finset.univ (fun i => iprop(Φ i ∗ Ψ i)) :=
  Entails.of_eq (bigSep_sep _ _ _).symm
omit [FloatOps F] in
theorem bigSep_unpair {I : Type} [Fintype I] {Φ Ψ : I → sProp 𝕄} :
    bigSep Finset.univ (fun i => iprop(Φ i ∗ Ψ i)) ⊢ iprop(bigSep Finset.univ Φ ∗ bigSep Finset.univ Ψ) :=
  Entails.of_eq (bigSep_sep _ _ _)

/-- What the launch keeps for the kernel. -/
def Tk (c : Dev nD) : sProp 𝕄 :=
  iprop(∃ K, Invs (gathOf m) K ∗ barIn c ∗ (bigSep Finset.univ fun i : Fin 120 => openTok ER ((c : Thread nD τ), osem i))
    ∗ hopsAll (tok4 (F := F) c) ∗ hopsAll (crd4 c))

theorem open_one (K : GSem nD τ sig → ℕ) (c : Dev nD) (i : Fin 120) :
    iprop(Invs (gathOf m) K ∗ (openTok ER ((c : Thread nD τ), osem i) ∗ semVal ((c : Thread nD τ), osem i) 0))
      ⊢ (iprop(|={Set.univ}=> (atPos ER ((c : Thread nD τ), osem i) 0 ∅ 0 ∗ reached ER ((c : Thread nD τ), osem i) 0)) : sProp 𝕄) := by
  iintro ⟨#HI, Ho, Hv⟩
  iapply (Rounds.cell_open ER (rd (gathOf m)) (κ := K ((c : Thread nD τ), osem i)) (Set.mem_univ _))
  isplitr
  · iapply (Invs_elim (gathOf m) K (g := ((c : Thread nD τ), osem i))
      (Finset.mem_union_right _ (Finset.mem_map.mpr ⟨(c, i), Finset.mem_univ _, rfl⟩))); iexact HI
  isplitl [Ho] <;> iassumption

theorem open_all (c : Dev nD) :
    iprop(Tk m c ∗ Pipeline.ownSems0 osem c ∗ levAts L lv) ⊢ (iprop(|={Set.univ}=> Xk m c) : sProp 𝕄) := by
  unfold Tk Xk Pipeline.ownSems0 opened
  iintro ⟨⟨%K, #HI, HB, HO, HT, HC⟩, HS, HL⟩
  ihave HP := (bigSep_pair (Φ := fun i : Fin 120 => (openTok ER ((c : Thread nD τ), osem i) : sProp 𝕄))
    (Ψ := fun i : Fin 120 => (semVal ((c : Thread nD τ), osem i) 0 : sProp 𝕄))) $$ [HO HS]
  · isplitl [HO] <;> iassumption
  ihave HQ := (bigSep_with_persistent (R := Invs (gathOf m) K) fun i _ => open_one m K c i) $$ [HP]
  · isplitr; · iexact HI
    iexact HP
  imod (bigSep_fupd _ _) $$ HQ with HQ
  imodintro
  iexists K
  isplitr; · iexact HI
  isplitl [HL]; · iexact HL
  isplitl [HB]; · iexact HB
  isplitl [HQ]; · iexact HQ
  isplitl [HT] <;> iassumption

theorem held_none (c : Dev nD) (V : Valuation τ sig (Elt F)) : (StableHlo.held (c : Thread nD τ) ∅ V : sProp 𝕄) = BI.emp := by
  unfold StableHlo.held; exact BI.bigSep_empty

theorem scr_eq (c : Dev nD) : (Pipeline.scopedRest (Pipeline.pin (pcfgs (F := F)) adm 0).spec c : sProp 𝕄) = scr c :=
  (scopedRest0_eq c).trans rfl

theorem enter_inv (c : Dev nD) (V : Valuation τ sig (Elt F)) :
    iprop(Pipeline.scopedRest (Pipeline.pin (pcfgs (F := F)) adm 0).spec c ∗ (∃ r, prngReg c r)
      ∗ StableHlo.held (c.tc : Thread nD τ) ∅ V ∗ Xk m c) ⊢ ((pdats m 0 c).Φ 0 : sProp 𝕄) := by
  rw [scr_eq, show (pdats m 0 c).Φ 0 = phi0 m c from phi_zero m c]
  unfold phi0
  iintro ⟨HS, Hp, -, HX⟩
  isplitl [HS]; · iexact HS
  isplitl [Hp] <;> iassumption

theorem leave_inv (c : Dev nD) (V : Valuation τ sig (Elt F)) :
    (pdats m 0 c).Φ (Fin.last _) ⊢ (iprop(Pipeline.scopedRest (Pipeline.pin (pcfgs (F := F)) adm 0).spec c ∗ (∃ r, prngReg c r)
      ∗ StableHlo.held (c.tc : Thread nD τ) ∅ V ∗ Pipeline.ownSems0 osem c ∗ Yk c) : sProp 𝕄) := by
  rw [scr_eq, show (pdats m 0 c).Φ (Fin.last _) = phi1 c from phi_last m c, held_none]
  unfold phi1 sems0 Pipeline.ownSems0
  iintro ⟨HS, Hp, HZ, HY⟩
  isplitl [HS]; · iexact HS
  isplitl [Hp]; · iexact Hp
  isplitr; · iempintro
  isplitl [HZ] <;> iassumption

/-- What the kernel leaves in its result. -/
def outsOf : Outs (F := F) := fun _ r c =>
  if h : r = main_v44 then h ▸ (show Buf (Elt F) ((c : Thread nD τ).loc main_v44) from resOf m c) else V1 m c r

theorem V2_out (c : Dev nD) : V2 m (outsOf m) c main_v44 = resOf m c := by
  show Function.update (V1 m c) (Proc.devRef .tc main_v44) (outsOf m 2 main_v44 c) (Proc.devRef .tc main_v44) = _
  rw [Function.update_self]
  exact dif_pos rfl

theorem arr_out (c : Dev nD) : (dat0 m c).arrAt 7 cfg0.N = (show Buf (Elt F) _ from resOf m c) := by
  refine Pipeline.Dat.arrAt_eq_of_cover (dat0 m c) 7 _ (fun t _ => ?_) (fun x => ⟨t0_0, by decide +kernel, ?_⟩)
  · obtain rfl := fin_N0 t
    exact Eq.trans (b := resOf m c) rfl (blk7 (resOf m c)).symm
  · have h := View.emb_mem_set ((cfg0.win 7).blk t0_0).view x
    rwa [show ((cfg0.win 7).blk t0_0).view.emb x = x from emb7 x] at h

theorem arr_end (c : Dev nD) (w : Fin 8) :
    (dat0 m c).arrAt w cfg0.N = V2 m (outsOf m) c (Proc.devRef .tc (Pipeline.arrRef spec0 w)) := by
  by_cases hw : w = 7
  · subst hw
    rw [arr_out]; exact (V2_out m c).symm
  · have hin : (cfg0.win w).isOut = false := by revert w; decide +kernel
    rw [(dat0 m c).arrAt_in w hin _]
    have hne : Pipeline.arrRef spec0 w ≠ main_v44 := by revert w; decide +kernel
    exact (V2_of m (outsOf m) c _ (by simpa using hne)).symm

abbrev Sr : Finset (DevRef τ sig) := Pipeline.ucRefs τ sig \ Pipeline.arrRefs spec0

theorem rest_same (c : Dev nD) : ∀ b ∈ Sr \ (∅ : Finset (DevRef τ sig)), V2 m (outsOf m) c b = V1 m c b := fun b hb => by
  rw [Finset.sdiff_empty] at hb
  refine Function.update_of_ne ?_ _ _
  rintro rfl
  refine (Finset.mem_sdiff.mp hb).2 (Finset.mem_map.mpr ⟨main_v44, ?_, rfl⟩)
  exact Finset.mem_image.mpr ⟨7, Finset.mem_univ _, rfl⟩

theorem stage_low : ∀ (w : Fin 8) (s : Fin (spec0 w).nbuf), ((spec0 w).sem s).val < 8 := by decide +kernel
theorem osem_facts : Pipeline.OwnSemFacts spec0 osem := by decide +kernel

theorem cuts : Pipeline.LevelCutOwed (pcfgs (F := F)) adm (pdats m) () L lv 0 (fun _ => 0) where
  hι c w s := by rw [L_tc]; exact Finset.mem_singleton_self _
  hιb c w s := by
    have h : ((spec0 w).sem s).val < 8 := stage_low w s
    show (if 8 ≤ ((spec0 w).sem s).val ∧ _ then _ else 0) ≤ 0
    rw [if_neg (fun h' => absurd h'.1 (by omega))]
  hD c t g i h := by
    have h' : 0 < O₀ c g i := by
      have h1 : 0 < (if t.val = 0 then O₀ c else 0) g i := h
      split_ifs at h1 with ht
      · exact h1
      · exact absurd h1 (Nat.lt_irrefl 0)
    rcases O₀_pos h' with ⟨k, hk, rfl⟩ | rfl | rfl
    · exact ⟨Finset.mem_singleton_self _, by rw [lv_sentTo c hk]; omega⟩
    · exact ⟨Finset.mem_singleton_self _, Nat.one_pos⟩
    · exact ⟨Finset.mem_singleton_self _, Nat.one_pos⟩

set_option backward.isDefEq.respectTransparency.types false in
/-- The region's record. -/
def reg : Pipeline.RegionSeg (pcfgs (F := F)) adm (pdats m) () defs₀ 𝒱₀ L lv 0 :=
  Pipeline.RegionSeg.ofTalk (pcfgs (F := F)) adm (pdats m) () defs₀ 𝒱₀ L lv 0 osem osem_facts ∅ Sr (Finset.empty_subset _)
    kitP rfl (fun c => (body_obligation m c).loose) (fun _ => 0) O₀ (fun c => (dat_owed0 m c).trans (zero_add _).symm) (dat_owedN m)
    (fun _ => rfl) (fun c => (pdats m 0 c).share_full fun _ => rfl) (V1 m) (V2 m (outsOf m)) (rest_same m) (Tk m) Yk (Xk m) Yk
    (open_all m) (fun c => enter_inv m c _) (fun c => leave_inv m c _) (fun c => by iintro H; imodintro; iexact H) (fun _ => 0) (cuts m)
    (fun _ => iprop(emp)) (fun _ _ => rfl) (arr_end m)

/-! ### The ghost state at launch -/

def onDev (c₀ : Dev nD) (X : sProp 𝕄) (c : Dev nD) : sProp 𝕄 := if c = c₀ then X else BI.emp

omit [FloatOps F] in
theorem bigSep_onDev (c₀ : Dev nD) (X : sProp 𝕄) : bigSep Finset.univ (onDev c₀ X) = X := by
  rw [bigSep_univ_at _ c₀, bigSep_congr (s := Finset.univ.erase c₀) (Ψ := fun _ => (BI.emp : sProp 𝕄))
      fun c hc => by unfold onDev; rw [if_neg (Finset.ne_of_mem_erase hc)], BI.bigSep_emp_const]
  unfold onDev; rw [if_pos rfl]
  exact BI.equiv_iff.mp BI.sep_emp

theorem disjoint_cells : Disjoint barCells dmaCells := by
  rw [Finset.disjoint_left]
  rintro g h₁ h₂
  obtain ⟨c, -, rfl⟩ := Finset.mem_map.mp h₁
  obtain ⟨ck, -, h⟩ := Finset.mem_map.mp h₂
  have h' := congrArg Prod.snd h
  injection h'

def u₀ : UU := (initOf (Pipeline.cells (Pipeline.pin (pcfgs (F := F)) adm) cellOf_inj) (Pipeline.launchToks (Pipeline.pin (pcfgs (F := F)) adm) cellOf_inj),
  launchOf barCells dmaCells toks)

def Gst : Dev nD → sProp 𝕄 := onDev 0 (BI.own (ER (launchOf barCells dmaCells toks)))

omit [FloatOps F] in
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

/-- What a device holds before the host operations beside its buffers, and after the kernel. -/
def E : Fin 2 → Dev nD → sProp 𝕄
  | 0, c => iprop(Tk m c ∗ (∃ r, prngReg c r) ∗ ∃ W, owes (c : Thread nD τ) (O₀ c) W)
  | 1, c => iprop(semVal (barCell c) 0 ∗ ∃ W, owes (c : Thread nD τ) (0 : CellTallies nD τ sig Unit) W)

def recs (K : GSem nD τ sig → ℕ) : sProp 𝕄 := iprop(Invs (gathOf m) K ∗ bigSep barCells fun g => reached ER g 0)
instance recs_persistent (K : GSem nD τ sig → ℕ) : BI.Persistent (recs m K) := by unfold recs; infer_instance

def bundle (c : Dev nD) : sProp 𝕄 :=
  iprop(Pipeline.launchCred O₀ c ∗ owes (c : Thread nD τ) (O₀ c) ∅ ∗ ∃ r, prngReg c r)
def linear (c : Dev nD) : sProp 𝕄 :=
  iprop(atPos ER (barCell c) 0 ∅ 0 ∗ (bigSep Finset.univ fun i : Fin 120 => openTok ER ((c : Thread nD τ), osem i)) ∗ tokOf (F := F) c)

theorem E0_intro (K : GSem nD τ sig → ℕ) (c : Dev nD) : iprop(recs m K ∗ (linear c ∗ bundle c)) ⊢ E m 0 c := by
  show _ ⊢ iprop(Tk m c ∗ (∃ r, prngReg c r) ∗ ∃ W, owes (c : Thread nD τ) (O₀ c) W)
  have hr (d : Dev nD) : (bigSep barCells fun g => reached ER g 0) ⊢ (reached ER (barCell d) 0 : sProp 𝕄) :=
    bigSep_elim (Finset.mem_map_of_mem barEmb (Finset.mem_univ d))
  unfold recs linear bundle Tk barIn tokOf
  iintro ⟨⟨#HI, #HR⟩, ⟨Hat, Ho, Ht1, Ht2, HT⟩, HC, HW, Hp⟩
  ihave HC := (creds (F := F) c) $$ HC
  icases HC with ⟨Hc, HC⟩
  isplitr [Hp HW]
  · iexists K
    isplitr; · iexact HI
    isplitl [Hat Hc Ht1 Ht2]
    · isplitl [Hat]; · iexact Hat
      isplitl [Hc]; · iexact Hc
      isplitl [Ht1]
      · isplitl [Ht1]; · iexact Ht1
        iapply (hr (dst true c)); iexact HR
      · isplitl [Ht2]; · iexact Ht2
        iapply (hr (dst false c)); iexact HR
    isplitl [Ho]; · iexact Ho
    isplitl [HT] <;> iassumption
  isplitl [Hp]; · iexact Hp
  iexists ∅; iexact HW

theorem init :
    iprop((bigSep Finset.univ fun c : Dev nD => iprop(unscopedSems0 c
          ∗ owes (c : Thread nD τ) (O₀ c) ∅ ∗ Pipeline.launchCred O₀ c ∗ prngReg c (ρ c) ∗ Gst (F := F) c)) ∗ levAts L lv)
      ⊢ (|={Set.univ}=> bigSep Finset.univ (E m 0) : sProp 𝕄) := by
  have hcore (c : Dev nD) : iprop(unscopedSems0 c
        ∗ owes (c : Thread nD τ) (O₀ c) ∅ ∗ Pipeline.launchCred O₀ c ∗ prngReg c (ρ c) ∗ Gst (F := F) c)
      ⊢ (iprop(bundle c ∗ (semVal (barCell c) 0 ∗ Gst (F := F) c)) : sProp 𝕄) := by
    rw [unscopedSems0_eq]
    unfold bundle
    iintro ⟨Hus, HO, Hcr, Hp, HG⟩
    isplitl [HO Hcr Hp]
    · isplitl [Hcr]; · iexact Hcr
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep dmaCells (fun g => (openTok ER g : sProp 𝕄))
      ⊢ bigSep Finset.univ (fun c : Dev nD => bigSep Finset.univ fun i : Fin 120 => (openTok ER ((c : Thread nD τ), osem i) : sProp 𝕄)) :=
    Entails.of_eq (by unfold dmaCells; rw [bigSep_map, bigSep_univ_prod]; rfl)
  iintro ⟨H, -⟩
  ihave H' := (show (bigSep Finset.univ fun c : Dev nD => iprop(unscopedSems0 c
          ∗ owes (c : Thread nD τ) (O₀ c) ∅ ∗ Pipeline.launchCred O₀ c ∗ prngReg c (ρ c) ∗ Gst (F := F) c))
      ⊢ (bigSep Finset.univ fun c : Dev nD => iprop(bundle c ∗ (semVal (barCell c) 0 ∗ Gst (F := F) c)) : sProp 𝕄) from bigSep_mono fun c _ => hcore c) $$ H
  ihave H2 := bigSep_unpair $$ H'; icases H2 with ⟨HB, H3⟩
  ihave H4 := bigSep_unpair $$ H3; icases H4 with ⟨Hv, HG⟩
  ihave Hu := (show bigSep Finset.univ (Gst (F := F)) ⊢ BI.own (ER (launchOf barCells dmaCells toks)) from
    Entails.of_eq (bigSep_onDev (F := F) 0 (BI.own (ER (launchOf barCells dmaCells toks))))) $$ HG
  imod (Rounds.fund_launch ER (rd (gathOf m)) disjoint_cells (fun g _ h => h) toks) $$ [Hv Hu] with ⟨%κ, -, #Hinv, #Hr, Hat, Hopen, Htok⟩
  · isplitl [Hv]
    · iapply hv $$ Hv
    · iexact Hu
  imodintro
  iapply (bigSep_with_persistent (R := recs m κ) (Φ := fun c => iprop(linear c ∗ bundle c)) fun c _ => E0_intro m κ c)
  isplitr
  · unfold recs Invs
    isplitr; · iexact Hinv
    iexact Hr
  iapply bigSep_pair
  isplitr [HB]
  · unfold linear
    iapply bigSep_pair; isplitl [Hat]; · iapply hat $$ Hat
    iapply bigSep_pair; isplitl [Hopen]; · iapply hopen $$ Hopen
    iapply (Entails.of_eq (toks_around (F := F))) $$ Htok
  · iexact HB

theorem reg_pre (c : Dev nD) :
    iprop(StableHlo.held (c : Thread nD τ) (Pipeline.ucRefs τ sig) (V1 m c) ∗ E m 0 c) ⊢ (reg m).pre c := by
  show iprop(_ ∗ (Tk m c ∗ (∃ r, prngReg c r) ∗ ∃ W, owes (c : Thread nD τ) (O₀ c) W))
    ⊢ iprop(StableHlo.held (c.tc : Thread nD τ) (Pipeline.arrRefs spec0) (V1 m c) ∗ (∃ r, prngReg c r)
    ∗ (StableHlo.held (c.tc : Thread nD τ) Sr (V1 m c) ∗ emp) ∗ Tk m c ∗ ∃ Wd, owes (c : Thread nD τ) (0 + O₀ c) Wd)
  rw [StableHlo.held_sub_split (c.tc : Thread nD τ) (Pipeline.arrRefs_sub_ucRefs spec0 (by decide +kernel)) (V1 m c), zero_add]
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem reg_post (c : Dev nD) :
    (reg m).post c ⊢ iprop(StableHlo.held (c : Thread nD τ) (Pipeline.ucRefs τ sig) (V2 m (outsOf m) c) ∗ E m 1 c) := by
  show iprop(StableHlo.held (c.tc : Thread nD τ) (Pipeline.arrRefs spec0) (V2 m (outsOf m) c) ∗ (∃ r, prngReg c r)
    ∗ (StableHlo.held (c.tc : Thread nD τ) Sr (V2 m (outsOf m) c) ∗ emp) ∗ semVal (barCell c) 0 ∗ ∃ Wd, owes (c : Thread nD τ) 0 Wd)
    ⊢ iprop(_ ∗ (semVal (barCell c) 0 ∗ ∃ W, owes (c : Thread nD τ) (0 : CellTallies nD τ sig Unit) W))
  rw [StableHlo.held_sub_split (c.tc : Thread nD τ) (Pipeline.arrRefs_sub_ucRefs spec0 (by decide +kernel)) (V2 m (outsOf m) c)]
  iintro ⟨Ha, -, ⟨Hr, -⟩, Hs, HO⟩
  isplitl [Ha Hr]
  · isplitl [Ha]; · iexact Ha
    iexact Hr
  isplitl [Hs] <;> iassumption

theorem unscoped_eq : ∀ sm : SemLoc sig, sm.isScoped .tc = false → sm = .reg barS := by decide +kernel

set_option backward.isDefEq.respectTransparency.types false in
/-- The run: the arguments unchanged, the result `resOf`, every counter at zero. -/
theorem run_main : θ_run defs (onTc (τ := τ) (main (F := F))) ⟨m, fun _ => 0, ρ⟩
    (fun r => (∀ c : Dev nD,
      r.2.mem ((c.tc : Thread nD τ).loc main_v44) = resOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  refine Pipeline.θ_run_regions_kit_dev_sems (pcfgs (F := F)) adm (pdats m) () cellOf_inj EP defs₀ 𝒱₀ L lv m ρ main
    (segs m 𝒱₀ L lv (E m) () (pdats m) (reg m))
    (fun c Q => by
      rewrite [main_chain c, Pipeline.Seg.run_eq_chain,
        show (segs m 𝒱₀ L lv (E m) () (pdats m) (reg m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) O₀ L_of_ne Gst (u₀ (F := F))
    (hu₀ := by
      unfold u₀ Gst
      iintro Hu
      ihave H := (ownU_pair _ _) $$ Hu
      icases H with ⟨HP, HX⟩
      imodintro
      isplitl [HP]; · iexact HP
      rw [bigSep_onDev]; iexact HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (V2 m (outsOf m) c) ∗ semVal (barCell c) 0))
    (hch := fun c => ⟨.rfl, reg_pre m c, (reg_post m c).trans (by
      show iprop(_ ∗ (semVal (barCell c) 0 ∗ ∃ W, owes (c : Thread nD τ) (0 : CellTallies nD τ sig Unit) W)) ⊢ _
      iintro ⟨Hh, Hb, HO⟩
      isplitr [HO]
      · isplitl [Hh] <;> iassumption
      · iexact HO)⟩)
    (hinit := ?_)
    (QY := fun c s => (s.mem ((c.tc : Thread nD τ).loc main_v44) = resOf m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)) ∧ s.sem (barCell c) = 0)
    (hfin := fun c s' => ?_) (hQ := fun s h hs => ⟨fun c => (h c).1, sem_eq_zero hs fun c sm hsm => by
      obtain rfl := unscoped_eq sm hsm; exact (h c).2⟩)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ Gst (F := F) c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ Gst (F := F) c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (init m ρ) $$ [Hr Hla] with HE
    · isplitl [Hr]; · iexact Hr
      iexact Hla
    imodintro
    rw [bigSep_sep']
    isplitl [Hh]; · iexact Hh
    iexact HE
  · unfold StableHlo.held
    iintro ⟨⟨Hh, Hb0⟩, HSI⟩
    icombine HSI Hb0 gives %hb
    ihave Hr := (pointsTo_read_all (Pipeline.ucRefs τ sig) (fun b => ((c : Thread nD τ).1, b)) (V2 m (outsOf m) c) s') $$ [Hh HSI]
    · isplitl [Hh] <;> iassumption
    icases Hr with ⟨%h, HSI⟩
    imodintro
    isplitr
    · ipureintro
      exact ⟨⟨(h (Proc.devRef .tc main_v44) (Finset.mem_filter.mpr ⟨StableHlo.devRef_mem_tcRefs main_v44, by decide⟩)).trans (V2_out m c),
        (h (Proc.devRef .tc main_arg0) (Finset.mem_filter.mpr ⟨StableHlo.devRef_mem_tcRefs main_arg0, by decide⟩)).trans (V2_main_arg0 m (outsOf m) c),
        (h (Proc.devRef .tc main_arg1) (Finset.mem_filter.mpr ⟨StableHlo.devRef_mem_tcRefs main_arg1, by decide⟩)).trans (V2_main_arg1 m (outsOf m) c),
        (h (Proc.devRef .tc main_arg2) (Finset.mem_filter.mpr ⟨StableHlo.devRef_mem_tcRefs main_arg2, by decide⟩)).trans (V2_main_arg2 m (outsOf m) c),
        (h (Proc.devRef .tc main_arg3) (Finset.mem_filter.mpr ⟨StableHlo.devRef_mem_tcRefs main_arg3, by decide⟩)).trans (V2_main_arg3 m (outsOf m) c),
        (h (Proc.devRef .tc main_arg4) (Finset.mem_filter.mpr ⟨StableHlo.devRef_mem_tcRefs main_arg4, by decide⟩)).trans (V2_main_arg4 m (outsOf m) c)⟩,
        by simpa using hb⟩
    · iexact HSI

end Cert.KernelIdeal.Ring
-- ==== Proof.Same.lean ====
module
public import proofs.«01_k».proof.Proof.Launch
public import proofs.«01_k».proof.Proof.Gen.Kernel.Regions

/-! # The two printed texts of the kernel are one program -/

@[expose] public section
set_option maxRecDepth 65536
set_option maxHeartbeats 0
noncomputable section
namespace Cert.Proof
open Idealize.ShloMosaic Idealize.ShloMosaic.TcCoe Idealize.SL.Sem
variable {F : FTy → Type} [FloatOps F]

theorem cc0_same : Cert.Kernel.cc0_body (F := F) = Cert.KernelIdeal.cc0_body (F := F) := rfl

theorem defs0_same : Cert.Kernel.defs₀ (F := F) = Cert.KernelIdeal.defs₀ := by
  have h := cc0_same (F := F)
  funext p l
  match p with
  | .tc =>
    match l with
    | ⟨0, _⟩ =>
      funext ⟨t, s⟩
      exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun h _) _) _) _) _) _) _) _) _) _) _) _) _) _) _) _) _) _) _) _) _) _) _) _) _) _) _) _
    | ⟨n + 1, h⟩ => exact absurd h (by omega)
  | .scScalar _ => rfl
  | .scVector _ _ => rfl

theorem defs_same : Cert.Kernel.defs (F := F) = Cert.KernelIdeal.defs :=
  congrArg (Pipeline.defs Cert.KernelIdeal.pcfgs) defs0_same

theorem part0_same (d : Dev Cert.KernelIdeal.nD) : Cert.Kernel.main_part0 (F := F) d = Cert.KernelIdeal.main_part0 d := by
  unfold Cert.Kernel.main_part0 Cert.KernelIdeal.main_part0; rfl
theorem part1_same (d : Dev Cert.KernelIdeal.nD) : Cert.Kernel.main_part1 (F := F) d = Cert.KernelIdeal.main_part1 d := rfl
theorem main_same : Cert.Kernel.main (F := F) = Cert.KernelIdeal.main :=
  funext fun d => congrArg₂ (fun (X Y : Prog (TpuEff Cert.KernelIdeal.nD Cert.KernelIdeal.τ Cert.KernelIdeal.sig (Elt F)
    (Pipeline.Sig Cert.KernelIdeal.Λ₀ (Fin 1) fun p => (Cert.KernelIdeal.pcfgs (F := F) p).Adm) .tc) PUnit) => (do X; Y)) (part0_same d) (part1_same d)

/-- A run of the one text is a run of the other. -/
theorem run_same (s : MemSt Cert.KernelIdeal.nD Cert.KernelIdeal.τ Cert.KernelIdeal.sig (Elt F)) (Q)
    (h : θ_run Cert.KernelIdeal.defs (onTc (τ := Cert.KernelIdeal.τ) (Cert.KernelIdeal.main (F := F))) s Q) :
    θ_run Cert.Kernel.defs (onTc (τ := Cert.Kernel.τ) (Cert.Kernel.main (F := F))) s Q := by
  have key : ∀ D M, D = Cert.KernelIdeal.defs (F := F) → M = Cert.KernelIdeal.main (F := F) → θ_run D (onTc (τ := Cert.KernelIdeal.τ) M) s Q := by
    rintro D M rfl rfl; exact h
  exact key _ _ defs_same main_same

end Cert.Proof
-- ==== Proof.ValHost.lean ====
module

public import proofs.«01_k».proof.Proof.Point
public import Idealize.ShloMosaic.Lib.Pointwise
public import Idealize.ShloMosaic.Lib.WordCmp

/-! # What a device stages, read at an index, over the extended reals -/

@[expose] public section

set_option maxRecDepth 65536

noncomputable section

namespace Cert.KernelIdeal.Ring

open Idealize.ShloMosaic Idealize.ShloMosaic.TcCoe Idealize.SL.Sem
open Cert.KernelIdeal Cert.KernelIdeal.Gen

/-- The first of a device's two batches, as the host works it out. -/
def batchW (c : Dev nD) : IVec S_ 32 :=
  select (cmpi .slt (muli (fun _ => wordOf c : IVec S_ 32) (constantI S_ 32 2#32)) (constantI S_ 32 0#32))
    (addi (muli (fun _ => wordOf c : IVec S_ 32) (constantI S_ 32 2#32)) (constantI S_ 32 32#32))
    (muli (fun _ => wordOf c : IVec S_ 32) (constantI S_ 32 2#32))

theorem batchW_eq : ∀ (c : Dev nD) (i : S_.Idx), (batchW c i).toInt = ((2 * c.val : ℕ) : Int) := by decide +kernel

theorem batch_slices : ∀ c : Dev nD, S32x256x64x64.Slices (![2 * c.val, 0, 0, 0]) S2x256x64x64 := by decide +kernel

theorem batch_lt (c : Fin 16) (b : Fin 2) : 2 * c.val + b.val < 32 := by omega
/-- The batch of the whole array that is batch `b` of device `c`. -/
abbrev bat (c : Fin 16) (b : Fin 2) : Fin 32 := ⟨2 * c.val + b.val, batch_lt c b⟩

/-- The factor that the query weights carry. -/
def scl : EReal := Ideal.ofBits .f32 0x3E000000#32

variable (m : (ℓ : Loc nD τ sig) → Buf (Elt Ideal) ℓ) (c : Dev nD)

/-- A device's five arguments. -/
def aX : S2x256x512.Idx → EReal := m ((c.tc : Thread nD τ).loc main_arg0)
def aQ : S512x256.Idx → EReal := m ((c.tc : Thread nD τ).loc main_arg1)
def aK : S32x256x64x64.Idx → EReal := m ((c.tc : Thread nD τ).loc main_arg2)
def aV : S32x256x64x64.Idx → EReal := m ((c.tc : Thread nD τ).loc main_arg3)
def aO : S256x512.Idx → EReal := m ((c.tc : Thread nD τ).loc main_arg4)

theorem host_v8 : V1 m c main_v8 = batchW c := by
  rw [e_main_v8, e_main_v7, e_main_v6, e_main_v5, host_rank, e_main_c_5, e_main_c_6, e_main_c_7]; rfl
theorem host_v14 : V1 m c main_v14 = batchW c := by
  rw [e_main_v14, e_main_v13, e_main_v12, e_main_v5, host_rank, e_main_c_5, e_main_c_11, e_main_c_12]; rfl

theorem arg0_eq : V1 m c main_arg0 = aX m c := V1_of m c main_arg0 (by decide)
theorem arg1_eq : V1 m c main_arg1 = aQ m c := V1_of m c main_arg1 (by decide)
theorem arg2_eq : V1 m c main_arg2 = aK m c := V1_of m c main_arg2 (by decide)
theorem arg3_eq : V1 m c main_arg3 = aV m c := V1_of m c main_arg3 (by decide)
theorem arg4_eq : V1 m c main_arg4 = aO m c := V1_of m c main_arg4 (by decide)

/-- The two batches that a device cuts out of a whole array. -/
def cut (x : FVec Ideal S32x256x64x64 .f32) : FVec Ideal S2x256x64x64 .f32 := fun i => x (ix4 (bat c (i 0)) (i 1) (i 2) (i 3))

theorem cut_eq (x : FVec Ideal S32x256x64x64 .f32) (w : Fin 4 → IVec S_ 32) (h0 : w 0 = batchW c) (h1 : w 1 = constantI S_ 32 0#32)
    (h2 : w 2 = constantI S_ 32 0#32) (h3 : w 3 = constantI S_ 32 0#32) :
    Host.dynamicSlice S2x256x64x64 x (fun k => (w k (Shape.Idx.first h_S_)).toInt) sliceFits_S32x256x64x64_S2x256x64x64 = cut c x := by
  rw [Idealize.ShloMosaic.WordCmp.dynamicSlice_eq_extract S2x256x64x64 x _ _ (![2 * c.val, 0, 0, 0]) (batch_slices c) (fun a => by
    match a with
    | 0 => rw [h0]; exact batchW_eq c _
    | 1 => rw [h1]; rfl
    | 2 => rw [h2]; rfl
    | 3 => rw [h3]; rfl)]
  funext i
  idx_vars i
  pointwise [cut]

theorem host_v9 : V1 m c main_v9 = cut c (aK m c) := by
  rw [e_main_v9, arg2_eq, host_v8, e_main_c_8, e_main_c_9, e_main_c_10]
  exact cut_eq c _ ![batchW c, constantI S_ 32 0#32, constantI S_ 32 0#32, constantI S_ 32 0#32] rfl rfl rfl rfl
theorem host_v15 : V1 m c main_v15 = cut c (aV m c) := by
  rw [e_main_v15, arg3_eq, host_v14, e_main_c_13, e_main_c_14, e_main_c_15]
  exact cut_eq c _ ![batchW c, constantI S_ 32 0#32, constantI S_ 32 0#32, constantI S_ 32 0#32] rfl rfl rfl rfl

theorem stg_x (b : Fin 2) (q : Fin 256) (e : Fin 512) :
    (stgOf m c).x (ix3 b q e) = aX m c (ix3 b q e) := by
  show V1 m c main_v20 (ix3 b q e) = _
  rw [e_main_v20, arg0_eq]; rfl

theorem stg_wq (i : Fin 512) (j : Fin 256) :
    (stgOf m c).wq (ix2 i j) = aQ m c (ix2 i j) * scl := by
  show V1 m c main_v23 (ix2 i j) = _
  rw [e_main_v23, e_main_v22, e_main_v21, e_main_cst_16, arg1_eq]; rfl

theorem stg_wo (j : Fin 256) (e : Fin 512) :
    (stgOf m c).wo (ix2 j e) = aO m c (ix2 j e) := by
  show V1 m c main_v24 (ix2 j e) = _
  rw [e_main_v24, arg4_eq]; rfl

theorem stg_k (b : Fin 2) (h : Fin 64) (k : Fin 256) (d : Fin 64) :
    (stgOf m c).k (ix4 b h k d) = aK m c (ix4 (bat c b) k h d) := by
  show V1 m c main_v11 (ix4 b h k d) = _
  rw [e_main_v11, e_main_v10, host_v9]
  pointwise [cut]

theorem stg_v (b : Fin 2) (h : Fin 64) (k : Fin 256) (d : Fin 64) :
    (stgOf m c).v (ix4 b h k ⟨d.val, by omega⟩) = aV m c (ix4 (bat c b) k h d) := by
  show V1 m c main_v19 (ix4 b h k ⟨d.val, by omega⟩) = _
  rw [e_main_v19, e_main_v17, e_main_v16, host_v15]
  pointwise [cut]

theorem stg_one (b : Fin 2) (h : Fin 64) (k : Fin 256) : (stgOf m c).v (ix4 b h k 64) = (1 : EReal) := by
  show V1 m c main_v19 (ix4 b h k 64) = _
  rw [e_main_v19, e_main_v18, e_main_cst]
  pointwise []

/-- What a slot of the gathered query weights holds. -/
theorem gath_q (n : Dev nD) (i : Fin 512) (j : Fin 256) :
    (gathOf m).q (ix3 (n : Fin 16) i j) = aQ m n (ix2 i j) * scl :=
  (congrArg (stgOf m n).wq (funext fun a => by match a with | 0 => rfl | 1 => rfl)).trans (stg_wq m n i j)
/-- What a slot of the gathered output weights holds. -/
theorem gath_o (n : Dev nD) (j : Fin 256) (e : Fin 512) :
    (gathOf m).o (ix3 (n : Fin 16) j e) = aO m n (ix2 j e) :=
  (congrArg (stgOf m n).wo (funext fun a => by match a with | 0 => rfl | 1 => rfl)).trans (stg_wo m n j e)

end Cert.KernelIdeal.Ring

end
-- ==== Proof.ValKernel.lean ====
module

public import proofs.«01_k».proof.Proof.ValHost

/-! # The kernel's result at an index, over the extended reals -/

@[expose] public section

set_option maxRecDepth 65536

noncomputable section

namespace Cert.KernelIdeal.Ring
open Idealize.ShloMosaic Idealize.ShloMosaic.TcCoe Idealize.SL.Sem
open Cert.KernelIdeal Cert.KernelIdeal.Gen

variable (m : (ℓ : Loc nD τ sig) → Buf (Elt Ideal) ℓ) (c : Dev nD)

/-- Head `r` of chunk `n`. -/
abbrev hd (n : Fin 16) (r : Fin 4) : Fin 64 := ⟨4 * n.val + r.val, by omega⟩
/-- Column `d` of head `r` within a chunk. -/
abbrev col (r : Fin 4) (d : Fin 64) : Fin 256 := ⟨64 * r.val + d.val, by omega⟩

theorem kAt_apply (S : Stg Ideal) (n : Dev nD) (h : (wordOf n).toNat < 16) (b : Fin 2) (r : Fin 4) (k : Fin 256) (d : Fin 64) :
    kAt S h b r (ix4 0 0 k d) = S.k (ix4 b (hd n r) k d) := by
  unfold kAt
  show S.k _ = S.k _
  congr 1
  funext a
  match a with
  | 0 => exact Fin.ext (by show b.val + 1 * 0 = b.val; omega)
  | 1 => exact Fin.ext (by show headNat (wordOf n) r + 1 * 0 = 4 * n.val + r.val; rw [headNat_eq h, wordOf_toNat]; omega)
  | 2 => exact Fin.ext (by show 0 + 1 * k.val = k.val; omega)
  | 3 => exact Fin.ext (by show 0 + 1 * d.val = d.val; omega)
theorem vAt_apply (S : Stg Ideal) (n : Dev nD) (h : (wordOf n).toNat < 16) (b : Fin 2) (r : Fin 4) (k : Fin 256) (d : Fin 65) :
    vAt S h b r (ix4 0 0 k d) = S.v (ix4 b (hd n r) k d) := by
  unfold vAt
  show S.v _ = S.v _
  congr 1
  funext a
  match a with
  | 0 => exact Fin.ext (by show b.val + 1 * 0 = b.val; omega)
  | 1 => exact Fin.ext (by show headNat (wordOf n) r + 1 * 0 = 4 * n.val + r.val; rw [headNat_eq h, wordOf_toNat]; omega)
  | 2 => exact Fin.ext (by show 0 + 1 * k.val = k.val; omega)
  | 3 => exact Fin.ext (by show 0 + 1 * d.val = d.val; omega)
theorem qAt_apply (G : Gath Ideal) (n : Dev nD) (h : (wordOf n).toNat < 16) (i : Fin 512) (j : Fin 256) :
    qAt G h (ix3 0 i j) = G.q (ix3 (n : Fin 16) i j) := by
  unfold qAt
  show G.q _ = G.q _
  congr 1
  funext a
  match a with
  | 0 => exact Fin.ext (by show (wordOf n).toNat + 1 * 0 = n.val; rw [wordOf_toNat]; omega)
  | 1 => exact Fin.ext (by show 0 + 1 * i.val = i.val; omega)
  | 2 => exact Fin.ext (by show 0 + 1 * j.val = j.val; omega)
theorem oAt_apply (G : Gath Ideal) (n : Dev nD) (h : (wordOf n).toNat < 16) (j : Fin 256) (e : Fin 512) :
    oAt G h (ix3 0 j e) = G.o (ix3 (n : Fin 16) j e) := by
  unfold oAt
  show G.o _ = G.o _
  congr 1
  funext a
  match a with
  | 0 => exact Fin.ext (by show (wordOf n).toNat + 1 * 0 = n.val; rw [wordOf_toNat]; omega)
  | 1 => exact Fin.ext (by show 0 + 1 * j.val = j.val; omega)
  | 2 => exact Fin.ext (by show 0 + 1 * e.val = e.val; omega)

/-- The kernel's score of an entry of head `r` of chunk `n`. -/
def kScore (n : Dev nD) (b : Fin 2) (q : Fin 256) (r : Fin 4) (k : Fin 256) : EReal :=
  ∑ d : Fin 64, (∑ i : Fin 512, aX m c (ix3 b q i) * (aQ m n (ix2 i (col r d)) * scl)) * aK m c (ix4 (bat c b) k (hd n r) d)
/-- One element of what a head gives. -/
def kHead (n : Dev nD) (b : Fin 2) (q : Fin 256) (r : Fin 4) (d : Fin 64) : EReal :=
  (∑ k, Scalar.select (mask (ix2 q k)) (Ideal.exp (kScore m c n b q r k) * aV m c (ix4 (bat c b) k (hd n r) d)) 0)
    * Ideal.div 1 (∑ k, Scalar.select (mask (ix2 q k)) (Ideal.exp (kScore m c n b q r k)) 0)

/-- The rows of the queries that belong to a batch. -/
theorem row_lt (b : Fin 2) (q : Fin 256) : 256 * b.val + q.val < 512 := by omega

theorem queries_apply (n : Dev nD) (h : (wordOf n).toNat < 16) (b : Fin 2) (q j : Fin 256) :
    queries (rows (stgOf m c).x) (qAt (gathOf m) h) (ix2 ⟨256 * b.val + q.val, row_lt b q⟩ j)
      = ∑ i : Fin 512, aX m c (ix3 b q i) * (aQ m n (ix2 i j) * scl) := by
  pointwise [queries, rows]
  refine Finset.sum_congr rfl fun i _ => ?_
  rw [qAt_apply, gath_q]
  rw [← stg_x]

theorem headOut_apply (n : Dev nD) (h : (wordOf n).toNat < 16) (b : Fin 2) (r : Fin 4) (q : Fin 256) (d : Fin 64)
    (qh : FVec Ideal S256x64 .bf16)
    (hq : ∀ d, qh (ix2 q d) = ∑ i : Fin 512, aX m c (ix3 b q i) * (aQ m n (ix2 i (col r d)) * scl)) :
    headOut mask qh (kAt (stgOf m c) h b r) (vAt (stgOf m c) h b r) (ix2 q d) = kHead m c n b q r d := by
  pointwise [headOut]
  unfold kHead kScore
  simp only [kAt_apply, vAt_apply, hq, stg_k, stg_v, stg_one, mul_one]

theorem col_val (r : Fin 4) (d : Fin 64) : (col r d).val = 64 * r.val + d.val := rfl

theorem headsAt_apply (n : Dev nD) (h : (wordOf n).toNat < 16) (b : Fin 2) (q : Fin 256) (r : Fin 4) (d : Fin 64)
    (qb : FVec Ideal S256x256 .bf16)
    (hq : ∀ j, qb (ix2 q j) = ∑ i : Fin 512, aX m c (ix3 b q i) * (aQ m n (ix2 i j) * scl)) :
    headsAt (stgOf m c) h b qb (ix2 q (col r d)) = kHead m c n b q r d := by
  have hd := d.isLt
  unfold headsAt
  pointwise [batchOut]
  match r with
  | 0 =>
    rw [dif_pos (by show 64 * 0 + d.val < 64; omega)]
    refine (congrArg (fun t => headOut mask _ _ _ (ix2 q t)) (Fin.ext (by show 64 * 0 + d.val = d.val; omega))).trans
      (headOut_apply m c n h b 0 q d _ fun d => ?_)
    pointwise []
    exact (congrArg (fun t => qb (ix2 q t)) (Fin.ext (by show d.val = 64 * 0 + d.val; omega))).trans (hq (col 0 d))
  | 1 =>
    rw [dif_neg (by show ¬ 64 * 1 + d.val < 64; omega), dif_pos (by show 64 * 1 + d.val - 64 < 64; omega)]
    refine (congrArg (fun t => headOut mask _ _ _ (ix2 q t)) (Fin.ext (by show 64 * 1 + d.val - 64 = d.val; omega))).trans
      (headOut_apply m c n h b 1 q d _ fun d => ?_)
    pointwise []
    exact (congrArg (fun t => qb (ix2 q t)) (Fin.ext (by show 64 + d.val = 64 * 1 + d.val; omega))).trans (hq (col 1 d))
  | 2 =>
    rw [dif_neg (by show ¬ 64 * 2 + d.val < 64; omega), dif_neg (by show ¬ 64 * 2 + d.val - 64 < 64; omega),
      dif_pos (by show 64 * 2 + d.val - 64 - 64 < 64; omega)]
    refine (congrArg (fun t => headOut mask _ _ _ (ix2 q t)) (Fin.ext (by show 64 * 2 + d.val - 64 - 64 = d.val; omega))).trans
      (headOut_apply m c n h b 2 q d _ fun d => ?_)
    pointwise []
    exact (congrArg (fun t => qb (ix2 q t)) (Fin.ext (by show 128 + d.val = 64 * 2 + d.val; omega))).trans (hq (col 2 d))
  | 3 =>
    rw [dif_neg (by show ¬ 64 * 3 + d.val < 64; omega), dif_neg (by show ¬ 64 * 3 + d.val - 64 < 64; omega),
      dif_neg (by show ¬ 64 * 3 + d.val - 64 - 64 < 64; omega)]
    refine (congrArg (fun t => headOut mask _ _ _ (ix2 q t)) (Fin.ext (by show 64 * 3 + d.val - 64 - 64 - 64 = d.val; omega))).trans
      (headOut_apply m c n h b 3 q d _ fun d => ?_)
    pointwise []
    exact (congrArg (fun t => qb (ix2 q t)) (Fin.ext (by show 192 + d.val = 64 * 3 + d.val; omega))).trans (hq (col 3 d))

/-- A column of a chunk by its head and its place in it. -/
theorem col_split (j : Fin 256) : j = col ⟨j.val / 64, by omega⟩ ⟨j.val % 64, by omega⟩ :=
  Fin.ext (by show j.val = 64 * (j.val / 64) + j.val % 64; omega)

theorem headsAt_row (n : Dev nD) (h : (wordOf n).toNat < 16) (b : Fin 2) (q t : Fin 256) (ht : t = q) (j : Fin 256)
    (qb : FVec Ideal S256x256 .bf16)
    (hq : ∀ j, qb (ix2 q j) = ∑ i : Fin 512, aX m c (ix3 b q i) * (aQ m n (ix2 i j) * scl)) :
    headsAt (stgOf m c) h b qb (ix2 t j) = kHead m c n b q ⟨j.val / 64, by omega⟩ ⟨j.val % 64, by omega⟩ := by
  rw [← headsAt_apply m c n h b q _ _ qb hq, ← col_split, ht]

/-- A chunk's contribution at an index. -/
theorem cv_apply (n : Dev nD) (b : Fin 2) (q : Fin 256) (e : Fin 512) :
    cv (stgOf m c) (gathOf m) n (ix3 b q e)
      = ∑ j : Fin 256, kHead m c n b q ⟨j.val / 64, by omega⟩ ⟨j.val % 64, by omega⟩ * aO m n (ix2 j e) := by
  unfold cv chunkVal
  generalize wordOf_lt n = h
  pointwise [contrib]
  refine Finset.sum_congr rfl fun j _ => ?_
  rw [oAt_apply, gath_o]
  refine congrArg (fun t : EReal => t * aO m n (ix2 j e)) ?_
  match b with
  | 0 =>
    rw [dif_pos (by show 0 * 256 + q.val < 256; omega)]
    refine headsAt_row m c n h 0 q _ (Fin.ext (by show 0 * 256 + q.val = q.val; omega)) j _ fun j => ?_
    pointwise []
    exact (congrArg (fun t => queries _ _ (ix2 t j)) (Fin.ext (by show q.val = 256 * 0 + q.val; omega))).trans (queries_apply m c n h 0 q j)
  | 1 =>
    rw [dif_neg (by show ¬ 1 * 256 + q.val < 256; omega)]
    refine headsAt_row m c n h 1 q _ (Fin.ext (by show 1 * 256 + q.val - 256 = q.val; omega)) j _ fun j => ?_
    pointwise []
    exact (congrArg (fun t => queries _ _ (ix2 t j)) (Fin.ext (by show 256 + q.val = 256 * 1 + q.val; omega))).trans (queries_apply m c n h 1 q j)

/-- The order in which a device adds the sixteen chunks. -/
def order (c : Dev nD) : Fin 16 → Fin 16 :=
  ![c, org false 1 c, org true 1 c, org false 2 c, org true 2 c, org false 3 c, org true 3 c, org false 4 c, org true 4 c,
    org false 5 c, org true 5 c, org false 6 c, org true 6 c, org false 7 c, org true 7 c, org false 8 c]
/-- Every chunk is added once. -/
theorem order_inj : ∀ (c : Dev nD) (i j : Fin 16), order c i = order c j → i = j := by decide +kernel

theorem sum_order {M : Type} [AddCommMonoid M] (f : Fin 16 → M) : ∑ n, f n = ∑ i, f (order c i) :=
  (Function.Bijective.sum_comp (Finite.injective_iff_bijective.mp (fun i j => order_inj c i j)) f).symm

theorem addChunk_apply (o : Vec Ideal S2x256x512 .f32) (v : FVec Ideal S2x256x512 .f32) (i : S2x256x512.Idx) :
    addChunk o v i = (o i : EReal) + v i := by
  unfold addChunk
  rw [shapeCast_self]; rfl

/-- The kernel's result on a device: the sum of all chunks' contributions. -/
theorem resOf_apply (b : Fin 2) (q : Fin 256) (e : Fin 512) :
    resOf m c (ix3 b q e)
      = ∑ n : Fin 16, ∑ j : Fin 256, kHead m c n b q ⟨j.val / 64, by omega⟩ ⟨j.val % 64, by omega⟩ * aO m n (ix2 j e) := by
  rw [← Finset.sum_congr rfl fun n _ => cv_apply m c n b q e]
  rw [sum_order c]
  unfold resOf outVal
  simp only [acc, addChunk_apply]
  have hz : zeros Ideal (ix3 b q e) = (0 : EReal) := by pointwise [zeros]
  rw [hz]
  simp only [Fin.sum_univ_succ, Fin.sum_univ_zero, order]
  simp [add_assoc]

end Cert.KernelIdeal.Ring

end
-- ==== Proof.ValMath.lean ====
module

public import Idealize.ShloMosaic.Lib.Pointwise

/-! # The equation of one row of attention, over the extended reals -/

@[expose] public section

noncomputable section

namespace Cert.Proof

open Idealize.ShloMosaic

/-- A sum of reals is the same sum taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Multiplication by a real that is not negative goes through a sum of any extended reals. -/
theorem sum_mul_coe {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- A word of one bit that is not 1 is 0. -/
theorem bit_cases (b : BitVec 1) : b = 1#1 ∨ b = 0#1 := by revert b; decide

/-- The weight of a kept entry, 0 of a masked one. -/
def wt {n : ℕ} (b : Fin n → BitVec 1) (s : Fin n → ℝ) (k : Fin n) : ℝ := if b k = 1#1 then Real.exp (s k) else 0

theorem wt_nonneg {n : ℕ} (b : Fin n → BitVec 1) (s : Fin n → ℝ) (k : Fin n) : 0 ≤ wt b s k := by
  unfold wt; split
  · exact (Real.exp_pos _).le
  · exact le_refl _

theorem wt_sum_pos {n : ℕ} (b : Fin n → BitVec 1) (s : Fin n → ℝ) (k0 : Fin n) (h0 : b k0 = 1#1) : 0 < ∑ k, wt b s k := by
  refine Finset.sum_pos' (fun k _ => wt_nonneg b s k) ⟨k0, Finset.mem_univ _, ?_⟩
  unfold wt; rw [if_pos h0]; exact Real.exp_pos _

/-- The kernel's weight of an entry, times a value. -/
theorem sel_mul {n : ℕ} (b : Fin n → BitVec 1) (s : Fin n → ℝ) (k : Fin n) (v : EReal) :
    Scalar.select (b k) (Ideal.exp (s k : EReal) * v) 0 = (wt b s k : EReal) * v := by
  unfold wt
  rcases bit_cases (b k) with h | h <;> rw [h]
  · rfl
  · rw [if_neg (by decide)]; exact (zero_mul v).symm

/-- The kernel's weight of an entry. -/
theorem sel_one {n : ℕ} (b : Fin n → BitVec 1) (s : Fin n → ℝ) (k : Fin n) :
    Scalar.select (b k) (Ideal.exp (s k : EReal)) 0 = (wt b s k : EReal) := by
  unfold wt
  rcases bit_cases (b k) with h | h <;> rw [h] <;> rfl

/-- The reference's score of an entry: −∞ where the mask is not set. -/
def sc {n : ℕ} (b : Fin n → BitVec 1) (s : Fin n → ℝ) (k : Fin n) : EReal := Scalar.select (b k) (s k : EReal) ⊥

/-- A row with an entry that the mask keeps has a real maximum. -/
theorem max_real {n : ℕ} (b : Fin n → BitVec 1) (s : Fin n → ℝ) (k0 : Fin n) (h0 : b k0 = 1#1) :
    ∃ M : ℝ, Finset.fold max (⊥ : EReal) (sc b s) Finset.univ = (M : EReal) := by
  have e : Finset.fold max (⊥ : EReal) (sc b s) Finset.univ = Finset.univ.sup (sc b s) := rfl
  obtain ⟨k1, -, h1⟩ := Finset.exists_mem_eq_sup Finset.univ ⟨k0, Finset.mem_univ _⟩ (sc b s)
  have h2 : (s k0 : EReal) ≤ sc b s k1 := by
    rw [← h1]
    refine le_trans (le_of_eq ?_) (Finset.le_sup (f := sc b s) (Finset.mem_univ k0))
    unfold sc; rw [h0]; rfl
  rcases bit_cases (b k1) with h | h
  · refine ⟨s k1, ?_⟩
    rw [e, h1]; unfold sc; rw [h]; rfl
  · exfalso
    have : sc b s k1 = ⊥ := by unfold sc; rw [h]; rfl
    rw [this] at h2
    exact absurd (le_bot_iff.mp h2) (EReal.coe_ne_bot _)

/-- The reference's weight of an entry before the division: the kernel's, scaled by the exponential of the maximum. -/
theorem exp_sc {n : ℕ} (b : Fin n → BitVec 1) (s : Fin n → ℝ) (k : Fin n) (M : ℝ) :
    Ideal.exp (sc b s k - (M : EReal)) = ((wt b s k * Real.exp (-M) : ℝ) : EReal) := by
  unfold sc wt
  rcases bit_cases (b k) with h | h <;> rw [h]
  · rw [if_pos rfl, ← Real.exp_add, ← sub_eq_add_neg]; rfl
  · rw [if_neg (by decide), zero_mul]
    show Ideal.exp (⊥ - (M : EReal)) = _
    rw [EReal.bot_sub]; rfl

/-- One row of attention times one column of the values: the kernel's quotient of two sums is the reference's sum of
    weights that the softmax gives. -/
theorem row_eq {n : ℕ} (b : Fin n → BitVec 1) (s : Fin n → ℝ) (k0 : Fin n) (h0 : b k0 = 1#1) (v : Fin n → EReal) :
    (∑ k, Scalar.select (b k) (Ideal.exp (s k : EReal) * v k) 0)
        * Ideal.div 1 (∑ k, Scalar.select (b k) (Ideal.exp (s k : EReal)) 0)
      = ∑ k, v k * Ideal.div (Ideal.exp (sc b s k - Finset.fold max (⊥ : EReal) (sc b s) Finset.univ))
          (∑ k', Ideal.exp (sc b s k' - Finset.fold max (⊥ : EReal) (sc b s) Finset.univ)) := by
  obtain ⟨M, hM⟩ := max_real b s k0 h0
  have hL := wt_sum_pos b s k0 h0
  have hE := Real.exp_pos (-M)
  rw [hM]
  simp only [exp_sc, sel_mul, sel_one]
  rw [← coe_sum, ← coe_sum, Ideal.div_coe (ne_of_gt hL), one_mul, sum_mul_coe _ _ (by positivity)]
  refine Finset.sum_congr rfl fun k _ => ?_
  have hS : (∑ k, wt b s k * Real.exp (-M)) = (∑ k, wt b s k) * Real.exp (-M) := (Finset.sum_mul _ _ _).symm
  rw [hS, Ideal.div_coe (ne_of_gt (mul_pos hL hE)), mul_comm ((wt b s k : ℝ) : EReal) (v k), mul_assoc, ← EReal.coe_mul, ← EReal.coe_mul]
  congr 2
  field_simp

/-- The two ways to scale the scores agree: the weights of the queries scaled, or the scores. -/
theorem score_eq {p r : ℕ} (x : Fin p → ℝ) (w : Fin p → Fin r → ℝ) (κ : ℝ) (kk : Fin r → ℝ) :
    (∑ d, (∑ i, (x i : EReal) * ((w i d : EReal) * (κ : EReal))) * (kk d : EReal)) = ((∑ d, (∑ i, x i * w i d) * kk d * κ : ℝ) : EReal)
    ∧ (∑ d, (∑ i, (x i : EReal) * (w i d : EReal)) * (kk d : EReal)) * (κ : EReal) = ((∑ d, (∑ i, x i * w i d) * kk d * κ : ℝ) : EReal) := by
  simp only [← EReal.coe_mul, ← coe_sum]
  constructor <;> congr 1
  · refine Finset.sum_congr rfl fun d _ => ?_
    have : (∑ i, x i * (w i d * κ)) = (∑ i, x i * w i d) * κ := by
      rw [Finset.sum_mul]; exact Finset.sum_congr rfl fun i _ => (mul_assoc _ _ _).symm
    rw [this]; ring
  · rw [Finset.sum_mul]

end Cert.Proof

end
-- ==== Proof.ValRef.lean ====
module

public import proofs.«01_k».proof.Proof.Gen.ReferenceIdeal.Run
public import proofs.«01_k».proof.Proof.Model
public import proofs.«01_k».proof.Proof.ValMath

/-! # The reference's result at an index, over the extended reals -/

@[expose] public section

set_option maxRecDepth 65536

noncomputable section

namespace Cert.Proof

open Idealize.ShloMosaic Idealize.SL.Sem
open Cert.ReferenceIdeal Cert.ReferenceIdeal.Value

/-- The kernel's mask of a row and a column. -/
abbrev mk (q k : Fin 256) : BitVec 1 := Cert.KernelIdeal.Ring.mask (ix2 q k)

/-- The reference's mask is the kernel's. -/
theorem mask_bits (q k : Fin 256) :
    IntOp.ori (IntOp.cmpi .sle (IntOp.absi (IntOp.subi (BitVec.ofNat 32 q.val) (BitVec.ofNat 32 k.val))) 128#32)
      (IntOp.ori (IntOp.cmpi .slt (BitVec.ofNat 32 k.val) 32#32) (IntOp.cmpi .slt (BitVec.ofNat 32 q.val) 32#32)) = mk q k := by
  unfold mk
  pointwise [Cert.KernelIdeal.Ring.mask]
  exact (BitVec.or_assoc _ _ _).symm

/-- A row keeps its entry on the diagonal. -/
theorem mk_diag (q : Fin 256) : mk q q = 1#1 := by
  rw [← mask_bits]
  revert q; decide +kernel

/-- An `or` of bits of which one is set. -/
theorem fold_ori {ι : Type} (f : ι → BitVec 1) (k0 : ι) (h0 : f k0 = 1#1) (s : Finset ι) (hs : k0 ∈ s) :
    Finset.fold IntOp.ori (0#1) f s = 1#1 := by
  classical
  induction s using Finset.induction_on with
  | empty => exact absurd hs (Finset.notMem_empty _)
  | insert a s ha ih =>
    rw [Finset.fold_insert ha]
    rcases Finset.mem_insert.mp hs with rfl | h
    · rw [h0]; generalize Finset.fold IntOp.ori (0#1) f s = x; revert x; decide
    · rw [ih h]; generalize f a = x; revert x; decide

/-- Every row keeps an entry. -/
theorem row_keep (q : Fin 256) : Finset.fold IntOp.ori (0#1) (fun k => mk q k) Finset.univ = 1#1 :=
  fold_ori _ q (mk_diag q) _ (Finset.mem_univ _)

theorem neg_inf : Ideal.ofBits .f32 0xFF800000#32 = (⊥ : EReal) := by
  unfold Ideal.ofBits Ideal.ieee; simp

theorem sel_1 {α : Type} (a b : α) : Scalar.select 1#1 a b = a := rfl

variable (m : (ℓ : Loc nD τ sig) → Buf (Elt Ideal) ℓ)

/-- The reference's arguments. -/
def rX : S32x256x512.Idx → EReal := m (((0 : Dev nD).tc : Thread nD τ).loc main_arg0)
def rQ : S512x4096.Idx → EReal := m (((0 : Dev nD).tc : Thread nD τ).loc main_arg1)
def rK : S32x256x64x64.Idx → EReal := m (((0 : Dev nD).tc : Thread nD τ).loc main_arg2)
def rV : S32x256x64x64.Idx → EReal := m (((0 : Dev nD).tc : Thread nD τ).loc main_arg3)
def rO : S4096x512.Idx → EReal := m (((0 : Dev nD).tc : Thread nD τ).loc main_arg4)

/-- The reference's score before the mask. -/
def rRaw (b : Fin 32) (q : Fin 256) (h : Fin 64) (k : Fin 256) : EReal :=
  (∑ d : Fin 64, (∑ i : Fin 512, rX m (ix3 b q i) * rQ m (ix2 i ⟨h.val * 64 + d.val, by omega⟩)) * rK m (ix4 b k h d))
    * Ideal.ofBits .f32 0x3E000000#32
/-- The reference's score. -/
def rSc (b : Fin 32) (q : Fin 256) (h : Fin 64) (k : Fin 256) : EReal := Scalar.select (mk q k) (rRaw m b q h k) ⊥
/-- The reference's weight of an entry, before the division. -/
def rW (b : Fin 32) (q : Fin 256) (h : Fin 64) (k : Fin 256) : EReal :=
  Ideal.exp (rSc m b q h k - Finset.fold max (⊥ : EReal) (fun k => rSc m b q h k) Finset.univ)

set_option maxHeartbeats 8000000 in
theorem ref_apply (b : Fin 32) (q : Fin 256) (e : Fin 512) :
    res_main_v42 m 0 (ix3 b q e)
      = ∑ x : Fin 4096, (∑ k : Fin 256, rV m (ix4 b k ⟨x.val / 64, by omega⟩ ⟨x.val % 64, by omega⟩)
          * Ideal.div (rW m b q ⟨x.val / 64, by omega⟩ k) (∑ k', rW m b q ⟨x.val / 64, by omega⟩ k')) * rO m (ix2 x e) := by
  have hc : id (constant (F := Ideal) S_ .f32 4286578688#32) ix0 = (⊥ : EReal) := neg_inf
  pointwise [res_main_v42]
  simp only [mask_bits, row_keep, hc, sel_1, neg_inf]
  rfl
end Cert.Proof

end
-- ==== Proof.ValPre.lean ====
module

public import proofs.«01_k».proof.Defs
public import proofs.«01_k».proof.Proof.ValHost
public import Idealize.ShloMosaic.Lib.ReduceAll

/-! # What the precondition says: the arrays that the scores are computed of hold reals -/

@[expose] public section

set_option maxRecDepth 65536

noncomputable section

namespace Cert.Proof

open Idealize.ShloMosaic Idealize.SL.Sem
open Cert.KernelIdeal Cert.KernelIdeal.Ring

theorem facts_pre_kernel : Cert.Pre_finite_scores_KernelIdeal.Facts :=
  ⟨by decide, by decide, by decide, by decide, by decide, by decide, by decide⟩
theorem facts_pre_reference : Cert.Pre_finite_scores_ReferenceIdeal.Facts :=
  ⟨by decide, by decide, by decide, by decide, by decide, by decide, by decide⟩

/-- An extended real whose absolute value is below +∞ is a real. -/
theorem real_of_abs (x : EReal) (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x with
  | bot => exact absurd h (by simp [Ideal.cmp])
  | top => exact absurd h (by simp [Ideal.cmp])
  | coe r => exact ⟨r, rfl⟩

theorem and_one {a b : BitVec 1} (h : IntOp.andi a b = 1#1) : a = 1#1 ∧ b = 1#1 := by
  revert a b; decide

/-- Under the precondition, every element of x, of the query weights and of the keys is a real. -/
theorem reals [hp : Cert.Pre_finite_scores_KernelIdeal.Facts] (m : (ℓ : Loc nD τ sig) → Buf (Elt Ideal) ℓ)
    (h : Cert.Pre_KernelIdeal_finite_scores_KernelIdeal m) (c : Dev nD) :
    (∀ i, ∃ r : ℝ, aX m c i = (r : EReal)) ∧ (∀ i, ∃ r : ℝ, aQ m c i = (r : EReal)) ∧ (∀ i, ∃ r : ℝ, aK m c i = (r : EReal)) := by
  haveI : Subsingleton Cert.Pre_finite_scores_KernelIdeal.S_.Idx := ⟨fun a b => funext fun i => i.elim0⟩
  have e := congrFun (h c) ix0
  obtain ⟨e, e3⟩ := and_one e
  obtain ⟨e1, e2⟩ := and_one e
  exact ⟨fun i => real_of_abs _ (Host.reduce_andi_all _ _ _ _ ix0 e1 i), fun i => real_of_abs _ (Host.reduce_andi_all _ _ _ _ ix0 e2 i),
    fun i => real_of_abs _ (Host.reduce_andi_all _ _ _ _ ix0 e3 i)⟩

end Cert.Proof

end
-- ==== Proof.ValEq.lean ====
module

public import proofs.«01_k».proof.Proof.ValKernel
public import proofs.«01_k».proof.Proof.ValRef
public import proofs.«01_k».proof.Proof.ValPre

/-! # The kernel's result is the device's block of the reference's -/

@[expose] public section

set_option maxRecDepth 65536

noncomputable section

namespace Cert.Proof

open Idealize.ShloMosaic Idealize.SL.Sem
open Cert.KernelIdeal.Ring

/-- The factor is a real. -/
theorem scl_real : ∃ κ : ℝ, Ideal.ofBits .f32 0x3E000000#32 = (κ : EReal) := by
  refine ⟨(1 : ℝ) / 8, ?_⟩
  simp [Ideal.ofBits, Ideal.ieee, -EReal.coe_mul]; norm_num

/-- Each device's arguments are its parts of the reference's. -/
structure Parts (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop where
  x : ∀ (c : Fin 16) (b : Fin 2) (q : Fin 256) (i : Fin 512), aX m c (ix3 b q i) = rX m' (ix3 (bat c b) q i)
  wq : ∀ (n : Fin 16) (i : Fin 512) (j : Fin 256), aQ m n (ix2 i j) = rQ m' (ix2 i ⟨256 * n.val + j.val, by omega⟩)
  k : ∀ c : Fin 16, aK m c = rK m'
  v : ∀ c : Fin 16, aV m c = rV m'
  wo : ∀ (n : Fin 16) (j : Fin 256) (e : Fin 512), aO m n (ix2 j e) = rO m' (ix2 ⟨256 * n.val + j.val, by omega⟩ e)

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}

/-- A head's element is the reference's. -/
theorem head_eq (hp : Parts m m')
    (hr : ∀ c : Fin 16, (∀ i, ∃ r : ℝ, aX m c i = (r : EReal)) ∧ (∀ i, ∃ r : ℝ, aQ m c i = (r : EReal)) ∧ (∀ i, ∃ r : ℝ, aK m c i = (r : EReal)))
    (c n : Fin 16) (b : Fin 2) (q : Fin 256) (r : Fin 4) (d : Fin 64) :
    kHead m c n b q r d
      = ∑ k : Fin 256, rV m' (ix4 (bat c b) k (hd n r) d)
          * Ideal.div (rW m' (bat c b) q (hd n r) k) (∑ k', rW m' (bat c b) q (hd n r) k') := by
  obtain ⟨κ, hκ⟩ := scl_real
  have hs : scl = (κ : EReal) := hκ
  choose x hx using fun i : Fin 512 => (hr c).1 (ix3 b q i)
  choose w hw using fun (i : Fin 512) (d : Fin 64) => (hr n).2.1 (ix2 i (col r d))
  choose kk hk using fun (k : Fin 256) (d : Fin 64) => (hr c).2.2 (ix4 (bat c b) k (hd n r) d)
  have h1 : ∀ k, kScore m c n b q r k = ((∑ d, (∑ i, x i * w i d) * kk k d * κ : ℝ) : EReal) := fun k => by
    unfold kScore
    simp only [hx, hw, hk, hs]
    exact (score_eq x w κ (kk k)).1
  have h2 : ∀ k, rRaw m' (bat c b) q (hd n r) k = ((∑ d, (∑ i, x i * w i d) * kk k d * κ : ℝ) : EReal) := fun k => by
    unfold rRaw
    have hq : ∀ (i : Fin 512) (d : Fin 64), rQ m' (ix2 i ⟨(hd n r).val * 64 + d.val, by omega⟩) = (w i d : EReal) := fun i d => by
      rw [← hw, hp.wq]
      congr 2
      exact Fin.ext (by show (4 * n.val + r.val) * 64 + d.val = 256 * n.val + (64 * r.val + d.val); omega)
    simp only [← hp.x, ← hp.k c, hx, hq, hk, hκ]
    exact (score_eq x w κ (kk k)).2
  unfold kHead rW rSc
  simp only [h1, h2, hp.v c]
  exact row_eq (fun k => mask (ix2 q k)) (fun k => ∑ d, (∑ i, x i * w i d) * kk k d * κ) q (mk_diag q)
    (fun k => rV m' (ix4 (bat c b) k (hd n r) d))

/-- A sum over 4096 indices, by 16 blocks of 256. -/
theorem sum_blocks (f : Fin 4096 → EReal) : ∑ x, f x = ∑ n : Fin 16, ∑ j : Fin 256, f ⟨256 * n.val + j.val, by omega⟩ := by
  rw [← Finset.sum_product', Finset.univ_product_univ]
  refine (Equiv.sum_comp (finProdFinEquiv (m := 16) (n := 256)) f).symm.trans ?_
  refine Finset.sum_congr rfl fun p _ => congrArg f (Fin.ext ?_)
  show p.2.val + 256 * p.1.val = 256 * p.1.val + p.2.val
  omega

theorem res_eq (hp : Parts m m')
    (hr : ∀ c : Fin 16, (∀ i, ∃ r : ℝ, aX m c i = (r : EReal)) ∧ (∀ i, ∃ r : ℝ, aQ m c i = (r : EReal)) ∧ (∀ i, ∃ r : ℝ, aK m c i = (r : EReal)))
    (c : Fin 16) (b : Fin 2) (q : Fin 256) (e : Fin 512) :
    resOf m c (ix3 b q e) = Cert.ReferenceIdeal.Value.res_main_v42 m' 0 (ix3 (bat c b) q e) := by
  rw [resOf_apply, ref_apply, sum_blocks]
  refine Finset.sum_congr rfl fun n _ => Finset.sum_congr rfl fun j _ => ?_
  rw [head_eq hp hr, hp.wo]
  have eh : hd n ⟨j.val / 64, by omega⟩ = ⟨(256 * n.val + j.val) / 64, by omega⟩ :=
    Fin.ext (by show 4 * n.val + j.val / 64 = (256 * n.val + j.val) / 64; omega)
  have ed : (⟨j.val % 64, by omega⟩ : Fin 64) = ⟨(256 * n.val + j.val) % 64, by omega⟩ :=
    Fin.ext (by show j.val % 64 = (256 * n.val + j.val) % 64; omega)
  rw [eh, ed]

/-- The result of a device is its block of the reference's. -/
theorem res_block (hp : Parts m m')
    (hr : ∀ c : Fin 16, (∀ i, ∃ r : ℝ, aX m c i = (r : EReal)) ∧ (∀ i, ∃ r : ℝ, aQ m c i = (r : EReal)) ∧ (∀ i, ∃ r : ℝ, aK m c i = (r : EReal)))
    (c : Fin 16) :
    resOf m c = Layout.block ⟨3, ![2, 256, 512]⟩ ⟨3, ![32, 256, 512]⟩ 0 16 c (Cert.ReferenceIdeal.Value.res_main_v42 m' 0) := by
  funext j
  have hj : j = ix3 (j 0) (j 1) (j 2) := by
    funext a
    match a with
    | 0 => rfl
    | 1 => rfl
    | 2 => rfl
  rw [Layout.block_apply]
  refine (congrArg (resOf m c) hj).trans ((res_eq hp hr c (j 0) (j 1) (j 2)).trans
    (congrArg (Cert.ReferenceIdeal.Value.res_main_v42 m' 0) ?_))
  funext a
  match a with
  | 0 => exact Fin.ext (by show 2 * c.val + (j 0).val = c.val * 2 + (j 0).val; omega)
  | 1 => rfl
  | 2 => rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.ValEq
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m ρ _ =>
  run_same (F := Bits) ⟨m, fun _ => 0, ρ⟩ _
    ((θ_run Cert.KernelIdeal.defs _ _).mono (fun _ h => ⟨fun c => (h.1 c).2, h.2⟩) (Cert.KernelIdeal.Ring.run_main (F := Bits) m ρ))

theorem frame_ideal : Cert.quiescent_KernelIdeal := fun m ρ _ =>
  (θ_run Cert.KernelIdeal.defs _ _).mono (fun _ h => ⟨fun c => (h.1 c).2, h.2⟩) (Cert.KernelIdeal.Ring.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each device's arguments, blocks of the reference's by the claim, element by element. -/
theorem parts_of (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : ∀ c : Fin 16,
      Cert.KernelIdeal.Ring.aX m c = Layout.block ⟨3, ![2, 256, 512]⟩ ⟨3, ![32, 256, 512]⟩ 0 16 c (rX m')
      ∧ Cert.KernelIdeal.Ring.aQ m c = Layout.block ⟨2, ![512, 256]⟩ ⟨2, ![512, 4096]⟩ 1 16 c (rQ m')
      ∧ Cert.KernelIdeal.Ring.aK m c = rK m' ∧ Cert.KernelIdeal.Ring.aV m c = rV m'
      ∧ Cert.KernelIdeal.Ring.aO m c = Layout.block ⟨2, ![256, 512]⟩ ⟨2, ![4096, 512]⟩ 0 16 c (rO m')) : Parts m m' where
  x c b q i := by
    rw [(h c).1, Layout.block_apply]
    refine congrArg (rX m') (funext fun a => ?_)
    match a with
    | 0 => exact Fin.ext (by show c.val * 2 + b.val = 2 * c.val + b.val; omega)
    | 1 => rfl
    | 2 => rfl
  wq n i j := by
    rw [(h n).2.1, Layout.block_apply]
    refine congrArg (rQ m') (funext fun a => ?_)
    match a with
    | 0 => rfl
    | 1 => exact Fin.ext (by show n.val * 256 + j.val = 256 * n.val + j.val; omega)
  k c := (h c).2.2.1
  v c := (h c).2.2.2.1
  wo n j e := by
    rw [(h n).2.2.2.2, Layout.block_apply]
    refine congrArg (rO m') (funext fun a => ?_)
    match a with
    | 0 => exact Fin.ext (by show n.val * 256 + j.val = 256 * n.val + j.val; omega)
    | 1 => rfl

theorem value [hp : Cert.Pre_finite_scores_KernelIdeal.Facts] :
    Cert.algebraic_KernelIdeal_ReferenceIdeal_pre_finite_scores_KernelIdeal := fun m g m' g' hpre hblk =>
  have hr := reals m hpre
  have hpt : Parts m m' := parts_of m m' hblk
  ⟨Cert.ReferenceIdeal.Value.res_main_v42 m' 0,
    (θ_run Cert.KernelIdeal.defs _ _).mono (fun _ h c => ⟨(h.1 c).1.trans (res_block hpt hr c), (h.1 c).2⟩)
      (Cert.KernelIdeal.Ring.run_main (F := Ideal) m g),
    (θ_run Cert.ReferenceIdeal.defs _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts, facts_pre_kernel, facts_pre_reference,
    frame_kernel, frame_ideal, fun m g _ => frame_ideal m g trivial, frame_reference, fun m g _ => frame_reference m g trivial,
    trivial, value (hp := facts_pre_kernel)⟩

end Cert.Proof

end
